-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_v87) = v2 c
          ∧ r.2.mem ((c.tc : Thread Cert.ReferenceIdeal.nD Cert.ReferenceIdeal.τ).loc Cert.ReferenceIdeal.main_v88) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v43) = v0 c
          ∧ r.2.mem ((c.tc : Thread Cert.Reference3Ideal.nD Cert.Reference3Ideal.τ).loc Cert.Reference3Ideal.main_v44) = v1 c
          ∧ r.2.mem ((c.tc : Thread Cert.Reference3Ideal.nD Cert.Reference3Ideal.τ).loc Cert.Reference3Ideal.main_v45) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v43) = v0 c
          ∧ r.2.mem ((c.tc : Thread Cert.Reference6Ideal.nD Cert.Reference6Ideal.τ).loc Cert.Reference6Ideal.main_v44) = v1 c
          ∧ r.2.mem ((c.tc : Thread Cert.Reference6Ideal.nD Cert.Reference6Ideal.τ).loc Cert.Reference6Ideal.main_v45) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v43) = v0 c
          ∧ r.2.mem ((c.tc : Thread Cert.Reference7Ideal.nD Cert.Reference7Ideal.τ).loc Cert.Reference7Ideal.main_v44) = v1 c
          ∧ r.2.mem ((c.tc : Thread Cert.Reference7Ideal.nD Cert.Reference7Ideal.τ).loc Cert.Reference7Ideal.main_v45) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v8) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v8) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v17) = v0 c
          ∧ r.2.mem ((c.tc : Thread Cert.Reference12Ideal.nD Cert.Reference12Ideal.τ).loc Cert.Reference12Ideal.main_v19) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v17) = v0 c
          ∧ r.2.mem ((c.tc : Thread Cert.Reference13Ideal.nD Cert.Reference13Ideal.τ).loc Cert.Reference13Ideal.main_v19) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v17) = v0 c
          ∧ r.2.mem ((c.tc : Thread Cert.Reference14Ideal.nD Cert.Reference14Ideal.τ).loc Cert.Reference14Ideal.main_v19) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_2)) (v1 : (c : Dev Cert.Kernel15Ideal.nD) → Buf (Elt Ideal) ((c.tc : Thread Cert.Kernel15Ideal.nD Cert.Kernel15Ideal.τ).loc Cert.Kernel15Ideal.main_v0_0)) (v2 : (c : Dev Cert.Kernel15Ideal.nD) → Buf (Elt Ideal) ((c.tc : Thread Cert.Kernel15Ideal.nD Cert.Kernel15Ideal.τ).loc Cert.Kernel15Ideal.main_v0_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_2) = v0 c
          ∧ r.2.mem ((c.tc : Thread Cert.Kernel15Ideal.nD Cert.Kernel15Ideal.τ).loc Cert.Kernel15Ideal.main_v0_0) = v1 c
          ∧ r.2.mem ((c.tc : Thread Cert.Kernel15Ideal.nD Cert.Kernel15Ideal.τ).loc Cert.Kernel15Ideal.main_v0_1) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v19) = v0 c
          ∧ r.2.mem ((c.tc : Thread Cert.Reference15Ideal.nD Cert.Reference15Ideal.τ).loc Cert.Reference15Ideal.main_v18) = v1 c
          ∧ r.2.mem ((c.tc : Thread Cert.Reference15Ideal.nD Cert.Reference15Ideal.τ).loc Cert.Reference15Ideal.main_v20) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v23) = v0 c
          ∧ r.2.mem ((c.tc : Thread Cert.Reference18Ideal.nD Cert.Reference18Ideal.τ).loc Cert.Reference18Ideal.main_v4) = v1 c
          ∧ r.2.mem ((c.tc : Thread Cert.Reference18Ideal.nD Cert.Reference18Ideal.τ).loc Cert.Reference18Ideal.main_v10) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v23) = v0 c
          ∧ r.2.mem ((c.tc : Thread Cert.Reference19Ideal.nD Cert.Reference19Ideal.τ).loc Cert.Reference19Ideal.main_v4) = v1 c
          ∧ r.2.mem ((c.tc : Thread Cert.Reference19Ideal.nD Cert.Reference19Ideal.τ).loc Cert.Reference19Ideal.main_v10) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v23) = v0 c
          ∧ r.2.mem ((c.tc : Thread Cert.Reference20Ideal.nD Cert.Reference20Ideal.τ).loc Cert.Reference20Ideal.main_v4) = v1 c
          ∧ r.2.mem ((c.tc : Thread Cert.Reference20Ideal.nD Cert.Reference20Ideal.τ).loc Cert.Reference20Ideal.main_v10) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v23) = v0 c
          ∧ r.2.mem ((c.tc : Thread Cert.Reference21Ideal.nD Cert.Reference21Ideal.τ).loc Cert.Reference21Ideal.main_v4) = v1 c
          ∧ r.2.mem ((c.tc : Thread Cert.Reference21Ideal.nD Cert.Reference21Ideal.τ).loc Cert.Reference21Ideal.main_v10) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v1) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v32) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
-- ==== Pre_finite.lean ====
abbrev S8192x1024 : Shape := ⟨2, ![8192, 1024]⟩
abbrev S2048x1024 : Shape := ⟨2, ![2048, 1024]⟩
abbrev S8192x6144 : Shape := ⟨2, ![8192, 6144]⟩
abbrev S1x2048 : Shape := ⟨2, ![1, 2048]⟩
abbrev S8x128x128 : Shape := ⟨3, ![8, 128, 128]⟩
abbrev S8x128 : Shape := ⟨2, ![8, 128]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S2048x1024 : S_.BroadcastsInDim S2048x1024 (![] : Fin 0 → Fin S2048x1024.rank)
  bcast_S_S8192x6144 : S_.BroadcastsInDim S8192x6144 (![] : Fin 0 → Fin S8192x6144.rank)
  bcast_S_S1x2048 : S_.BroadcastsInDim S1x2048 (![] : Fin 0 → Fin S1x2048.rank)
  bcast_S_S8x128x128 : S_.BroadcastsInDim S8x128x128 (![] : Fin 0 → Fin S8x128x128.rank)
  bcast_S_S8x128 : S_.BroadcastsInDim S8x128 (![] : Fin 0 → Fin S8x128.rank)

variable [Facts]

def fn_part1 {F : FTy → Type} [FloatOps F] (main_v3 : IVec S8192x1024 1) (main_v7 : IVec S2048x1024 1) (main_v11 : IVec S8192x6144 1) (main_v14 : IVec S1x2048 1) (main_v17 : IVec S8x128x128 1) (main_v18 : FVec F S8x128 .f32) : IVec S8192x1024 1 × IVec S2048x1024 1 × IVec S8192x6144 1 × IVec S1x2048 1 × IVec S8x128x128 1 × IVec S8x128 1 :=
  let main_cst_4 : FVec F S_ .f32 := constant S_ .f32 0x7F800000#32
  let main_v19 : FVec F S8x128 .f32 := broadcastInDim S8x128 ![] bcast_S_S8x128 main_cst_4
  let main_v20 : IVec S8x128 1 := cmpf .olt main_v18 main_v19
  (main_v3, main_v7, main_v11, main_v14, main_v17, main_v20)

def fn {F : FTy → Type} [FloatOps F] (main_arg0 : FVec F S8192x1024 .bf16) (main_arg1 : FVec F S2048x1024 .bf16) (main_arg2 : FVec F S8192x6144 .bf16) (main_arg3 : FVec F S1x2048 .f32) (main_arg4 : FVec F S8x128x128 .f32) (main_arg5 : FVec F S8x128 .f32) : IVec S8192x1024 1 × IVec S2048x1024 1 × IVec S8192x6144 1 × IVec S1x2048 1 × IVec S8x128x128 1 × IVec S8x128 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S2048x1024 .f32 := (extf .f32 · bitsLt_bf16_f32) main_arg1
  let main_v5 : FVec F S2048x1024 .f32 := Host.absf main_v4
  let main_cst_0 : FVec F S_ .f32 := constant S_ .f32 0x7F800000#32
  let main_v6 : FVec F S2048x1024 .f32 := broadcastInDim S2048x1024 ![] bcast_S_S2048x1024 main_cst_0
  let main_v7 : IVec S2048x1024 1 := cmpf .olt main_v5 main_v6
  let main_v8 : FVec F S8192x6144 .f32 := (extf .f32 · bitsLt_bf16_f32) main_arg2
  let main_v9 : FVec F S8192x6144 .f32 := Host.absf main_v8
  let main_cst_1 : FVec F S_ .f32 := constant S_ .f32 0x7F800000#32
  let main_v10 : FVec F S8192x6144 .f32 := broadcastInDim S8192x6144 ![] bcast_S_S8192x6144 main_cst_1
  let main_v11 : IVec S8192x6144 1 := cmpf .olt main_v9 main_v10
  let main_v12 : FVec F S1x2048 .f32 := Host.absf main_arg3
  let main_cst_2 : FVec F S_ .f32 := constant S_ .f32 0x7F800000#32
  let main_v13 : FVec F S1x2048 .f32 := broadcastInDim S1x2048 ![] bcast_S_S1x2048 main_cst_2
  let main_v14 : IVec S1x2048 1 := cmpf .olt main_v12 main_v13
  let main_v15 : FVec F S8x128x128 .f32 := Host.absf main_arg4
  let main_cst_3 : FVec F S_ .f32 := constant S_ .f32 0x7F800000#32
  let main_v16 : FVec F S8x128x128 .f32 := broadcastInDim S8x128x128 ![] bcast_S_S8x128x128 main_cst_3
  let main_v17 : IVec S8x128x128 1 := cmpf .olt main_v15 main_v16
  let main_v18 : FVec F S8x128 .f32 := Host.absf main_arg5
  fn_part1 (F := F) main_v3 main_v7 main_v11 main_v14 main_v17 main_v18
-- ==== Kernel.lean ====
abbrev S8192x1024 : Shape := ⟨2, ![8192, 1024]⟩
abbrev S2048x1024 : Shape := ⟨2, ![2048, 1024]⟩
abbrev S8192x6144 : Shape := ⟨2, ![8192, 6144]⟩
abbrev S1x2048 : Shape := ⟨2, ![1, 2048]⟩
abbrev S8x128x128 : Shape := ⟨3, ![8, 128, 128]⟩
abbrev S8x128 : Shape := ⟨2, ![8, 128]⟩
abbrev S128x8 : Shape := ⟨2, ![128, 8]⟩
abbrev S512x1024 : Shape := ⟨2, ![512, 1024]⟩
abbrev S512x6144 : Shape := ⟨2, ![512, 6144]⟩
abbrev S512x2048 : Shape := ⟨2, ![512, 2048]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩
abbrev S128x1 : Shape := ⟨2, ![128, 1]⟩
abbrev S128x256 : Shape := ⟨2, ![128, 256]⟩
abbrev S128 : Shape := ⟨1, ![128]⟩
abbrev S2048 : Shape := ⟨1, ![2048]⟩

abbrev nBuf : Space → Nat
  | .hbm => 11
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S8192x6144, .bf16⟩
  | .hbm, ⟨3, _⟩ => ⟨S1x2048, .f32⟩
  | .hbm, ⟨4, _⟩ => ⟨S8x128x128, .f32⟩
  | .hbm, ⟨5, _⟩ => ⟨S8x128, .f32⟩
  | .hbm, ⟨6, _⟩ => ⟨S128x8, .f32⟩
  | .hbm, ⟨7, _⟩ => ⟨S8192x6144, .bf16⟩
  | .hbm, ⟨8, _⟩ => ⟨S8x128x128, .f32⟩
  | .hbm, ⟨9, _⟩ => ⟨S128x8, .f32⟩
  | .hbm, ⟨10, _⟩ => ⟨S1x2048, .f32⟩
  | .local _ .vmem, ⟨0, _⟩ => ⟨S512x1024, .bf16⟩
  | .local _ .vmem, ⟨1, _⟩ => ⟨S512x1024, .bf16⟩
  | .local _ .vmem, ⟨2, _⟩ => ⟨S2048x1024, .bf16⟩
  | .local _ .vmem, ⟨3, _⟩ => ⟨S512x6144, .bf16⟩
  | .local _ .vmem, ⟨4, _⟩ => ⟨S512x6144, .bf16⟩
  | .local _ .vmem, ⟨5, _⟩ => ⟨S1x2048, .f32⟩
  | .local _ .vmem, ⟨6, _⟩ => ⟨S8x128x128, .f32⟩
  | .local _ .vmem, ⟨7, _⟩ => ⟨S128x8, .f32⟩
  | .local _ .vmem, ⟨8, _⟩ => ⟨S512x6144, .bf16⟩
  | .local _ .vmem, ⟨9, _⟩ => ⟨S512x6144, .bf16⟩
  | .local _ .vmem, ⟨10, _⟩ => ⟨S8x128x128, .f32⟩
  | .local _ .vmem, ⟨11, _⟩ => ⟨S128x8, .f32⟩
  | .local _ .vmem, ⟨12, _⟩ => ⟨S1x2048, .f32⟩
  | .local _ .vmem, ⟨13, _⟩ => ⟨S512x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x6144 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x6144 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S8192x1024 : Shape := ⟨2, ![8192, 1024]⟩
abbrev S2048x1024 : Shape := ⟨2, ![2048, 1024]⟩
abbrev S8192x6144 : Shape := ⟨2, ![8192, 6144]⟩
abbrev S1x2048 : Shape := ⟨2, ![1, 2048]⟩
abbrev S8x128x128 : Shape := ⟨3, ![8, 128, 128]⟩
abbrev S8x128 : Shape := ⟨2, ![8, 128]⟩
abbrev S1x8192x1024 : Shape := ⟨3, ![1, 8192, 1024]⟩
abbrev S1x8192x6144 : Shape := ⟨3, ![1, 8192, 6144]⟩
abbrev S2048 : Shape := ⟨1, ![2048]⟩
abbrev S1x8192x2048 : Shape := ⟨3, ![1, 8192, 2048]⟩
abbrev S_ : Shape := ⟨0, ![]⟩
abbrev S1x8192 : Shape := ⟨2, ![1, 8192]⟩
abbrev S1x8192x1 : Shape := ⟨3, ![1, 8192, 1]⟩
abbrev S1x1x2048 : Shape := ⟨3, ![1, 1, 2048]⟩
abbrev S1x64x128x8x256 : Shape := ⟨5, ![1, 64, 128, 8, 256]⟩
abbrev S128x128 : Shape := ⟨2, ![128, 128]⟩
abbrev S1x128x128 : Shape := ⟨3, ![1, 128, 128]⟩
abbrev S8x1x64x256x128 : Shape := ⟨5, ![8, 1, 64, 256, 128]⟩
abbrev S128x8 : Shape := ⟨2, ![128, 8]⟩
abbrev S1x1x128x8x1 : Shape := ⟨5, ![1, 1, 128, 8, 1]⟩
abbrev S1x128x8 : Shape := ⟨3, ![1, 128, 8]⟩
abbrev S8192 : Shape := ⟨1, ![8192]⟩

abbrev nBuf : Space → Nat
  | .hbm => 139
  | .vmem => 0
  | .smem => 0
  | _ => 0

abbrev hbmTy0_0 (i : Nat) : BufTy := match i % 128 with
  | 0 => ⟨S8192x1024, .bf16⟩
  | 1 => ⟨S2048x1024, .bf16⟩
  | 2 => ⟨S8192x6144, .bf16⟩
  | 3 => ⟨S1x2048, .f32⟩
  | 4 => ⟨S8x128x128, .f32⟩
  | 5 => ⟨S8x128, .f32⟩
  | 6 => ⟨S2048x1024, .f32⟩
  | 7 => ⟨S8192x1024, .f32⟩
  | 8 => ⟨S1x8192x1024, .f32⟩
  | 9 => ⟨S8192x6144, .f32⟩
  | 10 => ⟨S1x8192x6144, .f32⟩
  | 11 => ⟨S2048, .f32⟩
  | 12 => ⟨S1x8192x2048, .f32⟩
  | 13 => ⟨S1x8192x2048, .f32⟩
  | 14 => ⟨S1x8192x2048, .f32⟩
  | 15 => ⟨S_, .f32⟩
  | 16 => ⟨S1x8192, .f32⟩
  | 17 => ⟨S1x8192x1, .f32⟩
  | 18 => ⟨S_, .f32⟩
  | 19 => ⟨S1x8192x1, .f32⟩
  | 20 => ⟨S1x8192x1, .f32⟩
  | 21 => ⟨S_, .f32⟩
  | 22 => ⟨S1x8192x1, .f32⟩
  | 23 => ⟨S1x8192x1, .f32⟩
  | 24 => ⟨S1x8192x1, .f32⟩
  | 25 => ⟨S1x8192x1, .f32⟩
  | 26 => ⟨S_, .f32⟩
  | 27 => ⟨S1x8192x1, .f32⟩
  | 28 => ⟨S1x8192x1, .f32⟩
  | 29 => ⟨S1x8192x2048, .f32⟩
  | 30 => ⟨S1x8192x2048, .f32⟩
  | 31 => ⟨S1x1x2048, .f32⟩
  | 32 => ⟨S1x8192x2048, .f32⟩
  | 33 => ⟨S1x8192x2048, .f32⟩
  | 34 => ⟨S1x8192x2048, .f32⟩
  | 35 => ⟨S1x64x128x8x256, .f32⟩
  | 36 => ⟨S_, .i1⟩
  | 37 => ⟨S128x128, .i1⟩
  | 38 => ⟨S128x128, .i32⟩
  | 39 => ⟨S_, .i32⟩
  | 40 => ⟨S128x128, .i32⟩
  | 41 => ⟨S128x128, .i32⟩
  | 42 => ⟨S128x128, .i32⟩
  | 43 => ⟨S128x128, .i1⟩
  | 44 => ⟨S_, .i1⟩
  | 45 => ⟨S128x128, .i1⟩
  | 46 => ⟨S128x128, .i1⟩
  | 47 => ⟨S1x128x128, .i1⟩
  | 48 => ⟨S_, .f32⟩
  | 49 => ⟨S8x128x128, .f32⟩
  | 50 => ⟨S8x128x128, .i1⟩
  | 51 => ⟨S8x128x128, .f32⟩
  | 52 => ⟨S_, .f32⟩
  | 53 => ⟨S8x128x128, .f32⟩
  | 54 => ⟨S8x1x64x256x128, .f32⟩
  | 55 => ⟨S1x64x128x8x256, .f32⟩
  | 56 => ⟨S128x8, .f32⟩
  | 57 => ⟨S1x1x128x8x1, .f32⟩
  | 58 => ⟨S1x64x128x8x256, .f32⟩
  | 59 => ⟨S1x64x128x8x256, .f32⟩
  | 60 => ⟨S1x8192x2048, .f32⟩
  | 61 => ⟨S1x8192x2048, .f32⟩
  | 62 => ⟨S1x8192x2048, .f32⟩
  | 63 => ⟨S1x8192x2048, .f32⟩
  | 64 => ⟨S_, .f32⟩
  | 65 => ⟨S1x8192x2048, .f32⟩
  | 66 => ⟨S1x8192x2048, .f32⟩
  | 67 => ⟨S_, .f32⟩
  | 68 => ⟨S1x8192x2048, .f32⟩
  | 69 => ⟨S1x8192x2048, .f32⟩
  | 70 => ⟨S_, .f32⟩
  | 71 => ⟨S1x8192x2048, .f32⟩
  | 72 => ⟨S1x8192x2048, .f32⟩
  | 73 => ⟨S1x8192x2048, .f32⟩
  | 74 => ⟨S1x8192x2048, .f32⟩
  | 75 => ⟨S1x8192x2048, .f32⟩
  | 76 => ⟨S1x8192x1024, .f32⟩
  | 77 => ⟨S1x8192x2048, .f32⟩
  | 78 => ⟨S1x8192x2048, .f32⟩
  | 79 => ⟨S1x8192x2048, .f32⟩
  | 80 => ⟨S1x8192x2048, .f32⟩
  | 81 => ⟨S1x8192x2048, .f32⟩
  | 82 => ⟨S1x8192x2048, .f32⟩
  | 83 => ⟨S1x8192x2048, .f32⟩
  | 84 => ⟨S1x8192x2048, .f32⟩
  | 85 => ⟨S1x8192x2048, .f32⟩
  | 86 => ⟨S1x64x128x8x256, .f32⟩
  | 87 => ⟨S_, .f32⟩
  | 88 => ⟨S1x128x8, .f32⟩
  | 89 => ⟨S1x1x128x8x1, .f32⟩
  | 90 => ⟨S_, .f32⟩
  | 91 => ⟨S128x8, .f32⟩
  | 92 => ⟨S8x128, .f32⟩
  | 93 => ⟨S8x1x64x256x128, .f32⟩
  | 94 => ⟨S8x128x128, .f32⟩
  | 95 => ⟨S8x1x64x256x128, .f32⟩
  | 96 => ⟨S1x64x128x8x256, .f32⟩
  | 97 => ⟨S_, .f32⟩
  | 98 => ⟨S8x128x128, .f32⟩
  | 99 => ⟨S8x128x128, .f32⟩
  | 100 => ⟨S1x8192x2048, .f32⟩
  | 101 => ⟨S_, .f32⟩
  | 102 => ⟨S1x8192x6144, .f32⟩
  | 103 => ⟨S1x8192x2048, .f32⟩
  | 104 => ⟨S_, .f32⟩
  | 105 => ⟨S1x2048, .f32⟩
  | 106 => ⟨S1x1x2048, .f32⟩
  | 107 => ⟨S1x8192x2048, .f32⟩
  | 108 => ⟨S1x8192x2048, .f32⟩
  | 109 => ⟨S_, .f32⟩
  | 110 => ⟨S2048, .f32⟩
  | 111 => ⟨S1x8192x2048, .f32⟩
  | 112 => ⟨S_, .f32⟩
  | 113 => ⟨S1x8192, .f32⟩
  | 114 => ⟨S1x8192x1, .f32⟩
  | 115 => ⟨S1x8192x2048, .f32⟩
  | 116 => ⟨S1x8192x2048, .f32⟩
  | 117 => ⟨S1x8192x1, .f32⟩
  | 118 => ⟨S_, .f32⟩
  | 119 => ⟨S1x8192x1, .f32⟩
  | 120 => ⟨S1x8192x1, .f32⟩
  | 121 => ⟨S_, .f32⟩
  | 122 => ⟨S8192, .f32⟩
  | 123 => ⟨S1x8192, .f32⟩
  | 124 => ⟨S1x8192x2048, .f32⟩
  | 125 => ⟨S1x8192x2048, .f32⟩
  | 126 => ⟨S1x8192x2048, .f32⟩
  | 127 => ⟨S1x8192x2048, .f32⟩
  | _ => ⟨S8192x1024, .bf16⟩

abbrev hbmTy0_1 (i : Nat) : BufTy := match i % 128 with
  | 0 => ⟨S1x8192x2048, .f32⟩
  | 1 => ⟨S_, .f32⟩
  | 2 => ⟨S1x8192x6144, .f32⟩
  | 3 => ⟨S1x8192x6144, .f32⟩
  | 4 => ⟨S_, .f32⟩
  | 5 => ⟨S1x8192x6144, .f32⟩
  | 6 => ⟨S1x8192x6144, .f32⟩
  | 7 => ⟨S8192x6144, .f32⟩
  | 8 => ⟨S8192x6144, .bf16⟩
  | 9 => ⟨S128x8, .f32⟩
  | 10 => ⟨S1x2048, .f32⟩
  | _ => ⟨S8192x1024, .bf16⟩

abbrev hbmTy (i : Nat) : BufTy := match i / 128 with
  | 0 => hbmTy0_0 i
  | 1 => hbmTy0_1 i
  | _ => ⟨S8192x1024, .bf16⟩

abbrev bufTy : (tb : Table) → Fin (tcTables nBuf tb) → BufTy
  | .hbm, ⟨i, _⟩ => hbmTy i
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c : Ref sig .tc := ⟨.hbm, 36, rfl⟩
abbrev main_v26 : Ref sig .tc := ⟨.hbm, 37, rfl⟩
abbrev main_call0_v0 : Ref sig .tc := ⟨.hbm, 38, rfl⟩
abbrev main_call0_c : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_c_0 : Ref sig .tc := ⟨.hbm, 44, rfl⟩
abbrev main_call0_v5 : Ref sig .tc := ⟨.hbm, 45, rfl⟩
abbrev main_v27 : Ref sig .tc := ⟨.hbm, 46, rfl⟩
abbrev main_v28 : Ref sig .tc := ⟨.hbm, 47, rfl⟩
abbrev main_cst_3 : Ref sig .tc := ⟨.hbm, 48, rfl⟩
abbrev main_v29 : Ref sig .tc := ⟨.hbm, 49, rfl⟩
abbrev main_v30_1 : Ref sig .tc := ⟨.hbm, 50, rfl⟩
abbrev main_v30_0 : Ref sig .tc := ⟨.hbm, 51, rfl⟩
abbrev main_call1_cst : Ref sig .tc := ⟨.hbm, 52, rfl⟩
abbrev main_v30_2 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_call2_v0 : Ref sig .tc := ⟨.hbm, 62, rfl⟩
abbrev main_call2_v1 : Ref sig .tc := ⟨.hbm, 63, rfl⟩
abbrev main_call2_cst : Ref sig .tc := ⟨.hbm, 64, rfl⟩
abbrev main_call2_v2 : Ref sig .tc := ⟨.hbm, 65, rfl⟩
abbrev main_call2_v3 : Ref sig .tc := ⟨.hbm, 66, rfl⟩
abbrev main_call2_cst_0 : Ref sig .tc := ⟨.hbm, 67, rfl⟩
abbrev main_call2_v4 : Ref sig .tc := ⟨.hbm, 68, rfl⟩
abbrev main_v39_2 : Ref sig .tc := ⟨.hbm, 69, rfl⟩
abbrev main_call2_cst_1 : Ref sig .tc := ⟨.hbm, 70, rfl⟩
abbrev main_call2_v6 : Ref sig .tc := ⟨.hbm, 71, rfl⟩
abbrev main_call2_v7 : Ref sig .tc := ⟨.hbm, 72, rfl⟩
abbrev main_v39_1 : Ref sig .tc := ⟨.hbm, 73, rfl⟩
abbrev main_v39_0 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_call3_v0 : Ref sig .tc := ⟨.hbm, 80, rfl⟩
abbrev main_call3_v1 : Ref sig .tc := ⟨.hbm, 81, rfl⟩
abbrev main_call3_v2 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_cst_4 : Ref sig .tc := ⟨.hbm, 87, rfl⟩
abbrev main_v49 : Ref sig .tc := ⟨.hbm, 88, rfl⟩
abbrev main_v50 : Ref sig .tc := ⟨.hbm, 89, rfl⟩
abbrev main_cst_5 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_call4_cst : Ref sig .tc := ⟨.hbm, 97, rfl⟩
abbrev main_call4_v0 : Ref sig .tc := ⟨.hbm, 98, rfl⟩
abbrev main_v57 : Ref sig .tc := ⟨.hbm, 99, rfl⟩
abbrev main_v58 : Ref sig .tc := ⟨.hbm, 100, rfl⟩
abbrev main_cst_6 : Ref sig .tc := ⟨.hbm, 101, rfl⟩
abbrev main_v59 : Ref sig .tc := ⟨.hbm, 102, rfl⟩
abbrev main_v60 : Ref sig .tc := ⟨.hbm, 103, rfl⟩
abbrev main_cst_7 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_cst_8 : Ref sig .tc := ⟨.hbm, 109, rfl⟩
abbrev main_v65 : Ref sig .tc := ⟨.hbm, 110, rfl⟩
abbrev main_v66 : Ref sig .tc := ⟨.hbm, 111, rfl⟩
abbrev main_cst_9 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_cst_10 : Ref sig .tc := ⟨.hbm, 118, rfl⟩
abbrev main_v72 : Ref sig .tc := ⟨.hbm, 119, rfl⟩
abbrev main_v73 : Ref sig .tc := ⟨.hbm, 120, rfl⟩
abbrev main_cst_11 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_cst_12 : Ref sig .tc := ⟨.hbm, 129, rfl⟩
abbrev main_v81 : Ref sig .tc := ⟨.hbm, 130, rfl⟩
abbrev main_v82 : Ref sig .tc := ⟨.hbm, 131, rfl⟩
abbrev main_cst_13 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩

abbrev nD : Nat := 1
abbrev τ : Topo := Topo.v7x

variable {F : FTy → Type} [FloatOps F]
-- ==== Kernel2.lean ====
abbrev S8192x1024 : Shape := ⟨2, ![8192, 1024]⟩
abbrev S8192x10240 : Shape := ⟨2, ![8192, 10240]⟩
abbrev S8x1024x1280 : Shape := ⟨3, ![8, 1024, 1280]⟩
abbrev S4096x1024 : Shape := ⟨2, ![4096, 1024]⟩
abbrev S4096x1280 : Shape := ⟨2, ![4096, 1280]⟩
abbrev S1x1024x1280 : Shape := ⟨3, ![1, 1024, 1280]⟩
abbrev S1024x1280 : Shape := ⟨2, ![1024, 1280]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x10240, .bf16⟩
  | .hbm, ⟨2, _⟩ => ⟨S8x1024x1280, .f32⟩
  | .local _ .vmem, ⟨0, _⟩ => ⟨S4096x1024, .bf16⟩
  | .local _ .vmem, ⟨1, _⟩ => ⟨S4096x1024, .bf16⟩
  | .local _ .vmem, ⟨2, _⟩ => ⟨S4096x1280, .bf16⟩
  | .local _ .vmem, ⟨3, _⟩ => ⟨S4096x1280, .bf16⟩
  | .local _ .vmem, ⟨4, _⟩ => ⟨S1x1024x1280, .f32⟩
  | .local _ .vmem, ⟨5, _⟩ => ⟨S1x1024x1280, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli v9 c4_i32
  let c2_i32_3 : BitVec 32 := 2#32
  let v11 : BitVec 32 := Scalar.divsi arg0 c2_i32_3
  let c0_i32_4 : BitVec 32 := 0#32
  let v12 : BitVec 1 := Scalar.cmpi .sgt arg0 c0_i32_4
  let v13 : BitVec 32 := Scalar.extui v12
  let c0_i32_5 : BitVec 32 := 0#32
  let v14 : BitVec 1 := Scalar.cmpi .slt arg0 c0_i32_5
  let v15 : BitVec 32 := Scalar.extui v14
  let v16 : BitVec 32 := Scalar.subi v13 v15
  let c0_i32_6 : BitVec 32 := 0#32
  let v17 : BitVec 1 := Scalar.cmpi .sgt c2_i32_3 c0_i32_6
  let v18 : BitVec 32 := Scalar.extui v17
  let c0_i32_7 : BitVec 32 := 0#32
  let v19 : BitVec 1 := Scalar.cmpi .slt c2_i32_3 c0_i32_7
  let v20 : BitVec 32 := Scalar.extui v19
  let v21 : BitVec 32 := Scalar.subi v18 v20
  let v22 : BitVec 1 := Scalar.cmpi .ne v16 v21
  let v23 : BitVec 32 := Scalar.remsi arg0 c2_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let v28 : BitVec 32 := Scalar.addi v10 v27
  let c0_i32_10 : BitVec 32 := 0#32
  let c0_i32_11 : BitVec 32 := 0#32
  let c0_i32_12 : BitVec 32 := 0#32
  ![v28.toNat, c0_i32_10.toNat, c0_i32_11.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference2Ideal.lean ====
abbrev S8192x1024 : Shape := ⟨2, ![8192, 1024]⟩
abbrev S8192x10240 : Shape := ⟨2, ![8192, 10240]⟩
abbrev S_ : Shape := ⟨0, ![]⟩
abbrev S1024x10240 : Shape := ⟨2, ![1024, 10240]⟩
abbrev S10240x1024 : Shape := ⟨2, ![10240, 1024]⟩
abbrev S1024x4x2x1280 : Shape := ⟨4, ![1024, 4, 2, 1280]⟩
abbrev S2x4x1024x1280 : Shape := ⟨4, ![2, 4, 1024, 1280]⟩
abbrev S8x1024x1280 : Shape := ⟨3, ![8, 1024, 1280]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x10240, .bf16⟩
  | .hbm, ⟨2, _⟩ => ⟨S8192x1024, .f32⟩
  | .hbm, ⟨3, _⟩ => ⟨S_, .f32⟩
  | .hbm, ⟨4, _⟩ => ⟨S1024x10240, .f32⟩
  | .hbm, ⟨5, _⟩ => ⟨S8192x10240, .f32⟩
  | .hbm, ⟨6, _⟩ => ⟨S8192x10240, .f32⟩
  | .hbm, ⟨7, _⟩ => ⟨S10240x1024, .f32⟩
  | .hbm, ⟨8, _⟩ => ⟨S1024x10240, .f32⟩
  | .hbm, ⟨9, _⟩ => ⟨S1024x4x2x1280, .f32⟩
  | .hbm, ⟨10, _⟩ => ⟨S2x4x1024x1280, .f32⟩
  | .hbm, ⟨11, _⟩ => ⟨S8x1024x1280, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel3.lean ====
abbrev S8192x10240 : Shape := ⟨2, ![8192, 10240]⟩
abbrev S8x1024x1280 : Shape := ⟨3, ![8, 1024, 1280]⟩
abbrev S8192x1024 : Shape := ⟨2, ![8192, 1024]⟩
abbrev S1x1024 : Shape := ⟨2, ![1, 1024]⟩
abbrev S1024x2560 : Shape := ⟨2, ![1024, 2560]⟩
abbrev S2x1024x1280 : Shape := ⟨3, ![2, 1024, 1280]⟩
abbrev S1024x1024 : Shape := ⟨2, ![1024, 1024]⟩
abbrev S1024x1280 : Shape := ⟨2, ![1024, 1280]⟩
abbrev S1x1024x1280 : Shape := ⟨3, ![1, 1024, 1280]⟩
abbrev S1024 : Shape := ⟨1, ![1024]⟩
abbrev S1024x1 : Shape := ⟨2, ![1024, 1]⟩

abbrev nBuf : Space → Nat
  | .hbm => 8
  | .vmem => 15
  | .smem => 0
  | _ => 0

abbrev bufTy : (tb : Table) → Fin (tcTables nBuf tb) → BufTy
  | .hbm, ⟨0, _⟩ => ⟨S8192x10240, .bf16⟩
  | .hbm, ⟨1, _⟩ => ⟨S8x1024x1280, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | .hbm, ⟨7, _⟩ => ⟨S1x1024, .f32⟩
  | .local _ .vmem, ⟨0, _⟩ => ⟨S1024x2560, .bf16⟩
  | .local _ .vmem, ⟨1, _⟩ => ⟨S1024x2560, .bf16⟩
  | .local _ .vmem, ⟨2, _⟩ => ⟨S2x1024x1280, .bf16⟩
  | .local _ .vmem, ⟨3, _⟩ => ⟨S2x1024x1280, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x1024, .f32⟩
  | _, _ => ⟨S8192x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_13 : BitVec 32 := 0#32
  let v19 : BitVec 1 := Scalar.cmpi .ne v18 c0_i32_13
  v19

def k0_cond3 (i : grid0.Coords) : BitVec 1 :=
  let arg0 : BitVec 32 := BitVec.ofNat 32 (i 0).val
  let c0_i32_14 : BitVec 32 := 0#32
  let v20 : BitVec 1 := Scalar.cmpi .eq arg0 c0_i32_14
  let v21 : BitVec 32 := Scalar.extui v20
  let c0_i32_15 : BitVec 32 := 0#32
  let v22 : BitVec 1 := Scalar.cmpi .ne v21 c0_i32_15
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference3Ideal.lean ====
abbrev S8192x10240 : Shape := ⟨2, ![8192, 10240]⟩
abbrev S8x1024x1280 : Shape := ⟨3, ![8, 1024, 1280]⟩
abbrev S8192x1024 : Shape := ⟨2, ![8192, 1024]⟩
abbrev S1x1024 : Shape := ⟨2, ![1, 1024]⟩
abbrev S1024x8x1280 : Shape := ⟨3, ![1024, 8, 1280]⟩
abbrev S1024x10240 : Shape := ⟨2, ![1024, 10240]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 60
  | .vmem => 0
  | .smem => 0
  | _ => 0

abbrev bufTy : (tb : Table) → Fin (tcTables nBuf tb) → BufTy
  | .hbm, ⟨0, _⟩ => ⟨S8192x10240, .bf16⟩
  | .hbm, ⟨1, _⟩ => ⟨S8x1024x1280, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8x1024x1280, .f32⟩
  | .hbm, ⟨6, _⟩ => ⟨S1024x8x1280, .f32⟩
  | .hbm, ⟨7, _⟩ => ⟨S1024x10240, .f32⟩
  | .hbm, ⟨8, _⟩ => ⟨S1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x10240, .f32⟩
  | .hbm, ⟨30, _⟩ => ⟨S8192x10240, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .bf16⟩
  | .hbm, ⟨59, _⟩ => ⟨S1x1024, .f32⟩
  | _, _ => ⟨S8192x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== Kernel4.lean ====
abbrev S8192x1024 : Shape := ⟨2, ![8192, 1024]⟩
abbrev S8192x6144 : Shape := ⟨2, ![8192, 6144]⟩
abbrev S8x1024x768 : Shape := ⟨3, ![8, 1024, 768]⟩
abbrev S4096x1024 : Shape := ⟨2, ![4096, 1024]⟩
abbrev S4096x768 : Shape := ⟨2, ![4096, 768]⟩
abbrev S1x1024x768 : Shape := ⟨3, ![1, 1024, 768]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x6144, .bf16⟩
  | .hbm, ⟨2, _⟩ => ⟨S8x1024x768, .f32⟩
  | .local _ .vmem, ⟨0, _⟩ => ⟨S4096x1024, .bf16⟩
  | .local _ .vmem, ⟨1, _⟩ => ⟨S4096x1024, .bf16⟩
  | .local _ .vmem, ⟨2, _⟩ => ⟨S4096x768, .bf16⟩
  | .local _ .vmem, ⟨3, _⟩ => ⟨S4096x768, .bf16⟩
  | .local _ .vmem, ⟨4, _⟩ => ⟨S1x1024x768, .f32⟩
  | .local _ .vmem, ⟨5, _⟩ => ⟨S1x1024x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli v9 c4_i32
  let c2_i32_3 : BitVec 32 := 2#32
  let v11 : BitVec 32 := Scalar.divsi arg0 c2_i32_3
  let c0_i32_4 : BitVec 32 := 0#32
  let v12 : BitVec 1 := Scalar.cmpi .sgt arg0 c0_i32_4
  let v13 : BitVec 32 := Scalar.extui v12
  let c0_i32_5 : BitVec 32 := 0#32
  let v14 : BitVec 1 := Scalar.cmpi .slt arg0 c0_i32_5
  let v15 : BitVec 32 := Scalar.extui v14
  let v16 : BitVec 32 := Scalar.subi v13 v15
  let c0_i32_6 : BitVec 32 := 0#32
  let v17 : BitVec 1 := Scalar.cmpi .sgt c2_i32_3 c0_i32_6
  let v18 : BitVec 32 := Scalar.extui v17
  let c0_i32_7 : BitVec 32 := 0#32
  let v19 : BitVec 1 := Scalar.cmpi .slt c2_i32_3 c0_i32_7
  let v20 : BitVec 32 := Scalar.extui v19
  let v21 : BitVec 32 := Scalar.subi v18 v20
  let v22 : BitVec 1 := Scalar.cmpi .ne v16 v21
  let v23 : BitVec 32 := Scalar.remsi arg0 c2_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let v28 : BitVec 32 := Scalar.addi v10 v27
  let c0_i32_10 : BitVec 32 := 0#32
  let c0_i32_11 : BitVec 32 := 0#32
  let c0_i32_12 : BitVec 32 := 0#32
  ![v28.toNat, c0_i32_10.toNat, c0_i32_11.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S8192x1024 : Shape := ⟨2, ![8192, 1024]⟩
abbrev S8192x6144 : Shape := ⟨2, ![8192, 6144]⟩
abbrev S_ : Shape := ⟨0, ![]⟩
abbrev S1024x6144 : Shape := ⟨2, ![1024, 6144]⟩
abbrev S6144x1024 : Shape := ⟨2, ![6144, 1024]⟩
abbrev S1024x4x2x768 : Shape := ⟨4, ![1024, 4, 2, 768]⟩
abbrev S2x4x1024x768 : Shape := ⟨4, ![2, 4, 1024, 768]⟩
abbrev S8x1024x768 : Shape := ⟨3, ![8, 1024, 768]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x6144, .bf16⟩
  | .hbm, ⟨2, _⟩ => ⟨S8192x1024, .f32⟩
  | .hbm, ⟨3, _⟩ => ⟨S_, .f32⟩
  | .hbm, ⟨4, _⟩ => ⟨S1024x6144, .f32⟩
  | .hbm, ⟨5, _⟩ => ⟨S8192x6144, .f32⟩
  | .hbm, ⟨6, _⟩ => ⟨S8192x6144, .f32⟩
  | .hbm, ⟨7, _⟩ => ⟨S6144x1024, .f32⟩
  | .hbm, ⟨8, _⟩ => ⟨S1024x6144, .f32⟩
  | .hbm, ⟨9, _⟩ => ⟨S1024x4x2x768, .f32⟩
  | .hbm, ⟨10, _⟩ => ⟨S2x4x1024x768, .f32⟩
  | .hbm, ⟨11, _⟩ => ⟨S8x1024x768, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S8192x1024 : Shape := ⟨2, ![8192, 1024]⟩
abbrev S8192x4096 : Shape := ⟨2, ![8192, 4096]⟩
abbrev S8x1024x512 : Shape := ⟨3, ![8, 1024, 512]⟩
abbrev S4096x1024 : Shape := ⟨2, ![4096, 1024]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S8x1024x512, .f32⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1x1024x512, .f32⟩
  | .local _ .vmem, ⟨5, _⟩ => ⟨S1x1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli v9 c4_i32
  let c2_i32_3 : BitVec 32 := 2#32
  let v11 : BitVec 32 := Scalar.divsi arg0 c2_i32_3
  let c0_i32_4 : BitVec 32 := 0#32
  let v12 : BitVec 1 := Scalar.cmpi .sgt arg0 c0_i32_4
  let v13 : BitVec 32 := Scalar.extui v12
  let c0_i32_5 : BitVec 32 := 0#32
  let v14 : BitVec 1 := Scalar.cmpi .slt arg0 c0_i32_5
  let v15 : BitVec 32 := Scalar.extui v14
  let v16 : BitVec 32 := Scalar.subi v13 v15
  let c0_i32_6 : BitVec 32 := 0#32
  let v17 : BitVec 1 := Scalar.cmpi .sgt c2_i32_3 c0_i32_6
  let v18 : BitVec 32 := Scalar.extui v17
  let c0_i32_7 : BitVec 32 := 0#32
  let v19 : BitVec 1 := Scalar.cmpi .slt c2_i32_3 c0_i32_7
  let v20 : BitVec 32 := Scalar.extui v19
  let v21 : BitVec 32 := Scalar.subi v18 v20
  let v22 : BitVec 1 := Scalar.cmpi .ne v16 v21
  let v23 : BitVec 32 := Scalar.remsi arg0 c2_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let v28 : BitVec 32 := Scalar.addi v10 v27
  let c0_i32_10 : BitVec 32 := 0#32
  let c0_i32_11 : BitVec 32 := 0#32
  let c0_i32_12 : BitVec 32 := 0#32
  ![v28.toNat, c0_i32_10.toNat, c0_i32_11.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference5Ideal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩
abbrev S1024x4x2x512 : Shape := ⟨4, ![1024, 4, 2, 512]⟩
abbrev S2x4x1024x512 : Shape := ⟨4, ![2, 4, 1024, 512]⟩
abbrev S8x1024x512 : Shape := ⟨3, ![8, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S8192x1024, .f32⟩
  | .hbm, ⟨3, _⟩ => ⟨S_, .f32⟩
  | .hbm, ⟨4, _⟩ => ⟨S1024x4096, .f32⟩
  | .hbm, ⟨5, _⟩ => ⟨S8192x4096, .f32⟩
  | .hbm, ⟨6, _⟩ => ⟨S8192x4096, .f32⟩
  | .hbm, ⟨7, _⟩ => ⟨S4096x1024, .f32⟩
  | .hbm, ⟨8, _⟩ => ⟨S1024x4096, .f32⟩
  | .hbm, ⟨9, _⟩ => ⟨S1024x4x2x512, .f32⟩
  | .hbm, ⟨10, _⟩ => ⟨S2x4x1024x512, .f32⟩
  | .hbm, ⟨11, _⟩ => ⟨S8x1024x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel6.lean ====
abbrev S8192x6144 : Shape := ⟨2, ![8192, 6144]⟩
abbrev S8x1024x768 : Shape := ⟨3, ![8, 1024, 768]⟩
abbrev S8192x1024 : Shape := ⟨2, ![8192, 1024]⟩
abbrev S1x1024 : Shape := ⟨2, ![1, 1024]⟩
abbrev S1024x1536 : Shape := ⟨2, ![1024, 1536]⟩
abbrev S2x1024x768 : Shape := ⟨3, ![2, 1024, 768]⟩
abbrev S1024x1024 : Shape := ⟨2, ![1024, 1024]⟩
abbrev S1024x768 : Shape := ⟨2, ![1024, 768]⟩
abbrev S1x1024x768 : Shape := ⟨3, ![1, 1024, 768]⟩
abbrev S1024 : Shape := ⟨1, ![1024]⟩
abbrev S1024x1 : Shape := ⟨2, ![1024, 1]⟩

abbrev nBuf : Space → Nat
  | .hbm => 8
  | .vmem => 15
  | .smem => 0
  | _ => 0

abbrev bufTy : (tb : Table) → Fin (tcTables nBuf tb) → BufTy
  | .hbm, ⟨0, _⟩ => ⟨S8192x6144, .bf16⟩
  | .hbm, ⟨1, _⟩ => ⟨S8x1024x768, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | .hbm, ⟨7, _⟩ => ⟨S1x1024, .f32⟩
  | .local _ .vmem, ⟨0, _⟩ => ⟨S1024x1536, .bf16⟩
  | .local _ .vmem, ⟨1, _⟩ => ⟨S1024x1536, .bf16⟩
  | .local _ .vmem, ⟨2, _⟩ => ⟨S2x1024x768, .bf16⟩
  | .local _ .vmem, ⟨3, _⟩ => ⟨S2x1024x768, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x1024, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_13 : BitVec 32 := 0#32
  let v19 : BitVec 1 := Scalar.cmpi .ne v18 c0_i32_13
  v19

def k0_cond3 (i : grid0.Coords) : BitVec 1 :=
  let arg0 : BitVec 32 := BitVec.ofNat 32 (i 0).val
  let c0_i32_14 : BitVec 32 := 0#32
  let v20 : BitVec 1 := Scalar.cmpi .eq arg0 c0_i32_14
  let v21 : BitVec 32 := Scalar.extui v20
  let c0_i32_15 : BitVec 32 := 0#32
  let v22 : BitVec 1 := Scalar.cmpi .ne v21 c0_i32_15
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference6Ideal.lean ====
abbrev S8192x6144 : Shape := ⟨2, ![8192, 6144]⟩
abbrev S8x1024x768 : Shape := ⟨3, ![8, 1024, 768]⟩
abbrev S8192x1024 : Shape := ⟨2, ![8192, 1024]⟩
abbrev S1x1024 : Shape := ⟨2, ![1, 1024]⟩
abbrev S1024x8x768 : Shape := ⟨3, ![1024, 8, 768]⟩
abbrev S1024x6144 : Shape := ⟨2, ![1024, 6144]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 60
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S8x1024x768, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8x1024x768, .f32⟩
  | .hbm, ⟨6, _⟩ => ⟨S1024x8x768, .f32⟩
  | .hbm, ⟨7, _⟩ => ⟨S1024x6144, .f32⟩
  | .hbm, ⟨8, _⟩ => ⟨S1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x6144, .f32⟩
  | .hbm, ⟨30, _⟩ => ⟨S8192x6144, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .bf16⟩
  | .hbm, ⟨59, _⟩ => ⟨S1x1024, .f32⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== Kernel7.lean ====
abbrev S8192x4096 : Shape := ⟨2, ![8192, 4096]⟩
abbrev S8x1024x512 : Shape := ⟨3, ![8, 1024, 512]⟩
abbrev S8192x1024 : Shape := ⟨2, ![8192, 1024]⟩
abbrev S1x1024 : Shape := ⟨2, ![1, 1024]⟩
abbrev S1024x1024 : Shape := ⟨2, ![1024, 1024]⟩
abbrev S2x1024x512 : Shape := ⟨3, ![2, 1024, 512]⟩
abbrev S1024x512 : Shape := ⟨2, ![1024, 512]⟩
abbrev S1x1024x512 : Shape := ⟨3, ![1, 1024, 512]⟩
abbrev S1024 : Shape := ⟨1, ![1024]⟩
abbrev S1024x1 : Shape := ⟨2, ![1024, 1]⟩

abbrev nBuf : Space → Nat
  | .hbm => 8
  | .vmem => 15
  | .smem => 0
  | _ => 0

abbrev bufTy : (tb : Table) → Fin (tcTables nBuf tb) → BufTy
  | .hbm, ⟨0, _⟩ => ⟨S8192x4096, .bf16⟩
  | .hbm, ⟨1, _⟩ => ⟨S8x1024x512, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | .hbm, ⟨7, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S2x1024x512, .bf16⟩
  | .local _ .vmem, ⟨3, _⟩ => ⟨S2x1024x512, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_13 : BitVec 32 := 0#32
  let v19 : BitVec 1 := Scalar.cmpi .ne v18 c0_i32_13
  v19

def k0_cond3 (i : grid0.Coords) : BitVec 1 :=
  let arg0 : BitVec 32 := BitVec.ofNat 32 (i 0).val
  let c0_i32_14 : BitVec 32 := 0#32
  let v20 : BitVec 1 := Scalar.cmpi .eq arg0 c0_i32_14
  let v21 : BitVec 32 := Scalar.extui v20
  let c0_i32_15 : BitVec 32 := 0#32
  let v22 : BitVec 1 := Scalar.cmpi .ne v21 c0_i32_15
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference7Ideal.lean ====
abbrev S8192x4096 : Shape := ⟨2, ![8192, 4096]⟩
abbrev S8x1024x512 : Shape := ⟨3, ![8, 1024, 512]⟩
abbrev S8192x1024 : Shape := ⟨2, ![8192, 1024]⟩
abbrev S1x1024 : Shape := ⟨2, ![1, 1024]⟩
abbrev S1024x8x512 : Shape := ⟨3, ![1024, 8, 512]⟩
abbrev S1024x4096 : Shape := ⟨2, ![1024, 4096]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 60
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8x1024x512, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8x1024x512, .f32⟩
  | .hbm, ⟨6, _⟩ => ⟨S1024x8x512, .f32⟩
  | .hbm, ⟨7, _⟩ => ⟨S1024x4096, .f32⟩
  | .hbm, ⟨8, _⟩ => ⟨S1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x4096, .f32⟩
  | .hbm, ⟨30, _⟩ => ⟨S8192x4096, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .bf16⟩
  | .hbm, ⟨59, _⟩ => ⟨S1x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== Kernel8.lean ====
abbrev S8192x2048 : Shape := ⟨2, ![8192, 2048]⟩
abbrev S8192x1024 : Shape := ⟨2, ![8192, 1024]⟩
abbrev S8x256x1024 : Shape := ⟨3, ![8, 256, 1024]⟩
abbrev S2048x2048 : Shape := ⟨2, ![2048, 2048]⟩
abbrev S2048x1024 : Shape := ⟨2, ![2048, 1024]⟩
abbrev S1x256x1024 : Shape := ⟨3, ![1, 256, 1024]⟩
abbrev S256x1024 : Shape := ⟨2, ![256, 1024]⟩
abbrev S2048x256 : Shape := ⟨2, ![2048, 256]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8x256x1024, .f32⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S8x256x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference8Ideal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩
abbrev S4x2x256x1024 : Shape := ⟨4, ![4, 2, 256, 1024]⟩
abbrev S2x4x256x1024 : Shape := ⟨4, ![2, 4, 256, 1024]⟩
abbrev S8x256x1024 : Shape := ⟨3, ![8, 256, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x2048, .f32⟩
  | .hbm, ⟨3, _⟩ => ⟨S_, .f32⟩
  | .hbm, ⟨4, _⟩ => ⟨S2048x1024, .f32⟩
  | .hbm, ⟨5, _⟩ => ⟨S8192x1024, .f32⟩
  | .hbm, ⟨6, _⟩ => ⟨S8192x1024, .f32⟩
  | .hbm, ⟨7, _⟩ => ⟨S1024x2048, .f32⟩
  | .hbm, ⟨8, _⟩ => ⟨S2048x1024, .f32⟩
  | .hbm, ⟨9, _⟩ => ⟨S4x2x256x1024, .f32⟩
  | .hbm, ⟨10, _⟩ => ⟨S2x4x256x1024, .f32⟩
  | .hbm, ⟨11, _⟩ => ⟨S8x256x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel9.lean ====
abbrev S8192x1024 : Shape := ⟨2, ![8192, 1024]⟩
abbrev S8x128x1024 : Shape := ⟨3, ![8, 128, 1024]⟩
abbrev S2048x1024 : Shape := ⟨2, ![2048, 1024]⟩
abbrev S1x128x1024 : Shape := ⟨3, ![1, 128, 1024]⟩
abbrev S128x1024 : Shape := ⟨2, ![128, 1024]⟩
abbrev S2048x128 : Shape := ⟨2, ![2048, 128]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8x128x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S8x128x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference9Ideal.lean ====
abbrev S8192x1024 : Shape := ⟨2, ![8192, 1024]⟩
abbrev S_ : Shape := ⟨0, ![]⟩
abbrev S1024x1024 : Shape := ⟨2, ![1024, 1024]⟩
abbrev S4x2x128x1024 : Shape := ⟨4, ![4, 2, 128, 1024]⟩
abbrev S2x4x128x1024 : Shape := ⟨4, ![2, 4, 128, 1024]⟩
abbrev S8x128x1024 : Shape := ⟨3, ![8, 128, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S4x2x128x1024, .f32⟩
  | .hbm, ⟨10, _⟩ => ⟨S2x4x128x1024, .f32⟩
  | .hbm, ⟨11, _⟩ => ⟨S8x128x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel10.lean ====
abbrev S8192x1024 : Shape := ⟨2, ![8192, 1024]⟩
abbrev S8192x2048 : Shape := ⟨2, ![8192, 2048]⟩
abbrev S2048x1024 : Shape := ⟨2, ![2048, 1024]⟩
abbrev S1024x1024 : Shape := ⟨2, ![1024, 1024]⟩
abbrev S1024x2048 : Shape := ⟨2, ![1024, 2048]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x2048, .bf16⟩
  | .hbm, ⟨2, _⟩ => ⟨S2048x1024, .bf16⟩
  | .hbm, ⟨3, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference10Ideal.lean ====
abbrev S8192x1024 : Shape := ⟨2, ![8192, 1024]⟩
abbrev S8192x2048 : Shape := ⟨2, ![8192, 2048]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .bf16⟩
  | .hbm, ⟨2, _⟩ => ⟨S2048x1024, .bf16⟩
  | .hbm, ⟨3, _⟩ => ⟨S8192x2048, .f32⟩
  | .hbm, ⟨4, _⟩ => ⟨S2048x1024, .f32⟩
  | .hbm, ⟨5, _⟩ => ⟨S8192x1024, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel11.lean ====
abbrev S8192x1024 : Shape := ⟨2, ![8192, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1024x1024, .bf16⟩
  | .hbm, ⟨3, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference11Ideal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1024x1024, .bf16⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel12.lean ====
abbrev S8192x1024 : Shape := ⟨2, ![8192, 1024]⟩
abbrev S1x1024 : Shape := ⟨2, ![1, 1024]⟩
abbrev S8x1024x768 : Shape := ⟨3, ![8, 1024, 768]⟩
abbrev S8192x6144 : Shape := ⟨2, ![8192, 6144]⟩
abbrev S2048x1024 : Shape := ⟨2, ![2048, 1024]⟩
abbrev S1x1024x768 : Shape := ⟨3, ![1, 1024, 768]⟩
abbrev S2048x768 : Shape := ⟨2, ![2048, 768]⟩
abbrev S2048 : Shape := ⟨1, ![2048]⟩
abbrev S2048x1 : Shape := ⟨2, ![2048, 1]⟩
abbrev S1024x768 : Shape := ⟨2, ![1024, 768]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8x1024x768, .bf16⟩
  | .hbm, ⟨3, _⟩ => ⟨S8192x1024, .bf16⟩
  | .hbm, ⟨4, _⟩ => ⟨S8192x6144, .bf16⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1x1024x768, .bf16⟩
  | .local _ .vmem, ⟨4, _⟩ => ⟨S1x1024x768, .bf16⟩
  | .local _ .vmem, ⟨5, _⟩ => ⟨S2048x1024, .bf16⟩
  | .local _ .vmem, ⟨6, _⟩ => ⟨S2048x1024, .bf16⟩
  | .local _ .vmem, ⟨7, _⟩ => ⟨S2048x768, .bf16⟩
  | .local _ .vmem, ⟨8, _⟩ => ⟨S2048x768, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference12Ideal.lean ====
abbrev S8192x1024 : Shape := ⟨2, ![8192, 1024]⟩
abbrev S1x1024 : Shape := ⟨2, ![1, 1024]⟩
abbrev S8x1024x768 : Shape := ⟨3, ![8, 1024, 768]⟩
abbrev S1024x8x768 : Shape := ⟨3, ![1024, 8, 768]⟩
abbrev S1024x6144 : Shape := ⟨2, ![1024, 6144]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x6144 : Shape := ⟨2, ![8192, 6144]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8x1024x768, .bf16⟩
  | .hbm, ⟨3, _⟩ => ⟨S8x1024x768, .f32⟩
  | .hbm, ⟨4, _⟩ => ⟨S1024x8x768, .f32⟩
  | .hbm, ⟨5, _⟩ => ⟨S1024x6144, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .bf16⟩
  | .hbm, ⟨24, _⟩ => ⟨S8192x6144, .f32⟩
  | .hbm, ⟨25, _⟩ => ⟨S8192x6144, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Kernel13.lean ====
abbrev S8192x1024 : Shape := ⟨2, ![8192, 1024]⟩
abbrev S1x1024 : Shape := ⟨2, ![1, 1024]⟩
abbrev S8x1024x1280 : Shape := ⟨3, ![8, 1024, 1280]⟩
abbrev S8192x10240 : Shape := ⟨2, ![8192, 10240]⟩
abbrev S2048x1024 : Shape := ⟨2, ![2048, 1024]⟩
abbrev S1x1024x1280 : Shape := ⟨3, ![1, 1024, 1280]⟩
abbrev S2048x1280 : Shape := ⟨2, ![2048, 1280]⟩
abbrev S2048 : Shape := ⟨1, ![2048]⟩
abbrev S2048x1 : Shape := ⟨2, ![2048, 1]⟩
abbrev S1024x1280 : Shape := ⟨2, ![1024, 1280]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8x1024x1280, .bf16⟩
  | .hbm, ⟨3, _⟩ => ⟨S8192x1024, .bf16⟩
  | .hbm, ⟨4, _⟩ => ⟨S8192x10240, .bf16⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1x1024x1280, .bf16⟩
  | .local _ .vmem, ⟨4, _⟩ => ⟨S1x1024x1280, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1280, .bf16⟩
  | .local _ .vmem, ⟨8, _⟩ => ⟨S2048x1280, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference13Ideal.lean ====
abbrev S8192x1024 : Shape := ⟨2, ![8192, 1024]⟩
abbrev S1x1024 : Shape := ⟨2, ![1, 1024]⟩
abbrev S8x1024x1280 : Shape := ⟨3, ![8, 1024, 1280]⟩
abbrev S1024x8x1280 : Shape := ⟨3, ![1024, 8, 1280]⟩
abbrev S1024x10240 : Shape := ⟨2, ![1024, 10240]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x10240 : Shape := ⟨2, ![8192, 10240]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8x1024x1280, .bf16⟩
  | .hbm, ⟨3, _⟩ => ⟨S8x1024x1280, .f32⟩
  | .hbm, ⟨4, _⟩ => ⟨S1024x8x1280, .f32⟩
  | .hbm, ⟨5, _⟩ => ⟨S1024x10240, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .bf16⟩
  | .hbm, ⟨24, _⟩ => ⟨S8192x10240, .f32⟩
  | .hbm, ⟨25, _⟩ => ⟨S8192x10240, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Kernel14.lean ====
abbrev S8192x1024 : Shape := ⟨2, ![8192, 1024]⟩
abbrev S1x1024 : Shape := ⟨2, ![1, 1024]⟩
abbrev S8x1024x512 : Shape := ⟨3, ![8, 1024, 512]⟩
abbrev S8192x4096 : Shape := ⟨2, ![8192, 4096]⟩
abbrev S2048x1024 : Shape := ⟨2, ![2048, 1024]⟩
abbrev S1x1024x512 : Shape := ⟨3, ![1, 1024, 512]⟩
abbrev S2048x512 : Shape := ⟨2, ![2048, 512]⟩
abbrev S2048 : Shape := ⟨1, ![2048]⟩
abbrev S2048x1 : Shape := ⟨2, ![2048, 1]⟩
abbrev S1024x512 : Shape := ⟨2, ![1024, 512]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8x1024x512, .bf16⟩
  | .hbm, ⟨3, _⟩ => ⟨S8192x1024, .bf16⟩
  | .hbm, ⟨4, _⟩ => ⟨S8192x4096, .bf16⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1x1024x512, .bf16⟩
  | .local _ .vmem, ⟨4, _⟩ => ⟨S1x1024x512, .bf16⟩
  | .local _ .vmem, ⟨5, _⟩ => ⟨S2048x1024, .bf16⟩
  | .local _ .vmem, ⟨6, _⟩ => ⟨S2048x1024, .bf16⟩
  | .local _ .vmem, ⟨7, _⟩ => ⟨S2048x512, .bf16⟩
  | .local _ .vmem, ⟨8, _⟩ => ⟨S2048x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference14Ideal.lean ====
abbrev S8192x1024 : Shape := ⟨2, ![8192, 1024]⟩
abbrev S1x1024 : Shape := ⟨2, ![1, 1024]⟩
abbrev S8x1024x512 : Shape := ⟨3, ![8, 1024, 512]⟩
abbrev S1024x8x512 : Shape := ⟨3, ![1024, 8, 512]⟩
abbrev S1024x4096 : Shape := ⟨2, ![1024, 4096]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8x1024x512, .bf16⟩
  | .hbm, ⟨3, _⟩ => ⟨S8x1024x512, .f32⟩
  | .hbm, ⟨4, _⟩ => ⟨S1024x8x512, .f32⟩
  | .hbm, ⟨5, _⟩ => ⟨S1024x4096, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .bf16⟩
  | .hbm, ⟨24, _⟩ => ⟨S8192x4096, .f32⟩
  | .hbm, ⟨25, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Kernel15.lean ====
abbrev S8192x1024 : Shape := ⟨2, ![8192, 1024]⟩
abbrev S8192x2048 : Shape := ⟨2, ![8192, 2048]⟩
abbrev S2048x1024 : Shape := ⟨2, ![2048, 1024]⟩
abbrev S8x128 : Shape := ⟨2, ![8, 128]⟩
abbrev S512x1024 : Shape := ⟨2, ![512, 1024]⟩
abbrev S512x2048 : Shape := ⟨2, ![512, 2048]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x2048, .bf16⟩
  | .hbm, ⟨2, _⟩ => ⟨S2048x1024, .bf16⟩
  | .hbm, ⟨3, _⟩ => ⟨S8192x1024, .f32⟩
  | .hbm, ⟨4, _⟩ => ⟨S8192x1024, .f32⟩
  | .hbm, ⟨5, _⟩ => ⟨S8192x1024, .bf16⟩
  | .hbm, ⟨6, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S2048x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference15Ideal.lean ====
abbrev S8192x1024 : Shape := ⟨2, ![8192, 1024]⟩
abbrev S8192x2048 : Shape := ⟨2, ![8192, 2048]⟩
abbrev S2048x1024 : Shape := ⟨2, ![2048, 1024]⟩
abbrev S_ : Shape := ⟨0, ![]⟩
abbrev S8192 : Shape := ⟨1, ![8192]⟩
abbrev S8x128 : Shape := ⟨2, ![8, 128]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .bf16⟩
  | .hbm, ⟨2, _⟩ => ⟨S2048x1024, .bf16⟩
  | .hbm, ⟨3, _⟩ => ⟨S8192x1024, .f32⟩
  | .hbm, ⟨4, _⟩ => ⟨S8192x2048, .f32⟩
  | .hbm, ⟨5, _⟩ => ⟨S2048x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S_, .f32⟩
  | .hbm, ⟨16, _⟩ => ⟨S8192, .f32⟩
  | .hbm, ⟨17, _⟩ => ⟨S8192, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S8192, .f32⟩
  | .hbm, ⟨26, _⟩ => ⟨S_, .f32⟩
  | .hbm, ⟨27, _⟩ => ⟨S8192, .f32⟩
  | .hbm, ⟨28, _⟩ => ⟨S8192, .f32⟩
  | .hbm, ⟨29, _⟩ => ⟨S8192x1024, .f32⟩
  | .hbm, ⟨30, _⟩ => ⟨S8192x1024, .f32⟩
  | .hbm, ⟨31, _⟩ => ⟨S8x128, .f32⟩
  | .hbm, ⟨32, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_cst_4 : Ref sig .tc := ⟨.hbm, 22, rfl⟩
abbrev main_cst_5 : Ref sig .tc := ⟨.hbm, 23, rfl⟩
abbrev main_v13 : Ref sig .tc := ⟨.hbm, 24, rfl⟩
abbrev main_v14 : Ref sig .tc := ⟨.hbm, 25, rfl⟩
abbrev main_cst_6 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]
-- ==== Kernel16.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference16Ideal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S2x256 : Shape := ⟨2, ![2, 256]⟩

abbrev nBuf : Space → Nat
  | .hbm => 7
  | .vmem => 7
  | .smem => 0
  | _ => 0

abbrev bufTy : (tb : Table) → Fin (tcTables nBuf tb) → BufTy
  | .hbm, ⟨0, _⟩ => ⟨S2x256, .f32⟩
  | .hbm, ⟨1, _⟩ => ⟨S2x256, .f32⟩
  | .hbm, ⟨2, _⟩ => ⟨S2x256, .f32⟩
  | .hbm, ⟨3, _⟩ => ⟨S2x256, .f32⟩
  | .hbm, ⟨4, _⟩ => ⟨S2x256, .f32⟩
  | .hbm, ⟨5, _⟩ => ⟨S2x256, .f32⟩
  | .hbm, ⟨6, _⟩ => ⟨S2x256, .f32⟩
  | .local _ .vmem, ⟨0, _⟩ => ⟨S2x256, .f32⟩
  | .local _ .vmem, ⟨1, _⟩ => ⟨S2x256, .f32⟩
  | .local _ .vmem, ⟨2, _⟩ => ⟨S2x256, .f32⟩
  | .local _ .vmem, ⟨3, _⟩ => ⟨S2x256, .f32⟩
  | .local _ .vmem, ⟨4, _⟩ => ⟨S2x256, .f32⟩
  | .local _ .vmem, ⟨5, _⟩ => ⟨S2x256, .f32⟩
  | .local _ .vmem, ⟨6, _⟩ => ⟨S2x256, .f32⟩
  | _, _ => ⟨S2x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference17Ideal.lean ====
abbrev S2x256 : Shape := ⟨2, ![2, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x256, .f32⟩
  | .hbm, ⟨1, _⟩ => ⟨S2x256, .f32⟩
  | .hbm, ⟨2, _⟩ => ⟨S2x256, .f32⟩
  | .hbm, ⟨3, _⟩ => ⟨S2x256, .f32⟩
  | .hbm, ⟨4, _⟩ => ⟨S_, .f32⟩
  | .hbm, ⟨5, _⟩ => ⟨S2x256, .f32⟩
  | .hbm, ⟨6, _⟩ => ⟨S2x256, .f32⟩
  | .hbm, ⟨7, _⟩ => ⟨S_, .f32⟩
  | .hbm, ⟨8, _⟩ => ⟨S2x256, .f32⟩
  | .hbm, ⟨9, _⟩ => ⟨S2x256, .f32⟩
  | .hbm, ⟨10, _⟩ => ⟨S2x256, .f32⟩
  | .hbm, ⟨11, _⟩ => ⟨S_, .f32⟩
  | .hbm, ⟨12, _⟩ => ⟨S2x256, .f32⟩
  | .hbm, ⟨13, _⟩ => ⟨S2x256, .f32⟩
  | .hbm, ⟨14, _⟩ => ⟨S2x256, .f32⟩
  | .hbm, ⟨15, _⟩ => ⟨S_, .f32⟩
  | .hbm, ⟨16, _⟩ => ⟨S2x256, .f32⟩
  | .hbm, ⟨17, _⟩ => ⟨S2x256, .f32⟩
  | .hbm, ⟨18, _⟩ => ⟨S2x256, .f32⟩
  | .hbm, ⟨19, _⟩ => ⟨S_, .f32⟩
  | .hbm, ⟨20, _⟩ => ⟨S2x256, .f32⟩
  | .hbm, ⟨21, _⟩ => ⟨S2x256, .f32⟩
  | .hbm, ⟨22, _⟩ => ⟨S_, .f32⟩
  | .hbm, ⟨23, _⟩ => ⟨S2x256, .f32⟩
  | .hbm, ⟨24, _⟩ => ⟨S2x256, .f32⟩
  | .hbm, ⟨25, _⟩ => ⟨S2x256, .f32⟩
  | .hbm, ⟨26, _⟩ => ⟨S_, .f32⟩
  | .hbm, ⟨27, _⟩ => ⟨S2x256, .f32⟩
  | .hbm, ⟨28, _⟩ => ⟨S2x256, .f32⟩
  | .hbm, ⟨29, _⟩ => ⟨S2x256, .f32⟩
  | .hbm, ⟨30, _⟩ => ⟨S_, .f32⟩
  | .hbm, ⟨31, _⟩ => ⟨S2x256, .f32⟩
  | .hbm, ⟨32, _⟩ => ⟨S2x256, .f32⟩
  | .hbm, ⟨33, _⟩ => ⟨S2x256, .f32⟩
  | .hbm, ⟨34, _⟩ => ⟨S_, .f32⟩
  | .hbm, ⟨35, _⟩ => ⟨S2x256, .f32⟩
  | .hbm, ⟨36, _⟩ => ⟨S2x256, .f32⟩
  | _, _ => ⟨S2x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S2048x128 : Shape := ⟨2, ![2048, 128]⟩

abbrev nBuf : Space → Nat
  | .hbm => 7
  | .vmem => 7
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S2048x128, .f32⟩
  | .hbm, ⟨5, _⟩ => ⟨S2048x128, .f32⟩
  | .hbm, ⟨6, _⟩ => ⟨S2048x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference18Ideal.lean ====
abbrev S2048x128 : Shape := ⟨2, ![2048, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S_, .f32⟩
  | .hbm, ⟨5, _⟩ => ⟨S2048x128, .f32⟩
  | .hbm, ⟨6, _⟩ => ⟨S2048x128, .f32⟩
  | .hbm, ⟨7, _⟩ => ⟨S_, .f32⟩
  | .hbm, ⟨8, _⟩ => ⟨S2048x128, .f32⟩
  | .hbm, ⟨9, _⟩ => ⟨S2048x128, .f32⟩
  | .hbm, ⟨10, _⟩ => ⟨S2048x128, .f32⟩
  | .hbm, ⟨11, _⟩ => ⟨S_, .f32⟩
  | .hbm, ⟨12, _⟩ => ⟨S2048x128, .f32⟩
  | .hbm, ⟨13, _⟩ => ⟨S2048x128, .f32⟩
  | .hbm, ⟨14, _⟩ => ⟨S2048x128, .f32⟩
  | .hbm, ⟨15, _⟩ => ⟨S_, .f32⟩
  | .hbm, ⟨16, _⟩ => ⟨S2048x128, .f32⟩
  | .hbm, ⟨17, _⟩ => ⟨S2048x128, .f32⟩
  | .hbm, ⟨18, _⟩ => ⟨S2048x128, .f32⟩
  | .hbm, ⟨19, _⟩ => ⟨S_, .f32⟩
  | .hbm, ⟨20, _⟩ => ⟨S2048x128, .f32⟩
  | .hbm, ⟨21, _⟩ => ⟨S2048x128, .f32⟩
  | .hbm, ⟨22, _⟩ => ⟨S_, .f32⟩
  | .hbm, ⟨23, _⟩ => ⟨S2048x128, .f32⟩
  | .hbm, ⟨24, _⟩ => ⟨S2048x128, .f32⟩
  | .hbm, ⟨25, _⟩ => ⟨S2048x128, .f32⟩
  | .hbm, ⟨26, _⟩ => ⟨S_, .f32⟩
  | .hbm, ⟨27, _⟩ => ⟨S2048x128, .f32⟩
  | .hbm, ⟨28, _⟩ => ⟨S2048x128, .f32⟩
  | .hbm, ⟨29, _⟩ => ⟨S2048x128, .f32⟩
  | .hbm, ⟨30, _⟩ => ⟨S_, .f32⟩
  | .hbm, ⟨31, _⟩ => ⟨S2048x128, .f32⟩
  | .hbm, ⟨32, _⟩ => ⟨S2048x128, .f32⟩
  | .hbm, ⟨33, _⟩ => ⟨S2048x128, .f32⟩
  | .hbm, ⟨34, _⟩ => ⟨S_, .f32⟩
  | .hbm, ⟨35, _⟩ => ⟨S2048x128, .f32⟩
  | .hbm, ⟨36, _⟩ => ⟨S2048x128, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S16x128 : Shape := ⟨2, ![16, 128]⟩

abbrev nBuf : Space → Nat
  | .hbm => 7
  | .vmem => 7
  | .smem => 0
  | _ => 0

abbrev bufTy : (tb : Table) → Fin (tcTables nBuf tb) → BufTy
  | .hbm, ⟨0, _⟩ => ⟨S16x128, .f32⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S16x128, .f32⟩
  | .hbm, ⟨5, _⟩ => ⟨S16x128, .f32⟩
  | .hbm, ⟨6, _⟩ => ⟨S16x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | _, _ => ⟨S16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference19Ideal.lean ====
abbrev S16x128 : Shape := ⟨2, ![16, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x128, .f32⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S_, .f32⟩
  | .hbm, ⟨5, _⟩ => ⟨S16x128, .f32⟩
  | .hbm, ⟨6, _⟩ => ⟨S16x128, .f32⟩
  | .hbm, ⟨7, _⟩ => ⟨S_, .f32⟩
  | .hbm, ⟨8, _⟩ => ⟨S16x128, .f32⟩
  | .hbm, ⟨9, _⟩ => ⟨S16x128, .f32⟩
  | .hbm, ⟨10, _⟩ => ⟨S16x128, .f32⟩
  | .hbm, ⟨11, _⟩ => ⟨S_, .f32⟩
  | .hbm, ⟨12, _⟩ => ⟨S16x128, .f32⟩
  | .hbm, ⟨13, _⟩ => ⟨S16x128, .f32⟩
  | .hbm, ⟨14, _⟩ => ⟨S16x128, .f32⟩
  | .hbm, ⟨15, _⟩ => ⟨S_, .f32⟩
  | .hbm, ⟨16, _⟩ => ⟨S16x128, .f32⟩
  | .hbm, ⟨17, _⟩ => ⟨S16x128, .f32⟩
  | .hbm, ⟨18, _⟩ => ⟨S16x128, .f32⟩
  | .hbm, ⟨19, _⟩ => ⟨S_, .f32⟩
  | .hbm, ⟨20, _⟩ => ⟨S16x128, .f32⟩
  | .hbm, ⟨21, _⟩ => ⟨S16x128, .f32⟩
  | .hbm, ⟨22, _⟩ => ⟨S_, .f32⟩
  | .hbm, ⟨23, _⟩ => ⟨S16x128, .f32⟩
  | .hbm, ⟨24, _⟩ => ⟨S16x128, .f32⟩
  | .hbm, ⟨25, _⟩ => ⟨S16x128, .f32⟩
  | .hbm, ⟨26, _⟩ => ⟨S_, .f32⟩
  | .hbm, ⟨27, _⟩ => ⟨S16x128, .f32⟩
  | .hbm, ⟨28, _⟩ => ⟨S16x128, .f32⟩
  | .hbm, ⟨29, _⟩ => ⟨S16x128, .f32⟩
  | .hbm, ⟨30, _⟩ => ⟨S_, .f32⟩
  | .hbm, ⟨31, _⟩ => ⟨S16x128, .f32⟩
  | .hbm, ⟨32, _⟩ => ⟨S16x128, .f32⟩
  | .hbm, ⟨33, _⟩ => ⟨S16x128, .f32⟩
  | .hbm, ⟨34, _⟩ => ⟨S_, .f32⟩
  | .hbm, ⟨35, _⟩ => ⟨S16x128, .f32⟩
  | .hbm, ⟨36, _⟩ => ⟨S16x128, .f32⟩
  | _, _ => ⟨S16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel20.lean ====
abbrev S3x128 : Shape := ⟨2, ![3, 128]⟩

abbrev nBuf : Space → Nat
  | .hbm => 7
  | .vmem => 7
  | .smem => 0
  | _ => 0

abbrev bufTy : (tb : Table) → Fin (tcTables nBuf tb) → BufTy
  | .hbm, ⟨0, _⟩ => ⟨S3x128, .f32⟩
  | .hbm, ⟨1, _⟩ => ⟨S3x128, .f32⟩
  | .hbm, ⟨2, _⟩ => ⟨S3x128, .f32⟩
  | .hbm, ⟨3, _⟩ => ⟨S3x128, .f32⟩
  | .hbm, ⟨4, _⟩ => ⟨S3x128, .f32⟩
  | .hbm, ⟨5, _⟩ => ⟨S3x128, .f32⟩
  | .hbm, ⟨6, _⟩ => ⟨S3x128, .f32⟩
  | .local _ .vmem, ⟨0, _⟩ => ⟨S3x128, .f32⟩
  | .local _ .vmem, ⟨1, _⟩ => ⟨S3x128, .f32⟩
  | .local _ .vmem, ⟨2, _⟩ => ⟨S3x128, .f32⟩
  | .local _ .vmem, ⟨3, _⟩ => ⟨S3x128, .f32⟩
  | .local _ .vmem, ⟨4, _⟩ => ⟨S3x128, .f32⟩
  | .local _ .vmem, ⟨5, _⟩ => ⟨S3x128, .f32⟩
  | .local _ .vmem, ⟨6, _⟩ => ⟨S3x128, .f32⟩
  | _, _ => ⟨S3x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S3x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference20Ideal.lean ====
abbrev S3x128 : Shape := ⟨2, ![3, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S3x128, .f32⟩
  | .hbm, ⟨1, _⟩ => ⟨S3x128, .f32⟩
  | .hbm, ⟨2, _⟩ => ⟨S3x128, .f32⟩
  | .hbm, ⟨3, _⟩ => ⟨S3x128, .f32⟩
  | .hbm, ⟨4, _⟩ => ⟨S_, .f32⟩
  | .hbm, ⟨5, _⟩ => ⟨S3x128, .f32⟩
  | .hbm, ⟨6, _⟩ => ⟨S3x128, .f32⟩
  | .hbm, ⟨7, _⟩ => ⟨S_, .f32⟩
  | .hbm, ⟨8, _⟩ => ⟨S3x128, .f32⟩
  | .hbm, ⟨9, _⟩ => ⟨S3x128, .f32⟩
  | .hbm, ⟨10, _⟩ => ⟨S3x128, .f32⟩
  | .hbm, ⟨11, _⟩ => ⟨S_, .f32⟩
  | .hbm, ⟨12, _⟩ => ⟨S3x128, .f32⟩
  | .hbm, ⟨13, _⟩ => ⟨S3x128, .f32⟩
  | .hbm, ⟨14, _⟩ => ⟨S3x128, .f32⟩
  | .hbm, ⟨15, _⟩ => ⟨S_, .f32⟩
  | .hbm, ⟨16, _⟩ => ⟨S3x128, .f32⟩
  | .hbm, ⟨17, _⟩ => ⟨S3x128, .f32⟩
  | .hbm, ⟨18, _⟩ => ⟨S3x128, .f32⟩
  | .hbm, ⟨19, _⟩ => ⟨S_, .f32⟩
  | .hbm, ⟨20, _⟩ => ⟨S3x128, .f32⟩
  | .hbm, ⟨21, _⟩ => ⟨S3x128, .f32⟩
  | .hbm, ⟨22, _⟩ => ⟨S_, .f32⟩
  | .hbm, ⟨23, _⟩ => ⟨S3x128, .f32⟩
  | .hbm, ⟨24, _⟩ => ⟨S3x128, .f32⟩
  | .hbm, ⟨25, _⟩ => ⟨S3x128, .f32⟩
  | .hbm, ⟨26, _⟩ => ⟨S_, .f32⟩
  | .hbm, ⟨27, _⟩ => ⟨S3x128, .f32⟩
  | .hbm, ⟨28, _⟩ => ⟨S3x128, .f32⟩
  | .hbm, ⟨29, _⟩ => ⟨S3x128, .f32⟩
  | .hbm, ⟨30, _⟩ => ⟨S_, .f32⟩
  | .hbm, ⟨31, _⟩ => ⟨S3x128, .f32⟩
  | .hbm, ⟨32, _⟩ => ⟨S3x128, .f32⟩
  | .hbm, ⟨33, _⟩ => ⟨S3x128, .f32⟩
  | .hbm, ⟨34, _⟩ => ⟨S_, .f32⟩
  | .hbm, ⟨35, _⟩ => ⟨S3x128, .f32⟩
  | .hbm, ⟨36, _⟩ => ⟨S3x128, .f32⟩
  | _, _ => ⟨S3x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S1x256 : Shape := ⟨2, ![1, 256]⟩

abbrev nBuf : Space → Nat
  | .hbm => 7
  | .vmem => 7
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x256, .f32⟩
  | .hbm, ⟨3, _⟩ => ⟨S1x256, .f32⟩
  | .hbm, ⟨4, _⟩ => ⟨S1x256, .f32⟩
  | .hbm, ⟨5, _⟩ => ⟨S1x256, .f32⟩
  | .hbm, ⟨6, _⟩ => ⟨S1x256, .f32⟩
  | .local _ .vmem, ⟨0, _⟩ => ⟨S1x256, .f32⟩
  | .local _ .vmem, ⟨1, _⟩ => ⟨S1x256, .f32⟩
  | .local _ .vmem, ⟨2, _⟩ => ⟨S1x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | _, _ => ⟨S1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference21Ideal.lean ====
abbrev S1x256 : Shape := ⟨2, ![1, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x256, .f32⟩
  | .hbm, ⟨3, _⟩ => ⟨S1x256, .f32⟩
  | .hbm, ⟨4, _⟩ => ⟨S_, .f32⟩
  | .hbm, ⟨5, _⟩ => ⟨S1x256, .f32⟩
  | .hbm, ⟨6, _⟩ => ⟨S1x256, .f32⟩
  | .hbm, ⟨7, _⟩ => ⟨S_, .f32⟩
  | .hbm, ⟨8, _⟩ => ⟨S1x256, .f32⟩
  | .hbm, ⟨9, _⟩ => ⟨S1x256, .f32⟩
  | .hbm, ⟨10, _⟩ => ⟨S1x256, .f32⟩
  | .hbm, ⟨11, _⟩ => ⟨S_, .f32⟩
  | .hbm, ⟨12, _⟩ => ⟨S1x256, .f32⟩
  | .hbm, ⟨13, _⟩ => ⟨S1x256, .f32⟩
  | .hbm, ⟨14, _⟩ => ⟨S1x256, .f32⟩
  | .hbm, ⟨15, _⟩ => ⟨S_, .f32⟩
  | .hbm, ⟨16, _⟩ => ⟨S1x256, .f32⟩
  | .hbm, ⟨17, _⟩ => ⟨S1x256, .f32⟩
  | .hbm, ⟨18, _⟩ => ⟨S1x256, .f32⟩
  | .hbm, ⟨19, _⟩ => ⟨S_, .f32⟩
  | .hbm, ⟨20, _⟩ => ⟨S1x256, .f32⟩
  | .hbm, ⟨21, _⟩ => ⟨S1x256, .f32⟩
  | .hbm, ⟨22, _⟩ => ⟨S_, .f32⟩
  | .hbm, ⟨23, _⟩ => ⟨S1x256, .f32⟩
  | .hbm, ⟨24, _⟩ => ⟨S1x256, .f32⟩
  | .hbm, ⟨25, _⟩ => ⟨S1x256, .f32⟩
  | .hbm, ⟨26, _⟩ => ⟨S_, .f32⟩
  | .hbm, ⟨27, _⟩ => ⟨S1x256, .f32⟩
  | .hbm, ⟨28, _⟩ => ⟨S1x256, .f32⟩
  | .hbm, ⟨29, _⟩ => ⟨S1x256, .f32⟩
  | .hbm, ⟨30, _⟩ => ⟨S_, .f32⟩
  | .hbm, ⟨31, _⟩ => ⟨S1x256, .f32⟩
  | .hbm, ⟨32, _⟩ => ⟨S1x256, .f32⟩
  | .hbm, ⟨33, _⟩ => ⟨S1x256, .f32⟩
  | .hbm, ⟨34, _⟩ => ⟨S_, .f32⟩
  | .hbm, ⟨35, _⟩ => ⟨S1x256, .f32⟩
  | .hbm, ⟨36, _⟩ => ⟨S1x256, .f32⟩
  | _, _ => ⟨S1x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S8192x6144 : Shape := ⟨2, ![8192, 6144]⟩
abbrev S1x2048 : Shape := ⟨2, ![1, 2048]⟩
abbrev S8x128x128 : Shape := ⟨3, ![8, 128, 128]⟩
abbrev S8x128 : Shape := ⟨2, ![8, 128]⟩
abbrev S128x8 : Shape := ⟨2, ![128, 8]⟩
abbrev S8192x2048 : Shape := ⟨2, ![8192, 2048]⟩
abbrev S256x6144 : Shape := ⟨2, ![256, 6144]⟩
abbrev S256x2048 : Shape := ⟨2, ![256, 2048]⟩
abbrev S256 : Shape := ⟨1, ![256]⟩
abbrev S256x1 : Shape := ⟨2, ![256, 1]⟩
abbrev S128x128 : Shape := ⟨2, ![128, 128]⟩
abbrev S1x128x128 : Shape := ⟨3, ![1, 128, 128]⟩
abbrev S128x1 : Shape := ⟨2, ![128, 1]⟩
abbrev S128x256 : Shape := ⟨2, ![128, 256]⟩

abbrev nBuf : Space → Nat
  | .hbm => 6
  | .vmem => 7
  | .smem => 0
  | _ => 0

abbrev bufTy : (tb : Table) → Fin (tcTables nBuf tb) → BufTy
  | .hbm, ⟨0, _⟩ => ⟨S8192x6144, .bf16⟩
  | .hbm, ⟨1, _⟩ => ⟨S1x2048, .f32⟩
  | .hbm, ⟨2, _⟩ => ⟨S8x128x128, .f32⟩
  | .hbm, ⟨3, _⟩ => ⟨S8x128, .f32⟩
  | .hbm, ⟨4, _⟩ => ⟨S128x8, .f32⟩
  | .hbm, ⟨5, _⟩ => ⟨S8192x2048, .bf16⟩
  | .local _ .vmem, ⟨0, _⟩ => ⟨S256x6144, .bf16⟩
  | .local _ .vmem, ⟨1, _⟩ => ⟨S256x6144, .bf16⟩
  | .local _ .vmem, ⟨2, _⟩ => ⟨S1x2048, .f32⟩
  | .local _ .vmem, ⟨3, _⟩ => ⟨S8x128x128, .f32⟩
  | .local _ .vmem, ⟨4, _⟩ => ⟨S128x8, .f32⟩
  | .local _ .vmem, ⟨5, _⟩ => ⟨S256x2048, .bf16⟩
  | .local _ .vmem, ⟨6, _⟩ => ⟨S256x2048, .bf16⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference22Ideal.lean ====
abbrev S8192x6144 : Shape := ⟨2, ![8192, 6144]⟩
abbrev S1x2048 : Shape := ⟨2, ![1, 2048]⟩
abbrev S8x128x128 : Shape := ⟨3, ![8, 128, 128]⟩
abbrev S8x128 : Shape := ⟨2, ![8, 128]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S64x128x8x256 : Shape := ⟨4, ![64, 128, 8, 256]⟩
abbrev S128x128 : Shape := ⟨2, ![128, 128]⟩
abbrev S1x128x128 : Shape := ⟨3, ![1, 128, 128]⟩
abbrev S8x64x256x128 : Shape := ⟨4, ![8, 64, 256, 128]⟩
abbrev S128x8 : Shape := ⟨2, ![128, 8]⟩
abbrev S1x128x8x1 : Shape := ⟨4, ![1, 128, 8, 1]⟩

abbrev nBuf : Space → Nat
  | .hbm => 59
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S1x2048, .f32⟩
  | .hbm, ⟨2, _⟩ => ⟨S8x128x128, .f32⟩
  | .hbm, ⟨3, _⟩ => ⟨S8x128, .f32⟩
  | .hbm, ⟨4, _⟩ => ⟨S8192x6144, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S64x128x8x256, .f32⟩
  | .hbm, ⟨24, _⟩ => ⟨S_, .i1⟩
  | .hbm, ⟨25, _⟩ => ⟨S128x128, .i1⟩
  | .hbm, ⟨26, _⟩ => ⟨S128x128, .i32⟩
  | .hbm, ⟨27, _⟩ => ⟨S_, .i32⟩
  | .hbm, ⟨28, _⟩ => ⟨S128x128, .i32⟩
  | .hbm, ⟨29, _⟩ => ⟨S128x128, .i32⟩
  | .hbm, ⟨30, _⟩ => ⟨S128x128, .i32⟩
  | .hbm, ⟨31, _⟩ => ⟨S128x128, .i1⟩
  | .hbm, ⟨32, _⟩ => ⟨S_, .i1⟩
  | .hbm, ⟨33, _⟩ => ⟨S128x128, .i1⟩
  | .hbm, ⟨34, _⟩ => ⟨S128x128, .i1⟩
  | .hbm, ⟨35, _⟩ => ⟨S1x128x128, .i1⟩
  | .hbm, ⟨36, _⟩ => ⟨S_, .f32⟩
  | .hbm, ⟨37, _⟩ => ⟨S8x128x128, .f32⟩
  | .hbm, ⟨38, _⟩ => ⟨S8x128x128, .i1⟩
  | .hbm, ⟨39, _⟩ => ⟨S8x128x128, .f32⟩
  | .hbm, ⟨40, _⟩ => ⟨S8x64x256x128, .f32⟩
  | .hbm, ⟨41, _⟩ => ⟨S64x128x8x256, .f32⟩
  | .hbm, ⟨42, _⟩ => ⟨S128x8, .f32⟩
  | .hbm, ⟨43, _⟩ => ⟨S1x128x8x1, .f32⟩
  | .hbm, ⟨44, _⟩ => ⟨S64x128x8x256, .f32⟩
  | .hbm, ⟨45, _⟩ => ⟨S64x128x8x256, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S_, .f32⟩
  | .hbm, ⟨51, _⟩ => ⟨S8192x2048, .f32⟩
  | .hbm, ⟨52, _⟩ => ⟨S8192x2048, .f32⟩
  | .hbm, ⟨53, _⟩ => ⟨S_, .f32⟩
  | .hbm, ⟨54, _⟩ => ⟨S8192x2048, .f32⟩
  | .hbm, ⟨55, _⟩ => ⟨S8192x2048, .f32⟩
  | .hbm, ⟨56, _⟩ => ⟨S8192x2048, .f32⟩
  | .hbm, ⟨57, _⟩ => ⟨S8192x2048, .f32⟩
  | .hbm, ⟨58, _⟩ => ⟨S8192x2048, .bf16⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c : Ref sig .tc := ⟨.hbm, 24, rfl⟩
abbrev main_v17 : Ref sig .tc := ⟨.hbm, 25, rfl⟩
abbrev main_call0_v0 : Ref sig .tc := ⟨.hbm, 26, rfl⟩
abbrev main_call0_c : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_c_0 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_call1_v0 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_call2_v0 : Ref sig .tc := ⟨.hbm, 48, rfl⟩
abbrev main_call2_v1 : Ref sig .tc := ⟨.hbm, 49, rfl⟩
abbrev main_call2_cst : Ref sig .tc := ⟨.hbm, 50, rfl⟩
abbrev main_call2_v2 : Ref sig .tc := ⟨.hbm, 51, rfl⟩
abbrev main_call2_v3 : Ref sig .tc := ⟨.hbm, 52, rfl⟩
abbrev main_call2_cst_0 : Ref sig .tc := ⟨.hbm, 53, rfl⟩
abbrev main_call2_v4 : Ref sig .tc := ⟨.hbm, 54, rfl⟩
abbrev main_call2_v5 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩

abbrev nD : Nat := 1
abbrev τ : Topo := Topo.v7x

variable {F : FTy → Type} [FloatOps F]
-- ==== Proof.Units.lean ====
/- The work of one grid point of the kernel, cut into its 32 units: unit (g, c) is group g of the gate's columns
   (256 of the 2048) and chunk c of the point's rows (128 of the 512). Every store of the body is one of the vectors
   named here, at a symbolic (g, c). -/
module

public import proofs.«01_k».proof.Proof.Gen.KernelIdeal.Skeleton
public import Idealize.ShloMosaic.Lib.Pipeline.ValueKit

@[expose] public section

set_option maxRecDepth 16384

noncomputable section

namespace Cert.KernelIdeal.Units

open Cert.KernelIdeal Cert.KernelIdeal.Gen Idealize.ShloMosaic Idealize.ShloMosaic.TcCoe

variable {F : FTy → Type} [FloatOps F]

/-! ## The rectangles -/

theorem slicesV : ∀ (g : Fin 8) (c : Fin 4), S512x2048.Slices ![128 * c.val, 256 * g.val] S128x256 := by decide
theorem inbU : ∀ (g : Fin 8) (c : Fin 4) (a : Fin 2), (![128 * c.val, 256 * g.val] : Fin 2 → ℕ) a + (![128, 256] : Fin 2 → ℕ) a ≤ S512x6144.size a := by
  decide
theorem inbZ : ∀ (g : Fin 8) (c : Fin 4) (a : Fin 2), (![128 * c.val, 4096 + 256 * g.val] : Fin 2 → ℕ) a + (![128, 256] : Fin 2 → ℕ) a ≤ S512x6144.size a := by
  decide
theorem inbD : ∀ (g : Fin 8) (c : Fin 4) (a : Fin 2), (![128 * c.val, 256 * g.val] : Fin 2 → ℕ) a + (![128, 256] : Fin 2 → ℕ) a ≤ S512x2048.size a := by
  decide
theorem inbM : ∀ a : Fin 2, (![0, 2048] : Fin 2 → ℕ) a + (![512, 2048] : Fin 2 → ℕ) a ≤ S512x6144.size a := by decide
theorem inbW : ∀ (g : Fin 8) (a : Fin 3), (![g.val, 0, 0] : Fin 3 → ℕ) a + (![1, 128, 128] : Fin 3 → ℕ) a ≤ S8x128x128.size a := by decide
theorem inbB : ∀ (g : Fin 8) (a : Fin 2), (![0, g.val] : Fin 2 → ℕ) a + (![128, 1] : Fin 2 → ℕ) a ≤ S128x8.size a := by decide

/-- The columns of a block of the projection that unit (g, c) gates by: rows of chunk c, columns of group g. -/
abbrev rU (g : Fin 8) (c : Fin 4) : Rect S512x6144 := Rect.unit ![128 * c.val, 256 * g.val] ![128, 256] (inbU g c)
/-- The gate's logits of unit (g, c). -/
abbrev rZ (g : Fin 8) (c : Fin 4) : Rect S512x6144 := Rect.unit ![128 * c.val, 4096 + 256 * g.val] ![128, 256] (inbZ g c)
/-- The normalised columns. -/
abbrev rM : Rect S512x6144 := Rect.unit ![0, 2048] ![512, 2048] inbM
/-- Unit (g, c) of the scratch of mixed cotangents. -/
abbrev rD (g : Fin 8) (c : Fin 4) : Rect S512x2048 := Rect.unit ![128 * c.val, 256 * g.val] ![128, 256] (inbD g c)
/-- Group g of the spatial weights. -/
abbrev rW (g : Fin 8) : Rect S8x128x128 := Rect.unit ![g.val, 0, 0] ![1, 128, 128] (inbW g)
/-- Group g of the spatial biases. -/
abbrev rB (g : Fin 8) : Rect S128x8 := Rect.unit ![0, g.val] ![128, 1] (inbB g)

/-! ## The vectors of a unit -/

section
variable (x0 : Vec F S512x1024 .bf16) (x1 : Vec F S2048x1024 .bf16) (x2 : Vec F S512x6144 .bf16) (x3 : Vec F S1x2048 .f32)
  (x4 : Vec F S8x128x128 .f32) (x5 : Vec F S128x8 .f32)

/-- The unit's part of the cotangent of the gated product. -/
def dyb (g : Fin 8) (c : Fin 4) : FVec F S128x256 .f32 :=
  extractStridedSlice S128x256 ![128 * c.val, 256 * g.val] (k0_pay14 x0 x1) (slicesV g c)
/-- The unit's part of the normalised, scaled columns. -/
def vb (g : Fin 8) (c : Fin 4) : FVec F S128x256 .bf16 :=
  extractStridedSlice S128x256 ![128 * c.val, 256 * g.val] (k0_pay18 (View.ld x2 rM) x3) (slicesV g c)
/-- The gating columns. -/
def ub (g : Fin 8) (c : Fin 4) : FVec F S128x256 .f32 := extf .f32 (View.ld x2 (rU g c) : Vec F S128x256 .bf16) bitsLt_bf16_f32
/-- The gate's logits. -/
def zb (g : Fin 8) (c : Fin 4) : FVec F S128x256 .f32 := extf .f32 (View.ld x2 (rZ g c) : Vec F S128x256 .bf16) bitsLt_bf16_f32
/-- The masked spatial weights of a group. -/
def wfb (g : Fin 8) : FVec F S128x128 .f32 := k0_pay20 (View.ld x4 (rW g))
/-- The mixed columns. -/
def mixb (g : Fin 8) (c : Fin 4) : FVec F S128x256 .f32 :=
  addf (matmul dot_S128x128_S128x256_S128x256_1_0_0_1_n_n none (truncf .bf16 (wfb x4 g) bitsLt_bf16_f32) (vb x2 x3 g c)
      (constant S128x256 .f32 0x00000000#32))
    (broadcastTo S128x256 (shapeCast S128x1 (View.ld x5 (rB g) : Vec F S128x1 .f32) shapeCasts_S128x1_S128x1) broadcasts_S128x1_S128x256)
/-- The logistic function of the gate's logits. -/
def sgb (g : Fin 8) (c : Fin 4) : FVec F S128x256 .f32 :=
  divf (broadcast S128x256 (Scalar.ofBits .f32 0x3F800000#32))
    (addf (broadcast S128x256 (Scalar.ofBits .f32 0x3F800000#32))
      (exp (subf (broadcast S128x256 (Scalar.ofBits .f32 0x00000000#32)) (zb x2 g c))))
/-- The gate. -/
def szb (g : Fin 8) (c : Fin 4) : FVec F S128x256 .f32 := mulf (zb x2 g c) (sgb x2 g c)
/-- The gradient stored for the gating columns. -/
def dub (g : Fin 8) (c : Fin 4) : FVec F S128x256 .bf16 :=
  truncf .bf16 (mulf (mulf (dyb x0 x1 g c) (mixb x2 x3 x4 x5 g c)) (szb x2 g c)) bitsLt_bf16_f32
/-- The gradient stored for the gate's logits. -/
def dzb (g : Fin 8) (c : Fin 4) : FVec F S128x256 .bf16 :=
  truncf .bf16 (mulf (mulf (mulf (dyb x0 x1 g c) (ub x2 g c)) (mixb x2 x3 x4 x5 g c))
    (mulf (sgb x2 g c) (addf (broadcast S128x256 (Scalar.ofBits .f32 0x3F800000#32))
      (mulf (zb x2 g c) (subf (broadcast S128x256 (Scalar.ofBits .f32 0x3F800000#32)) (sgb x2 g c)))))) bitsLt_bf16_f32
/-- The cotangent of the mixed columns. -/
def dmixb (g : Fin 8) (c : Fin 4) : FVec F S128x256 .f32 := mulf (mulf (dyb x0 x1 g c) (ub x2 g c)) (szb x2 g c)
/-- The cotangent of the normalised, scaled columns. -/
def dvb (g : Fin 8) (c : Fin 4) : FVec F S128x256 .f32 :=
  shapeCast S128x256 (matmul dot_S128x128_S128x256_S128x256_1_0_0_1_n_n none
    (truncf .bf16 (transpose S128x128 [1, 0] (wfb x4 g) transposes_S128x128_p1_0_S128x128) bitsLt_bf16_f32)
    (truncf .bf16 (dmixb x0 x1 x2 g c) bitsLt_bf16_f32) (constant S128x256 .f32 0x00000000#32)) shapeCasts_S128x256_S128x256
/-- What unit (g, c) makes of group g of the weight gradient. -/
def dwsStep (g : Fin 8) (c : Fin 4) (old : Vec F S1x128x128 .f32) : FVec F S1x128x128 .f32 :=
  shapeCast S1x128x128 (addf (shapeCast S128x128 old shapeCasts_S1x128x128_S128x128)
    (matmul dot_S128x256_S128x256_S128x128_1_1_0_0_n_n none (truncf .bf16 (dmixb x0 x1 x2 g c) bitsLt_bf16_f32) (vb x2 x3 g c)
      (constant S128x128 .f32 0x00000000#32))) shapeCasts_S128x128_S1x128x128
/-- What unit (g, c) makes of group g of the bias gradient. -/
def dbsStep (g : Fin 8) (c : Fin 4) (old : Vec F S128x1 .f32) : FVec F S128x1 .f32 :=
  addf (shapeCast S128x1 old shapeCasts_S128x1_S128x1)
    (shapeCast S128x1 (multiReduction .add [1] S128 (dmixb x0 x1 x2 g c) 0x00000000#32 reduces_S128x256_S128 (.inl rfl) rfl)
      shapeCasts_S128_S128x1)

/-! ## The stores of a point, last first -/

/-- The four chunks of one group, last first. -/
def pieces4 {S : Shape} {e : EltTy} (f : Fin 4 → List (View.Piece (Elt F) S e)) : List (View.Piece (Elt F) S e) :=
  f 3 ++ f 2 ++ f 1 ++ f 0
/-- The eight groups, last first. -/
def pieces8 {S : Shape} {e : EltTy} (f : Fin 8 → List (View.Piece (Elt F) S e)) : List (View.Piece (Elt F) S e) :=
  f 7 ++ f 6 ++ f 5 ++ f 4 ++ f 3 ++ f 2 ++ f 1 ++ f 0

/-- The scratch after the units. -/
def dvPieces : List (View.Piece (Elt F) S512x2048 .f32) :=
  pieces8 fun g => pieces4 fun c => [⟨rD g c, dvb x0 x1 x2 x4 g c⟩]
/-- The scratch read whole. -/
def dvAll : Vec F S512x2048 .f32 := View.canon (dvPieces x0 x1 x2 x4)
/-- The gradient of the projection. -/
def dpPieces : List (View.Piece (Elt F) S512x6144 .bf16) :=
  ⟨rM, k0_pay2 (k0_pay16 (View.ld x2 rM)) (k0_pay17 (View.ld x2 rM)) x3 (dvAll x0 x1 x2 x4)⟩ ::
    pieces8 fun g => pieces4 fun c => [⟨rZ g c, dzb x0 x1 x2 x3 x4 x5 g c⟩, ⟨rU g c, dub x0 x1 x2 x3 x4 x5 g c⟩]

/-- Group g of the weight gradient after the chunks up to c, from what was there before. -/
def dwsAt (X : Vec F S8x128x128 .f32) (g : Fin 8) : Fin 4 → FVec F S1x128x128 .f32
  | 0 => dwsStep x0 x1 x2 x3 g 0 (View.ld X (rW g))
  | 1 => dwsStep x0 x1 x2 x3 g 1 (dwsStep x0 x1 x2 x3 g 0 (View.ld X (rW g)))
  | 2 => dwsStep x0 x1 x2 x3 g 2 (dwsStep x0 x1 x2 x3 g 1 (dwsStep x0 x1 x2 x3 g 0 (View.ld X (rW g))))
  | 3 => dwsStep x0 x1 x2 x3 g 3 (dwsStep x0 x1 x2 x3 g 2 (dwsStep x0 x1 x2 x3 g 1 (dwsStep x0 x1 x2 x3 g 0 (View.ld X (rW g)))))
def dwsPieces (X : Vec F S8x128x128 .f32) : List (View.Piece (Elt F) S8x128x128 .f32) :=
  pieces8 fun g => pieces4 fun c => [⟨rW g, dwsAt x0 x1 x2 x3 X g c⟩]
/-- The last point's masking of the weight gradient. -/
def dwsMask (old : Vec F S1x128x128 .f32) : FVec F S1x128x128 .f32 :=
  shapeCast S1x128x128 (select k0_pay19 (shapeCast S128x128 old shapeCasts_S1x128x128_S128x128)
    (broadcast S128x128 (Scalar.ofBits .f32 0x00000000#32))) shapeCasts_S128x128_S1x128x128
def dwsMaskPieces (X : Vec F S8x128x128 .f32) : List (View.Piece (Elt F) S8x128x128 .f32) :=
  (pieces8 fun g => [⟨rW g, dwsMask (dwsAt x0 x1 x2 x3 X g 3)⟩]) ++ dwsPieces x0 x1 x2 x3 X

/-- Group g of the bias gradient after the chunks up to c, from what was there before. -/
def dbsAt (X : Vec F S128x8 .f32) (g : Fin 8) : Fin 4 → FVec F S128x1 .f32
  | 0 => dbsStep x0 x1 x2 g 0 (View.ld X (rB g))
  | 1 => dbsStep x0 x1 x2 g 1 (dbsStep x0 x1 x2 g 0 (View.ld X (rB g)))
  | 2 => dbsStep x0 x1 x2 g 2 (dbsStep x0 x1 x2 g 1 (dbsStep x0 x1 x2 g 0 (View.ld X (rB g))))
  | 3 => dbsStep x0 x1 x2 g 3 (dbsStep x0 x1 x2 g 2 (dbsStep x0 x1 x2 g 1 (dbsStep x0 x1 x2 g 0 (View.ld X (rB g)))))
def dbsPieces (X : Vec F S128x8 .f32) : List (View.Piece (Elt F) S128x8 .f32) :=
  pieces8 fun g => pieces4 fun c => [⟨rB g, dbsAt x0 x1 x2 X g c⟩]
end

end Cert.KernelIdeal.Units

end
-- ==== Proof.Outs.lean ====
/- What the body leaves in the four results' buffers at a grid point, in the units' vectors: at the first point (which clears the
   accumulated gradients first), at a middle point, and at the last (which masks the weight gradient). -/
module

public import proofs.«01_k».proof.Proof.Gen.KernelIdeal.Value
public import proofs.«01_k».proof.Proof.Units
public import Idealize.ShloMosaic.Lib.Pipeline.ValueKit
public import Idealize.ShloMosaic.Lib.Pointwise
public import Idealize.ShloMosaic.Lib.Pipeline.ReadBack

@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Units
variable (m : (ℓ : Loc nD τ sig) → Buf (Elt Ideal) ℓ)

/-- A load of the whole scratch reads what its stores left. -/
theorem readCov_whole {κ : Kind} {sp : Space} {e : EltTy} (v : View sig κ sp S512x2048 e) (L : List (View.Piece (Elt Ideal) S512x2048 e))
    (inb : ∀ a : Fin 2, (![0, 0] : Fin 2 → ℕ) a + (![512, 2048] : Fin 2 → ℕ) a ≤ S512x2048.size a) :
    v.readCov L (Rect.unit ![0, 0] ![512, 2048] inb).toLoadRect = View.canon L := by
  rw [View.readCov_eq_canon']
  funext j
  congr 1
  funext a
  fin_cases a <;> exact Fin.ext (by simp [LoadRect.idx])

theorem outA_6 (c : Dev nD) (t : Fin cfg0.N) (h : t.val % 16 = 0) (h' : ¬ t.val % 16 = 15) :
    (outsAt0 m c t.val t.isLt).1 = View.canon (dpPieces (iblk m c 0 t) (iblk m c 1 t) (iblk m c 2 t) (iblk m c 3 t) (iblk m c 4 t) (iblk m c 5 t)) := by
  rw [outsAt0_A m c t h h']
  frame_out [readCov_whole, View.readCov_cons_toLoadRect, ↓View.readCov_skip, ↓View.readCov_fill]
  rfl

theorem outA_7 (c : Dev nD) (t : Fin cfg0.N) (h : t.val % 16 = 0) (h' : ¬ t.val % 16 = 15) :
    (outsAt0 m c t.val t.isLt).2.1 = View.canon (dwsPieces (iblk m c 0 t) (iblk m c 1 t) (iblk m c 2 t) (iblk m c 3 t) (k0_pay11 (F := Ideal)) ++ [⟨Rect.unit ![0, 0, 0] S8x128x128.size (by decide), (k0_pay11 (F := Ideal) : Vec Ideal S8x128x128 .f32)⟩]) := by
  rw [outsAt0_A m c t h h']
  frame_out [readCov_whole, View.readCov_cons_toLoadRect, ↓View.readCov_skip, ↓View.readCov_fill]
  rfl

theorem outA_8 (c : Dev nD) (t : Fin cfg0.N) (h : t.val % 16 = 0) (h' : ¬ t.val % 16 = 15) :
    (outsAt0 m c t.val t.isLt).2.2.1 = View.canon (dbsPieces (iblk m c 0 t) (iblk m c 1 t) (iblk m c 2 t) (k0_pay12 (F := Ideal)) ++ [⟨Rect.unit ![0, 0] S128x8.size (by decide), (k0_pay12 (F := Ideal) : Vec Ideal S128x8 .f32)⟩]) := by
  rw [outsAt0_A m c t h h']
  frame_out [readCov_whole, View.readCov_cons_toLoadRect, ↓View.readCov_skip, ↓View.readCov_fill]
  rfl

theorem outA_9 (c : Dev nD) (t : Fin cfg0.N) (h : t.val % 16 = 0) (h' : ¬ t.val % 16 = 15) :
    (outsAt0 m c t.val t.isLt).2.2.2 = k0_pay1 (k0_pay17 (View.ld (iblk m c 2 t) rM)) (dvAll (iblk m c 0 t) (iblk m c 1 t) (iblk m c 2 t) (iblk m c 4 t)) (k0_pay13 (F := Ideal)) := by
  rw [outsAt0_A m c t h h']
  frame_out [readCov_whole, View.readCov_cons_toLoadRect, ↓View.readCov_skip, ↓View.readCov_fill]
  rfl

theorem outB_6 (c : Dev nD) (t : Fin cfg0.N) (h : ¬ t.val % 16 = 0) (h' : ¬ t.val % 16 = 15) :
    (outsAt0 m c t.val t.isLt).1 = View.canon (dpPieces (iblk m c 0 t) (iblk m c 1 t) (iblk m c 2 t) (iblk m c 3 t) (iblk m c 4 t) (iblk m c 5 t)) := by
  rw [outsAt0_B m c t h h']
  frame_out [readCov_whole, View.readCov_cons_toLoadRect]
  rfl

theorem outB_7 (c : Dev nD) (t : Fin cfg0.N) (h : ¬ t.val % 16 = 0) (h' : ¬ t.val % 16 = 15) :
    (outsAt0 m c t.val t.isLt).2.1 = View.canon (dwsPieces (iblk m c 0 t) (iblk m c 1 t) (iblk m c 2 t) (iblk m c 3 t) ((outsAt0 m c (t.val-1) (by omega)).2.1)) := by
  rw [outsAt0_B m c t h h']
  frame_out [readCov_whole, View.readCov_cons_toLoadRect]
  rfl

theorem outB_8 (c : Dev nD) (t : Fin cfg0.N) (h : ¬ t.val % 16 = 0) (h' : ¬ t.val % 16 = 15) :
    (outsAt0 m c t.val t.isLt).2.2.1 = View.canon (dbsPieces (iblk m c 0 t) (iblk m c 1 t) (iblk m c 2 t) ((outsAt0 m c (t.val-1) (by omega)).2.2.1)) := by
  rw [outsAt0_B m c t h h']
  frame_out [readCov_whole, View.readCov_cons_toLoadRect]
  rfl

theorem outB_9 (c : Dev nD) (t : Fin cfg0.N) (h : ¬ t.val % 16 = 0) (h' : ¬ t.val % 16 = 15) :
    (outsAt0 m c t.val t.isLt).2.2.2 = k0_pay1 (k0_pay17 (View.ld (iblk m c 2 t) rM)) (dvAll (iblk m c 0 t) (iblk m c 1 t) (iblk m c 2 t) (iblk m c 4 t)) ((outsAt0 m c (t.val-1) (by omega)).2.2.2) := by
  rw [outsAt0_B m c t h h']
  frame_out [readCov_whole, View.readCov_cons_toLoadRect]
  rfl

theorem outC_6 (c : Dev nD) (t : Fin cfg0.N) (h : ¬ t.val % 16 = 0) (h' : t.val % 16 = 15) :
    (outsAt0 m c t.val t.isLt).1 = View.canon (dpPieces (iblk m c 0 t) (iblk m c 1 t) (iblk m c 2 t) (iblk m c 3 t) (iblk m c 4 t) (iblk m c 5 t)) := by
  rw [outsAt0_C m c t h h']
  frame_out [readCov_whole, View.readCov_cons_toLoadRect, ↓View.readCov_skip, ↓View.readCov_fill]
  rfl

theorem outC_7 (c : Dev nD) (t : Fin cfg0.N) (h : ¬ t.val % 16 = 0) (h' : t.val % 16 = 15) :
    (outsAt0 m c t.val t.isLt).2.1 = View.canon (dwsMaskPieces (iblk m c 0 t) (iblk m c 1 t) (iblk m c 2 t) (iblk m c 3 t) ((outsAt0 m c (t.val-1) (by omega)).2.1)) := by
  rw [outsAt0_C m c t h h']
  frame_out [readCov_whole, View.readCov_cons_toLoadRect, ↓View.readCov_skip, ↓View.readCov_fill]
  rfl

theorem outC_8 (c : Dev nD) (t : Fin cfg0.N) (h : ¬ t.val % 16 = 0) (h' : t.val % 16 = 15) :
    (outsAt0 m c t.val t.isLt).2.2.1 = View.canon (dbsPieces (iblk m c 0 t) (iblk m c 1 t) (iblk m c 2 t) ((outsAt0 m c (t.val-1) (by omega)).2.2.1)) := by
  rw [outsAt0_C m c t h h']
  frame_out [readCov_whole, View.readCov_cons_toLoadRect, ↓View.readCov_skip, ↓View.readCov_fill]
  rfl

theorem outC_9 (c : Dev nD) (t : Fin cfg0.N) (h : ¬ t.val % 16 = 0) (h' : t.val % 16 = 15) :
    (outsAt0 m c t.val t.isLt).2.2.2 = k0_pay1 (k0_pay17 (View.ld (iblk m c 2 t) rM)) (dvAll (iblk m c 0 t) (iblk m c 1 t) (iblk m c 2 t) (iblk m c 4 t)) ((outsAt0 m c (t.val-1) (by omega)).2.2.2) := by
  rw [outsAt0_C m c t h h']
  frame_out [readCov_whole, View.readCov_cons_toLoadRect, ↓View.readCov_skip, ↓View.readCov_fill]
  rfl

end Cert.KernelIdeal.Value

end
-- ==== Proof.Spec.lean ====
/- The backward pass of the gated layer over the real numbers, one chunk of 128 rows at a time, and the few facts about the
   extended reals that carry the programs' values to it. -/
module

public import Idealize.ShloMosaic.Lib.Pipeline.ValueKit

@[expose] public section

noncomputable section

namespace Cert.Spec

open Idealize.ShloMosaic

/-! ## Extended reals -/

theorem sum_coe {n : ℕ} (f : Fin n → ℝ) : ∑ k, ((f k : ℝ) : EReal) = ((∑ k, f k : ℝ) : EReal) := by
  induction n with
  | zero => simp
  | succ n ih => rw [Fin.sum_univ_succ, Fin.sum_univ_succ, ih, EReal.coe_add]

/-- The constant added to the mean square: 8796093 / 2^43. -/
def eps : ℝ := 8796093 / 8796093022208

theorem eps_pos : 0 < eps := by unfold eps; norm_num
theorem word_eps : Ideal.ofBits .f32 0x358637BD#32 = ((eps : ℝ) : EReal) := by
  simp [Ideal.ofBits, Ideal.ieee, -EReal.coe_mul]; unfold eps; norm_num
theorem word_2048 : Ideal.ofBits .f32 0x45000000#32 = ((2048 : ℝ) : EReal) := by
  simp [Ideal.ofBits, Ideal.ieee, -EReal.coe_mul]; norm_num
theorem word_neg_half : Ideal.ofBits .f32 0xBF000000#32 = ((-(1 / 2) : ℝ) : EReal) := by
  simp [Ideal.ofBits, Ideal.ieee, -EReal.coe_mul]; norm_num
theorem word_inf : Ideal.ofBits .f32 0x7F800000#32 = ⊤ := by
  simp [Ideal.ofBits, Ideal.ieee]
theorem word_one : Ideal.ofBits .f32 0x3F800000#32 = 1 := by
  simp [Ideal.ofBits, Ideal.ieee, -EReal.coe_mul]; norm_num
theorem word_zero : Ideal.ofBits .f32 0x00000000#32 = 0 := by
  simp [Ideal.ofBits, Ideal.ieee]

theorem rsqrt_pos (x : ℝ) (h : 0 < x) : Ideal.rsqrt ((x : ℝ) : EReal) = (((√x)⁻¹ : ℝ) : EReal) := by
  rw [Ideal.rsqrt_coe, if_neg (not_lt.mpr h.le), if_neg h.ne']

theorem div_real (x y : ℝ) (h : y ≠ 0) : Ideal.div ((x : ℝ) : EReal) ((y : ℝ) : EReal) = ((x / y : ℝ) : EReal) := by
  rw [Ideal.div_coe h, ← EReal.coe_mul, mul_one_div]

theorem logistic_real (z : ℝ) : Ideal.div 1 (1 + Ideal.exp (0 - ((z : ℝ) : EReal))) = (((1 + Real.exp (-z))⁻¹ : ℝ) : EReal) := by
  have h : (1 + Real.exp (-z)) ≠ 0 := by positivity
  rw [show (0 : EReal) - ((z : ℝ) : EReal) = ((-z : ℝ) : EReal) by rw [zero_sub, EReal.coe_neg], Ideal.exp_coe,
    show (1 : EReal) = ((1 : ℝ) : EReal) from rfl, ← EReal.coe_add, div_real _ _ h, one_div]

theorem sge_iff (a b : Fin 128) : IntOp.cmpi CmpIPredicate.sge (BitVec.ofNat 32 a.val) (BitVec.ofNat 32 b.val) = if b ≤ a then 1#1 else 0#1 := by
  revert a b; decide +kernel

/-! ## Positions -/

/-- Row a of chunk n. -/
def row (n : Fin 64) (a : Fin 128) : Fin 8192 := ⟨128 * n.val + a.val, by omega⟩
/-- Column d of group g. -/
def col (g : Fin 8) (d : Fin 256) : Fin 2048 := ⟨256 * g.val + d.val, by omega⟩

theorem row_surj (s : Fin 8192) : ∃ n a, row n a = s :=
  ⟨⟨s.val / 128, by omega⟩, ⟨s.val % 128, by omega⟩, Fin.ext (by show 128 * (s.val / 128) + s.val % 128 = s.val; omega)⟩
theorem col_surj (j : Fin 2048) : ∃ g d, col g d = j :=
  ⟨⟨j.val / 256, by omega⟩, ⟨j.val % 256, by omega⟩, Fin.ext (by show 256 * (j.val / 256) + j.val % 256 = j.val; omega)⟩

theorem sum_col {M : Type} [AddCommMonoid M] (f : Fin 2048 → M) : ∑ j, f j = ∑ g, ∑ d, f (col g d) := by
  rw [← Fintype.sum_prod_type', ← Equiv.sum_comp (finProdFinEquiv (m := 8) (n := 256))]
  exact Finset.sum_congr rfl fun x _ => congrArg f (Fin.ext (by simp [col, finProdFinEquiv]; omega))
theorem sum_row {M : Type} [AddCommMonoid M] (f : Fin 8192 → M) : ∑ s, f s = ∑ n, ∑ a, f (row n a) := by
  rw [← Fintype.sum_prod_type', ← Equiv.sum_comp (finProdFinEquiv (m := 64) (n := 128))]
  exact Finset.sum_congr rfl fun x _ => congrArg f (Fin.ext (by simp [row, finProdFinEquiv]; omega))

/-! ## The layer -/

/-- The real arguments: the cotangent, the output weights, the projection, the gain, the spatial weights and biases. -/
structure Args where
  D : Fin 8192 → Fin 1024 → ℝ
  W : Fin 2048 → Fin 1024 → ℝ
  P : Fin 8192 → Fin 6144 → ℝ
  G : Fin 2048 → ℝ
  S : Fin 8 → Fin 128 → Fin 128 → ℝ
  B : Fin 8 → Fin 128 → ℝ

namespace Args
variable (A : Args)

/-- The cotangent of the gated product. -/
def dy (s : Fin 8192) (j : Fin 2048) : ℝ := ∑ k, A.D s k * A.W j k
def pv (s : Fin 8192) (j : Fin 2048) : ℝ := A.P s ⟨2048 + j.val, by omega⟩
/-- The mean square of a row, and the constant. -/
def ms (s : Fin 8192) : ℝ := (∑ j, A.pv s j * A.pv s j) / 2048 + eps
def r (s : Fin 8192) : ℝ := (√(A.ms s))⁻¹
def pvn (s : Fin 8192) (j : Fin 2048) : ℝ := A.pv s j * A.r s
def v (s : Fin 8192) (j : Fin 2048) : ℝ := A.pvn s j * A.G j
/-- The causal spatial weights. -/
def wf (g : Fin 8) (a b : Fin 128) : ℝ := if b ≤ a then A.S g a b else 0
def mix (n : Fin 64) (a : Fin 128) (g : Fin 8) (d : Fin 256) : ℝ := ∑ b, A.wf g a b * A.v (row n b) (col g d) + A.B g a
def u (n : Fin 64) (a : Fin 128) (g : Fin 8) (d : Fin 256) : ℝ := A.P (row n a) ⟨256 * g.val + d.val, by omega⟩
def z (n : Fin 64) (a : Fin 128) (g : Fin 8) (d : Fin 256) : ℝ := A.P (row n a) ⟨4096 + 256 * g.val + d.val, by omega⟩
def sg (n : Fin 64) (a : Fin 128) (g : Fin 8) (d : Fin 256) : ℝ := (1 + Real.exp (-A.z n a g d))⁻¹
def sz (n : Fin 64) (a : Fin 128) (g : Fin 8) (d : Fin 256) : ℝ := A.z n a g d * A.sg n a g d
def du (n : Fin 64) (a : Fin 128) (g : Fin 8) (d : Fin 256) : ℝ := A.dy (row n a) (col g d) * A.mix n a g d * A.sz n a g d
def dz (n : Fin 64) (a : Fin 128) (g : Fin 8) (d : Fin 256) : ℝ :=
  A.dy (row n a) (col g d) * A.u n a g d * A.mix n a g d * (A.sg n a g d * (1 + A.z n a g d * (1 - A.sg n a g d)))
def dmix (n : Fin 64) (a : Fin 128) (g : Fin 8) (d : Fin 256) : ℝ := A.dy (row n a) (col g d) * A.u n a g d * A.sz n a g d
/-- The cotangent of the normalised, scaled columns. -/
def dv (n : Fin 64) (b : Fin 128) (g : Fin 8) (d : Fin 256) : ℝ := ∑ a, A.wf g a b * A.dmix n a g d
/-- What a chunk adds to the weight gradient, before the mask. -/
def dwsC (n : Fin 64) (g : Fin 8) (a b : Fin 128) : ℝ := ∑ d, A.dmix n a g d * A.v (row n b) (col g d)
/-- What a chunk adds to the bias gradient. -/
def dbsC (n : Fin 64) (a : Fin 128) (g : Fin 8) : ℝ := ∑ d, A.dmix n a g d
/-- What a chunk adds to the gain's gradient. -/
def dvgC (n : Fin 64) (g : Fin 8) (d : Fin 256) : ℝ := ∑ a, A.dv n a g d * A.pvn (row n a) (col g d)
/-- The row's product of the normalised columns and their cotangent. -/
def ip (n : Fin 64) (a : Fin 128) : ℝ := ∑ g, ∑ d, A.dv n a g d * A.G (col g d) * A.pvn (row n a) (col g d)
/-- The gradient of the columns that are normalised. -/
def dm (n : Fin 64) (a : Fin 128) (g : Fin 8) (d : Fin 256) : ℝ :=
  A.r (row n a) * (A.dv n a g d * A.G (col g d) - A.pvn (row n a) (col g d) * (A.ip n a / 2048))
/-- The gradient of the projection. -/
def dp (n : Fin 64) (a : Fin 128) (k : Fin 6144) : ℝ :=
  if k.val < 2048 then A.du n a ⟨k.val / 256 % 8, by omega⟩ ⟨k.val % 256, by omega⟩
  else if k.val < 4096 then A.dm n a ⟨k.val / 256 % 8, by omega⟩ ⟨k.val % 256, by omega⟩
  else A.dz n a ⟨k.val / 256 % 8, by omega⟩ ⟨k.val % 256, by omega⟩
def dws (g : Fin 8) (a b : Fin 128) : ℝ := if b ≤ a then ∑ n, A.dwsC n g a b else 0
def dbs (a : Fin 128) (g : Fin 8) : ℝ := ∑ n, A.dbsC n a g
def dvg (g : Fin 8) (d : Fin 256) : ℝ := ∑ n, A.dvgC n g d

theorem ms_pos (s : Fin 8192) : 0 < A.ms s := by
  have h : 0 ≤ ∑ j, A.pv s j * A.pv s j := Finset.sum_nonneg fun j _ => mul_self_nonneg _
  have := eps_pos
  unfold ms; positivity

theorem dp_u (n : Fin 64) (a : Fin 128) (g : Fin 8) (d : Fin 256) (h : 256 * g.val + d.val < 6144) :
    A.dp n a ⟨256 * g.val + d.val, h⟩ = A.du n a g d := by
  have h1 : (⟨(256 * g.val + d.val) / 256 % 8, by omega⟩ : Fin 8) = g := Fin.ext (by show (256 * g.val + d.val) / 256 % 8 = g.val; omega)
  have h2 : (⟨(256 * g.val + d.val) % 256, by omega⟩ : Fin 256) = d := Fin.ext (by show (256 * g.val + d.val) % 256 = d.val; omega)
  unfold dp
  rw [if_pos (show 256 * g.val + d.val < 2048 by omega)]
  exact (congrArg₂ (A.du n a) h1 h2)
theorem dp_m (n : Fin 64) (a : Fin 128) (g : Fin 8) (d : Fin 256) (h : 2048 + (256 * g.val + d.val) < 6144) :
    A.dp n a ⟨2048 + (256 * g.val + d.val), h⟩ = A.dm n a g d := by
  have h1 : (⟨(2048 + (256 * g.val + d.val)) / 256 % 8, by omega⟩ : Fin 8) = g :=
    Fin.ext (by show (2048 + (256 * g.val + d.val)) / 256 % 8 = g.val; omega)
  have h2 : (⟨(2048 + (256 * g.val + d.val)) % 256, by omega⟩ : Fin 256) = d :=
    Fin.ext (by show (2048 + (256 * g.val + d.val)) % 256 = d.val; omega)
  unfold dp
  rw [if_neg (show ¬ 2048 + (256 * g.val + d.val) < 2048 by omega), if_pos (show 2048 + (256 * g.val + d.val) < 4096 by omega)]
  exact (congrArg₂ (A.dm n a) h1 h2)
theorem dp_z (n : Fin 64) (a : Fin 128) (g : Fin 8) (d : Fin 256) (h : 4096 + 256 * g.val + d.val < 6144) :
    A.dp n a ⟨4096 + 256 * g.val + d.val, h⟩ = A.dz n a g d := by
  have h1 : (⟨(4096 + 256 * g.val + d.val) / 256 % 8, by omega⟩ : Fin 8) = g :=
    Fin.ext (by show (4096 + 256 * g.val + d.val) / 256 % 8 = g.val; omega)
  have h2 : (⟨(4096 + 256 * g.val + d.val) % 256, by omega⟩ : Fin 256) = d :=
    Fin.ext (by show (4096 + 256 * g.val + d.val) % 256 = d.val; omega)
  unfold dp
  rw [if_neg (show ¬ 4096 + 256 * g.val + d.val < 2048 by omega), if_neg (show ¬ 4096 + 256 * g.val + d.val < 4096 by omega)]
  exact (congrArg₂ (A.dz n a) h1 h2)

/-- A sum over chunks, as far as chunk N. -/
def upTo (f : Fin 64 → ℝ) (N : ℕ) : ℝ := ∑ n ∈ Finset.range N, if h : n < 64 then f ⟨n, h⟩ else 0
theorem upTo_zero (f : Fin 64 → ℝ) : upTo f 0 = 0 := by simp [upTo]
theorem upTo_all (f : Fin 64 → ℝ) : upTo f 64 = ∑ n, f n := by
  unfold upTo
  rw [Finset.sum_range]
  exact Finset.sum_congr rfl fun n _ => by simp
theorem upTo_four (f : Fin 64 → ℝ) (t : Fin 16) :
    upTo f (4 * t.val + 4) = upTo f (4 * t.val) + f ⟨4 * t.val, by omega⟩ + f ⟨4 * t.val + 1, by omega⟩ + f ⟨4 * t.val + 2, by omega⟩
      + f ⟨4 * t.val + 3, by omega⟩ := by
  unfold upTo
  rw [show 4 * t.val + 4 = 4 * t.val + 1 + 1 + 1 + 1 by omega]
  simp only [Finset.sum_range_succ]
  rw [dif_pos (by omega), dif_pos (by omega), dif_pos (by omega), dif_pos (by omega)]
end Args

end Cert.Spec

end
-- ==== Proof.UnitVals.lean ====
/- The units' vectors at an index, when the blocks they read hold real numbers. -/
module

public import proofs.«01_k».proof.Proof.Units
public import proofs.«01_k».proof.Proof.Spec
public import Idealize.ShloMosaic.Lib.Pipeline.ValueKit
public import Idealize.ShloMosaic.Lib.Pointwise

@[expose] public section
set_option maxRecDepth 16384
noncomputable section
open Idealize.ShloMosaic Idealize.ShloMosaic.TcCoe Idealize.SL.Sem

namespace Cert.KernelIdeal.Units
open Cert.KernelIdeal Cert.KernelIdeal.Gen Cert.Spec

/-- The blocks hold the real arguments; chunk c of the point is chunk n c of the whole. -/
structure Reads (A : Args) (n : Fin 4 → Fin 64) (x0 : Vec Ideal S512x1024 .bf16) (x1 : Vec Ideal S2048x1024 .bf16)
    (x2 : Vec Ideal S512x6144 .bf16) (x3 : Vec Ideal S1x2048 .f32) (x4 : Vec Ideal S8x128x128 .f32) (x5 : Vec Ideal S128x8 .f32) : Prop where
  h0 : ∀ (c : Fin 4) (a : Fin 128) (k : Fin 1024), x0 (ix2 (⟨128 * c.val + a.val, by omega⟩ : Fin 512) k) = ((A.D (row (n c) a) k : ℝ) : EReal)
  h1 : ∀ (j : Fin 2048) (k : Fin 1024), x1 (ix2 j k) = ((A.W j k : ℝ) : EReal)
  h2 : ∀ (c : Fin 4) (a : Fin 128) (k : Fin 6144), x2 (ix2 (⟨128 * c.val + a.val, by omega⟩ : Fin 512) k) = ((A.P (row (n c) a) k : ℝ) : EReal)
  h3 : ∀ j : Fin 2048, x3 (ix2 (0 : Fin 1) j) = ((A.G j : ℝ) : EReal)
  h4 : ∀ (g : Fin 8) (a b : Fin 128), x4 (ix3 g a b) = ((A.S g a b : ℝ) : EReal)
  h5 : ∀ (a : Fin 128) (g : Fin 8), x5 (ix2 a g) = ((A.B g a : ℝ) : EReal)

variable {A : Args} {n : Fin 4 → Fin 64} {x0 : Vec Ideal S512x1024 .bf16} {x1 : Vec Ideal S2048x1024 .bf16} {x2 : Vec Ideal S512x6144 .bf16}
  {x3 : Vec Ideal S1x2048 .f32} {x4 : Vec Ideal S8x128x128 .f32} {x5 : Vec Ideal S128x8 .f32}
  (H : Reads A n x0 x1 x2 x3 x4 x5)
include H

theorem pay14_val (c : Fin 4) (a : Fin 128) (j : Fin 2048) :
    k0_pay14 x0 x1 (ix2 (⟨128 * c.val + a.val, by omega⟩ : Fin 512) j) = ((A.dy (row (n c) a) j : ℝ) : EReal) := by
  pointwise [k0_pay14]
  simp only [H.h0, H.h1, ← EReal.coe_mul, sum_coe]
  rfl

theorem pay16_val (c : Fin 4) (a : Fin 128) :
    k0_pay16 (View.ld x2 rM) (ix2 (⟨128 * c.val + a.val, by omega⟩ : Fin 512) (0 : Fin 1)) = ((A.r (row (n c) a) : ℝ) : EReal) := by
  pointwise [k0_pay16, k0_pay15]
  simp only [H.h2, ← EReal.coe_mul, sum_coe, word_2048, word_eps]
  rw [div_real _ _ (by norm_num), ← EReal.coe_add]
  exact rsqrt_pos _ (A.ms_pos _)

theorem pay17_val (c : Fin 4) (a : Fin 128) (j : Fin 2048) :
    k0_pay17 (View.ld x2 rM) (ix2 (⟨128 * c.val + a.val, by omega⟩ : Fin 512) j) = ((A.pvn (row (n c) a) j : ℝ) : EReal) := by
  have h := pay16_val H c a
  revert h
  unfold k0_pay17
  generalize k0_pay16 (View.ld x2 rM) = r
  intro h
  pointwise [k0_pay15]
  rw [h, H.h2, ← EReal.coe_mul]
  rfl

theorem pay18_val (c : Fin 4) (a : Fin 128) (j : Fin 2048) :
    k0_pay18 (View.ld x2 rM) x3 (ix2 (⟨128 * c.val + a.val, by omega⟩ : Fin 512) j) = ((A.v (row (n c) a) j : ℝ) : EReal) := by
  have h := pay17_val H c a j
  revert h
  unfold k0_pay18
  generalize k0_pay17 (View.ld x2 rM) = r
  intro h
  pointwise []
  rw [h, H.h3, ← EReal.coe_mul]
  rfl

theorem dyb_val (g : Fin 8) (c : Fin 4) (a : Fin 128) (d : Fin 256) :
    dyb x0 x1 g c (ix2 a d) = ((A.dy (row (n c) a) (col g d) : ℝ) : EReal) := by
  have h := pay14_val H c a (col g d)
  unfold dyb
  generalize k0_pay14 x0 x1 = y at h ⊢
  pointwise []
  exact h

theorem vb_val (g : Fin 8) (c : Fin 4) (a : Fin 128) (d : Fin 256) :
    vb x2 x3 g c (ix2 a d) = ((A.v (row (n c) a) (col g d) : ℝ) : EReal) := by
  have h := pay18_val H c a (col g d)
  unfold vb
  generalize k0_pay18 (View.ld x2 rM) x3 = y at h ⊢
  pointwise []
  exact h

theorem ub_val (g : Fin 8) (c : Fin 4) (a : Fin 128) (d : Fin 256) : ub x2 g c (ix2 a d) = ((A.u (n c) a g d : ℝ) : EReal) := by
  pointwise [ub]
  exact H.h2 _ _ _

theorem zb_val (g : Fin 8) (c : Fin 4) (a : Fin 128) (d : Fin 256) : zb x2 g c (ix2 a d) = ((A.z (n c) a g d : ℝ) : EReal) := by
  pointwise [zb]
  exact H.h2 _ _ _

theorem wfb_val (g : Fin 8) (a b : Fin 128) : wfb x4 g (ix2 a b) = ((A.wf g a b : ℝ) : EReal) := by
  pointwise [wfb, k0_pay20, k0_pay19]
  rw [sge_iff, H.h4]
  unfold Args.wf
  split <;> simp [Scalar.select]

theorem mixb_val (g : Fin 8) (c : Fin 4) (a : Fin 128) (d : Fin 256) :
    mixb x2 x3 x4 x5 g c (ix2 a d) = ((A.mix (n c) a g d : ℝ) : EReal) := by
  pointwise [mixb]
  simp only [wfb_val H, vb_val H, H.h5, ← EReal.coe_mul, sum_coe, ← EReal.coe_add]
  rfl

theorem sgb_val (g : Fin 8) (c : Fin 4) (a : Fin 128) (d : Fin 256) : sgb x2 g c (ix2 a d) = ((A.sg (n c) a g d : ℝ) : EReal) := by
  have h := zb_val H g c a d
  unfold sgb
  generalize zb x2 g c = y at h ⊢
  pointwise []
  rw [h]
  exact logistic_real _

theorem szb_val (g : Fin 8) (c : Fin 4) (a : Fin 128) (d : Fin 256) : szb x2 g c (ix2 a d) = ((A.sz (n c) a g d : ℝ) : EReal) := by
  pointwise [szb]
  rw [zb_val H, sgb_val H, ← EReal.coe_mul]
  rfl

theorem dub_val (g : Fin 8) (c : Fin 4) (a : Fin 128) (d : Fin 256) :
    dub x0 x1 x2 x3 x4 x5 g c (ix2 a d) = ((A.du (n c) a g d : ℝ) : EReal) := by
  pointwise [dub]
  rw [dyb_val H, mixb_val H, szb_val H, ← EReal.coe_mul, ← EReal.coe_mul]
  rfl

theorem dzb_val (g : Fin 8) (c : Fin 4) (a : Fin 128) (d : Fin 256) :
    dzb x0 x1 x2 x3 x4 x5 g c (ix2 a d) = ((A.dz (n c) a g d : ℝ) : EReal) := by
  pointwise [dzb]
  rw [dyb_val H, mixb_val H, ub_val H, sgb_val H, zb_val H, show (1 : EReal) = ((1 : ℝ) : EReal) from rfl]
  simp only [← EReal.coe_mul, ← EReal.coe_sub, ← EReal.coe_add]
  rfl

theorem dmixb_val (g : Fin 8) (c : Fin 4) (a : Fin 128) (d : Fin 256) : dmixb x0 x1 x2 g c (ix2 a d) = ((A.dmix (n c) a g d : ℝ) : EReal) := by
  pointwise [dmixb]
  rw [dyb_val H, ub_val H, szb_val H, ← EReal.coe_mul, ← EReal.coe_mul]
  rfl

theorem dvb_val (g : Fin 8) (c : Fin 4) (b : Fin 128) (d : Fin 256) : dvb x0 x1 x2 x4 g c (ix2 b d) = ((A.dv (n c) b g d : ℝ) : EReal) := by
  pointwise [dvb]
  simp only [wfb_val H, dmixb_val H, ← EReal.coe_mul, sum_coe]
  rfl

theorem dwsStep_val (g : Fin 8) (c : Fin 4) (a b : Fin 128) (old : Vec Ideal S1x128x128 .f32) :
    dwsStep x0 x1 x2 x3 g c old (ix3 (0 : Fin 1) a b) = old (ix3 (0 : Fin 1) a b) + ((A.dwsC (n c) g a b : ℝ) : EReal) := by
  pointwise [dwsStep]
  simp only [vb_val H, dmixb_val H, ← EReal.coe_mul, sum_coe]
  rfl

theorem dbsStep_val (g : Fin 8) (c : Fin 4) (a : Fin 128) (old : Vec Ideal S128x1 .f32) :
    dbsStep x0 x1 x2 g c old (ix2 a (0 : Fin 1)) = old (ix2 a (0 : Fin 1)) + ((A.dbsC (n c) a g : ℝ) : EReal) := by
  pointwise [dbsStep]
  simp only [dmixb_val H, sum_coe]
  rfl

/-- Group g of the weight gradient after the point's four chunks. -/
theorem dwsAt_val (X : Vec Ideal S8x128x128 .f32) (g : Fin 8) (a b : Fin 128) :
    dwsAt x0 x1 x2 x3 X g 3 (ix3 (0 : Fin 1) a b) = X (ix3 g a b) + ((A.dwsC (n 0) g a b : ℝ) : EReal) + ((A.dwsC (n 1) g a b : ℝ) : EReal)
      + ((A.dwsC (n 2) g a b : ℝ) : EReal) + ((A.dwsC (n 3) g a b : ℝ) : EReal) := by
  rw [show dwsAt x0 x1 x2 x3 X g 3 =
      dwsStep x0 x1 x2 x3 g 3 (dwsStep x0 x1 x2 x3 g 2 (dwsStep x0 x1 x2 x3 g 1 (dwsStep x0 x1 x2 x3 g 0 (View.ld X (rW g))))) from rfl,
    dwsStep_val H, dwsStep_val H, dwsStep_val H, dwsStep_val H]
  pointwise []

/-- Group g of the bias gradient after the point's four chunks. -/
theorem dbsAt_val (X : Vec Ideal S128x8 .f32) (g : Fin 8) (a : Fin 128) :
    dbsAt x0 x1 x2 X g 3 (ix2 a (0 : Fin 1)) = X (ix2 a g) + ((A.dbsC (n 0) a g : ℝ) : EReal) + ((A.dbsC (n 1) a g : ℝ) : EReal)
      + ((A.dbsC (n 2) a g : ℝ) : EReal) + ((A.dbsC (n 3) a g : ℝ) : EReal) := by
  rw [show dbsAt x0 x1 x2 X g 3 =
      dbsStep x0 x1 x2 g 3 (dbsStep x0 x1 x2 g 2 (dbsStep x0 x1 x2 g 1 (dbsStep x0 x1 x2 g 0 (View.ld X (rB g))))) from rfl,
    dbsStep_val H, dbsStep_val H, dbsStep_val H, dbsStep_val H]
  pointwise []

omit H in
theorem dwsMask_val (old : Vec Ideal S1x128x128 .f32) (a b : Fin 128) :
    dwsMask (F := Ideal) old (ix3 (0 : Fin 1) a b) = if b ≤ a then old (ix3 (0 : Fin 1) a b) else 0 := by
  pointwise [dwsMask, k0_pay19]
  rw [sge_iff]
  split <;> simp [Scalar.select]

omit H in
/-- A sum over a block's rows, chunk by chunk. -/
theorem sum_rows (f : Fin 512 → EReal) : ∑ s, f s = ∑ c : Fin 4, ∑ a : Fin 128, f ⟨128 * c.val + a.val, by omega⟩ := by
  rw [← Fintype.sum_prod_type', ← Equiv.sum_comp (finProdFinEquiv (m := 4) (n := 128))]
  exact Finset.sum_congr rfl fun x _ => congrArg f (Fin.ext (by simp [finProdFinEquiv]; omega))

/-- The gain's gradient after the point, from the scratch of mixed cotangents. -/
theorem pay1_val (dvs : Vec Ideal S512x2048 .f32) (old : Vec Ideal S1x2048 .f32)
    (hd : ∀ (c : Fin 4) (a : Fin 128) (g : Fin 8) (d : Fin 256),
      dvs (ix2 (⟨128 * c.val + a.val, by omega⟩ : Fin 512) (col g d)) = ((A.dv (n c) a g d : ℝ) : EReal)) (g : Fin 8) (d : Fin 256) :
    k0_pay1 (k0_pay17 (View.ld x2 rM)) dvs old (ix2 (0 : Fin 1) (col g d)) = old (ix2 (0 : Fin 1) (col g d))
      + ((A.dvgC (n 0) g d + A.dvgC (n 1) g d + A.dvgC (n 2) g d + A.dvgC (n 3) g d : ℝ) : EReal) := by
  have h := fun c a => pay17_val H c a (col g d)
  generalize k0_pay17 (View.ld x2 rM) = p at h ⊢
  pointwise [k0_pay1]
  rw [sum_rows]
  simp only [h, hd, ← EReal.coe_mul, sum_coe]
  rw [Fin.sum_univ_four]
  rfl

/-- The gradient stored for the normalised columns, from the scratch of mixed cotangents. -/
theorem pay2_val (dvs : Vec Ideal S512x2048 .f32)
    (hd : ∀ (c : Fin 4) (a : Fin 128) (g : Fin 8) (d : Fin 256),
      dvs (ix2 (⟨128 * c.val + a.val, by omega⟩ : Fin 512) (col g d)) = ((A.dv (n c) a g d : ℝ) : EReal))
    (c : Fin 4) (a : Fin 128) (g : Fin 8) (d : Fin 256) :
    k0_pay2 (k0_pay16 (View.ld x2 rM)) (k0_pay17 (View.ld x2 rM)) x3 dvs (ix2 (⟨128 * c.val + a.val, by omega⟩ : Fin 512) (col g d))
      = ((A.dm (n c) a g d : ℝ) : EReal) := by
  have h := fun c a j => pay17_val H c a j
  have h' := fun c a => pay16_val H c a
  generalize k0_pay17 (View.ld x2 rM) = p at h ⊢
  generalize k0_pay16 (View.ld x2 rM) = q at h' ⊢
  pointwise [k0_pay2]
  rw [sum_col]
  simp only [h, h', hd, H.h3, ← EReal.coe_mul, sum_coe, word_2048]
  rw [div_real _ _ (by norm_num), ← EReal.coe_mul, ← EReal.coe_sub, ← EReal.coe_mul]
  rfl

end Cert.KernelIdeal.Units

end
-- ==== Proof.Blocks.lean ====
/- What a point's stores leave in each buffer, index by index. -/
module

public import proofs.«01_k».proof.Proof.UnitVals

@[expose] public section
set_option maxRecDepth 16384
noncomputable section
open Idealize.ShloMosaic Idealize.ShloMosaic.TcCoe Idealize.SL.Sem

namespace Cert.KernelIdeal.Units
open Cert.KernelIdeal Cert.KernelIdeal.Gen Cert.Spec

/-! ## Lists of stores -/

section
variable {S : Shape} {e : EltTy}

theorem mem_pieces4 {f : Fin 4 → List (View.Piece (Elt Ideal) S e)} {p : View.Piece (Elt Ideal) S e} (c : Fin 4) (h : p ∈ f c) : p ∈ pieces4 f := by
  unfold pieces4
  simp only [List.mem_append]
  fin_cases c <;> simp_all
theorem of_mem_pieces4 {f : Fin 4 → List (View.Piece (Elt Ideal) S e)} {p : View.Piece (Elt Ideal) S e} (h : p ∈ pieces4 f) : ∃ c, p ∈ f c := by
  unfold pieces4 at h
  simp only [List.mem_append] at h
  rcases h with ((h | h) | h) | h <;> exact ⟨_, h⟩
theorem mem_pieces8 {f : Fin 8 → List (View.Piece (Elt Ideal) S e)} {p : View.Piece (Elt Ideal) S e} (g : Fin 8) (h : p ∈ f g) : p ∈ pieces8 f := by
  unfold pieces8
  simp only [List.mem_append]
  fin_cases g <;> simp_all
theorem of_mem_pieces8 {f : Fin 8 → List (View.Piece (Elt Ideal) S e)} {p : View.Piece (Elt Ideal) S e} (h : p ∈ pieces8 f) : ∃ g, p ∈ f g := by
  unfold pieces8 at h
  simp only [List.mem_append] at h
  rcases h with ((((((h | h) | h) | h) | h) | h) | h) | h <;> exact ⟨_, h⟩

/-- Around group g's stores only other groups'. -/
theorem pieces8_split (f : Fin 8 → List (View.Piece (Elt Ideal) S e)) (g : Fin 8) :
    ∃ L₁ L₂, pieces8 f = L₁ ++ (f g ++ L₂) ∧ ∀ q ∈ L₁, ∃ g', g' ≠ g ∧ q ∈ f g' := by
  have key : ∀ (hs : List (Fin 8)), g ∈ hs → ∃ L₁ L₂, (hs.flatMap f) = L₁ ++ (f g ++ L₂) ∧ ∀ q ∈ L₁, ∃ g', g' ≠ g ∧ q ∈ f g' := by
    intro hs
    induction hs with
    | nil => intro h; exact absurd h List.not_mem_nil
    | cons k hs ih =>
      intro h
      by_cases hk : k = g
      · subst hk
        exact ⟨[], hs.flatMap f, by simp, fun q hq => absurd hq List.not_mem_nil⟩
      · have : g ∈ hs := by simpa [Ne.symm hk] using h
        obtain ⟨L₁, L₂, he, hq⟩ := ih this
        refine ⟨f k ++ L₁, L₂, by simp [he], fun q h => ?_⟩
        rcases List.mem_append.mp h with h | h
        · exact ⟨k, hk, h⟩
        · exact hq q h
  obtain ⟨L₁, L₂, he, hq⟩ := key [7, 6, 5, 4, 3, 2, 1, 0] (by fin_cases g <;> simp)
  exact ⟨L₁, L₂, by rw [← he]; simp [pieces8, List.append_assoc], hq⟩

/-- The last store over an index decides it. -/
theorem canon_hit (r : Rect S) (w : r.shape.Idx → Elt Ideal e) (L₂ : List (View.Piece (Elt Ideal) S e)) (x : r.shape.Idx) :
    ∀ L₁ : List (View.Piece (Elt Ideal) S e), (∀ q ∈ L₁, r.emb x ∉ q.1.set) → View.canon (L₁ ++ (⟨r, w⟩ :: L₂)) (r.emb x) = w x
  | [], _ => View.canon_cons_emb r w L₂ x
  | q :: L₁, h => by
    rw [List.cons_append, View.canon_cons_of_not_mem _ _ (h q List.mem_cons_self)]
    exact canon_hit r w L₂ x L₁ fun q' hq' => h q' (List.mem_cons_of_mem _ hq')
end

variable {A : Args} {n : Fin 4 → Fin 64} {x0 : Vec Ideal S512x1024 .bf16} {x1 : Vec Ideal S2048x1024 .bf16} {x2 : Vec Ideal S512x6144 .bf16}
  {x3 : Vec Ideal S1x2048 .f32} {x4 : Vec Ideal S8x128x128 .f32} {x5 : Vec Ideal S128x8 .f32}
  (H : Reads A n x0 x1 x2 x3 x4 x5)

theorem emb_rD (g : Fin 8) (c : Fin 4) (a : Fin 128) (d : Fin 256) :
    (rD g c).emb (ix2 a d) = ix2 (⟨128 * c.val + a.val, by omega⟩ : Fin 512) (col g d) := by
  funext i; fin_cases i <;> exact Fin.ext (by simp [LoadRect.idx, col])
theorem emb_rU (g : Fin 8) (c : Fin 4) (a : Fin 128) (d : Fin 256) :
    (rU g c).emb (ix2 a d) = ix2 (⟨128 * c.val + a.val, by omega⟩ : Fin 512) (⟨256 * g.val + d.val, by omega⟩ : Fin 6144) := by
  funext i; fin_cases i <;> exact Fin.ext (by simp [LoadRect.idx])
theorem emb_rZ (g : Fin 8) (c : Fin 4) (a : Fin 128) (d : Fin 256) :
    (rZ g c).emb (ix2 a d) = ix2 (⟨128 * c.val + a.val, by omega⟩ : Fin 512) (⟨4096 + 256 * g.val + d.val, by omega⟩ : Fin 6144) := by
  funext i; fin_cases i <;> exact Fin.ext (by simp [LoadRect.idx])
theorem emb_rM (s : Fin 512) (j : Fin 2048) : rM.emb (ix2 s j) = ix2 s (⟨2048 + j.val, by omega⟩ : Fin 6144) := by
  funext i; fin_cases i <;> exact Fin.ext (by simp [LoadRect.idx])
theorem emb_rW (g : Fin 8) (a b : Fin 128) : (rW g).emb (ix3 (0 : Fin 1) a b) = ix3 g a b := by
  funext i; fin_cases i <;> exact Fin.ext (by simp [LoadRect.idx])
theorem emb_rB (g : Fin 8) (a : Fin 128) : (rB g).emb (ix2 a (0 : Fin 1)) = ix2 a g := by
  funext i; fin_cases i <;> exact Fin.ext (by simp [LoadRect.idx])

theorem sub_inj {c c' : Fin 4} {a a' : Fin 128} (h : 128 * c'.val + a'.val = 128 * c.val + a.val) : c' = c ∧ a' = a :=
  ⟨Fin.ext (by omega), Fin.ext (by omega)⟩
theorem col_inj {g g' : Fin 8} {d d' : Fin 256} (h : 256 * g'.val + d'.val = 256 * g.val + d.val) : g' = g ∧ d' = d :=
  ⟨Fin.ext (by omega), Fin.ext (by omega)⟩
theorem rows_surj (s : Fin 512) : ∃ (c : Fin 4) (a : Fin 128), s = ⟨128 * c.val + a.val, by omega⟩ :=
  ⟨⟨s.val / 128, by omega⟩, ⟨s.val % 128, by omega⟩, Fin.ext (by show s.val = 128 * (s.val / 128) + s.val % 128; omega)⟩

include H

/-- The scratch of mixed cotangents. -/
theorem dv_val (c : Fin 4) (a : Fin 128) (g : Fin 8) (d : Fin 256) :
    dvAll x0 x1 x2 x4 (ix2 (⟨128 * c.val + a.val, by omega⟩ : Fin 512) (col g d)) = ((A.dv (n c) a g d : ℝ) : EReal) := by
  unfold dvAll
  refine View.canon_eq_of_allAt _ _ _ ?_ ?_
  · refine ⟨⟨rD g c, dvb x0 x1 x2 x4 g c⟩, mem_pieces8 g (mem_pieces4 c (by simp)), ?_⟩
    rw [← emb_rD g c a d]
    exact LoadRect.idx_mem _ _
  · intro p hp x hx
    obtain ⟨g', hp⟩ := of_mem_pieces8 hp
    obtain ⟨c', hp⟩ := of_mem_pieces4 hp
    obtain rfl := List.mem_singleton.mp hp
    obtain ⟨a', d', rfl⟩ : ∃ (a' : Fin 128) (d' : Fin 256), x = ix2 a' d' := ⟨_, _, eq_ix2 x⟩
    replace hx := (emb_rD g' c' a' d').symm.trans hx
    obtain ⟨rfl, rfl⟩ := sub_inj (Fin.val_eq_of_eq (congrFun hx 0))
    obtain ⟨rfl, rfl⟩ := col_inj (Fin.val_eq_of_eq (congrFun hx 1))
    exact dvb_val H _ _ _ _

/-- The gradient of the projection. -/
theorem dp_val (c : Fin 4) (a : Fin 128) (k : Fin 6144) :
    View.canon (dpPieces x0 x1 x2 x3 x4 x5) (ix2 (⟨128 * c.val + a.val, by omega⟩ : Fin 512) k) = ((A.dp (n c) a k : ℝ) : EReal) := by
  refine View.canon_eq_of_allAt _ _ _ ?_ ?_
  · by_cases h1 : k.val < 2048
    · obtain ⟨g, d, hk⟩ := col_surj ⟨k.val, h1⟩
      refine ⟨⟨rU g c, dub x0 x1 x2 x3 x4 x5 g c⟩, List.mem_cons_of_mem _ (mem_pieces8 g (mem_pieces4 c (by simp))), ?_⟩
      rw [show k = ⟨256 * g.val + d.val, by omega⟩ from Fin.ext (Fin.val_eq_of_eq hk).symm, ← emb_rU g c a d]
      exact LoadRect.idx_mem _ _
    · by_cases h2 : k.val < 4096
      · refine ⟨⟨rM, _⟩, List.mem_cons_self, ?_⟩
        rw [show k = ⟨2048 + (⟨k.val - 2048, by omega⟩ : Fin 2048).val, by show 2048 + (k.val - 2048) < 6144; omega⟩ from
          Fin.ext (by show k.val = 2048 + (k.val - 2048); omega), ← emb_rM]
        exact LoadRect.idx_mem _ _
      · obtain ⟨g, d, hk⟩ := col_surj ⟨k.val - 4096, by omega⟩
        have hk' : 256 * g.val + d.val = k.val - 4096 := Fin.val_eq_of_eq hk
        refine ⟨⟨rZ g c, dzb x0 x1 x2 x3 x4 x5 g c⟩, List.mem_cons_of_mem _ (mem_pieces8 g (mem_pieces4 c (by simp))), ?_⟩
        rw [show k = ⟨4096 + 256 * g.val + d.val, by omega⟩ from Fin.ext (by show k.val = 4096 + 256 * g.val + d.val; omega), ← emb_rZ g c a d]
        exact LoadRect.idx_mem _ _
  · intro p hp x hx
    rcases List.mem_cons.mp hp with rfl | hp
    · obtain ⟨s, j, rfl⟩ : ∃ (s : Fin 512) (j : Fin 2048), x = ix2 s j := ⟨_, _, eq_ix2 x⟩
      replace hx := (emb_rM s j).symm.trans hx
      obtain rfl : s = ⟨128 * c.val + a.val, by omega⟩ := congrFun hx 0
      obtain rfl := congrFun hx 1
      obtain ⟨g, d, rfl⟩ := col_surj j
      exact (pay2_val H _ (dv_val H) c a g d).trans (congrArg _ (A.dp_m (n c) a g d _).symm)
    · obtain ⟨g', hp⟩ := of_mem_pieces8 hp
      obtain ⟨c', hp⟩ := of_mem_pieces4 hp
      rcases List.mem_cons.mp hp with rfl | hp
      · obtain ⟨a', d', rfl⟩ : ∃ (a' : Fin 128) (d' : Fin 256), x = ix2 a' d' := ⟨_, _, eq_ix2 x⟩
        replace hx := (emb_rZ g' c' a' d').symm.trans hx
        obtain ⟨rfl, rfl⟩ := sub_inj (Fin.val_eq_of_eq (congrFun hx 0))
        obtain rfl := congrFun hx 1
        exact (dzb_val H _ _ _ _).trans (congrArg _ (A.dp_z _ _ _ _ _).symm)
      · obtain rfl := List.mem_singleton.mp hp
        obtain ⟨a', d', rfl⟩ : ∃ (a' : Fin 128) (d' : Fin 256), x = ix2 a' d' := ⟨_, _, eq_ix2 x⟩
        replace hx := (emb_rU g' c' a' d').symm.trans hx
        obtain ⟨rfl, rfl⟩ := sub_inj (Fin.val_eq_of_eq (congrFun hx 0))
        obtain rfl := congrFun hx 1
        exact (dub_val H _ _ _ _).trans (congrArg _ (A.dp_u _ _ _ _ _).symm)

omit H

theorem not_mem_rW {g g' : Fin 8} (h : g' ≠ g) (a b : Fin 128) : (rW g).emb (ix3 (0 : Fin 1) a b) ∉ (rW g').set := by
  rw [emb_rW]
  intro hm
  have := (Rect.mem_set_unit.mp hm) 0
  have h1 : g'.val ≤ g.val := this.1
  have h2 : g.val < g'.val + 1 := this.2
  exact h (Fin.ext (by omega))
theorem not_mem_rB {g g' : Fin 8} (h : g' ≠ g) (a : Fin 128) : (rB g).emb (ix2 a (0 : Fin 1)) ∉ (rB g').set := by
  rw [emb_rB]
  intro hm
  have := (Rect.mem_set_unit.mp hm) 1
  have h1 : g'.val ≤ g.val := this.1
  have h2 : g.val < g'.val + 1 := this.2
  exact h (Fin.ext (by omega))

/-- Stores to whole groups of the weight gradient: the group's last one stays. -/
theorem canon_groupsW (f : Fin 8 → List (View.Piece (Elt Ideal) S8x128x128 .f32)) (hf : ∀ g, ∀ q ∈ f g, q.1 = rW g) (g : Fin 8)
    (w : FVec Ideal S1x128x128 .f32) (R : List (View.Piece (Elt Ideal) S8x128x128 .f32)) (hg : f g = ⟨rW g, w⟩ :: R)
    (L : List (View.Piece (Elt Ideal) S8x128x128 .f32)) (a b : Fin 128) :
    View.canon (pieces8 f ++ L) (ix3 g a b) = w (ix3 (0 : Fin 1) a b) := by
  obtain ⟨L₁, L₂, he, hq⟩ := pieces8_split f g
  rw [he, hg, List.append_assoc, List.cons_append, List.cons_append, ← emb_rW g a b]
  refine canon_hit (rW g) w _ (ix3 (0 : Fin 1) a b) L₁ fun q h => ?_
  obtain ⟨g', hne, hm⟩ := hq q h
  rw [hf g' q hm]
  exact not_mem_rW hne a b
theorem canon_groupsB (f : Fin 8 → List (View.Piece (Elt Ideal) S128x8 .f32)) (hf : ∀ g, ∀ q ∈ f g, q.1 = rB g) (g : Fin 8)
    (w : FVec Ideal S128x1 .f32) (R : List (View.Piece (Elt Ideal) S128x8 .f32)) (hg : f g = ⟨rB g, w⟩ :: R)
    (L : List (View.Piece (Elt Ideal) S128x8 .f32)) (a : Fin 128) :
    View.canon (pieces8 f ++ L) (ix2 a g) = w (ix2 a (0 : Fin 1)) := by
  obtain ⟨L₁, L₂, he, hq⟩ := pieces8_split f g
  rw [he, hg, List.append_assoc, List.cons_append, List.cons_append, ← emb_rB g a]
  refine canon_hit (rB g) w _ (ix2 a (0 : Fin 1)) L₁ fun q h => ?_
  obtain ⟨g', hne, hm⟩ := hq q h
  rw [hf g' q hm]
  exact not_mem_rB hne a

theorem rect_of_mem4 {S : Shape} {e : EltTy} (r : Rect S) (w : Fin 4 → r.shape.Idx → Elt Ideal e) (q : View.Piece (Elt Ideal) S e)
    (h : q ∈ pieces4 fun c => [(⟨r, w c⟩ : View.Piece (Elt Ideal) S e)]) : q.1 = r := by
  obtain ⟨c, hc⟩ := of_mem_pieces4 h
  rw [List.mem_singleton.mp hc]

include H

/-- The weight gradient after a point that adds to X. -/
theorem dws_val (X : Vec Ideal S8x128x128 .f32) (L : List (View.Piece (Elt Ideal) S8x128x128 .f32)) (g : Fin 8) (a b : Fin 128) :
    View.canon (dwsPieces x0 x1 x2 x3 X ++ L) (ix3 g a b) = X (ix3 g a b) + ((A.dwsC (n 0) g a b : ℝ) : EReal)
      + ((A.dwsC (n 1) g a b : ℝ) : EReal) + ((A.dwsC (n 2) g a b : ℝ) : EReal) + ((A.dwsC (n 3) g a b : ℝ) : EReal) := by
  refine Eq.trans ?_ (dwsAt_val H X g a b)
  exact canon_groupsW _ (fun g q hq => rect_of_mem4 (rW g) (fun c => dwsAt x0 x1 x2 x3 X g c) q hq) g _ _ rfl L a b

/-- The weight gradient after the last point, masked. -/
theorem dwsMask_at (X : Vec Ideal S8x128x128 .f32) (g : Fin 8) (a b : Fin 128) :
    View.canon (dwsMaskPieces x0 x1 x2 x3 X) (ix3 g a b) = if b ≤ a then X (ix3 g a b) + ((A.dwsC (n 0) g a b : ℝ) : EReal)
      + ((A.dwsC (n 1) g a b : ℝ) : EReal) + ((A.dwsC (n 2) g a b : ℝ) : EReal) + ((A.dwsC (n 3) g a b : ℝ) : EReal) else 0 := by
  rw [← dwsAt_val H X g a b, ← dwsMask_val]
  exact canon_groupsW _ (fun g q hq => by rw [List.mem_singleton.mp hq]) g _ [] rfl _ a b

/-- The bias gradient after a point that adds to X. -/
theorem dbs_val (X : Vec Ideal S128x8 .f32) (L : List (View.Piece (Elt Ideal) S128x8 .f32)) (a : Fin 128) (g : Fin 8) :
    View.canon (dbsPieces x0 x1 x2 X ++ L) (ix2 a g) = X (ix2 a g) + ((A.dbsC (n 0) a g : ℝ) : EReal) + ((A.dbsC (n 1) a g : ℝ) : EReal)
      + ((A.dbsC (n 2) a g : ℝ) : EReal) + ((A.dbsC (n 3) a g : ℝ) : EReal) := by
  refine Eq.trans ?_ (dbsAt_val H X g a)
  exact canon_groupsB _ (fun g q hq => rect_of_mem4 (rB g) (fun c => dbsAt x0 x1 x2 X g c) q hq) g _ _ rfl L a

/-- The gain's gradient after a point that adds to X. -/
theorem dvg_val (X : Vec Ideal S1x2048 .f32) (g : Fin 8) (d : Fin 256) :
    k0_pay1 (k0_pay17 (View.ld x2 rM)) (dvAll x0 x1 x2 x4) X (ix2 (0 : Fin 1) (col g d)) = X (ix2 (0 : Fin 1) (col g d))
      + ((A.dvgC (n 0) g d + A.dvgC (n 1) g d + A.dvgC (n 2) g d + A.dvgC (n 3) g d : ℝ) : EReal) :=
  pay1_val H _ X (dv_val H) g d

end Cert.KernelIdeal.Units

end
-- ==== Proof.Final.lean ====
/- The four result arrays of the kernel after its run, when its arguments hold real numbers. -/
module

public import proofs.«01_k».proof.Proof.Outs
public import proofs.«01_k».proof.Proof.Blocks
public import Idealize.ShloMosaic.Lib.Claim

@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Units Cert.Spec

/-- The arguments hold the real numbers of A. -/
structure Holds (A : Args) (a0 : FVec Ideal S8192x1024 .bf16) (a1 : FVec Ideal S2048x1024 .bf16) (a2 : FVec Ideal S8192x6144 .bf16)
    (a3 : FVec Ideal S1x2048 .f32) (a4 : FVec Ideal S8x128x128 .f32) (a5 : FVec Ideal S8x128 .f32) : Prop where
  h0 : ∀ (s : Fin 8192) (k : Fin 1024), a0 (ix2 s k) = ((A.D s k : ℝ) : EReal)
  h1 : ∀ (j : Fin 2048) (k : Fin 1024), a1 (ix2 j k) = ((A.W j k : ℝ) : EReal)
  h2 : ∀ (s : Fin 8192) (k : Fin 6144), a2 (ix2 s k) = ((A.P s k : ℝ) : EReal)
  h3 : ∀ j : Fin 2048, a3 (ix2 (0 : Fin 1) j) = ((A.G j : ℝ) : EReal)
  h4 : ∀ (g : Fin 8) (a b : Fin 128), a4 (ix3 g a b) = ((A.S g a b : ℝ) : EReal)
  h5 : ∀ (g : Fin 8) (a : Fin 128), a5 (ix2 g a) = ((A.B g a : ℝ) : EReal)

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![0, 0] ∧ win0_4.index t = ![0, 0, 0] ∧ win0_5.index t = ![0, 0] ∧ win0_6.index t = ![t.val, 0]
    ∧ win0_7.index t = ![0, 0, 0] ∧ win0_8.index t = ![0, 0] ∧ win0_9.index t = ![0, 0] :=
  (by decide +kernel : ∀ t : Fin grid0.N, _)

theorem lt16 (t : Fin cfg0.N) : t.val < 16 := lt_of_lt_of_eq t.isLt N_0

/-- Chunk c of point t. -/
def chunk (t : Fin cfg0.N) (c : Fin 4) : Fin 64 := ⟨4 * t.val + c.val, by have := lt16 t; omega⟩

section
variable {A : Args} (c : Dev nD)
  (H : Holds A (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)))
include H

theorem reads (t : Fin cfg0.N) : Reads A (chunk t) (iblk m c 0 t) (iblk m c 1 t) (iblk m c 2 t) (iblk m c 3 t) (iblk m c 4 t) (iblk m c 5 t) where
  h0 c' a k := by
    have hr : (row (chunk t c') a).val = 128 * (4 * t.val + c'.val) + a.val := rfl
    refine Eq.trans ?_ (H.h0 (row (chunk t c') a) k)
    blk_ext [iblk, V, idx t]
  h1 j k := by
    refine Eq.trans ?_ (H.h1 j k)
    blk_ext [iblk, V, idx t]
  h2 c' a k := by
    have hr : (row (chunk t c') a).val = 128 * (4 * t.val + c'.val) + a.val := rfl
    refine Eq.trans ?_ (H.h2 (row (chunk t c') a) k)
    blk_ext [iblk, V, idx t]
  h3 j := by
    refine Eq.trans ?_ (H.h3 j)
    blk_ext [iblk, V, idx t]
  h4 g a b := by
    refine Eq.trans ?_ (H.h4 g a b)
    blk_ext [iblk, V, idx t]
  h5 a g := by
    refine Eq.trans ?_ (H.h5 g a)
    blk_simp [iblk]
    entry_read
    pointwise []
    blk_ext [idx t]

omit H in
theorem acc_coe (f : Fin 64 → ℝ) (t : Fin cfg0.N) :
    ((Args.upTo f (4 * t.val) : ℝ) : EReal) + ((f (chunk t 0) : ℝ) : EReal) + ((f (chunk t 1) : ℝ) : EReal) + ((f (chunk t 2) : ℝ) : EReal)
      + ((f (chunk t 3) : ℝ) : EReal) = ((Args.upTo f (4 * t.val + 4) : ℝ) : EReal) := by
  rw [Args.upTo_four f ⟨t.val, lt16 t⟩]
  simp only [← EReal.coe_add]
  rfl
omit H in
theorem acc_coe' (f : Fin 64 → ℝ) (t : Fin cfg0.N) :
    ((Args.upTo f (4 * t.val) : ℝ) : EReal) + ((f (chunk t 0) + f (chunk t 1) + f (chunk t 2) + f (chunk t 3) : ℝ) : EReal)
      = ((Args.upTo f (4 * t.val + 4) : ℝ) : EReal) := by
  rw [← acc_coe]
  simp only [EReal.coe_add, add_assoc]

omit H in
theorem zeroW (i : S8x128x128.Idx) : (k0_pay11 (F := Ideal)) i = ((0 : ℝ) : EReal) := by
  pointwise [k0_pay11]
  rfl
omit H in
theorem zeroB (i : S128x8.Idx) : (k0_pay12 (F := Ideal)) i = ((0 : ℝ) : EReal) := by
  pointwise [k0_pay12]
  rfl
omit H in
theorem zeroG (i : S1x2048.Idx) : (k0_pay13 (F := Ideal)) i = ((0 : ℝ) : EReal) := by
  pointwise [k0_pay13]
  rfl

/-- The accumulated gradients after a point before the last. -/
theorem acc : ∀ (k : ℕ) (hk : k < cfg0.N), k < 15 →
    (∀ (g : Fin 8) (a b : Fin 128), (outsAt0 m c k hk).2.1 (ix3 g a b) = ((Args.upTo (fun n => A.dwsC n g a b) (4 * k + 4) : ℝ) : EReal))
    ∧ (∀ (a : Fin 128) (g : Fin 8), (outsAt0 m c k hk).2.2.1 (ix2 a g) = ((Args.upTo (fun n => A.dbsC n a g) (4 * k + 4) : ℝ) : EReal))
    ∧ (∀ (g : Fin 8) (d : Fin 256), (outsAt0 m c k hk).2.2.2 (ix2 (0 : Fin 1) (col g d))
        = ((Args.upTo (fun n => A.dvgC n g d) (4 * k + 4) : ℝ) : EReal)) := by
  intro k
  induction k with
  | zero =>
    intro hk _
    have R := reads m c H ⟨0, hk⟩
    refine ⟨fun g a b => ?_, fun a g => ?_, fun g d => ?_⟩
    · rw [outA_7 m c ⟨0, hk⟩ (by rfl) (by show ¬ 0 % 16 = 15; decide), dws_val R, zeroW, ← Args.upTo_zero (fun n => A.dwsC n g a b)]
      exact acc_coe (fun n => A.dwsC n g a b) ⟨0, hk⟩
    · rw [outA_8 m c ⟨0, hk⟩ (by rfl) (by show ¬ 0 % 16 = 15; decide), dbs_val R, zeroB, ← Args.upTo_zero (fun n => A.dbsC n a g)]
      exact acc_coe (fun n => A.dbsC n a g) ⟨0, hk⟩
    · rw [outA_9 m c ⟨0, hk⟩ (by rfl) (by show ¬ 0 % 16 = 15; decide)]
      refine (dvg_val R _ g d).trans ?_
      rw [zeroG, ← Args.upTo_zero (fun n => A.dvgC n g d)]
      exact acc_coe' (fun n => A.dvgC n g d) ⟨0, hk⟩
  | succ k ih =>
    intro hk h15
    have R := reads m c H ⟨k + 1, hk⟩
    obtain ⟨i1, i2, i3⟩ := ih (by omega) (by omega)
    have hA : ¬ (k + 1) % 16 = 0 := by omega
    have hC : ¬ (k + 1) % 16 = 15 := by omega
    refine ⟨fun g a b => ?_, fun a g => ?_, fun g d => ?_⟩
    · rw [outB_7 m c ⟨k + 1, hk⟩ hA hC]
      refine ((congrArg (fun L => View.canon L (ix3 g a b)) (List.append_nil _).symm).trans (dws_val R _ [] g a b)).trans ?_
      refine Eq.trans ?_ (acc_coe (fun n => A.dwsC n g a b) ⟨k + 1, hk⟩)
      exact congrArg (fun e : EReal => e + _ + _ + _ + _) (i1 g a b)
    · rw [outB_8 m c ⟨k + 1, hk⟩ hA hC]
      refine ((congrArg (fun L => View.canon L (ix2 a g)) (List.append_nil _).symm).trans (dbs_val R _ [] a g)).trans ?_
      refine Eq.trans ?_ (acc_coe (fun n => A.dbsC n a g) ⟨k + 1, hk⟩)
      exact congrArg (fun e : EReal => e + _ + _ + _ + _) (i2 a g)
    · rw [outB_9 m c ⟨k + 1, hk⟩ hA hC]
      refine (dvg_val R _ g d).trans ?_
      refine Eq.trans ?_ (acc_coe' (fun n => A.dvgC n g d) ⟨k + 1, hk⟩)
      exact congrArg (fun e : EReal => e + _) (i3 g d)

/-- The accumulated gradients after the last point. -/
theorem last (t : Fin cfg0.N) (ht : t.val % 16 = 15) :
    (∀ (g : Fin 8) (a b : Fin 128), (outsAt0 m c t.val t.isLt).2.1 (ix3 g a b) = ((A.dws g a b : ℝ) : EReal))
    ∧ (∀ (a : Fin 128) (g : Fin 8), (outsAt0 m c t.val t.isLt).2.2.1 (ix2 a g) = ((A.dbs a g : ℝ) : EReal))
    ∧ (∀ (g : Fin 8) (d : Fin 256), (outsAt0 m c t.val t.isLt).2.2.2 (ix2 (0 : Fin 1) (col g d)) = ((A.dvg g d : ℝ) : EReal)) := by
  have h15 : t.val = 15 := by have := lt16 t; omega
  have R := reads m c H t
  have hA : ¬ t.val % 16 = 0 := by omega
  obtain ⟨i1, i2, i3⟩ := acc m c H (t.val - 1) (by have := t.isLt; omega) (by omega)
  have e1 : 4 * (t.val - 1) + 4 = 4 * t.val := by omega
  have e2 : 4 * t.val + 4 = 64 := by omega
  refine ⟨fun g a b => ?_, fun a g => ?_, fun g d => ?_⟩
  · rw [outC_7 m c t hA ht]
    refine (dwsMask_at R _ g a b).trans ?_
    rw [i1, e1, acc_coe (fun n => A.dwsC n g a b) t, e2, Args.upTo_all]
    unfold Args.dws
    split <;> rfl
  · rw [outC_8 m c t hA ht]
    refine ((congrArg (fun L => View.canon L (ix2 a g)) (List.append_nil _).symm).trans (dbs_val R _ [] a g)).trans ?_
    rw [i2, e1, acc_coe (fun n => A.dbsC n a g) t, e2, Args.upTo_all]
    rfl
  · rw [outC_9 m c t hA ht]
    refine (dvg_val R _ g d).trans ?_
    rw [i3, e1, acc_coe' (fun n => A.dvgC n g d) t, e2, Args.upTo_all]
    rfl

/-- The gradient of the projection, block by block. -/
theorem dp_at (t : Fin cfg0.N) (c' : Fin 4) (a : Fin 128) (k : Fin 6144) :
    (outsAt0 m c t.val t.isLt).1 (ix2 (⟨128 * c'.val + a.val, by omega⟩ : Fin 512) k) = ((A.dp (chunk t c') a k : ℝ) : EReal) := by
  have R := reads m c H t
  by_cases hA : t.val % 16 = 0
  · rw [outA_6 m c t hA (by omega)]
    exact dp_val R c' a k
  · by_cases hC : t.val % 16 = 15
    · rw [outC_6 m c t hA hC]
      exact dp_val R c' a k
    · rw [outB_6 m c t hA hC]
      exact dp_val R c' a k

omit H in
/-- The four gradients as arrays. -/
def dpArr (A : Args) : FVec Ideal S8192x6144 .bf16 := fun i => ((A.dp ⟨(i 0).val / 128, by have : (i 0).val < 8192 := (i 0).isLt; omega⟩
  ⟨(i 0).val % 128, by omega⟩ (i 1) : ℝ) : EReal)
omit H in
def dwsArr (A : Args) : FVec Ideal S8x128x128 .f32 := fun i => ((A.dws (i 0) (i 1) (i 2) : ℝ) : EReal)
omit H in
def dbsArr (A : Args) : FVec Ideal S128x8 .f32 := fun i => ((A.dbs (i 0) (i 1) : ℝ) : EReal)
omit H in
def dvgArr (A : Args) : FVec Ideal S1x2048 .f32 := fun i => ((A.dvg ⟨(i 1).val / 256, by have : (i 1).val < 2048 := (i 1).isLt; omega⟩
  ⟨(i 1).val % 256, by omega⟩ : ℝ) : EReal)

/-- The same at any index of the block. -/
theorem dp_idx (t : Fin cfg0.N) (y : S512x6144.Idx) (n : Fin 64) (a : Fin 128) (k : Fin 6144)
    (h : 128 * n.val + a.val = 512 * t.val + (y 0).val) (hk : k.val = (y 1).val) :
    (outsAt0 m c t.val t.isLt).1 y = ((A.dp n a k : ℝ) : EReal) := by
  obtain ⟨s, k', rfl⟩ : ∃ (s : Fin 512) (k' : Fin 6144), y = ix2 s k' := ⟨_, _, eq_ix2 y⟩
  obtain ⟨c', a', rfl⟩ := rows_surj s
  obtain rfl : k = k' := Fin.ext hk
  have h' : 128 * n.val + a.val = 512 * t.val + (128 * c'.val + a'.val) := h
  obtain rfl : a = a' := Fin.ext (by omega)
  obtain rfl : n = chunk t c' := Fin.ext (by show n.val = 4 * t.val + c'.val; omega)
  exact dp_at m c H t c' a k

theorem final6 : (dats m 0 c).arrAt 6 (cfgs 0).N = dpArr A := by
  refine (dats m 0 c).arrAt_eq_of_covers 6 _ (by decide +kernel) fun t _ y => ?_
  blk_simp
  rw [after0_6]
  have e0 : ((((cfg0.win 6).blk t).view.emb y) 0).val = 512 * t.val + (y 0).val := by
    blk_simp [idx t]; omega
  have e1 : ((((cfg0.win 6).blk t).view.emb y) 1).val = (y 1).val := by
    blk_simp [idx t]
  refine dp_idx m c H t y _ _ _ ?_ e1
  refine Eq.trans ?_ e0
  exact Nat.div_add_mod _ 128

theorem final7 : (dats m 0 c).arrAt 7 (cfgs 0).N = dwsArr A := by
  refine (dats m 0 c).arrAt_eq_of_after_last 7 t0_15 (by decide +kernel) _ fun j => ?_
  blk_simp
  rw [after0_7]
  have h := (last m c H t0_15 (by rfl)).1 (j 0) (j 1) (j 2)
  exact (congrArg _ (eq_ix3 j)).trans h
theorem final8 : (dats m 0 c).arrAt 8 (cfgs 0).N = dbsArr A := by
  refine (dats m 0 c).arrAt_eq_of_after_last 8 t0_15 (by decide +kernel) _ fun j => ?_
  blk_simp
  rw [after0_8]
  have h := (last m c H t0_15 (by rfl)).2.1 (j 0) (j 1)
  exact (congrArg _ (eq_ix2 j)).trans h
theorem final9 : (dats m 0 c).arrAt 9 (cfgs 0).N = dvgArr A := by
  refine (dats m 0 c).arrAt_eq_of_after_last 9 t0_15 (by decide +kernel) _ fun j => ?_
  blk_simp
  rw [after0_9]
  have hj : (j 1).val < 2048 := (j 1).isLt
  have h := (last m c H t0_15 (by rfl)).2.2 ⟨(j 1).val / 256, by omega⟩ ⟨(j 1).val % 256, by omega⟩
  have e : j = ix2 (0 : Fin 1) (col ⟨(j 1).val / 256, by omega⟩ ⟨(j 1).val % 256, by omega⟩) := by
    refine (eq_ix2 j).trans ((ix2_inj ..).2 ⟨Subsingleton.elim (α := Fin 1) _ _, Fin.ext (Nat.div_add_mod _ 256).symm⟩)
  exact (congrArg _ e).trans h

end
end Cert.KernelIdeal.Value

end
-- ==== Proof.RefVals.lean ====
/- The values of the reference's operations when its arguments hold real numbers. -/
module

public import proofs.«01_k».proof.Proof.Gen.ReferenceIdeal.Read
public import proofs.«01_k».proof.Proof.Spec
public import Idealize.ShloMosaic.Lib.Pipeline.ValueKit
public import Idealize.ShloMosaic.Lib.Pointwise
public import Idealize.ShloMosaic.Lib.IdealHost

@[expose] public section
set_option maxRecDepth 16384
noncomputable section
open Idealize.ShloMosaic Idealize.ShloMosaic.TcCoe Idealize.SL.Sem
open scoped BigOperators
namespace Cert.ReferenceIdeal.Values
open Cert.ReferenceIdeal Cert.ReferenceIdeal.Gen Cert.ReferenceIdeal.Read Cert.Spec

/-! ## Sums over several axes -/

/-- A sum over the indices that drop to j is a sum over any family that lists them once each. -/
theorem sum_drop {s t : Shape} {axes : List (Fin s.rank)} (h : s.ReducesTo axes t) {K : Type} [Fintype K] (f : K → s.Idx)
    (hf : Function.Injective f) (j : t.Idx) (hj : ∀ i, h.drop i = j ↔ ∃ k, f k = i) (x : s.Idx → EReal) (z : EReal) :
    Ideal.hostReduceAdd h x z j = z + ∑ k, x (f k) := by
  classical
  unfold Ideal.hostReduceAdd
  congr 1
  rw [show Finset.univ.filter (fun i => h.drop i = j) = Finset.univ.image f from by
    ext i; simp [hj i], Finset.sum_image fun a _ b _ e => hf e]

/-- The bias gradient's sum over chunks and columns. -/
theorem sum_14 (x : S1x64x128x8x256.Idx → EReal) (z : EReal) (a : Fin 128) (g : Fin 8) :
    Ideal.hostReduceAdd reducesTo_S1x64x128x8x256_S1x128x8_d1_4 x z (ix3 (0 : Fin 1) a g)
      = z + ∑ n : Fin 64, ∑ d : Fin 256, x (ix5 (0 : Fin 1) n a g d) := by
  rw [sum_drop _ (fun k : Fin 64 × Fin 256 => (ix5 (0 : Fin 1) k.1 a g k.2 : S1x64x128x8x256.Idx))
    (fun k l e => Prod.ext (congrFun e 1) (congrFun e 4)) _ (fun i => ?_) x z, Fintype.sum_prod_type]
  constructor
  · intro e
    refine ⟨(i 1, i 4), funext fun b => Fin.ext ?_⟩
    have e0 := congrArg Fin.val (congrFun e 0)
    have e1 := congrArg Fin.val (congrFun e 1)
    have e2 := congrArg Fin.val (congrFun e 2)
    match b with
    | ⟨0, _⟩ => exact e0.symm
    | ⟨1, _⟩ => rfl
    | ⟨2, _⟩ => exact e1.symm
    | ⟨3, _⟩ => exact e2.symm
    | ⟨4, _⟩ => rfl
  · rintro ⟨k, rfl⟩
    exact funext fun b => Fin.ext (by match b with | ⟨0, _⟩ => rfl | ⟨1, _⟩ => rfl | ⟨2, _⟩ => rfl)

/-- A sum over axes of one element. -/
theorem sum_014 (x : S1x1x128x8x1.Idx → EReal) (z : EReal) (a : Fin 128) (g : Fin 8) :
    Ideal.hostReduceAdd reducesTo_S1x1x128x8x1_S128x8_d0_1_4 x z (ix2 a g)
      = z + x (ix5 (0 : Fin 1) (0 : Fin 1) a g (0 : Fin 1)) := by
  rw [sum_drop _ (fun _ : Unit => (ix5 (0 : Fin 1) (0 : Fin 1) a g (0 : Fin 1) : S1x1x128x8x1.Idx))
    (fun k l _ => rfl) _ (fun i => ?_) x z, Fintype.sum_unique]
  constructor
  · intro e
    refine ⟨(), funext fun b => Fin.ext ?_⟩
    have e0 := congrArg Fin.val (congrFun e 0)
    have e1 := congrArg Fin.val (congrFun e 1)
    match b with
    | ⟨0, _⟩ => have : (i 0).val < 1 := (i 0).isLt; show 0 = (i 0).val; omega
    | ⟨1, _⟩ => have : (i 1).val < 1 := (i 1).isLt; show 0 = (i 1).val; omega
    | ⟨2, _⟩ => exact e0.symm
    | ⟨3, _⟩ => exact e1.symm
    | ⟨4, _⟩ => have : (i 4).val < 1 := (i 4).isLt; show 0 = (i 4).val; omega
  · rintro ⟨k, rfl⟩
    exact funext fun b => Fin.ext (by match b with | ⟨0, _⟩ => rfl | ⟨1, _⟩ => rfl)

theorem sum_01 (x : S1x1x2048.Idx → EReal) (z : EReal) (j : Fin 2048) :
    Ideal.hostReduceAdd reducesTo_S1x1x2048_S2048_d0_1 x z (ix1 j) = z + x (ix3 (0 : Fin 1) (0 : Fin 1) j) := by
  rw [sum_drop _ (fun _ : Unit => (ix3 (0 : Fin 1) (0 : Fin 1) j : S1x1x2048.Idx)) (fun k l _ => rfl) _ (fun i => ?_) x z, Fintype.sum_unique]
  constructor
  · intro e
    refine ⟨(), funext fun b => Fin.ext ?_⟩
    have e0 := congrArg Fin.val (congrFun e 0)
    match b with
    | ⟨0, _⟩ => have : (i 0).val < 1 := (i 0).isLt; show 0 = (i 0).val; omega
    | ⟨1, _⟩ => have : (i 1).val < 1 := (i 1).isLt; show 0 = (i 1).val; omega
    | ⟨2, _⟩ => exact e0.symm
  · rintro ⟨k, rfl⟩
    exact funext fun b => Fin.ext (by match b with | ⟨0, _⟩ => rfl)

theorem sum_02 (x : S1x8192x1.Idx → EReal) (z : EReal) (s : Fin 8192) :
    Ideal.hostReduceAdd reducesTo_S1x8192x1_S8192_d0_2 x z (ix1 s) = z + x (ix3 (0 : Fin 1) s (0 : Fin 1)) := by
  rw [sum_drop _ (fun _ : Unit => (ix3 (0 : Fin 1) s (0 : Fin 1) : S1x8192x1.Idx)) (fun k l _ => rfl) _ (fun i => ?_) x z, Fintype.sum_unique]
  constructor
  · intro e
    refine ⟨(), funext fun b => Fin.ext ?_⟩
    have e0 := congrArg Fin.val (congrFun e 0)
    match b with
    | ⟨0, _⟩ => have : (i 0).val < 1 := (i 0).isLt; show 0 = (i 0).val; omega
    | ⟨1, _⟩ => exact e0.symm
    | ⟨2, _⟩ => have : (i 2).val < 1 := (i 2).isLt; show 0 = (i 2).val; omega
  · rintro ⟨k, rfl⟩
    exact funext fun b => Fin.ext (by match b with | ⟨0, _⟩ => rfl)

/-- The contraction of the weight gradient: one sequence, its chunks, the columns of a group. -/
abbrev dw : DotDims S8x1x64x256x128 S1x64x128x8x256 S8x128x128 := dot_S8x1x64x256x128_S1x64x128x8x256_S8x128x128_123_014_4_2_0_3
/-- A contracted index is a chunk and a column. -/
def dwE : Fin 64 × Fin 256 ≃ dw.contr.Idx where
  toFun p := fun b => match b with
    | ⟨0, _⟩ => (0 : Fin 1)
    | ⟨1, _⟩ => p.1
    | ⟨2, _⟩ => p.2
  invFun k := (k ⟨1, by decide⟩, k ⟨2, by decide⟩)
  left_inv _ := rfl
  right_inv k := funext fun b => match b with
    | ⟨0, h⟩ => Fin.ext (by have : (k ⟨0, h⟩).val < 1 := (k ⟨0, h⟩).isLt; show 0 = (k ⟨0, h⟩).val; omega)
    | ⟨1, _⟩ => rfl
    | ⟨2, _⟩ => rfl

theorem dot_dw (x : S8x1x64x256x128.Idx → EReal) (y : S1x64x128x8x256.Idx → EReal) (z : S8x128x128.Idx → EReal) (g : Fin 8) (a b : Fin 128) :
    Ideal.matmul dw x y z (ix3 g a b) = z (ix3 g a b) + ∑ n : Fin 64, ∑ d : Fin 256, x (ix5 g (0 : Fin 1) n d a) * y (ix5 (0 : Fin 1) n b g d) := by
  unfold Ideal.matmul
  rw [← Equiv.sum_comp dwE, Fintype.sum_prod_type]
  refine congrArg (_ + ·) (Finset.sum_congr rfl fun n _ => Finset.sum_congr rfl fun d _ => ?_)
  have h1 : dw.lhsIdx (ix3 g a b) (dwE (n, d)) = ix5 g (0 : Fin 1) n d a := by
    funext c
    match c with
    | ⟨0, _⟩ => rfl
    | ⟨1, _⟩ => rfl
    | ⟨2, _⟩ => rfl
    | ⟨3, _⟩ => rfl
    | ⟨4, _⟩ => rfl
  have h2 : dw.rhsIdx (ix3 g a b) (dwE (n, d)) = ix5 (0 : Fin 1) n b g d := by
    funext c
    match c with
    | ⟨0, _⟩ => rfl
    | ⟨1, _⟩ => rfl
    | ⟨2, _⟩ => rfl
    | ⟨3, _⟩ => rfl
    | ⟨4, _⟩ => rfl
  rw [h1, h2]

/-! ## Positions -/

theorem row_mk (n : Fin 64) (a : Fin 128) (h : n.val * 128 + a.val < 8192) : (⟨n.val * 128 + a.val, h⟩ : Fin 8192) = row n a :=
  Fin.ext (by show n.val * 128 + a.val = 128 * n.val + a.val; omega)
theorem col_mk (g : Fin 8) (d : Fin 256) (h : g.val * 256 + d.val < 2048) : (⟨g.val * 256 + d.val, h⟩ : Fin 2048) = col g d :=
  Fin.ext (by show g.val * 256 + d.val = 256 * g.val + d.val; omega)
theorem row_div (n : Fin 64) (a : Fin 128) (h : (row n a).val / 128 < 64) : (⟨(row n a).val / 128, h⟩ : Fin 64) = n :=
  Fin.ext (by show (128 * n.val + a.val) / 128 = n.val; omega)
theorem row_mod (n : Fin 64) (a : Fin 128) (h : (row n a).val % 128 < 128) : (⟨(row n a).val % 128, h⟩ : Fin 128) = a :=
  Fin.ext (by show (128 * n.val + a.val) % 128 = a.val; omega)
theorem col_div (g : Fin 8) (d : Fin 256) (h : (col g d).val / 256 < 8) : (⟨(col g d).val / 256, h⟩ : Fin 8) = g :=
  Fin.ext (by show (256 * g.val + d.val) / 256 = g.val; omega)
theorem col_mod (g : Fin 8) (d : Fin 256) (h : (col g d).val % 256 < 256) : (⟨(col g d).val % 256, h⟩ : Fin 256) = d :=
  Fin.ext (by show (256 * g.val + d.val) % 256 = d.val; omega)

/-! ## The operations -/

/-- The arguments hold the real numbers of A. -/
structure Holds (A : Args) (x0 : FVec Ideal S8192x1024 .bf16) (x1 : FVec Ideal S2048x1024 .bf16) (x2 : FVec Ideal S8192x6144 .bf16)
    (x3 : FVec Ideal S1x2048 .f32) (x4 : FVec Ideal S8x128x128 .f32) (x5 : FVec Ideal S8x128 .f32) : Prop where
  h0 : ∀ (s : Fin 8192) (k : Fin 1024), x0 (ix2 s k) = ((A.D s k : ℝ) : EReal)
  h1 : ∀ (j : Fin 2048) (k : Fin 1024), x1 (ix2 j k) = ((A.W j k : ℝ) : EReal)
  h2 : ∀ (s : Fin 8192) (k : Fin 6144), x2 (ix2 s k) = ((A.P s k : ℝ) : EReal)
  h3 : ∀ j : Fin 2048, x3 (ix2 (0 : Fin 1) j) = ((A.G j : ℝ) : EReal)
  h4 : ∀ (g : Fin 8) (a b : Fin 128), x4 (ix3 g a b) = ((A.S g a b : ℝ) : EReal)
  h5 : ∀ (g : Fin 8) (a : Fin 128), x5 (ix2 g a) = ((A.B g a : ℝ) : EReal)

variable {x0 : FVec Ideal S8192x1024 .bf16} {x1 : FVec Ideal S2048x1024 .bf16} {x2 : FVec Ideal S8192x6144 .bf16} {x3 : FVec Ideal S1x2048 .f32}
  {x4 : FVec Ideal S8x128x128 .f32} {x5 : FVec Ideal S8x128 .f32} {A : Args} (H : Holds A x0 x1 x2 x3 x4 x5)
include H

/-- The columns that are normalised. -/
theorem v7_val (s : Fin 8192) (j : Fin 2048) :
    val_main_v7 (F := Ideal) x2 (ix3 (0 : Fin 1) s j) = ((A.pv s j : ℝ) : EReal) := by
  pointwise [val_main_v7, val_main_v4, val_main_v3]
  exact H.h2 _ _

theorem v14_val (s : Fin 8192) :
    val_main_v14 (F := Ideal) x2 (ix3 (0 : Fin 1) s (0 : Fin 1)) = ((A.ms s : ℝ) : EReal) := by
  pointwise [val_main_v14, val_main_v13, val_main_v12, val_main_v11, val_main_v10, val_main_v9, val_main_v8, val_main_cst, val_main_cst_0, val_main_cst_1]
  simp only [v7_val H, ← EReal.coe_mul, sum_coe]
  rw [word_2048, word_eps, div_real _ _ (by norm_num), ← EReal.coe_add]
  rfl

theorem v15_val (s : Fin 8192) :
    val_main_v15 (F := Ideal) x2 (ix3 (0 : Fin 1) s (0 : Fin 1)) = ((A.r s : ℝ) : EReal) := by
  pointwise [val_main_v15]
  rw [v14_val H]
  exact rsqrt_pos _ (A.ms_pos s)

theorem v18_val (s : Fin 8192) :
    val_main_v18 (F := Ideal) x2 (ix3 (0 : Fin 1) s (0 : Fin 1)) = ((-(1 / 2) * (A.r s / A.ms s) : ℝ) : EReal) := by
  pointwise [val_main_v18, val_main_v17, val_main_v16, val_main_cst_2]
  rw [v14_val H, v15_val H, word_neg_half, div_real _ _ (A.ms_pos s).ne', ← EReal.coe_mul]

theorem v20_val (s : Fin 8192) (j : Fin 2048) :
    val_main_v20 (F := Ideal) x2 (ix3 (0 : Fin 1) s j) = ((A.pvn s j : ℝ) : EReal) := by
  pointwise [val_main_v20, val_main_v19]
  rw [v7_val H, v15_val H, ← EReal.coe_mul]
  rfl

theorem v23_val (s : Fin 8192) (j : Fin 2048) :
    val_main_v23 (F := Ideal) x2 x3 (ix3 (0 : Fin 1) s j) = ((A.v s j : ℝ) : EReal) := by
  pointwise [val_main_v23, val_main_v22, val_main_v21, val_main_v5]
  rw [v20_val H, H.h3, ← EReal.coe_mul]
  rfl

theorem v25_val (n : Fin 64) (a : Fin 128) (g : Fin 8) (d : Fin 256) :
    val_main_v25 (F := Ideal) x2 x3 (ix5 (0 : Fin 1) n a g d) = ((A.v (row n a) (col g d) : ℝ) : EReal) := by
  pointwise [val_main_v25]
  rw [row_mk, col_mk]
  exact v23_val H _ _

/-- The causal weights. -/
theorem v30_0_val (g : Fin 8) (a b : Fin 128) :
    val_main_v30_0 (F := Ideal) x4 (ix3 g a b) = ((A.wf g a b : ℝ) : EReal) := by
  pointwise [val_main_v30_0, val_main_v29, val_main_v30_1, val_main_v28, val_main_v27, val_main_v26, val_main_call0_v0, val_main_call0_v1, val_main_call0_v2, val_main_call0_v3, val_main_call0_v4, val_main_call0_v5, val_main_call0_c, val_main_call0_c_0, val_main_c, val_main_call1_cst, val_main_cst_3]
  rw [show IntOp.addi (BitVec.ofNat 32 a.val) 0#32 = BitVec.ofNat 32 a.val from BitVec.add_zero _, sge_iff, H.h4]
  unfold Args.wf
  by_cases h : b ≤ a
  · rw [if_pos h, if_pos h]; rfl
  · rw [if_neg h, if_neg h]; rfl

/-- The mixed columns. -/
theorem v36_val (n : Fin 64) (a : Fin 128) (g : Fin 8) (d : Fin 256) :
    val_main_v36 (F := Ideal) x2 x3 x4 x5 (ix5 (0 : Fin 1) n a g d) = ((A.mix n a g d : ℝ) : EReal) := by
  pointwise [val_main_v36, val_main_v35, val_main_v34, val_main_v33, val_main_v32, val_main_v31]
  simp only [v25_val H, v30_0_val H, H.h5, ← EReal.coe_mul, sum_coe, ← EReal.coe_add]
  refine congrArg _ (congrArg (· + _) (Finset.sum_congr rfl fun b _ => mul_comm _ _))

theorem v37_val (n : Fin 64) (a : Fin 128) (g : Fin 8) (d : Fin 256) :
    val_main_v37 (F := Ideal) x2 x3 x4 x5 (ix3 (0 : Fin 1) (row n a) (col g d)) = ((A.mix n a g d : ℝ) : EReal) := by
  pointwise [val_main_v37]
  rw [row_div, row_mod, col_div, col_mod]
  exact v36_val H n a g d

theorem v6_val (n : Fin 64) (a : Fin 128) (g : Fin 8) (d : Fin 256) :
    val_main_v6 (F := Ideal) x2 (ix3 (0 : Fin 1) (row n a) (col g d)) = ((A.u n a g d : ℝ) : EReal) := by
  pointwise [val_main_v6, val_main_v4, val_main_v3]
  exact H.h2 _ _

theorem v24_val (n : Fin 64) (a : Fin 128) (g : Fin 8) (d : Fin 256) :
    val_main_v24 (F := Ideal) x2 (ix3 (0 : Fin 1) (row n a) (col g d)) = ((A.z n a g d : ℝ) : EReal) := by
  pointwise [val_main_v24, val_main_v4, val_main_v3]
  refine Eq.trans ?_ (H.h2 (row n a) ⟨4096 + 256 * g.val + d.val, by omega⟩)
  exact congrArg (fun k => x2 (ix2 (row n a) k)) (Fin.ext (by show 4096 + (256 * g.val + d.val) = 4096 + 256 * g.val + d.val; omega))

theorem v39_2_val (n : Fin 64) (a : Fin 128) (g : Fin 8) (d : Fin 256) :
    val_main_v39_2 (F := Ideal) x2 (ix3 (0 : Fin 1) (row n a) (col g d)) = ((A.sg n a g d : ℝ) : EReal) := by
  pointwise [val_main_v39_2, val_main_call2_v0, val_main_call2_v1, val_main_call2_cst, val_main_call2_v2, val_main_call2_v3, val_main_call2_v4, val_main_call2_cst_0]
  rw [v24_val H, ← zero_sub]
  exact logistic_real _

theorem v39_1_val (n : Fin 64) (a : Fin 128) (g : Fin 8) (d : Fin 256) :
    val_main_v39_1 (F := Ideal) x2 (ix3 (0 : Fin 1) (row n a) (col g d)) = ((A.sg n a g d * (1 - A.sg n a g d) : ℝ) : EReal) := by
  pointwise [val_main_v39_1, val_main_call2_cst_1, val_main_call2_v6, val_main_call2_v7]
  rw [v39_2_val H, show (1 : EReal) = ((1 : ℝ) : EReal) from rfl, ← EReal.coe_sub, ← EReal.coe_mul]

theorem v39_0_val (n : Fin 64) (a : Fin 128) (g : Fin 8) (d : Fin 256) :
    val_main_v39_0 (F := Ideal) x2 (ix3 (0 : Fin 1) (row n a) (col g d)) = ((A.sz n a g d : ℝ) : EReal) := by
  pointwise [val_main_v39_0]
  rw [v24_val H, v39_2_val H, ← EReal.coe_mul]
  rfl

/-- The gated product's cotangent. -/
theorem v42_val (s : Fin 8192) (j : Fin 2048) :
    val_main_v42 (F := Ideal) x0 x1 (ix3 (0 : Fin 1) s j) = ((A.dy s j : ℝ) : EReal) := by
  pointwise [val_main_v42, val_main_v2, val_main_v1, val_main_v0]
  simp only [H.h0, H.h1, ← EReal.coe_mul, sum_coe]
  rfl

theorem v43_val (n : Fin 64) (a : Fin 128) (g : Fin 8) (d : Fin 256) :
    val_main_v43 (F := Ideal) x0 x1 x2 x3 x4 x5 (ix3 (0 : Fin 1) (row n a) (col g d)) = ((A.u n a g d * A.mix n a g d * A.dy (row n a) (col g d) : ℝ) : EReal) := by
  pointwise [val_main_v43, val_main_v38]
  rw [v6_val H, v37_val H, v42_val H, ← EReal.coe_mul, ← EReal.coe_mul]

theorem v44_val (n : Fin 64) (a : Fin 128) (g : Fin 8) (d : Fin 256) :
    val_main_v44 (F := Ideal) x0 x1 x2 (ix3 (0 : Fin 1) (row n a) (col g d)) = ((A.dy (row n a) (col g d) * A.sz n a g d : ℝ) : EReal) := by
  pointwise [val_main_v44]
  rw [v42_val H, v39_0_val H, ← EReal.coe_mul]

theorem v45_val (n : Fin 64) (a : Fin 128) (g : Fin 8) (d : Fin 256) :
    val_main_v45 (F := Ideal) x0 x1 x2 x3 x4 x5 (ix3 (0 : Fin 1) (row n a) (col g d)) = ((A.dz n a g d : ℝ) : EReal) := by
  pointwise [val_main_v45, val_main_call3_v0, val_main_call3_v1, val_main_call3_v2]
  rw [v43_val H, v24_val H, v39_2_val H, v39_1_val H]
  simp only [← EReal.coe_mul, ← EReal.coe_add]
  refine congrArg _ ?_
  unfold Args.dz
  ring

theorem v46_val (n : Fin 64) (a : Fin 128) (g : Fin 8) (d : Fin 256) :
    val_main_v46 (F := Ideal) x0 x1 x2 (ix3 (0 : Fin 1) (row n a) (col g d)) = ((A.dmix n a g d : ℝ) : EReal) := by
  pointwise [val_main_v46]
  rw [v6_val H, v44_val H, ← EReal.coe_mul]
  refine congrArg _ ?_
  unfold Args.dmix
  ring

theorem v47_val (n : Fin 64) (a : Fin 128) (g : Fin 8) (d : Fin 256) :
    val_main_v47 (F := Ideal) x0 x1 x2 x3 x4 x5 (ix3 (0 : Fin 1) (row n a) (col g d)) = ((A.du n a g d : ℝ) : EReal) := by
  pointwise [val_main_v47]
  rw [v44_val H, v37_val H, ← EReal.coe_mul]
  refine congrArg _ ?_
  unfold Args.du
  ring

theorem v48_val (n : Fin 64) (a : Fin 128) (g : Fin 8) (d : Fin 256) :
    val_main_v48 (F := Ideal) x0 x1 x2 (ix5 (0 : Fin 1) n a g d) = ((A.dmix n a g d : ℝ) : EReal) := by
  pointwise [val_main_v48]
  rw [row_mk, col_mk]
  exact v46_val H n a g d

theorem v56_val (n : Fin 64) (a : Fin 128) (g : Fin 8) (d : Fin 256) :
    val_main_v56 (F := Ideal) x0 x1 x2 x4 (ix5 (0 : Fin 1) n a g d) = ((A.dv n a g d : ℝ) : EReal) := by
  pointwise [val_main_v56, val_main_v55, val_main_v53]
  simp only [v48_val H, v30_0_val H, ← EReal.coe_mul, sum_coe]
  exact congrArg _ (Finset.sum_congr rfl fun x _ => mul_comm _ _)

theorem v58_val (n : Fin 64) (a : Fin 128) (g : Fin 8) (d : Fin 256) :
    val_main_v58 (F := Ideal) x0 x1 x2 x4 (ix3 (0 : Fin 1) (row n a) (col g d)) = ((A.dv n a g d : ℝ) : EReal) := by
  pointwise [val_main_v58]
  rw [row_div, row_mod, col_div, col_mod]
  exact v56_val H n a g d

theorem v64_val (n : Fin 64) (a : Fin 128) (g : Fin 8) (d : Fin 256) :
    val_main_v64 (F := Ideal) x0 x1 x2 x3 x4 (ix3 (0 : Fin 1) (row n a) (col g d)) = ((A.dv n a g d * A.G (col g d) : ℝ) : EReal) := by
  pointwise [val_main_v64, val_main_v63, val_main_v21, val_main_v5]
  rw [v58_val H, H.h3, ← EReal.coe_mul]

theorem v73_val (n : Fin 64) (a : Fin 128) :
    val_main_v73 (F := Ideal) x0 x1 x2 x3 x4 (ix3 (0 : Fin 1) (row n a) (0 : Fin 1)) = (((∑ g, ∑ d, A.pv (row n a) (col g d) * (A.dv n a g d * A.G (col g d))) * (-(1 / 2) * (A.r (row n a) / A.ms (row n a))) / 2048 : ℝ) : EReal) := by
  pointwise [val_main_v73, val_main_v72, val_main_v71, val_main_v68, val_main_v67, val_main_v66, val_main_cst_9, val_main_cst_10]
  simp only [sum_col, v7_val H, v64_val H, v18_val H, ← EReal.coe_mul, sum_coe]
  rw [word_2048, div_real _ _ (by norm_num)]

theorem v74_val (n : Fin 64) (a : Fin 128) :
    val_main_v74 (F := Ideal) x0 x1 x2 x3 x4 (ix1 (row n a)) = (((∑ g, ∑ d, A.pv (row n a) (col g d) * (A.dv n a g d * A.G (col g d))) * (-(1 / 2) * (A.r (row n a) / A.ms (row n a))) / 2048 : ℝ) : EReal) := by
  unfold val_main_v74
  rw [ValueIdx.hostReduceAdd_apply, sum_02, v73_val H]
  pointwise [val_main_cst_11]

omit H in
/-- The normalisation's gradient, as the derivative of the reciprocal square root has it. -/
theorem _root_.Cert.Spec.Args.dm_two (A : Args) (n : Fin 64) (a : Fin 128) (g : Fin 8) (d : Fin 256) :
    A.dv n a g d * A.G (col g d) * A.r (row n a)
      + A.pv (row n a) (col g d) * ((∑ g, ∑ d, A.pv (row n a) (col g d) * (A.dv n a g d * A.G (col g d)))
          * (-(1 / 2) * (A.r (row n a) / A.ms (row n a))) / 2048)
      + (∑ g, ∑ d, A.pv (row n a) (col g d) * (A.dv n a g d * A.G (col g d)))
          * (-(1 / 2) * (A.r (row n a) / A.ms (row n a))) / 2048 * A.pv (row n a) (col g d) = A.dm n a g d := by
  have hi : A.ip n a = A.r (row n a) * ∑ g, ∑ d, A.pv (row n a) (col g d) * (A.dv n a g d * A.G (col g d)) := by
    unfold Args.ip Args.pvn
    rw [Finset.mul_sum]
    refine Finset.sum_congr rfl fun g _ => ?_
    rw [Finset.mul_sum]
    exact Finset.sum_congr rfl fun d _ => by ring
  have hr : A.r (row n a) / A.ms (row n a) = A.r (row n a) * A.r (row n a) * A.r (row n a) := by
    have h2 : A.r (row n a) * A.r (row n a) = (A.ms (row n a))⁻¹ := by
      unfold Args.r
      rw [← mul_inv, Real.mul_self_sqrt (A.ms_pos _).le]
    rw [mul_assoc, h2, div_eq_mul_inv]
  unfold Args.dm
  rw [hi, hr]
  unfold Args.pvn
  ring

theorem v80_val (n : Fin 64) (a : Fin 128) (g : Fin 8) (d : Fin 256) :
    val_main_v80 (F := Ideal) x0 x1 x2 x3 x4 (ix3 (0 : Fin 1) (row n a) (col g d)) = ((A.dm n a g d : ℝ) : EReal) := by
  pointwise [val_main_v80, val_main_v79, val_main_v78, val_main_v77, val_main_v76, val_main_v75, val_main_v70, val_main_v69]
  rw [v64_val H, v15_val H, v7_val H, v74_val H]
  simp only [← EReal.coe_mul, ← EReal.coe_add]
  exact congrArg _ (A.dm_two n a g d)

/-! ## The results -/

theorem v57_val (g : Fin 8) (a b : Fin 128) :
    val_main_v57 (F := Ideal) x0 x1 x2 x3 (ix3 g a b) = ((A.dws g a b : ℝ) : EReal) := by
  have hd : val_main_v54 (F := Ideal) x0 x1 x2 x3 (ix3 g a b) = ((∑ n, A.dwsC n g a b : ℝ) : EReal) := by
    pointwise [val_main_v54]
    refine (dot_dw _ _ _ g a b).trans ?_
    simp only [v25_val H]
    pointwise [val_main_v53]
    simp only [v48_val H, ← EReal.coe_mul, sum_coe]
    rfl
  pointwise [val_main_v57, val_main_call4_v0, val_main_call4_cst, val_main_v30_1, val_main_v28, val_main_v27, val_main_v26, val_main_call0_v0, val_main_call0_v1, val_main_call0_v2, val_main_call0_v3, val_main_call0_v4, val_main_call0_v5, val_main_call0_c, val_main_call0_c_0, val_main_c]
  rw [show IntOp.addi (BitVec.ofNat 32 a.val) 0#32 = BitVec.ofNat 32 a.val from BitVec.add_zero _, sge_iff, hd]
  unfold Args.dws
  by_cases h : b ≤ a
  · rw [if_pos h, if_pos h]; rfl
  · rw [if_neg h, if_neg h]; rfl

theorem v87_val (a : Fin 128) (g : Fin 8) :
    val_main_v87 (F := Ideal) x0 x1 x2 (ix2 a g) = ((A.dbs a g : ℝ) : EReal) := by
  pointwise [val_main_v87, val_main_v52]
  unfold val_main_v51
  rw [ValueIdx.hostReduceAdd_apply, sum_014]
  pointwise [val_main_v50, val_main_cst_5]
  unfold val_main_v49
  rw [ValueIdx.hostReduceAdd_apply, sum_14]
  simp only [v48_val H, sum_coe]
  pointwise [val_main_cst_4]
  rfl

theorem v88_val (g : Fin 8) (d : Fin 256) :
    val_main_v88 (F := Ideal) x0 x1 x2 x4 (ix2 (0 : Fin 1) (col g d)) = ((A.dvg g d : ℝ) : EReal) := by
  pointwise [val_main_v88]
  unfold val_main_v65
  rw [ValueIdx.hostReduceAdd_apply, sum_01]
  pointwise [val_main_v62, val_main_v61, val_main_v60, val_main_cst_7, val_main_cst_8]
  simp only [sum_row, v20_val H, v58_val H, ← EReal.coe_mul, sum_coe]
  exact congrArg _ (Finset.sum_congr rfl fun n _ => Finset.sum_congr rfl fun a _ => mul_comm _ _)

theorem v86_val (n : Fin 64) (a : Fin 128) (k : Fin 6144) :
    val_main_v86 (F := Ideal) x0 x1 x2 x3 x4 x5 (ix2 (row n a) k) = ((A.dp n a k : ℝ) : EReal) := by
  pointwise [val_main_v86, val_main_v85, val_main_v84, val_main_v83, val_main_v82, val_main_v81, val_main_v59, val_main_cst_6, val_main_cst_12, val_main_cst_13]
  by_cases h1 : k.val < 2048
  · obtain ⟨g, d, hj⟩ := col_surj ⟨k.val, h1⟩
    have hk : k = ⟨256 * g.val + d.val, by omega⟩ := Fin.ext (congrArg Fin.val hj).symm
    rw [dif_neg (by omega), dif_neg (by omega), dif_pos h1, ← hj, v47_val H, zero_add, zero_add, hk, A.dp_u]
  · by_cases h2 : k.val < 4096
    · obtain ⟨g, d, hj⟩ := col_surj ⟨k.val - 2048, by omega⟩
      have hk : k = ⟨2048 + (256 * g.val + d.val), by omega⟩ := Fin.ext (by have := congrArg Fin.val hj; change 256 * g.val + d.val = k.val - 2048 at this; show k.val = 2048 + (256 * g.val + d.val); omega)
      rw [dif_neg (by omega), dif_pos (by omega), dif_neg h1, ← hj, v80_val H, zero_add, add_zero, hk, A.dp_m]
    · obtain ⟨g, d, hj⟩ := col_surj ⟨k.val - 4096, by omega⟩
      have hk : k = ⟨4096 + 256 * g.val + d.val, by omega⟩ := Fin.ext (by have := congrArg Fin.val hj; change 256 * g.val + d.val = k.val - 4096 at this; show k.val = 4096 + 256 * g.val + d.val; omega)
      rw [dif_pos (by omega), dif_neg (by omega), dif_neg h1, ← hj, v45_val H, add_zero, add_zero, hk, A.dp_z]

end Cert.ReferenceIdeal.Values

end
-- ==== Proof.Finite.lean ====
/- Arguments that satisfy the precondition hold real numbers. -/
module

public import proofs.«01_k».proof.Pre_finite
public import proofs.«01_k».proof.Proof.Spec
public import Idealize.ShloMosaic.Lib.Pipeline.ValueKit
public import Idealize.ShloMosaic.Lib.Pointwise

@[expose] public section
set_option maxRecDepth 16384
noncomputable section
open Idealize.ShloMosaic Idealize.ShloMosaic.TcCoe Idealize.SL.Sem
namespace Cert.Finite
open Cert.Spec

theorem facts : Cert.Pre_finite.Facts where
  bitsLt_bf16_f32 := by decide
  bcast_S_S8192x1024 := by decide
  bcast_S_S2048x1024 := by decide
  bcast_S_S8192x6144 := by decide
  bcast_S_S1x2048 := by decide
  bcast_S_S8x128x128 := by decide
  bcast_S_S8x128 := by decide

/-- An extended real whose absolute value is below the infinity's pattern is a real number. -/
theorem real_of_lt {φ : FTy} (x : Ideal φ) (h : BitVec.ofBool (decide (FloatOps.absf x < Ideal.ofBits .f32 0x7F800000#32)) = 1#1) :
    (x : EReal) = ((EReal.toReal x : ℝ) : EReal) := by
  rw [word_inf] at h
  have h' : max (x : EReal) (-x) < ⊤ := by
    by_contra hn
    have : BitVec.ofBool (decide (max (x : EReal) (-x) < ⊤)) = 1#1 := h
    rw [decide_eq_false hn] at this
    exact absurd this (by decide)
  refine (EReal.coe_toReal ?_ ?_).symm
  · rintro e
    rw [e] at h'
    simp at h'
  · rintro e
    rw [e] at h'
    simp at h'

open Cert.Pre_finite

section
variable [Facts] {x0 : FVec Ideal S8192x1024 .bf16} {x1 : FVec Ideal S2048x1024 .bf16} {x2 : FVec Ideal S8192x6144 .bf16} {x3 : FVec Ideal S1x2048 .f32}
  {x4 : FVec Ideal S8x128x128 .f32} {x5 : FVec Ideal S8x128 .f32}

/-- The real numbers the arguments hold. -/
def args (x0 : FVec Ideal S8192x1024 .bf16) (x1 : FVec Ideal S2048x1024 .bf16) (x2 : FVec Ideal S8192x6144 .bf16) (x3 : FVec Ideal S1x2048 .f32)
    (x4 : FVec Ideal S8x128x128 .f32) (x5 : FVec Ideal S8x128 .f32) : Args where
  D s k := EReal.toReal (x0 (ix2 s k))
  W j k := EReal.toReal (x1 (ix2 j k))
  P s k := EReal.toReal (x2 (ix2 s k))
  G j := EReal.toReal (x3 (ix2 (0 : Fin 1) j))
  S g a b := EReal.toReal (x4 (ix3 g a b))
  B g a := EReal.toReal (x5 (ix2 g a))

theorem real0 (h : (fn x0 x1 x2 x3 x4 x5).1 = fun _ => 1#1) (i : S8192x1024.Idx) : (x0 i : EReal) = ((EReal.toReal (x0 i) : ℝ) : EReal) := by
  refine real_of_lt _ (Eq.trans ?_ (congrFun h i))
  pointwise [fn, fn_part1]
  rfl
theorem real1 (h : (fn x0 x1 x2 x3 x4 x5).2.1 = fun _ => 1#1) (i : S2048x1024.Idx) : (x1 i : EReal) = ((EReal.toReal (x1 i) : ℝ) : EReal) := by
  refine real_of_lt _ (Eq.trans ?_ (congrFun h i))
  pointwise [fn, fn_part1]
  rfl
theorem real2 (h : (fn x0 x1 x2 x3 x4 x5).2.2.1 = fun _ => 1#1) (i : S8192x6144.Idx) : (x2 i : EReal) = ((EReal.toReal (x2 i) : ℝ) : EReal) := by
  refine real_of_lt _ (Eq.trans ?_ (congrFun h i))
  pointwise [fn, fn_part1]
  rfl
theorem real3 (h : (fn x0 x1 x2 x3 x4 x5).2.2.2.1 = fun _ => 1#1) (i : S1x2048.Idx) : (x3 i : EReal) = ((EReal.toReal (x3 i) : ℝ) : EReal) := by
  refine real_of_lt _ (Eq.trans ?_ (congrFun h i))
  pointwise [fn, fn_part1]
theorem real4 (h : (fn x0 x1 x2 x3 x4 x5).2.2.2.2.1 = fun _ => 1#1) (i : S8x128x128.Idx) : (x4 i : EReal) = ((EReal.toReal (x4 i) : ℝ) : EReal) := by
  refine real_of_lt _ (Eq.trans ?_ (congrFun h i))
  pointwise [fn, fn_part1]
theorem real5 (h : (fn x0 x1 x2 x3 x4 x5).2.2.2.2.2 = fun _ => 1#1) (i : S8x128.Idx) : (x5 i : EReal) = ((EReal.toReal (x5 i) : ℝ) : EReal) := by
  refine real_of_lt _ (Eq.trans ?_ (congrFun h i))
  pointwise [fn, fn_part1]
end

end Cert.Finite

end
-- ==== Proof.Algebraic.lean ====
/- The kernel's results and the reference's are the same real numbers. -/
module

public import proofs.«01_k».proof.Defs
public import proofs.«01_k».proof.Proof.Final
public import proofs.«01_k».proof.Proof.Gen.ReferenceIdeal.Run
public import proofs.«01_k».proof.Proof.RefVals
public import proofs.«01_k».proof.Proof.Finite
public import Idealize.ShloMosaic.Lib.Claim

@[expose] public section
set_option maxRecDepth 16384
noncomputable section
open Idealize.ShloMosaic Idealize.ShloMosaic.TcCoe Idealize.SL.Sem
namespace Cert.Proof
open Cert.Spec

/-- Two arrays of two axes that agree at every pair of coordinates are equal. -/
theorem ext2 {n0 n1 : ℕ} {α : Type} {f f' : (⟨2, ![n0, n1]⟩ : Shape).Idx → α} (h : ∀ a b, f (ix2 a b) = f' (ix2 a b)) : f = f' :=
  funext fun i => by rw [ValueIdx.eq_ix2 i]; exact h _ _
theorem ext3 {n0 n1 n2 : ℕ} {α : Type} {f f' : (⟨3, ![n0, n1, n2]⟩ : Shape).Idx → α} (h : ∀ a b c, f (ix3 a b c) = f' (ix3 a b c)) : f = f' :=
  funext fun i => by rw [ValueIdx.eq_ix3 i]; exact h _ _ _

attribute [local instance] Cert.KernelIdeal.Gen.facts Cert.ReferenceIdeal.Gen.facts Cert.Finite.facts

section
open Cert.ReferenceIdeal Cert.ReferenceIdeal.Read Cert.ReferenceIdeal.Values Cert.KernelIdeal.Value
variable {x0 : FVec Ideal S8192x1024 .bf16} {x1 : FVec Ideal S2048x1024 .bf16} {x2 : FVec Ideal S8192x6144 .bf16} {x3 : FVec Ideal S1x2048 .f32}
  {x4 : FVec Ideal S8x128x128 .f32} {x5 : FVec Ideal S8x128 .f32} {A : Args} (H : Values.Holds A x0 x1 x2 x3 x4 x5)
include H

theorem ref_dp : val_main_v86 (F := Ideal) x0 x1 x2 x3 x4 x5 = dpArr A := by
  refine ext2 fun s k => ?_
  obtain ⟨n, a, rfl⟩ := row_surj s
  refine (v86_val H n a k).trans ?_
  exact congrArg (fun x : ℝ => (x : EReal)) (congrArg₂ (fun n a => A.dp n a k) (row_div n a (by omega)).symm (row_mod n a (by omega)).symm)
theorem ref_dws : val_main_v57 (F := Ideal) x0 x1 x2 x3 = dwsArr A :=
  ext3 fun g a b => v57_val H g a b
theorem ref_dbs : val_main_v87 (F := Ideal) x0 x1 x2 = dbsArr A :=
  ext2 fun a g => v87_val H a g
theorem ref_dvg : val_main_v88 (F := Ideal) x0 x1 x2 x4 = dvgArr A := by
  refine ext2 fun o j => ?_
  obtain ⟨g, d, rfl⟩ := col_surj j
  obtain rfl : o = 0 := Subsingleton.elim _ _
  refine (v88_val H g d).trans ?_
  exact congrArg (fun x : ℝ => (x : EReal)) (congrArg₂ A.dvg (col_div g d (by omega)).symm (col_mod g d (by omega)).symm)
end

section
open Cert.KernelIdeal Cert.KernelIdeal.Value
variable {m : (ℓ : Loc nD τ sig) → Buf (Elt Ideal) ℓ} (hpre : Cert.Pre_KernelIdeal_finite m) (c : Dev nD)
include hpre

/-- The real numbers a device's arguments hold. -/
abbrev argsOf (m : (ℓ : Loc nD τ sig) → Buf (Elt Ideal) ℓ) (c : Dev nD) : Args :=
  Cert.Finite.args (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

theorem holdsK : Cert.KernelIdeal.Value.Holds (argsOf m c) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) :=
  have h := hpre c
  ⟨fun _ _ => Cert.Finite.real0 h.1 _, fun _ _ => Cert.Finite.real1 h.2.1 _, fun _ _ => Cert.Finite.real2 h.2.2.1 _,
    fun _ => Cert.Finite.real3 h.2.2.2.1 _, fun _ _ _ => Cert.Finite.real4 h.2.2.2.2.1 _, fun _ _ => Cert.Finite.real5 h.2.2.2.2.2 _⟩

theorem holdsR : Cert.ReferenceIdeal.Values.Holds (argsOf m c) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) :=
  have h := holdsK hpre c
  ⟨h.h0, h.h1, h.h2, h.h3, h.h4, h.h5⟩
end

open Cert.KernelIdeal.Value in
theorem algebraic : Cert.algebraic_KernelIdeal_ReferenceIdeal_pre_finite := by
  pair_intro
  · run_from Cert.KernelIdeal.Gen.run_main m g
  · run_from Cert.ReferenceIdeal.Value.run m' g'
    · refine (Cert.ReferenceIdeal.Read.val_main_v86_eq m' c).trans ?_
      obtain ⟨a0, a1, a2, a3, a4, a5⟩ := hagree c
      rw [a0, a1, a2, a3, a4, a5]
      exact (ref_dp (holdsR hpre c)).trans (final6 m c (holdsK hpre c)).symm
    · exact (Cert.ReferenceIdeal.Read.val_main_v57_eq _ _ _ _).trans ((ref_dws (holdsR hpre c)).trans (final7 m c (holdsK hpre c)).symm)
    · exact (Cert.ReferenceIdeal.Read.val_main_v87_eq _ _ _).trans ((ref_dbs (holdsR hpre c)).trans (final8 m c (holdsK hpre c)).symm)
    · exact (Cert.ReferenceIdeal.Read.val_main_v88_eq _ _ _ _).trans ((ref_dvg (holdsR hpre c)).trans (final9 m c (holdsK hpre c)).symm)

end Cert.Proof

end
-- ==== Proof.DwIn2.lean ====
/- The gradient of a projection's weights: the kernel's sum over two halves of the tokens is the reference's product. -/
module

public import proofs.«01_k».proof.Proof.Gen.Kernel2Ideal.Value
public import proofs.«01_k».proof.Proof.Gen.Reference2Ideal.Read
public import Idealize.ShloMosaic.Lib.Pipeline.ValueKit
public import Idealize.ShloMosaic.Lib.Pointwise
public import Idealize.ShloMosaic.Lib.Pipeline.ReadBack
public import Idealize.ShloMosaic.Lib.IdealHost

@[expose] public section
set_option maxRecDepth 16384
noncomputable section
open Idealize.ShloMosaic Idealize.ShloMosaic.TcCoe Idealize.SL.Sem
open Idealize.ShloMosaic.Pipeline (Dat)
open scoped BigOperators
namespace Cert.Kernel2Ideal.Value
open Cert.Kernel2Ideal Cert.Kernel2Ideal.Gen
variable (m : (ℓ : Loc nD τ sig) → Buf (Elt Ideal) ℓ)

theorem outA (c : Dev nD) (t : Fin cfg0.N) (h : t.val % 2 = 0) :
    outsAt0 m c t.val t.isLt = k0_pay2 (F := Ideal) (k0_pay1 (F := Ideal)) (iblk m c 0 t) (iblk m c 1 t) := by
  rw [outsAt0_A m c t h]
  frame_out [View.readCov_cons_toLoadRect, ↓View.readCov_skip, ↓View.readCov_fill]
theorem outB (c : Dev nD) (t : Fin cfg0.N) (h : ¬ t.val % 2 = 0) :
    outsAt0 m c t.val t.isLt = k0_pay2 (F := Ideal) (outsAt0 m c (t.val - 1) (Nat.lt_of_le_of_lt (Nat.sub_le _ _) t.isLt)) (iblk m c 0 t) (iblk m c 1 t) := by
  rw [outsAt0_B m c t h]
  frame_out [View.readCov_cons_toLoadRect, ↓View.readCov_skip, ↓View.readCov_fill]

theorem idx : ∀ t : Fin cfg0.N, win0_0.index t = ![t.val % 2, 0] ∧ win0_1.index t = ![t.val % 2, t.val / 2]
    ∧ win0_2.index t = ![t.val / 2 % 2 * 4 + t.val / 4, 0, 0] ∧ (grid0.coords t 0).val = t.val / 2 :=
  (by decide +kernel : ∀ t : Fin grid0.N, _)

theorem lt16 (t : Fin cfg0.N) : t.val < 16 := lt_of_lt_of_eq t.isLt N_0

theorem pay2_at (X : FVec Ideal S1x1024x1280 .f32) (a : FVec Ideal S4096x1024 .bf16) (b : FVec Ideal S4096x1280 .bf16) (k : Fin 1024) (l : Fin 1280) :
    k0_pay2 (F := Ideal) X a b (ix3 (0 : Fin 1) k l) = X (ix3 (0 : Fin 1) k l) + ∑ s : Fin 4096, a (ix2 s k) * b (ix2 s l) := by
  pointwise [k0_pay2]

theorem pay1_at (k : Fin 1024) (l : Fin 1280) : k0_pay1 (F := Ideal) (ix3 (0 : Fin 1) k l) = 0 := by
  pointwise [k0_pay1]

/-- The product over all the tokens. -/
def dw (h : FVec Ideal S8192x1024 .bf16) (d : FVec Ideal S8192x10240 .bf16) (k : Fin 1024) (n : Fin 10240) : EReal :=
  ∑ s : Fin 8192, h (ix2 s k) * d (ix2 s n)

theorem blk0 (c : Dev nD) (t : Fin cfg0.N) (s : Fin 4096) (k : Fin 1024) :
    iblk m c 0 t (ix2 s k) = m ((c : Thread nD τ).loc main_arg0) (ix2 (⟨4096 * (t.val % 2) + s.val, by omega⟩ : Fin 8192) k) := by
  blk_ext [iblk, V, idx t]
theorem blk1 (c : Dev nD) (t : Fin cfg0.N) (s : Fin 4096) (l : Fin 1280) :
    iblk m c 1 t (ix2 s l) = m ((c : Thread nD τ).loc main_arg1)
      (ix2 (⟨4096 * (t.val % 2) + s.val, by omega⟩ : Fin 8192) (⟨1280 * (t.val / 2) + l.val, by have := lt16 t; omega⟩ : Fin 10240)) := by
  blk_ext [iblk, V, idx t]

theorem halves (f : Fin 8192 → EReal) : ∑ s, f s = (∑ s : Fin 4096, f ⟨s.val, by omega⟩) + ∑ s : Fin 4096, f ⟨4096 + s.val, by omega⟩ :=
  Fin.sum_univ_add (a := 4096) (b := 4096) f

theorem odd_at (c : Dev nD) (t : Fin cfg0.N) (h : t.val % 2 = 1) (k : Fin 1024) (l : Fin 1280) :
    outsAt0 m c t.val t.isLt (ix3 (0 : Fin 1) k l)
      = dw (m ((c : Thread nD τ).loc main_arg0)) (m ((c : Thread nD τ).loc main_arg1)) k ⟨1280 * (t.val / 2) + l.val, by have := lt16 t; omega⟩ := by
  have ht := lt16 t
  have hp := outA m c ⟨t.val - 1, Nat.lt_of_le_of_lt (Nat.sub_le _ _) t.isLt⟩ (by show (t.val - 1) % 2 = 0; omega)
  rw [outB m c t (by omega), pay2_at]
  refine (congrArg (· + _) ((congrFun hp _).trans (pay2_at _ _ _ k l))).trans ?_
  rw [pay1_at, zero_add, dw, halves]
  refine congrArg₂ (· + ·) (Finset.sum_congr rfl fun s _ => ?_) (Finset.sum_congr rfl fun s _ => ?_)
  · rw [blk0, blk1]
    have e1 : (t.val - 1) % 2 = 0 := by omega
    have e2 : (t.val - 1) / 2 = t.val / 2 := by omega
    simp only [e1, e2, Nat.mul_zero, Nat.zero_add]
  · rw [blk0, blk1]
    simp only [h, Nat.mul_one]

/-- The array of the gradients: slot q holds device 2 (q mod 4) + q / 4. -/
def dwArr (h : FVec Ideal S8192x1024 .bf16) (d : FVec Ideal S8192x10240 .bf16) : FVec Ideal S8x1024x1280 .f32 := fun i =>
  dw h d (i 1) ⟨1280 * (2 * ((i 0).val % 4) + (i 0).val / 4) + (i 2).val, by
    have h0 : (i 0).val < 8 := (i 0).isLt
    have h2 : (i 2).val < 1280 := (i 2).isLt
    omega⟩

theorem slot (n : ℕ) (h : n < 16) : 2 * ((n / 2 % 2 * 4 + n / 4) % 4) + (n / 2 % 2 * 4 + n / 4) / 4 = n / 2 := by
  interval_cases n <;> rfl

theorem final (c : Dev nD) : (dats m 0 c).arrAt 2 cfg0.N = dwArr (m ((c : Thread nD τ).loc main_arg0)) (m ((c : Thread nD τ).loc main_arg1)) := by
  refine (dats m 0 c).arrAt_eq_of_covers 2 _ (by decide +kernel) fun t hf y => ?_
  have ht := lt16 t
  have hodd : t.val % 2 = 1 := (by decide +kernel : ∀ t : Fin grid0.N, (cfg0.win 2).flush t = true → t.val % 2 = 1) t hf
  blk_simp []
  rw [after0_2]
  have hy1 : (y 1).val < 1024 := (y 1).isLt
  have hy2 : (y 2).val < 1280 := (y 2).isLt
  have e0 : ((((cfg0.win 2).blk t).view.emb y) 0).val = t.val / 2 % 2 * 4 + t.val / 4 := by
    blk_simp [idx t]
  have e1 : ((((cfg0.win 2).blk t).view.emb y) 1).val = (y 1).val := by
    blk_simp [idx t]
  have e2 : ((((cfg0.win 2).blk t).view.emb y) 2).val = (y 2).val := by
    blk_simp [idx t]
  have ey : y = ix3 (0 : Fin 1) (⟨(y 1).val, hy1⟩ : Fin 1024) (⟨(y 2).val, hy2⟩ : Fin 1280) :=
    funext fun a => by match a with | ⟨0, _⟩ => exact Subsingleton.elim (α := Fin 1) _ _ | ⟨1, _⟩ => rfl | ⟨2, _⟩ => rfl
  refine ((congrArg _ ey).trans (odd_at m c t hodd ⟨_, hy1⟩ ⟨_, hy2⟩)).trans ?_
  refine congrArg₂ (dw _ _) (Fin.ext e1.symm) (Fin.ext ?_)
  show 1280 * (t.val / 2) + (y 2).val = 1280 * (2 * ((((cfg0.win 2).blk t).view.emb y 0).val % 4) + (((cfg0.win 2).blk t).view.emb y 0).val / 4)
    + (((cfg0.win 2).blk t).view.emb y 2).val
  rw [e0, e2, slot t.val ht]

end Cert.Kernel2Ideal.Value

/-! ## The reference's product -/

namespace Cert.Reference2Ideal.Values
open Cert.Reference2Ideal Cert.Reference2Ideal.Gen Cert.Reference2Ideal.Read Cert.Kernel2Ideal.Value

theorem e8 (q : Fin 8) (k : Fin 1024) (l : Fin 1280) :
    idx_main_v8 (ix3 q k l) = ix4 (⟨q.val / 4, by omega⟩ : Fin 2) (⟨q.val % 4, by omega⟩ : Fin 4) k l :=
  funext fun a => by
    match a with
    | ⟨0, _⟩ => exact Fin.ext (by show ((q.val * 1024 + k.val) * 1280 + l.val) / 5242880 = q.val / 4; omega)
    | ⟨1, _⟩ => exact Fin.ext (by show ((q.val * 1024 + k.val) * 1280 + l.val) / 1310720 % 4 = q.val % 4; omega)
    | ⟨2, _⟩ => exact Fin.ext (by show ((q.val * 1024 + k.val) * 1280 + l.val) / 1280 % 1024 = k.val; omega)
    | ⟨3, _⟩ => exact Fin.ext (by show ((q.val * 1024 + k.val) * 1280 + l.val) % 1280 = l.val; omega)
theorem e7 (b : Fin 2) (a : Fin 4) (k : Fin 1024) (l : Fin 1280) : idx_main_v7 (ix4 b a k l) = ix4 k a b l :=
  funext fun x => by match x with | ⟨0, _⟩ => rfl | ⟨1, _⟩ => rfl | ⟨2, _⟩ => rfl | ⟨3, _⟩ => rfl
theorem e6 (b : Fin 2) (a : Fin 4) (k : Fin 1024) (l : Fin 1280) :
    idx_main_v6 (ix4 k a b l) = ix2 k (⟨1280 * (2 * a.val + b.val) + l.val, by omega⟩ : Fin 10240) :=
  funext fun x => by
    match x with
    | ⟨0, _⟩ => exact Fin.ext (by show (((k.val * 4 + a.val) * 2 + b.val) * 1280 + l.val) / 10240 = k.val; omega)
    | ⟨1, _⟩ => exact Fin.ext (by show (((k.val * 4 + a.val) * 2 + b.val) * 1280 + l.val) % 10240 = 1280 * (2 * a.val + b.val) + l.val; omega)

theorem v5_at (x0 : FVec Ideal S8192x1024 .bf16) (x1 : FVec Ideal S8192x10240 .bf16) (k : Fin 1024) (n : Fin 10240) :
    val_main_v5 (F := Ideal) x0 x1 (ix2 k n) = dw x0 x1 k n := by
  rw [val_main_v5_apply, val_main_v4_apply, dw]
  refine Finset.sum_congr rfl fun s _ => ?_
  rw [mul_comm, val_main_v0_apply, val_main_v3_apply]
  have el : lidx_main_v4 (idx_main_v5 (ix2 k n)) s = ix2 s n := funext fun a => by match a with | ⟨0, _⟩ => rfl | ⟨1, _⟩ => rfl
  have er : ridx_main_v4 (idx_main_v5 (ix2 k n)) s = ix2 s k := funext fun a => by match a with | ⟨0, _⟩ => rfl | ⟨1, _⟩ => rfl
  rw [el, er]
  rfl

theorem ref (x0 : FVec Ideal S8192x1024 .bf16) (x1 : FVec Ideal S8192x10240 .bf16) : val_main_v8 (F := Ideal) x0 x1 = dwArr x0 x1 := by
  funext i
  obtain ⟨q, k, l, rfl⟩ : ∃ (q : Fin 8) (k : Fin 1024) (l : Fin 1280), i = ix3 q k l := ⟨_, _, _, ValueIdx.eq_ix3 i⟩
  rw [val_main_v8_apply, e8, val_main_v7_apply, e7, val_main_v6_apply, e6, v5_at]
  rfl
end Cert.Reference2Ideal.Values

end
-- ==== Proof.DhSpec.lean ====
/- The gradient through a row's normalisation, in the two forms that the kernel and the derivative of the reference have it. -/
module

public import proofs.«01_k».proof.Proof.Spec

@[expose] public section
noncomputable section
namespace Cert.Spec
open Idealize.ShloMosaic

theorem word_1024 : Ideal.ofBits .f32 0x44800000#32 = ((1024 : ℝ) : EReal) := by
  simp [Ideal.ofBits, Ideal.ieee, -EReal.coe_mul]; norm_num

theorem sq_nonneg' (x : EReal) : 0 ≤ x * x := by
  induction x with
  | bot => simp
  | top => simp
  | coe r => rw [← EReal.coe_mul]; exact_mod_cast mul_self_nonneg r

/-- A row is of real numbers, or its squares sum to infinity. -/
theorem row_cases {n : ℕ} (x : Fin n → EReal) : (∃ y : Fin n → ℝ, ∀ k, x k = ((y k : ℝ) : EReal)) ∨ ∑ k, x k * x k = ⊤ := by
  by_cases h : ∀ k, x k ≠ ⊤ ∧ x k ≠ ⊥
  · exact .inl ⟨fun k => (x k).toReal, fun k => (EReal.coe_toReal (h k).1 (h k).2).symm⟩
  · right
    push Not at h
    obtain ⟨k, hk⟩ := h
    have e : x k * x k = ⊤ := by
      by_cases h1 : x k = ⊤
      · rw [h1]; simp
      · rw [hk h1]; simp
    rw [← Finset.add_sum_erase _ _ (Finset.mem_univ k), e]
    refine EReal.top_add_of_ne_bot (ne_of_gt (lt_of_lt_of_le EReal.bot_lt_zero (Finset.sum_nonneg fun j _ => sq_nonneg' _)))

theorem mul_sum_pos {n : ℕ} (c : ℝ) (hc : 0 ≤ c) (f : Fin n → EReal) : ((c : ℝ) : EReal) * ∑ k, f k = ∑ k, ((c : ℝ) : EReal) * f k := by
  induction n with
  | zero => simp
  | succ n ih =>
    rw [Fin.sum_univ_succ, Fin.sum_univ_succ, ← ih, EReal.left_distrib_of_nonneg_of_ne_top (by exact_mod_cast hc) (EReal.coe_ne_top _)]

theorem twice (A : EReal) : A + A = ((2 : ℝ) : EReal) * A := by
  induction A with
  | bot => rw [EReal.coe_mul_bot_of_pos (by norm_num)]; rfl
  | top => rw [EReal.coe_mul_top_of_pos (by norm_num)]; rfl
  | coe r => rw [← EReal.coe_mul, ← EReal.coe_add]; congr 1; ring

/-- The mean of a row's squares, and the constant added to it. -/
def ms (x : Fin 1024 → EReal) : EReal := Ideal.div (∑ k, x k * x k) (Ideal.ofBits .f32 0x44800000#32) + Ideal.ofBits .f32 0x358637BD#32

theorem ms_cases (x : Fin 1024 → EReal) : (∃ (y : Fin 1024 → ℝ) (u : ℝ), 0 < u ∧ (∀ k, x k = ((y k : ℝ) : EReal)) ∧ ms x = ((u : ℝ) : EReal)) ∨ ms x = ⊤ := by
  unfold ms
  rw [word_1024, word_eps]
  rcases row_cases x with ⟨y, hy⟩ | h
  · left
    refine ⟨y, (∑ k, y k * y k) / 1024 + eps, ?_, hy, ?_⟩
    · have := eps_pos
      have : 0 ≤ ∑ k, y k * y k := Finset.sum_nonneg fun k _ => mul_self_nonneg _
      positivity
    · simp only [hy, ← EReal.coe_mul, sum_coe]
      rw [div_real _ _ (by norm_num), ← EReal.coe_add]
  · right
    rw [h, Ideal.div_coe (by norm_num), EReal.top_mul_coe_of_pos (by norm_num)]
    exact EReal.top_add_coe _

/-- The coefficient of a row in its own gradient. -/
def co (x d : Fin 1024 → EReal) : EReal :=
  Ideal.div ((∑ j, x j * d j) * (Ideal.ofBits .f32 0xBF000000#32 * Ideal.div (Ideal.rsqrt (ms x)) (ms x))) (Ideal.ofBits .f32 0x44800000#32)

theorem row_eq (x d : Fin 1024 → EReal) (k : Fin 1024) (res : EReal) :
    res + Ideal.rsqrt (ms x) * (d k - (x k * Ideal.rsqrt (ms x)) * Ideal.div (∑ j, d j * (x j * Ideal.rsqrt (ms x))) (Ideal.ofBits .f32 0x44800000#32))
      = ((d k * Ideal.rsqrt (ms x) + x k * co x d) + co x d * x k) + res := by
  unfold co
  rw [word_neg_half, word_1024]
  rcases ms_cases x with ⟨y, u, hu, hy, hms⟩ | h
  · rw [hms, rsqrt_pos u hu, div_real _ _ hu.ne', ← EReal.coe_mul]
    have hs : 0 < √u := Real.sqrt_pos.mpr hu
    set ρ : ℝ := (√u)⁻¹ with hρ
    have hρ0 : 0 < ρ := inv_pos.mpr hs
    have hu' : u = (ρ ^ 2)⁻¹ := by rw [hρ, inv_pow, inv_inv, Real.sq_sqrt hu.le]
    set S : EReal := ∑ j, x j * d j with hS
    have hT : ∑ j, d j * (x j * ((ρ : ℝ) : EReal)) = ((ρ : ℝ) : EReal) * S := by
      rw [hS, mul_sum_pos _ hρ0.le]
      exact Finset.sum_congr rfl fun j _ => by rw [mul_comm (x j) ((ρ : ℝ) : EReal), mul_left_comm, mul_comm (d j) (x j)]
    rw [hT, hy k, Ideal.div_coe (by norm_num), Ideal.div_coe (by norm_num)]
    have e1 : ((ρ : ℝ) : EReal) * (d k - ((y k : ℝ) : EReal) * ((ρ : ℝ) : EReal) * (((ρ : ℝ) : EReal) * S * ((1 / 1024 : ℝ) : EReal)))
        = ((ρ : ℝ) : EReal) * d k + (((-(ρ * (y k * ρ * (ρ * (1 / 1024))))) : ℝ) : EReal) * S := by
      rw [sub_eq_add_neg, EReal.left_distrib_of_nonneg_of_ne_top (by exact_mod_cast hρ0.le) (EReal.coe_ne_top _)]
      congr 1
      rw [EReal.coe_neg, neg_mul, mul_neg]
      simp only [EReal.coe_mul]
      congr 1
      ac_rfl
    have e2 : ((y k : ℝ) : EReal) * (S * ((-(1 / 2) * (ρ / u) : ℝ) : EReal) * ((1 / 1024 : ℝ) : EReal))
        + S * ((-(1 / 2) * (ρ / u) : ℝ) : EReal) * ((1 / 1024 : ℝ) : EReal) * ((y k : ℝ) : EReal) = (((-(ρ * (y k * ρ * (ρ * (1 / 1024))))) : ℝ) : EReal) * S := by
      rw [mul_comm _ ((y k : ℝ) : EReal), twice]
      have : (-(ρ * (y k * ρ * (ρ * (1 / 1024)))) : ℝ) = 2 * (y k * ((-(1 / 2) * (ρ / u)) * (1 / 1024))) := by
        rw [hu', div_inv_eq_mul]; ring
      rw [this]
      simp only [EReal.coe_mul]
      ac_rfl
    rw [e1, add_assoc (_ * _) (_ * _) (_ * _), e2, mul_comm (d k), add_comm]
  · rw [h]
    simp [Ideal.div]

end Cert.Spec
end
-- ==== Proof.DhRef.lean ====
/- The reference's gradient of a projection's input, entry by entry. -/
module

public import proofs.«01_k».proof.Proof.DhSpec
public import proofs.«01_k».proof.Proof.Gen.Reference3Ideal.Read
public import Idealize.ShloMosaic.Lib.Pointwise
public import Idealize.ShloMosaic.Lib.IdealHost

@[expose] public section
set_option maxRecDepth 16384
noncomputable section
open Idealize.ShloMosaic Idealize.ShloMosaic.TcCoe Idealize.SL.Sem
open scoped BigOperators
namespace Cert.Reference3Ideal.Values
open Cert.Reference3Ideal Cert.Reference3Ideal.Gen Cert.Reference3Ideal.Read
variable (x0 : FVec Ideal S8192x10240 .bf16) (x1 : FVec Ideal S8x1024x1280 .bf16) (x2 : FVec Ideal S8192x1024 .f32) (x3 : FVec Ideal S1x1024 .f32) (x4 : FVec Ideal S8192x1024 .f32)

/-- The gradient of the normalised row. -/
def dh (s : Fin 8192) (k : Fin 1024) : EReal :=
  ∑ q : Fin 8, ∑ l : Fin 1280, x0 (ix2 s (⟨1280 * q.val + l.val, by omega⟩ : Fin 10240)) * x1 (ix3 q k l)

theorem slabs (f : Fin 10240 → EReal) : ∑ n, f n = ∑ q : Fin 8, ∑ l : Fin 1280, f ⟨1280 * q.val + l.val, by omega⟩ := by
  rw [← Fintype.sum_prod_type', ← Equiv.sum_comp (finProdFinEquiv (m := 8) (n := 1280))]
  exact Finset.sum_congr rfl fun x _ => congrArg f (Fin.ext (by simp [finProdFinEquiv]; omega))

theorem v2_at (k : Fin 1024) (q : Fin 8) (l : Fin 1280) :
    val_main_v2 (F := Ideal) x1 (ix2 k (⟨1280 * q.val + l.val, by omega⟩ : Fin 10240)) = x1 (ix3 q k l) := by
  rw [val_main_v2_apply, val_main_v1_apply, val_main_v0_apply]
  refine congrArg x1 (funext fun a => ?_)
  match a with
  | ⟨0, _⟩ => exact Fin.ext (by show (k.val * 10240 + (1280 * q.val + l.val)) / 1280 % 8 = q.val; omega)
  | ⟨1, _⟩ => exact Fin.ext (by show (k.val * 10240 + (1280 * q.val + l.val)) / 10240 = k.val; omega)
  | ⟨2, _⟩ => exact Fin.ext (by show (k.val * 10240 + (1280 * q.val + l.val)) % 1280 = l.val; omega)

theorem v22_at (s : Fin 8192) (k : Fin 1024) : val_main_v22 (F := Ideal) x0 x1 (ix2 s k) = dh x0 x1 s k := by
  rw [val_main_v22_apply, dh, slabs]
  refine Finset.sum_congr rfl fun q _ => Finset.sum_congr rfl fun l _ => ?_
  refine congrArg₂ (· * ·) ?_ ((congrArg (val_main_v2 (F := Ideal) x1) (funext fun a => by match a with | ⟨0, _⟩ => rfl | ⟨1, _⟩ => rfl)).trans (v2_at x1 k q l))
  pointwise [val_main_v21]
  exact congrArg x0 (funext fun a => by match a with | ⟨0, _⟩ => rfl | ⟨1, _⟩ => rfl)

/-- The row of the input, and of the gradient of the normalised row times the gain. -/
abbrev xr (s : Fin 8192) : Fin 1024 → EReal := fun k => x2 (ix2 s k)
abbrev dr (s : Fin 8192) : Fin 1024 → EReal := fun k => dh x0 x1 s k * x3 (ix2 (0 : Fin 1) k)

theorem v10_at (s : Fin 8192) : val_main_v10 (F := Ideal) x2 (ix2 s (0 : Fin 1)) = Spec.ms (xr x2 s) := by
  pointwise [val_main_v10, val_main_v9, val_main_v8, val_main_v7, val_main_v6, val_main_v5, val_main_v4, val_main_cst, val_main_cst_0, val_main_cst_1]
  rfl

theorem v43_at (s : Fin 8192) (k : Fin 1024) : val_main_v43 (F := Ideal) x0 x1 x2 x3 x4 (ix2 s k)
    = ((dr x0 x1 x3 s k * Ideal.rsqrt (Spec.ms (xr x2 s)) + xr x2 s k * Spec.co (xr x2 s) (dr x0 x1 x3 s)) + Spec.co (xr x2 s) (dr x0 x1 x3 s) * xr x2 s k)
      + x4 (ix2 s k) := by
  pointwise [val_main_v43, val_main_v42, val_main_v41, val_main_v40, val_main_v39, val_main_v38, val_main_v37, val_main_v36, val_main_v35, val_main_v34, val_main_v33, val_main_v32, val_main_v31, val_main_v30, val_main_v29, val_main_v27, val_main_v26, val_main_v17, val_main_v14, val_main_v13, val_main_v12, val_main_v11, val_main_v3, val_main_cst_2, val_main_cst_5, val_main_cst_6, val_main_cst_7]
  simp only [Fin.sum_univ_one, v22_at, v10_at]
  rfl

theorem v25_at (k : Fin 1024) : val_main_v45 (F := Ideal) x0 x1 x2 (ix2 (0 : Fin 1) k)
    = ∑ s : Fin 8192, (x2 (ix2 s k) * Ideal.rsqrt (Spec.ms (xr x2 s))) * dh x0 x1 s k := by
  pointwise [val_main_v45, val_main_v28, val_main_v25, val_main_v24, val_main_v23, val_main_v16, val_main_v15, val_main_v11, val_main_cst_3, val_main_cst_4]
  simp only [Fin.sum_univ_one, v22_at, v10_at]

/-- The gradient of the input, the residual's added. -/
def dx (s : Fin 8192) (k : Fin 1024) : EReal :=
  ((dr x0 x1 x3 s k * Ideal.rsqrt (Spec.ms (xr x2 s)) + xr x2 s k * Spec.co (xr x2 s) (dr x0 x1 x3 s)) + Spec.co (xr x2 s) (dr x0 x1 x3 s) * xr x2 s k)
      + x4 (ix2 s k)
/-- The gradient of the gain. -/
def dg (k : Fin 1024) : EReal := ∑ s : Fin 8192, (x2 (ix2 s k) * Ideal.rsqrt (Spec.ms (xr x2 s))) * dh x0 x1 s k

def dxArr : FVec Ideal S8192x1024 .f32 := fun i => dx x0 x1 x2 x3 x4 (i 0) (i 1)
def dxbArr : FVec Ideal S8192x1024 .bf16 := fun i => dx x0 x1 x2 x3 x4 (i 0) (i 1)
def dgArr : FVec Ideal S1x1024 .f32 := fun i => dg x0 x1 x2 (i 1)

theorem ref_x : val_main_v43 (F := Ideal) x0 x1 x2 x3 x4 = dxArr x0 x1 x2 x3 x4 := by
  funext i
  obtain ⟨s, k, rfl⟩ : ∃ (s : Fin 8192) (k : Fin 1024), i = ix2 s k := ⟨_, _, ValueIdx.eq_ix2 i⟩
  exact v43_at x0 x1 x2 x3 x4 s k
theorem ref_b : val_main_v44 (F := Ideal) x0 x1 x2 x3 x4 = dxbArr x0 x1 x2 x3 x4 := by
  funext i
  obtain ⟨s, k, rfl⟩ : ∃ (s : Fin 8192) (k : Fin 1024), i = ix2 s k := ⟨_, _, ValueIdx.eq_ix2 i⟩
  rw [val_main_v44_apply]
  exact v43_at x0 x1 x2 x3 x4 s k
theorem ref_g : val_main_v45 (F := Ideal) x0 x1 x2 = dgArr x0 x1 x2 := by
  funext i
  obtain ⟨u, k, rfl⟩ : ∃ (u : Fin 1) (k : Fin 1024), i = ix2 u k := ⟨_, _, ValueIdx.eq_ix2 i⟩
  rw [Subsingleton.elim u 0]
  exact v25_at x0 x1 x2 k

end Cert.Reference3Ideal.Values
end
-- ==== Proof.DhOuts.lean ====
/- The kernel of a projection's input gradient, step by step: what each step leaves in its results and in its running sum. -/
module

public import proofs.«01_k».proof.Proof.Gen.Kernel3Ideal.Value
public import Idealize.ShloMosaic.Lib.Pipeline.ValueKit
public import Idealize.ShloMosaic.Lib.Pointwise
public import Idealize.ShloMosaic.Lib.Pipeline.ReadBack
public import Idealize.ShloMosaic.Lib.IdealHost

@[expose] public section
set_option maxRecDepth 16384
noncomputable section
open Idealize.ShloMosaic Idealize.ShloMosaic.TcCoe Idealize.SL.Sem
open Idealize.ShloMosaic.Pipeline (Dat)
open scoped BigOperators
namespace Cert.Kernel3Ideal.Value
open Cert.Kernel3Ideal Cert.Kernel3Ideal.Gen
variable (m : (ℓ : Loc nD τ sig) → Buf (Elt Ideal) ℓ)

abbrev d0 : Rect S1024x2560 := (Rect.unit ![0, 0] ![1024, 1280] (by decide))
abbrev d1 : Rect S1024x2560 := (Rect.unit ![0, 1280] ![1024, 1280] (by decide))
abbrev w0 : Rect S2x1024x1280 := (Rect.unit ![0, 0, 0] ![1, 1024, 1280] (by decide))
abbrev w1 : Rect S2x1024x1280 := (Rect.unit ![1, 0, 0] ![1, 1024, 1280] (by decide))

/-- The running sum after a step. -/
def acc (A : FVec Ideal S1024x1024 .f32) (x : FVec Ideal S1024x2560 .bf16) (w : FVec Ideal S2x1024x1280 .bf16) : FVec Ideal S1024x1024 .f32 :=
  k0_pay2 (F := Ideal) A (View.ld (Val := Elt Ideal) (e' := .bf16) x d0) (View.ld (Val := Elt Ideal) (e' := .bf16) w w0) (View.ld (Val := Elt Ideal) (e' := .bf16) x d1) (View.ld (Val := Elt Ideal) (e' := .bf16) w w1)

theorem lt32 (t : Fin cfg0.N) : t.val < 32 := lt_of_lt_of_eq t.isLt N_0
abbrev pv (c : Dev nD) (t : Fin cfg0.N) := outsAt0 m c (t.val - 1) (Nat.lt_of_le_of_lt (Nat.sub_le _ _) t.isLt)

theorem outA_s (c : Dev nD) (t : Fin cfg0.N) (h : t.val % 4 = 0) :
    (outsAt0 m c t.val t.isLt).2.2.2 = acc (k0_pay1 (F := Ideal)) (iblk m c 0 t) (iblk m c 1 t) := by
  rw [outsAt0_A m c t h (by omega)]
  frame_out [View.readCov_cons_toLoadRect, ↓View.readCov_skip, ↓View.readCov_fill]
  try simp only [read_unread_whole]
  rfl
theorem outA_g (c : Dev nD) (t : Fin cfg0.N) (h : t.val % 4 = 0) :
    (outsAt0 m c t.val t.isLt).2.2.1 = (pv m c t).2.2.1 := by
  rw [outsAt0_A m c t h (by omega)]
  frame_out [View.readCov_cons_toLoadRect, ↓View.readCov_skip, ↓View.readCov_fill]
  rfl
theorem outB_s (c : Dev nD) (t : Fin cfg0.N) (h : ¬ t.val % 4 = 0) (h' : ¬ t.val % 4 = 3) :
    (outsAt0 m c t.val t.isLt).2.2.2 = acc (pv m c t).2.2.2 (iblk m c 0 t) (iblk m c 1 t) := by
  rw [outsAt0_B m c t h h']
  frame_out [View.readCov_cons_toLoadRect, ↓View.readCov_skip, ↓View.readCov_fill]
  try simp only [read_unread_whole]
  rfl
theorem outB_g (c : Dev nD) (t : Fin cfg0.N) (h : ¬ t.val % 4 = 0) (h' : ¬ t.val % 4 = 3) :
    (outsAt0 m c t.val t.isLt).2.2.1 = (pv m c t).2.2.1 := by
  rw [outsAt0_B m c t h h']
  frame_out [View.readCov_cons_toLoadRect, ↓View.readCov_skip, ↓View.readCov_fill]
  rfl
theorem outC_x (c : Dev nD) (t : Fin cfg0.N) (h : t.val % 4 = 3) (h' : t.val < 4) :
    (outsAt0 m c t.val t.isLt).1 = k0_pay8 (F := Ideal) (acc (pv m c t).2.2.2 (iblk m c 0 t) (iblk m c 1 t)) (iblk m c 2 t) (iblk m c 3 t) (iblk m c 4 t) := by
  rw [outsAt0_C m c t (by omega) h h']
  frame_out [View.readCov_cons_toLoadRect, ↓View.readCov_skip, ↓View.readCov_fill]
  try simp only [read_unread_whole]
  rfl
theorem outD_x (c : Dev nD) (t : Fin cfg0.N) (h : t.val % 4 = 3) (h' : ¬ t.val < 4) :
    (outsAt0 m c t.val t.isLt).1 = k0_pay8 (F := Ideal) (acc (pv m c t).2.2.2 (iblk m c 0 t) (iblk m c 1 t)) (iblk m c 2 t) (iblk m c 3 t) (iblk m c 4 t) := by
  rw [outsAt0_D m c t (by omega) h h']
  frame_out [View.readCov_cons_toLoadRect, ↓View.readCov_skip, ↓View.readCov_fill]
  try simp only [read_unread_whole]
  rfl
theorem outC_b (c : Dev nD) (t : Fin cfg0.N) (h : t.val % 4 = 3) (h' : t.val < 4) :
    (outsAt0 m c t.val t.isLt).2.1 = k0_pay3 (F := Ideal) (k0_pay8 (F := Ideal) (acc (pv m c t).2.2.2 (iblk m c 0 t) (iblk m c 1 t)) (iblk m c 2 t) (iblk m c 3 t) (iblk m c 4 t)) := by
  rw [outsAt0_C m c t (by omega) h h']
  frame_out [View.readCov_cons_toLoadRect, ↓View.readCov_skip, ↓View.readCov_fill]
  try simp only [read_unread_whole]
  rfl
theorem outD_b (c : Dev nD) (t : Fin cfg0.N) (h : t.val % 4 = 3) (h' : ¬ t.val < 4) :
    (outsAt0 m c t.val t.isLt).2.1 = k0_pay3 (F := Ideal) (k0_pay8 (F := Ideal) (acc (pv m c t).2.2.2 (iblk m c 0 t) (iblk m c 1 t)) (iblk m c 2 t) (iblk m c 3 t) (iblk m c 4 t)) := by
  rw [outsAt0_D m c t (by omega) h h']
  frame_out [View.readCov_cons_toLoadRect, ↓View.readCov_skip, ↓View.readCov_fill]
  try simp only [read_unread_whole]
  rfl
theorem outC_g (c : Dev nD) (t : Fin cfg0.N) (h : t.val % 4 = 3) (h' : t.val < 4) :
    (outsAt0 m c t.val t.isLt).2.2.1 = k0_pay7 (F := Ideal) (acc (pv m c t).2.2.2 (iblk m c 0 t) (iblk m c 1 t)) (iblk m c 2 t) (k0_pay4 (F := Ideal)) := by
  rw [outsAt0_C m c t (by omega) h h']
  frame_out [View.readCov_cons_toLoadRect, ↓View.readCov_skip, ↓View.readCov_fill]
  try simp only [read_unread_whole]
  rfl
theorem outD_g (c : Dev nD) (t : Fin cfg0.N) (h : t.val % 4 = 3) (h' : ¬ t.val < 4) :
    (outsAt0 m c t.val t.isLt).2.2.1 = k0_pay7 (F := Ideal) (acc (pv m c t).2.2.2 (iblk m c 0 t) (iblk m c 1 t)) (iblk m c 2 t) (pv m c t).2.2.1 := by
  rw [outsAt0_D m c t (by omega) h h']
  frame_out [View.readCov_cons_toLoadRect, ↓View.readCov_skip, ↓View.readCov_fill]
  try simp only [read_unread_whole]
  rfl

theorem ld_d0 (x : FVec Ideal S1024x2560 .bf16) (s : Fin 1024) (l : Fin 1280) : View.ld (Val := Elt Ideal) (e' := .bf16) x d0 (ix2 s l) = x (ix2 s (⟨l.val, by omega⟩ : Fin 2560)) :=
  congrArg x (funext fun a => by
    match a with
    | ⟨0, _⟩ => exact Fin.ext (by show 0 + 1 * s.val = s.val; omega)
    | ⟨1, _⟩ => exact Fin.ext (by show 0 + 1 * l.val = l.val; omega))
theorem ld_d1 (x : FVec Ideal S1024x2560 .bf16) (s : Fin 1024) (l : Fin 1280) : View.ld (Val := Elt Ideal) (e' := .bf16) x d1 (ix2 s l) = x (ix2 s (⟨1280 + l.val, by omega⟩ : Fin 2560)) :=
  congrArg x (funext fun a => by
    match a with
    | ⟨0, _⟩ => exact Fin.ext (by show 0 + 1 * s.val = s.val; omega)
    | ⟨1, _⟩ => exact Fin.ext (by show 1280 + 1 * l.val = 1280 + l.val; omega))
theorem ld_w0 (w : FVec Ideal S2x1024x1280 .bf16) (k : Fin 1024) (l : Fin 1280) : View.ld (Val := Elt Ideal) (e' := .bf16) w w0 (ix3 (0 : Fin 1) k l) = w (ix3 (0 : Fin 2) k l) :=
  congrArg w (funext fun a => by
    match a with
    | ⟨0, _⟩ => rfl
    | ⟨1, _⟩ => exact Fin.ext (by show 0 + 1 * k.val = k.val; omega)
    | ⟨2, _⟩ => exact Fin.ext (by show 0 + 1 * l.val = l.val; omega))
theorem ld_w1 (w : FVec Ideal S2x1024x1280 .bf16) (k : Fin 1024) (l : Fin 1280) : View.ld (Val := Elt Ideal) (e' := .bf16) w w1 (ix3 (0 : Fin 1) k l) = w (ix3 (1 : Fin 2) k l) :=
  congrArg w (funext fun a => by
    match a with
    | ⟨0, _⟩ => rfl
    | ⟨1, _⟩ => exact Fin.ext (by show 0 + 1 * k.val = k.val; omega)
    | ⟨2, _⟩ => exact Fin.ext (by show 0 + 1 * l.val = l.val; omega))

theorem acc_at (A : FVec Ideal S1024x1024 .f32) (x : FVec Ideal S1024x2560 .bf16) (w : FVec Ideal S2x1024x1280 .bf16) (s k : Fin 1024) :
    acc A x w (ix2 s k) = A (ix2 s k) + ((∑ l : Fin 1280, x (ix2 s (⟨l.val, by omega⟩ : Fin 2560)) * w (ix3 (0 : Fin 2) k l))
      + ∑ l : Fin 1280, x (ix2 s (⟨1280 + l.val, by omega⟩ : Fin 2560)) * w (ix3 (1 : Fin 2) k l)) := by
  unfold acc
  generalize h0 : View.ld (Val := Elt Ideal) (e' := .bf16) x d0 = a0
  generalize h1 : View.ld (Val := Elt Ideal) (e' := .bf16) x d1 = a1
  generalize h2 : View.ld (Val := Elt Ideal) (e' := .bf16) w w0 = a2
  generalize h3 : View.ld (Val := Elt Ideal) (e' := .bf16) w w1 = a3
  have e : ∀ l : Fin 1280, a0 (ix2 s l) = x (ix2 s (⟨l.val, by omega⟩ : Fin 2560)) := fun l => (congrFun h0.symm _).trans (ld_d0 x s l)
  have e1 : ∀ l : Fin 1280, a1 (ix2 s l) = x (ix2 s (⟨1280 + l.val, by omega⟩ : Fin 2560)) := fun l => (congrFun h1.symm _).trans (ld_d1 x s l)
  have e2 : ∀ l : Fin 1280, a2 (ix3 (0 : Fin 1) k l) = w (ix3 (0 : Fin 2) k l) := fun l => (congrFun h2.symm _).trans (ld_w0 w k l)
  have e3 : ∀ l : Fin 1280, a3 (ix3 (0 : Fin 1) k l) = w (ix3 (1 : Fin 2) k l) := fun l => (congrFun h3.symm _).trans (ld_w1 w k l)
  pointwise [k0_pay2]
  simp only [e, e1, e2, e3]

end Cert.Kernel3Ideal.Value
end
-- ==== Proof.DhFinal.lean ====
/- The kernel of a projection's input gradient: its results are the reference's. -/
module

public import proofs.«01_k».proof.Proof.DhOuts
public import proofs.«01_k».proof.Proof.DhRef

@[expose] public section
set_option maxRecDepth 16384
noncomputable section
open Idealize.ShloMosaic Idealize.ShloMosaic.TcCoe Idealize.SL.Sem
open Idealize.ShloMosaic.Pipeline (Dat)
open scoped BigOperators
namespace Cert.Kernel3Ideal.Value
open Cert.Kernel3Ideal Cert.Kernel3Ideal.Gen
open Cert.Reference3Ideal.Values (dh dx dg xr dr dxArr dxbArr dgArr)
variable (m : (ℓ : Loc nD τ sig) → Buf (Elt Ideal) ℓ)

theorem pay8_at (D X R : FVec Ideal S1024x1024 .f32) (g : FVec Ideal S1x1024 .f32) (s k : Fin 1024) :
    k0_pay8 (F := Ideal) D X g R (ix2 s k)
      = R (ix2 s k) + Ideal.rsqrt (Spec.ms fun k => X (ix2 s k)) * (D (ix2 s k) * g (ix2 (0 : Fin 1) k)
        - (X (ix2 s k) * Ideal.rsqrt (Spec.ms fun k => X (ix2 s k)))
          * Ideal.div (∑ j, (D (ix2 s j) * g (ix2 (0 : Fin 1) j)) * (X (ix2 s j) * Ideal.rsqrt (Spec.ms fun k => X (ix2 s k)))) (Ideal.ofBits .f32 0x44800000#32)) := by
  pointwise [k0_pay8, k0_pay6, k0_pay5]
  rfl
theorem pay7_at (D X : FVec Ideal S1024x1024 .f32) (G : FVec Ideal S1x1024 .f32) (k : Fin 1024) :
    k0_pay7 (F := Ideal) D X G (ix2 (0 : Fin 1) k)
      = G (ix2 (0 : Fin 1) k) + ∑ s : Fin 1024, D (ix2 s k) * (X (ix2 s k) * Ideal.rsqrt (Spec.ms fun k => X (ix2 s k))) := by
  pointwise [k0_pay7, k0_pay6, k0_pay5]
  rfl
theorem pay3_at (X : FVec Ideal S1024x1024 .f32) (s k : Fin 1024) : k0_pay3 (F := Ideal) X (ix2 s k) = X (ix2 s k) := by
  pointwise [k0_pay3]
theorem pay4_at (k : Fin 1024) : k0_pay4 (F := Ideal) (ix2 (0 : Fin 1) k) = 0 := by
  pointwise [k0_pay4]
theorem pay1_at (s k : Fin 1024) : k0_pay1 (F := Ideal) (ix2 s k) = 0 := by
  pointwise [k0_pay1]

theorem idx : ∀ t : Fin cfg0.N, win0_0.index t = ![t.val / 4, t.val % 4] ∧ win0_1.index t = ![t.val % 4, 0, 0]
    ∧ win0_2.index t = ![t.val / 4, 0] ∧ win0_3.index t = ![0, 0] ∧ win0_4.index t = ![t.val / 4, 0] ∧ win0_5.index t = ![t.val / 4, 0]
    ∧ win0_6.index t = ![t.val / 4, 0] ∧ win0_7.index t = ![0, 0] :=
  (by decide +kernel : ∀ t : Fin grid0.N, _)

/-- The row that row s of a step's block is. -/
abbrev rw0 (t : Fin cfg0.N) (s : Fin 1024) : Fin 8192 := ⟨1024 * (t.val / 4) + s.val, by have := lt32 t; omega⟩

theorem blk0 (c : Dev nD) (t : Fin cfg0.N) (s : Fin 1024) (l : Fin 2560) :
    iblk m c 0 t (ix2 s l) = m ((c : Thread nD τ).loc main_arg0) (ix2 (rw0 t s) (⟨2560 * (t.val % 4) + l.val, by omega⟩ : Fin 10240)) := by
  blk_ext [iblk, V, idx t]
theorem blk1 (c : Dev nD) (t : Fin cfg0.N) (q : Fin 2) (k : Fin 1024) (l : Fin 1280) :
    iblk m c 1 t (ix3 q k l) = m ((c : Thread nD τ).loc main_arg1) (ix3 (⟨2 * (t.val % 4) + q.val, by omega⟩ : Fin 8) k l) := by
  blk_ext [iblk, V, idx t]
theorem blk2 (c : Dev nD) (t : Fin cfg0.N) (s k : Fin 1024) :
    iblk m c 2 t (ix2 s k) = m ((c : Thread nD τ).loc main_arg2) (ix2 (rw0 t s) k) := by
  blk_ext [iblk, V, idx t]
theorem blk3 (c : Dev nD) (t : Fin cfg0.N) (k : Fin 1024) :
    iblk m c 3 t (ix2 (0 : Fin 1) k) = m ((c : Thread nD τ).loc main_arg3) (ix2 (0 : Fin 1) k) := by
  blk_ext [iblk, V, idx t]
theorem blk4 (c : Dev nD) (t : Fin cfg0.N) (s k : Fin 1024) :
    iblk m c 4 t (ix2 s k) = m ((c : Thread nD τ).loc main_arg4) (ix2 (rw0 t s) k) := by
  blk_ext [iblk, V, idx t]

/-- One slab's share of the gradient of the normalised row. -/
def slab (x0 : FVec Ideal S8192x10240 .bf16) (x1 : FVec Ideal S8x1024x1280 .bf16) (s : Fin 8192) (k : Fin 1024) (q : Fin 8) : EReal :=
  ∑ l : Fin 1280, x0 (ix2 s (⟨1280 * q.val + l.val, by omega⟩ : Fin 10240)) * x1 (ix3 q k l)

theorem acc_step (c : Dev nD) (t : Fin cfg0.N) (A : FVec Ideal S1024x1024 .f32) (s k : Fin 1024) (j : ℕ) (hj : t.val % 4 = j) (h : j < 4) :
    acc A (iblk m c 0 t) (iblk m c 1 t) (ix2 s k) = A (ix2 s k)
      + (slab (m ((c : Thread nD τ).loc main_arg0)) (m ((c : Thread nD τ).loc main_arg1)) (rw0 t s) k ⟨2 * j, by omega⟩
        + slab (m ((c : Thread nD τ).loc main_arg0)) (m ((c : Thread nD τ).loc main_arg1)) (rw0 t s) k ⟨2 * j + 1, by omega⟩) := by
  subst hj
  rw [acc_at]
  refine congrArg₂ (· + ·) rfl (congrArg₂ (· + ·) (Finset.sum_congr rfl fun l _ => ?_) (Finset.sum_congr rfl fun l _ => ?_))
  · rw [blk0, blk1]
    refine congrArg₂ (· * ·) (congrArg _ (congrArg _ (Fin.ext ?_))) rfl
    show 2560 * (t.val % 4) + l.val = 1280 * (2 * (t.val % 4)) + l.val
    omega
  · rw [blk0, blk1]
    refine congrArg₂ (· * ·) (congrArg _ (congrArg _ (Fin.ext ?_))) rfl
    show 2560 * (t.val % 4) + (1280 + l.val) = 1280 * (2 * (t.val % 4) + 1) + l.val
    omega

abbrev pt (t : Fin cfg0.N) : Fin cfg0.N := ⟨t.val - 1, Nat.lt_of_le_of_lt (Nat.sub_le _ _) t.isLt⟩

/-- The running sum is complete at the last step of a row block. -/
theorem dh_at (c : Dev nD) (t : Fin cfg0.N) (h : t.val % 4 = 3) (s k : Fin 1024) :
    acc (pv m c t).2.2.2 (iblk m c 0 t) (iblk m c 1 t) (ix2 s k)
      = dh (m ((c : Thread nD τ).loc main_arg0)) (m ((c : Thread nD τ).loc main_arg1)) (rw0 t s) k := by
  have ht := lt32 t
  have e1 : ∀ s, rw0 (pt t) s = rw0 t s := fun s => Fin.ext (by show 1024 * ((t.val - 1) / 4) + s.val = 1024 * (t.val / 4) + s.val; omega)
  have e2 : ∀ s, rw0 (pt (pt t)) s = rw0 t s := fun s => Fin.ext (by show 1024 * ((t.val - 1 - 1) / 4) + s.val = 1024 * (t.val / 4) + s.val; omega)
  have e3 : ∀ s, rw0 (pt (pt (pt t))) s = rw0 t s := fun s => Fin.ext (by show 1024 * ((t.val - 1 - 1 - 1) / 4) + s.val = 1024 * (t.val / 4) + s.val; omega)
  have o1 := outB_s m c (pt t) (by show ¬ (t.val - 1) % 4 = 0; omega) (by show ¬ (t.val - 1) % 4 = 3; omega)
  have o2 := outB_s m c (pt (pt t)) (by show ¬ (t.val - 1 - 1) % 4 = 0; omega) (by show ¬ (t.val - 1 - 1) % 4 = 3; omega)
  have o3 := outA_s m c (pt (pt (pt t))) (by show (t.val - 1 - 1 - 1) % 4 = 0; omega)
  rw [acc_step m c t _ s k 3 h (by omega)]
  rw [show (pv m c t).2.2.2 (ix2 s k) = _ from (congrFun o1 _).trans (acc_step m c (pt t) _ s k 2 (by show (t.val - 1) % 4 = 2; omega) (by omega))]
  rw [show (pv m c (pt t)).2.2.2 (ix2 s k) = _ from (congrFun o2 _).trans (acc_step m c (pt (pt t)) _ s k 1 (by show (t.val - 1 - 1) % 4 = 1; omega) (by omega))]
  rw [show (pv m c (pt (pt t))).2.2.2 (ix2 s k) = _ from (congrFun o3 _).trans (acc_step m c (pt (pt (pt t))) _ s k 0 (by show (t.val - 1 - 1 - 1) % 4 = 0; omega) (by omega))]
  rw [pay1_at, zero_add, e1, e2, e3]
  unfold dh
  rw [Fin.sum_univ_eight]
  simp only [add_assoc]
  rfl

/-- The block of the input's gradient. -/
theorem x_at (c : Dev nD) (t : Fin cfg0.N) (h : t.val % 4 = 3) (s k : Fin 1024) :
    k0_pay8 (F := Ideal) (acc (pv m c t).2.2.2 (iblk m c 0 t) (iblk m c 1 t)) (iblk m c 2 t) (iblk m c 3 t) (iblk m c 4 t) (ix2 s k)
      = dx (m ((c : Thread nD τ).loc main_arg0)) (m ((c : Thread nD τ).loc main_arg1)) (m ((c : Thread nD τ).loc main_arg2)) (m ((c : Thread nD τ).loc main_arg3)) (m ((c : Thread nD τ).loc main_arg4)) (rw0 t s) k := by
  rw [pay8_at]
  simp only [dh_at m c t h, blk2, blk3, blk4]
  exact Spec.row_eq (xr (m ((c : Thread nD τ).loc main_arg2)) (rw0 t s)) (dr (m ((c : Thread nD τ).loc main_arg0)) (m ((c : Thread nD τ).loc main_arg1)) (m ((c : Thread nD τ).loc main_arg3)) (rw0 t s)) k _

theorem out_x (c : Dev nD) (t : Fin cfg0.N) (h : t.val % 4 = 3) :
    (outsAt0 m c t.val t.isLt).1 = k0_pay8 (F := Ideal) (acc (pv m c t).2.2.2 (iblk m c 0 t) (iblk m c 1 t)) (iblk m c 2 t) (iblk m c 3 t) (iblk m c 4 t) := by
  by_cases h' : t.val < 4
  · exact outC_x m c t h h'
  · exact outD_x m c t h h'
theorem out_b (c : Dev nD) (t : Fin cfg0.N) (h : t.val % 4 = 3) :
    (outsAt0 m c t.val t.isLt).2.1 = k0_pay3 (F := Ideal) (k0_pay8 (F := Ideal) (acc (pv m c t).2.2.2 (iblk m c 0 t) (iblk m c 1 t)) (iblk m c 2 t) (iblk m c 3 t) (iblk m c 4 t)) := by
  by_cases h' : t.val < 4
  · exact outC_b m c t h h'
  · exact outD_b m c t h h'

/-- One row block's share of the gain's gradient. -/
def gp (x0 : FVec Ideal S8192x10240 .bf16) (x1 : FVec Ideal S8x1024x1280 .bf16) (x2 : FVec Ideal S8192x1024 .f32) (k : Fin 1024) (i : Fin 8) : EReal :=
  ∑ s : Fin 1024, (x2 (ix2 (⟨1024 * i.val + s.val, by omega⟩ : Fin 8192) k) * Ideal.rsqrt (Spec.ms (xr x2 (⟨1024 * i.val + s.val, by omega⟩ : Fin 8192))))
    * dh x0 x1 (⟨1024 * i.val + s.val, by omega⟩ : Fin 8192) k
abbrev gpart (c : Dev nD) (k : Fin 1024) (i : Fin 8) : EReal :=
  gp (m ((c : Thread nD τ).loc main_arg0)) (m ((c : Thread nD τ).loc main_arg1)) (m ((c : Thread nD τ).loc main_arg2)) k i

theorem g_step (c : Dev nD) (t : Fin cfg0.N) (h : t.val % 4 = 3) (G : FVec Ideal S1x1024 .f32) (k : Fin 1024) :
    k0_pay7 (F := Ideal) (acc (pv m c t).2.2.2 (iblk m c 0 t) (iblk m c 1 t)) (iblk m c 2 t) G (ix2 (0 : Fin 1) k)
      = G (ix2 (0 : Fin 1) k) + gpart m c k ⟨t.val / 4, by have := lt32 t; omega⟩ := by
  rw [pay7_at]
  simp only [dh_at m c t h, blk2]
  refine congrArg₂ (· + ·) rfl (Finset.sum_congr rfl fun s _ => ?_)
  exact mul_comm _ _

theorem g_at (c : Dev nD) (k : Fin 1024) : ∀ (i : ℕ) (h : 4 * i + 3 < cfg0.N),
    (outsAt0 m c (4 * i + 3) h).2.2.1 (ix2 (0 : Fin 1) k) = ∑ j ∈ Finset.range (i + 1), if hj : j < 8 then gpart m c k ⟨j, hj⟩ else 0
  | 0, h => by
    rw [outC_g m c ⟨4 * 0 + 3, h⟩ rfl (by show 3 < 4; omega), g_step m c ⟨4 * 0 + 3, h⟩ rfl, pay4_at]
    rw [Finset.sum_range_succ, Finset.sum_range_zero, dif_pos (by omega)]
    exact congrArg (fun i => 0 + gpart m c k i) (Fin.ext (by show (4 * 0 + 3) / 4 = 0; norm_num))
  | i + 1, h => by
    have hN : cfg0.N = 32 := N_0
    have ih := g_at c k i (by omega)
    have b3 := outB_g m c ⟨4 * i + 6, by omega⟩ (by show ¬ (4 * i + 6) % 4 = 0; omega) (by show ¬ (4 * i + 6) % 4 = 3; omega)
    have b2 := outB_g m c ⟨4 * i + 5, by omega⟩ (by show ¬ (4 * i + 5) % 4 = 0; omega) (by show ¬ (4 * i + 5) % 4 = 3; omega)
    have b1 := outA_g m c ⟨4 * i + 4, by omega⟩ (by show (4 * i + 4) % 4 = 0; omega)
    have e := outD_g m c ⟨4 * (i + 1) + 3, h⟩ (by show (4 * (i + 1) + 3) % 4 = 3; omega) (by show ¬ 4 * (i + 1) + 3 < 4; omega)
    refine (congrFun e _).trans ?_
    rw [g_step m c ⟨4 * (i + 1) + 3, h⟩ (by show (4 * (i + 1) + 3) % 4 = 3; omega), Finset.sum_range_succ, dif_pos (by omega : i + 1 < 8), ← ih]
    refine congrArg₂ (· + ·) (congrFun (b3.trans (b2.trans b1)) _) (congrArg _ (Fin.ext ?_))
    show (4 * (i + 1) + 3) / 4 = i + 1
    omega

theorem rows8 (f : Fin 8192 → EReal) : ∑ s, f s = ∑ i : Fin 8, ∑ s : Fin 1024, f ⟨1024 * i.val + s.val, by omega⟩ := by
  rw [← Fintype.sum_prod_type', ← Equiv.sum_comp (finProdFinEquiv (m := 8) (n := 1024))]
  exact Finset.sum_congr rfl fun x _ => congrArg f (Fin.ext (by simp [finProdFinEquiv]; omega))

theorem g_last (c : Dev nD) (t : Fin cfg0.N) (h : t.val = 31) (k : Fin 1024) :
    (outsAt0 m c t.val t.isLt).2.2.1 (ix2 (0 : Fin 1) k)
      = dg (m ((c : Thread nD τ).loc main_arg0)) (m ((c : Thread nD τ).loc main_arg1)) (m ((c : Thread nD τ).loc main_arg2)) k := by
  obtain ⟨n, hn⟩ := t
  obtain rfl : n = 31 := h
  refine (g_at m c k 7 hn).trans ?_
  rw [Finset.sum_range, dg, rows8]
  exact Finset.sum_congr rfl fun i _ => dif_pos i.isLt

theorem ey2 {n k : ℕ} (y : (⟨2, ![n, k]⟩ : Shape).Idx) : y = ix2 (⟨(y 0).val, (y 0).isLt⟩ : Fin n) (⟨(y 1).val, (y 1).isLt⟩ : Fin k) :=
  funext fun a => by match a with | ⟨0, _⟩ => rfl | ⟨1, _⟩ => rfl

theorem result5 (c : Dev nD) : (dats m 0 c).arrAt 5 cfg0.N = dxArr (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  have ht := lt32 t
  have h3 : t.val % 4 = 3 := (by decide +kernel : ∀ t : Fin grid0.N, (cfg0.win 5).flush t = true → t.val % 4 = 3) t hf
  blk_simp []
  rw [after0_5]
  have e0 : ((((cfg0.win 5).blk t).view.emb y) 0).val = 1024 * (t.val / 4) + (y 0).val := by
    blk_simp [idx t]
    exact congrArg (· + _) (Nat.mul_comm _ _)
  have e1 : ((((cfg0.win 5).blk t).view.emb y) 1).val = (y 1).val := by
    blk_simp [idx t]
  refine ((congrArg _ (ey2 y)).trans ((congrFun (out_x m c t h3) _).trans (x_at m c t h3 _ _))).trans ?_
  exact congrArg₂ (dx _ _ _ _ _) (Fin.ext e0.symm) (Fin.ext e1.symm)

theorem result6 (c : Dev nD) : (dats m 0 c).arrAt 6 cfg0.N = dxbArr (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  have ht := lt32 t
  have h3 : t.val % 4 = 3 := (by decide +kernel : ∀ t : Fin grid0.N, (cfg0.win 6).flush t = true → t.val % 4 = 3) t hf
  blk_simp []
  rw [after0_6]
  have e0 : ((((cfg0.win 6).blk t).view.emb y) 0).val = 1024 * (t.val / 4) + (y 0).val := by
    blk_simp [idx t]
    exact congrArg (· + _) (Nat.mul_comm _ _)
  have e1 : ((((cfg0.win 6).blk t).view.emb y) 1).val = (y 1).val := by
    blk_simp [idx t]
  refine ((congrArg _ (ey2 y)).trans ((congrFun (out_b m c t h3) _).trans ((pay3_at _ _ _).trans (x_at m c t h3 _ _)))).trans ?_
  exact congrArg₂ (dx _ _ _ _ _) (Fin.ext e0.symm) (Fin.ext e1.symm)

theorem result7 (c : Dev nD) : (dats m 0 c).arrAt 7 cfg0.N = dgArr (m ((c : Thread nD τ).loc main_arg0)) (m ((c : Thread nD τ).loc main_arg1)) (m ((c : Thread nD τ).loc main_arg2)) := by
  refine (dats m 0 c).arrAt_eq_of_covers 7 _ (by decide +kernel) fun t hf y => ?_
  have h3 : t.val = 31 := (by decide +kernel : ∀ t : Fin grid0.N, (cfg0.win 7).flush t = true → t.val = 31) t hf
  blk_simp []
  rw [after0_7]
  have e1 : ((((cfg0.win 7).blk t).view.emb y) 1).val = (y 1).val := by
    blk_simp [idx t]
  have ey : y = ix2 (0 : Fin 1) (⟨(y 1).val, (y 1).isLt⟩ : Fin 1024) :=
    funext fun a => by match a with | ⟨0, _⟩ => exact Subsingleton.elim (α := Fin 1) _ _ | ⟨1, _⟩ => rfl
  refine ((congrArg _ ey).trans (g_last m c t h3 _)).trans ?_
  exact congrArg (dg _ _ _) (Fin.ext e1.symm)

end Cert.Kernel3Ideal.Value
end
-- ==== Proof.DwIn4.lean ====
/- The gradient of a projection's weights: the kernel's sum over two halves of the tokens is the reference's product. -/
module

public import proofs.«01_k».proof.Proof.Gen.Kernel4Ideal.Value
public import proofs.«01_k».proof.Proof.Gen.Reference4Ideal.Read
public import Idealize.ShloMosaic.Lib.Pipeline.ValueKit
public import Idealize.ShloMosaic.Lib.Pointwise
public import Idealize.ShloMosaic.Lib.Pipeline.ReadBack
public import Idealize.ShloMosaic.Lib.IdealHost

@[expose] public section
set_option maxRecDepth 16384
noncomputable section
open Idealize.ShloMosaic Idealize.ShloMosaic.TcCoe Idealize.SL.Sem
open Idealize.ShloMosaic.Pipeline (Dat)
open scoped BigOperators
namespace Cert.Kernel4Ideal.Value
open Cert.Kernel4Ideal Cert.Kernel4Ideal.Gen
variable (m : (ℓ : Loc nD τ sig) → Buf (Elt Ideal) ℓ)

theorem outA (c : Dev nD) (t : Fin cfg0.N) (h : t.val % 2 = 0) :
    outsAt0 m c t.val t.isLt = k0_pay2 (F := Ideal) (k0_pay1 (F := Ideal)) (iblk m c 0 t) (iblk m c 1 t) := by
  rw [outsAt0_A m c t h]
  frame_out [View.readCov_cons_toLoadRect, ↓View.readCov_skip, ↓View.readCov_fill]
theorem outB (c : Dev nD) (t : Fin cfg0.N) (h : ¬ t.val % 2 = 0) :
    outsAt0 m c t.val t.isLt = k0_pay2 (F := Ideal) (outsAt0 m c (t.val - 1) (Nat.lt_of_le_of_lt (Nat.sub_le _ _) t.isLt)) (iblk m c 0 t) (iblk m c 1 t) := by
  rw [outsAt0_B m c t h]
  frame_out [View.readCov_cons_toLoadRect, ↓View.readCov_skip, ↓View.readCov_fill]

theorem idx : ∀ t : Fin cfg0.N, win0_0.index t = ![t.val % 2, 0] ∧ win0_1.index t = ![t.val % 2, t.val / 2]
    ∧ win0_2.index t = ![t.val / 2 % 2 * 4 + t.val / 4, 0, 0] ∧ (grid0.coords t 0).val = t.val / 2 :=
  (by decide +kernel : ∀ t : Fin grid0.N, _)

theorem lt16 (t : Fin cfg0.N) : t.val < 16 := lt_of_lt_of_eq t.isLt N_0

theorem pay2_at (X : FVec Ideal S1x1024x768 .f32) (a : FVec Ideal S4096x1024 .bf16) (b : FVec Ideal S4096x768 .bf16) (k : Fin 1024) (l : Fin 768) :
    k0_pay2 (F := Ideal) X a b (ix3 (0 : Fin 1) k l) = X (ix3 (0 : Fin 1) k l) + ∑ s : Fin 4096, a (ix2 s k) * b (ix2 s l) := by
  pointwise [k0_pay2]

theorem pay1_at (k : Fin 1024) (l : Fin 768) : k0_pay1 (F := Ideal) (ix3 (0 : Fin 1) k l) = 0 := by
  pointwise [k0_pay1]

/-- The product over all the tokens. -/
def dw (h : FVec Ideal S8192x1024 .bf16) (d : FVec Ideal S8192x6144 .bf16) (k : Fin 1024) (n : Fin 6144) : EReal :=
  ∑ s : Fin 8192, h (ix2 s k) * d (ix2 s n)

theorem blk0 (c : Dev nD) (t : Fin cfg0.N) (s : Fin 4096) (k : Fin 1024) :
    iblk m c 0 t (ix2 s k) = m ((c : Thread nD τ).loc main_arg0) (ix2 (⟨4096 * (t.val % 2) + s.val, by omega⟩ : Fin 8192) k) := by
  blk_ext [iblk, V, idx t]
theorem blk1 (c : Dev nD) (t : Fin cfg0.N) (s : Fin 4096) (l : Fin 768) :
    iblk m c 1 t (ix2 s l) = m ((c : Thread nD τ).loc main_arg1)
      (ix2 (⟨4096 * (t.val % 2) + s.val, by omega⟩ : Fin 8192) (⟨768 * (t.val / 2) + l.val, by have := lt16 t; omega⟩ : Fin 6144)) := by
  blk_ext [iblk, V, idx t]

theorem halves (f : Fin 8192 → EReal) : ∑ s, f s = (∑ s : Fin 4096, f ⟨s.val, by omega⟩) + ∑ s : Fin 4096, f ⟨4096 + s.val, by omega⟩ :=
  Fin.sum_univ_add (a := 4096) (b := 4096) f

theorem odd_at (c : Dev nD) (t : Fin cfg0.N) (h : t.val % 2 = 1) (k : Fin 1024) (l : Fin 768) :
    outsAt0 m c t.val t.isLt (ix3 (0 : Fin 1) k l)
      = dw (m ((c : Thread nD τ).loc main_arg0)) (m ((c : Thread nD τ).loc main_arg1)) k ⟨768 * (t.val / 2) + l.val, by have := lt16 t; omega⟩ := by
  have ht := lt16 t
  have hp := outA m c ⟨t.val - 1, Nat.lt_of_le_of_lt (Nat.sub_le _ _) t.isLt⟩ (by show (t.val - 1) % 2 = 0; omega)
  rw [outB m c t (by omega), pay2_at]
  refine (congrArg (· + _) ((congrFun hp _).trans (pay2_at _ _ _ k l))).trans ?_
  rw [pay1_at, zero_add, dw, halves]
  refine congrArg₂ (· + ·) (Finset.sum_congr rfl fun s _ => ?_) (Finset.sum_congr rfl fun s _ => ?_)
  · rw [blk0, blk1]
    have e1 : (t.val - 1) % 2 = 0 := by omega
    have e2 : (t.val - 1) / 2 = t.val / 2 := by omega
    simp only [e1, e2, Nat.mul_zero, Nat.zero_add]
  · rw [blk0, blk1]
    simp only [h, Nat.mul_one]

/-- The array of the gradients: slot q holds device 2 (q mod 4) + q / 4. -/
def dwArr (h : FVec Ideal S8192x1024 .bf16) (d : FVec Ideal S8192x6144 .bf16) : FVec Ideal S8x1024x768 .f32 := fun i =>
  dw h d (i 1) ⟨768 * (2 * ((i 0).val % 4) + (i 0).val / 4) + (i 2).val, by
    have h0 : (i 0).val < 8 := (i 0).isLt
    have h2 : (i 2).val < 768 := (i 2).isLt
    omega⟩

theorem slot (n : ℕ) (h : n < 16) : 2 * ((n / 2 % 2 * 4 + n / 4) % 4) + (n / 2 % 2 * 4 + n / 4) / 4 = n / 2 := by
  interval_cases n <;> rfl

theorem final (c : Dev nD) : (dats m 0 c).arrAt 2 cfg0.N = dwArr (m ((c : Thread nD τ).loc main_arg0)) (m ((c : Thread nD τ).loc main_arg1)) := by
  refine (dats m 0 c).arrAt_eq_of_covers 2 _ (by decide +kernel) fun t hf y => ?_
  have ht := lt16 t
  have hodd : t.val % 2 = 1 := (by decide +kernel : ∀ t : Fin grid0.N, (cfg0.win 2).flush t = true → t.val % 2 = 1) t hf
  blk_simp []
  rw [after0_2]
  have hy1 : (y 1).val < 1024 := (y 1).isLt
  have hy2 : (y 2).val < 768 := (y 2).isLt
  have e0 : ((((cfg0.win 2).blk t).view.emb y) 0).val = t.val / 2 % 2 * 4 + t.val / 4 := by
    blk_simp [idx t]
  have e1 : ((((cfg0.win 2).blk t).view.emb y) 1).val = (y 1).val := by
    blk_simp [idx t]
  have e2 : ((((cfg0.win 2).blk t).view.emb y) 2).val = (y 2).val := by
    blk_simp [idx t]
  have ey : y = ix3 (0 : Fin 1) (⟨(y 1).val, hy1⟩ : Fin 1024) (⟨(y 2).val, hy2⟩ : Fin 768) :=
    funext fun a => by match a with | ⟨0, _⟩ => exact Subsingleton.elim (α := Fin 1) _ _ | ⟨1, _⟩ => rfl | ⟨2, _⟩ => rfl
  refine ((congrArg _ ey).trans (odd_at m c t hodd ⟨_, hy1⟩ ⟨_, hy2⟩)).trans ?_
  refine congrArg₂ (dw _ _) (Fin.ext e1.symm) (Fin.ext ?_)
  show 768 * (t.val / 2) + (y 2).val = 768 * (2 * ((((cfg0.win 2).blk t).view.emb y 0).val % 4) + (((cfg0.win 2).blk t).view.emb y 0).val / 4)
    + (((cfg0.win 2).blk t).view.emb y 2).val
  rw [e0, e2, slot t.val ht]

end Cert.Kernel4Ideal.Value

/-! ## The reference's product -/

namespace Cert.Reference4Ideal.Values
open Cert.Reference4Ideal Cert.Reference4Ideal.Gen Cert.Reference4Ideal.Read Cert.Kernel4Ideal.Value

theorem e8 (q : Fin 8) (k : Fin 1024) (l : Fin 768) :
    idx_main_v8 (ix3 q k l) = ix4 (⟨q.val / 4, by omega⟩ : Fin 2) (⟨q.val % 4, by omega⟩ : Fin 4) k l :=
  funext fun a => by
    match a with
    | ⟨0, _⟩ => exact Fin.ext (by show ((q.val * 1024 + k.val) * 768 + l.val) / 3145728 = q.val / 4; omega)
    | ⟨1, _⟩ => exact Fin.ext (by show ((q.val * 1024 + k.val) * 768 + l.val) / 786432 % 4 = q.val % 4; omega)
    | ⟨2, _⟩ => exact Fin.ext (by show ((q.val * 1024 + k.val) * 768 + l.val) / 768 % 1024 = k.val; omega)
    | ⟨3, _⟩ => exact Fin.ext (by show ((q.val * 1024 + k.val) * 768 + l.val) % 768 = l.val; omega)
theorem e7 (b : Fin 2) (a : Fin 4) (k : Fin 1024) (l : Fin 768) : idx_main_v7 (ix4 b a k l) = ix4 k a b l :=
  funext fun x => by match x with | ⟨0, _⟩ => rfl | ⟨1, _⟩ => rfl | ⟨2, _⟩ => rfl | ⟨3, _⟩ => rfl
theorem e6 (b : Fin 2) (a : Fin 4) (k : Fin 1024) (l : Fin 768) :
    idx_main_v6 (ix4 k a b l) = ix2 k (⟨768 * (2 * a.val + b.val) + l.val, by omega⟩ : Fin 6144) :=
  funext fun x => by
    match x with
    | ⟨0, _⟩ => exact Fin.ext (by show (((k.val * 4 + a.val) * 2 + b.val) * 768 + l.val) / 6144 = k.val; omega)
    | ⟨1, _⟩ => exact Fin.ext (by show (((k.val * 4 + a.val) * 2 + b.val) * 768 + l.val) % 6144 = 768 * (2 * a.val + b.val) + l.val; omega)

theorem v5_at (x0 : FVec Ideal S8192x1024 .bf16) (x1 : FVec Ideal S8192x6144 .bf16) (k : Fin 1024) (n : Fin 6144) :
    val_main_v5 (F := Ideal) x0 x1 (ix2 k n) = dw x0 x1 k n := by
  rw [val_main_v5_apply, val_main_v4_apply, dw]
  refine Finset.sum_congr rfl fun s _ => ?_
  rw [mul_comm, val_main_v0_apply, val_main_v3_apply]
  have el : lidx_main_v4 (idx_main_v5 (ix2 k n)) s = ix2 s n := funext fun a => by match a with | ⟨0, _⟩ => rfl | ⟨1, _⟩ => rfl
  have er : ridx_main_v4 (idx_main_v5 (ix2 k n)) s = ix2 s k := funext fun a => by match a with | ⟨0, _⟩ => rfl | ⟨1, _⟩ => rfl
  rw [el, er]
  rfl

theorem ref (x0 : FVec Ideal S8192x1024 .bf16) (x1 : FVec Ideal S8192x6144 .bf16) : val_main_v8 (F := Ideal) x0 x1 = dwArr x0 x1 := by
  funext i
  obtain ⟨q, k, l, rfl⟩ : ∃ (q : Fin 8) (k : Fin 1024) (l : Fin 768), i = ix3 q k l := ⟨_, _, _, ValueIdx.eq_ix3 i⟩
  rw [val_main_v8_apply, e8, val_main_v7_apply, e7, val_main_v6_apply, e6, v5_at]
  rfl
end Cert.Reference4Ideal.Values

end
-- ==== Proof.DwIn5.lean ====
/- The gradient of a projection's weights: the kernel's sum over two halves of the tokens is the reference's product. -/
module

public import proofs.«01_k».proof.Proof.Gen.Kernel5Ideal.Value
public import proofs.«01_k».proof.Proof.Gen.Reference5Ideal.Read
public import Idealize.ShloMosaic.Lib.Pipeline.ValueKit
public import Idealize.ShloMosaic.Lib.Pointwise
public import Idealize.ShloMosaic.Lib.Pipeline.ReadBack
public import Idealize.ShloMosaic.Lib.IdealHost

@[expose] public section
set_option maxRecDepth 16384
noncomputable section
open Idealize.ShloMosaic Idealize.ShloMosaic.TcCoe Idealize.SL.Sem
open Idealize.ShloMosaic.Pipeline (Dat)
open scoped BigOperators
namespace Cert.Kernel5Ideal.Value
open Cert.Kernel5Ideal Cert.Kernel5Ideal.Gen
variable (m : (ℓ : Loc nD τ sig) → Buf (Elt Ideal) ℓ)

theorem outA (c : Dev nD) (t : Fin cfg0.N) (h : t.val % 2 = 0) :
    outsAt0 m c t.val t.isLt = k0_pay2 (F := Ideal) (k0_pay1 (F := Ideal)) (iblk m c 0 t) (iblk m c 1 t) := by
  rw [outsAt0_A m c t h]
  frame_out [View.readCov_cons_toLoadRect, ↓View.readCov_skip, ↓View.readCov_fill]
theorem outB (c : Dev nD) (t : Fin cfg0.N) (h : ¬ t.val % 2 = 0) :
    outsAt0 m c t.val t.isLt = k0_pay2 (F := Ideal) (outsAt0 m c (t.val - 1) (Nat.lt_of_le_of_lt (Nat.sub_le _ _) t.isLt)) (iblk m c 0 t) (iblk m c 1 t) := by
  rw [outsAt0_B m c t h]
  frame_out [View.readCov_cons_toLoadRect, ↓View.readCov_skip, ↓View.readCov_fill]

theorem idx : ∀ t : Fin cfg0.N, win0_0.index t = ![t.val % 2, 0] ∧ win0_1.index t = ![t.val % 2, t.val / 2]
    ∧ win0_2.index t = ![t.val / 2 % 2 * 4 + t.val / 4, 0, 0] ∧ (grid0.coords t 0).val = t.val / 2 :=
  (by decide +kernel : ∀ t : Fin grid0.N, _)

theorem lt16 (t : Fin cfg0.N) : t.val < 16 := lt_of_lt_of_eq t.isLt N_0

theorem pay2_at (X : FVec Ideal S1x1024x512 .f32) (a : FVec Ideal S4096x1024 .bf16) (b : FVec Ideal S4096x512 .bf16) (k : Fin 1024) (l : Fin 512) :
    k0_pay2 (F := Ideal) X a b (ix3 (0 : Fin 1) k l) = X (ix3 (0 : Fin 1) k l) + ∑ s : Fin 4096, a (ix2 s k) * b (ix2 s l) := by
  pointwise [k0_pay2]

theorem pay1_at (k : Fin 1024) (l : Fin 512) : k0_pay1 (F := Ideal) (ix3 (0 : Fin 1) k l) = 0 := by
  pointwise [k0_pay1]

/-- The product over all the tokens. -/
def dw (h : FVec Ideal S8192x1024 .bf16) (d : FVec Ideal S8192x4096 .bf16) (k : Fin 1024) (n : Fin 4096) : EReal :=
  ∑ s : Fin 8192, h (ix2 s k) * d (ix2 s n)

theorem blk0 (c : Dev nD) (t : Fin cfg0.N) (s : Fin 4096) (k : Fin 1024) :
    iblk m c 0 t (ix2 s k) = m ((c : Thread nD τ).loc main_arg0) (ix2 (⟨4096 * (t.val % 2) + s.val, by omega⟩ : Fin 8192) k) := by
  blk_ext [iblk, V, idx t]
theorem blk1 (c : Dev nD) (t : Fin cfg0.N) (s : Fin 4096) (l : Fin 512) :
    iblk m c 1 t (ix2 s l) = m ((c : Thread nD τ).loc main_arg1)
      (ix2 (⟨4096 * (t.val % 2) + s.val, by omega⟩ : Fin 8192) (⟨512 * (t.val / 2) + l.val, by have := lt16 t; omega⟩ : Fin 4096)) := by
  blk_ext [iblk, V, idx t]

theorem halves (f : Fin 8192 → EReal) : ∑ s, f s = (∑ s : Fin 4096, f ⟨s.val, by omega⟩) + ∑ s : Fin 4096, f ⟨4096 + s.val, by omega⟩ :=
  Fin.sum_univ_add (a := 4096) (b := 4096) f

theorem odd_at (c : Dev nD) (t : Fin cfg0.N) (h : t.val % 2 = 1) (k : Fin 1024) (l : Fin 512) :
    outsAt0 m c t.val t.isLt (ix3 (0 : Fin 1) k l)
      = dw (m ((c : Thread nD τ).loc main_arg0)) (m ((c : Thread nD τ).loc main_arg1)) k ⟨512 * (t.val / 2) + l.val, by have := lt16 t; omega⟩ := by
  have ht := lt16 t
  have hp := outA m c ⟨t.val - 1, Nat.lt_of_le_of_lt (Nat.sub_le _ _) t.isLt⟩ (by show (t.val - 1) % 2 = 0; omega)
  rw [outB m c t (by omega), pay2_at]
  refine (congrArg (· + _) ((congrFun hp _).trans (pay2_at _ _ _ k l))).trans ?_
  rw [pay1_at, zero_add, dw, halves]
  refine congrArg₂ (· + ·) (Finset.sum_congr rfl fun s _ => ?_) (Finset.sum_congr rfl fun s _ => ?_)
  · rw [blk0, blk1]
    have e1 : (t.val - 1) % 2 = 0 := by omega
    have e2 : (t.val - 1) / 2 = t.val / 2 := by omega
    simp only [e1, e2, Nat.mul_zero, Nat.zero_add]
  · rw [blk0, blk1]
    simp only [h, Nat.mul_one]

/-- The array of the gradients: slot q holds device 2 (q mod 4) + q / 4. -/
def dwArr (h : FVec Ideal S8192x1024 .bf16) (d : FVec Ideal S8192x4096 .bf16) : FVec Ideal S8x1024x512 .f32 := fun i =>
  dw h d (i 1) ⟨512 * (2 * ((i 0).val % 4) + (i 0).val / 4) + (i 2).val, by
    have h0 : (i 0).val < 8 := (i 0).isLt
    have h2 : (i 2).val < 512 := (i 2).isLt
    omega⟩

theorem slot (n : ℕ) (h : n < 16) : 2 * ((n / 2 % 2 * 4 + n / 4) % 4) + (n / 2 % 2 * 4 + n / 4) / 4 = n / 2 := by
  interval_cases n <;> rfl

theorem final (c : Dev nD) : (dats m 0 c).arrAt 2 cfg0.N = dwArr (m ((c : Thread nD τ).loc main_arg0)) (m ((c : Thread nD τ).loc main_arg1)) := by
  refine (dats m 0 c).arrAt_eq_of_covers 2 _ (by decide +kernel) fun t hf y => ?_
  have ht := lt16 t
  have hodd : t.val % 2 = 1 := (by decide +kernel : ∀ t : Fin grid0.N, (cfg0.win 2).flush t = true → t.val % 2 = 1) t hf
  blk_simp []
  rw [after0_2]
  have hy1 : (y 1).val < 1024 := (y 1).isLt
  have hy2 : (y 2).val < 512 := (y 2).isLt
  have e0 : ((((cfg0.win 2).blk t).view.emb y) 0).val = t.val / 2 % 2 * 4 + t.val / 4 := by
    blk_simp [idx t]
  have e1 : ((((cfg0.win 2).blk t).view.emb y) 1).val = (y 1).val := by
    blk_simp [idx t]
  have e2 : ((((cfg0.win 2).blk t).view.emb y) 2).val = (y 2).val := by
    blk_simp [idx t]
  have ey : y = ix3 (0 : Fin 1) (⟨(y 1).val, hy1⟩ : Fin 1024) (⟨(y 2).val, hy2⟩ : Fin 512) :=
    funext fun a => by match a with | ⟨0, _⟩ => exact Subsingleton.elim (α := Fin 1) _ _ | ⟨1, _⟩ => rfl | ⟨2, _⟩ => rfl
  refine ((congrArg _ ey).trans (odd_at m c t hodd ⟨_, hy1⟩ ⟨_, hy2⟩)).trans ?_
  refine congrArg₂ (dw _ _) (Fin.ext e1.symm) (Fin.ext ?_)
  show 512 * (t.val / 2) + (y 2).val = 512 * (2 * ((((cfg0.win 2).blk t).view.emb y 0).val % 4) + (((cfg0.win 2).blk t).view.emb y 0).val / 4)
    + (((cfg0.win 2).blk t).view.emb y 2).val
  rw [e0, e2, slot t.val ht]

end Cert.Kernel5Ideal.Value

/-! ## The reference's product -/

namespace Cert.Reference5Ideal.Values
open Cert.Reference5Ideal Cert.Reference5Ideal.Gen Cert.Reference5Ideal.Read Cert.Kernel5Ideal.Value

theorem e8 (q : Fin 8) (k : Fin 1024) (l : Fin 512) :
    idx_main_v8 (ix3 q k l) = ix4 (⟨q.val / 4, by omega⟩ : Fin 2) (⟨q.val % 4, by omega⟩ : Fin 4) k l :=
  funext fun a => by
    match a with
    | ⟨0, _⟩ => exact Fin.ext (by show ((q.val * 1024 + k.val) * 512 + l.val) / 2097152 = q.val / 4; omega)
    | ⟨1, _⟩ => exact Fin.ext (by show ((q.val * 1024 + k.val) * 512 + l.val) / 524288 % 4 = q.val % 4; omega)
    | ⟨2, _⟩ => exact Fin.ext (by show ((q.val * 1024 + k.val) * 512 + l.val) / 512 % 1024 = k.val; omega)
    | ⟨3, _⟩ => exact Fin.ext (by show ((q.val * 1024 + k.val) * 512 + l.val) % 512 = l.val; omega)
theorem e7 (b : Fin 2) (a : Fin 4) (k : Fin 1024) (l : Fin 512) : idx_main_v7 (ix4 b a k l) = ix4 k a b l :=
  funext fun x => by match x with | ⟨0, _⟩ => rfl | ⟨1, _⟩ => rfl | ⟨2, _⟩ => rfl | ⟨3, _⟩ => rfl
theorem e6 (b : Fin 2) (a : Fin 4) (k : Fin 1024) (l : Fin 512) :
    idx_main_v6 (ix4 k a b l) = ix2 k (⟨512 * (2 * a.val + b.val) + l.val, by omega⟩ : Fin 4096) :=
  funext fun x => by
    match x with
    | ⟨0, _⟩ => exact Fin.ext (by show (((k.val * 4 + a.val) * 2 + b.val) * 512 + l.val) / 4096 = k.val; omega)
    | ⟨1, _⟩ => exact Fin.ext (by show (((k.val * 4 + a.val) * 2 + b.val) * 512 + l.val) % 4096 = 512 * (2 * a.val + b.val) + l.val; omega)

theorem v5_at (x0 : FVec Ideal S8192x1024 .bf16) (x1 : FVec Ideal S8192x4096 .bf16) (k : Fin 1024) (n : Fin 4096) :
    val_main_v5 (F := Ideal) x0 x1 (ix2 k n) = dw x0 x1 k n := by
  rw [val_main_v5_apply, val_main_v4_apply, dw]
  refine Finset.sum_congr rfl fun s _ => ?_
  rw [mul_comm, val_main_v0_apply, val_main_v3_apply]
  have el : lidx_main_v4 (idx_main_v5 (ix2 k n)) s = ix2 s n := funext fun a => by match a with | ⟨0, _⟩ => rfl | ⟨1, _⟩ => rfl
  have er : ridx_main_v4 (idx_main_v5 (ix2 k n)) s = ix2 s k := funext fun a => by match a with | ⟨0, _⟩ => rfl | ⟨1, _⟩ => rfl
  rw [el, er]
  rfl

theorem ref (x0 : FVec Ideal S8192x1024 .bf16) (x1 : FVec Ideal S8192x4096 .bf16) : val_main_v8 (F := Ideal) x0 x1 = dwArr x0 x1 := by
  funext i
  obtain ⟨q, k, l, rfl⟩ : ∃ (q : Fin 8) (k : Fin 1024) (l : Fin 512), i = ix3 q k l := ⟨_, _, _, ValueIdx.eq_ix3 i⟩
  rw [val_main_v8_apply, e8, val_main_v7_apply, e7, val_main_v6_apply, e6, v5_at]
  rfl
end Cert.Reference5Ideal.Values

end
-- ==== Proof.DhRef6.lean ====
/- The reference's gradient of a projection's input, entry by entry. -/
module

public import proofs.«01_k».proof.Proof.DhSpec
public import proofs.«01_k».proof.Proof.Gen.Reference6Ideal.Read
public import Idealize.ShloMosaic.Lib.Pointwise
public import Idealize.ShloMosaic.Lib.IdealHost

@[expose] public section
set_option maxRecDepth 16384
noncomputable section
open Idealize.ShloMosaic Idealize.ShloMosaic.TcCoe Idealize.SL.Sem
open scoped BigOperators
namespace Cert.Reference6Ideal.Values
open Cert.Reference6Ideal Cert.Reference6Ideal.Gen Cert.Reference6Ideal.Read
variable (x0 : FVec Ideal S8192x6144 .bf16) (x1 : FVec Ideal S8x1024x768 .bf16) (x2 : FVec Ideal S8192x1024 .f32) (x3 : FVec Ideal S1x1024 .f32) (x4 : FVec Ideal S8192x1024 .f32)

/-- The gradient of the normalised row. -/
def dh (s : Fin 8192) (k : Fin 1024) : EReal :=
  ∑ q : Fin 8, ∑ l : Fin 768, x0 (ix2 s (⟨768 * q.val + l.val, by omega⟩ : Fin 6144)) * x1 (ix3 q k l)

theorem slabs (f : Fin 6144 → EReal) : ∑ n, f n = ∑ q : Fin 8, ∑ l : Fin 768, f ⟨768 * q.val + l.val, by omega⟩ := by
  rw [← Fintype.sum_prod_type', ← Equiv.sum_comp (finProdFinEquiv (m := 8) (n := 768))]
  exact Finset.sum_congr rfl fun x _ => congrArg f (Fin.ext (by simp [finProdFinEquiv]; omega))

theorem v2_at (k : Fin 1024) (q : Fin 8) (l : Fin 768) :
    val_main_v2 (F := Ideal) x1 (ix2 k (⟨768 * q.val + l.val, by omega⟩ : Fin 6144)) = x1 (ix3 q k l) := by
  rw [val_main_v2_apply, val_main_v1_apply, val_main_v0_apply]
  refine congrArg x1 (funext fun a => ?_)
  match a with
  | ⟨0, _⟩ => exact Fin.ext (by show (k.val * 6144 + (768 * q.val + l.val)) / 768 % 8 = q.val; omega)
  | ⟨1, _⟩ => exact Fin.ext (by show (k.val * 6144 + (768 * q.val + l.val)) / 6144 = k.val; omega)
  | ⟨2, _⟩ => exact Fin.ext (by show (k.val * 6144 + (768 * q.val + l.val)) % 768 = l.val; omega)

theorem v22_at (s : Fin 8192) (k : Fin 1024) : val_main_v22 (F := Ideal) x0 x1 (ix2 s k) = dh x0 x1 s k := by
  rw [val_main_v22_apply, dh, slabs]
  refine Finset.sum_congr rfl fun q _ => Finset.sum_congr rfl fun l _ => ?_
  refine congrArg₂ (· * ·) ?_ ((congrArg (val_main_v2 (F := Ideal) x1) (funext fun a => by match a with | ⟨0, _⟩ => rfl | ⟨1, _⟩ => rfl)).trans (v2_at x1 k q l))
  pointwise [val_main_v21]
  exact congrArg x0 (funext fun a => by match a with | ⟨0, _⟩ => rfl | ⟨1, _⟩ => rfl)

/-- The row of the input, and of the gradient of the normalised row times the gain. -/
abbrev xr (s : Fin 8192) : Fin 1024 → EReal := fun k => x2 (ix2 s k)
abbrev dr (s : Fin 8192) : Fin 1024 → EReal := fun k => dh x0 x1 s k * x3 (ix2 (0 : Fin 1) k)

theorem v10_at (s : Fin 8192) : val_main_v10 (F := Ideal) x2 (ix2 s (0 : Fin 1)) = Spec.ms (xr x2 s) := by
  pointwise [val_main_v10, val_main_v9, val_main_v8, val_main_v7, val_main_v6, val_main_v5, val_main_v4, val_main_cst, val_main_cst_0, val_main_cst_1]
  rfl

theorem v43_at (s : Fin 8192) (k : Fin 1024) : val_main_v43 (F := Ideal) x0 x1 x2 x3 x4 (ix2 s k)
    = ((dr x0 x1 x3 s k * Ideal.rsqrt (Spec.ms (xr x2 s)) + xr x2 s k * Spec.co (xr x2 s) (dr x0 x1 x3 s)) + Spec.co (xr x2 s) (dr x0 x1 x3 s) * xr x2 s k)
      + x4 (ix2 s k) := by
  pointwise [val_main_v43, val_main_v42, val_main_v41, val_main_v40, val_main_v39, val_main_v38, val_main_v37, val_main_v36, val_main_v35, val_main_v34, val_main_v33, val_main_v32, val_main_v31, val_main_v30, val_main_v29, val_main_v27, val_main_v26, val_main_v17, val_main_v14, val_main_v13, val_main_v12, val_main_v11, val_main_v3, val_main_cst_2, val_main_cst_5, val_main_cst_6, val_main_cst_7]
  simp only [Fin.sum_univ_one, v22_at, v10_at]
  rfl

theorem v25_at (k : Fin 1024) : val_main_v45 (F := Ideal) x0 x1 x2 (ix2 (0 : Fin 1) k)
    = ∑ s : Fin 8192, (x2 (ix2 s k) * Ideal.rsqrt (Spec.ms (xr x2 s))) * dh x0 x1 s k := by
  pointwise [val_main_v45, val_main_v28, val_main_v25, val_main_v24, val_main_v23, val_main_v16, val_main_v15, val_main_v11, val_main_cst_3, val_main_cst_4]
  simp only [Fin.sum_univ_one, v22_at, v10_at]

/-- The gradient of the input, the residual's added. -/
def dx (s : Fin 8192) (k : Fin 1024) : EReal :=
  ((dr x0 x1 x3 s k * Ideal.rsqrt (Spec.ms (xr x2 s)) + xr x2 s k * Spec.co (xr x2 s) (dr x0 x1 x3 s)) + Spec.co (xr x2 s) (dr x0 x1 x3 s) * xr x2 s k)
      + x4 (ix2 s k)
/-- The gradient of the gain. -/
def dg (k : Fin 1024) : EReal := ∑ s : Fin 8192, (x2 (ix2 s k) * Ideal.rsqrt (Spec.ms (xr x2 s))) * dh x0 x1 s k

def dxArr : FVec Ideal S8192x1024 .f32 := fun i => dx x0 x1 x2 x3 x4 (i 0) (i 1)
def dxbArr : FVec Ideal S8192x1024 .bf16 := fun i => dx x0 x1 x2 x3 x4 (i 0) (i 1)
def dgArr : FVec Ideal S1x1024 .f32 := fun i => dg x0 x1 x2 (i 1)

theorem ref_x : val_main_v43 (F := Ideal) x0 x1 x2 x3 x4 = dxArr x0 x1 x2 x3 x4 := by
  funext i
  obtain ⟨s, k, rfl⟩ : ∃ (s : Fin 8192) (k : Fin 1024), i = ix2 s k := ⟨_, _, ValueIdx.eq_ix2 i⟩
  exact v43_at x0 x1 x2 x3 x4 s k
theorem ref_b : val_main_v44 (F := Ideal) x0 x1 x2 x3 x4 = dxbArr x0 x1 x2 x3 x4 := by
  funext i
  obtain ⟨s, k, rfl⟩ : ∃ (s : Fin 8192) (k : Fin 1024), i = ix2 s k := ⟨_, _, ValueIdx.eq_ix2 i⟩
  rw [val_main_v44_apply]
  exact v43_at x0 x1 x2 x3 x4 s k
theorem ref_g : val_main_v45 (F := Ideal) x0 x1 x2 = dgArr x0 x1 x2 := by
  funext i
  obtain ⟨u, k, rfl⟩ : ∃ (u : Fin 1) (k : Fin 1024), i = ix2 u k := ⟨_, _, ValueIdx.eq_ix2 i⟩
  rw [Subsingleton.elim u 0]
  exact v25_at x0 x1 x2 k

end Cert.Reference6Ideal.Values
end
-- ==== Proof.DhOuts6.lean ====
/- The kernel of a projection's input gradient, step by step: what each step leaves in its results and in its running sum. -/
module

public import proofs.«01_k».proof.Proof.Gen.Kernel6Ideal.Value
public import Idealize.ShloMosaic.Lib.Pipeline.ValueKit
public import Idealize.ShloMosaic.Lib.Pointwise
public import Idealize.ShloMosaic.Lib.Pipeline.ReadBack
public import Idealize.ShloMosaic.Lib.IdealHost

@[expose] public section
set_option maxRecDepth 16384
noncomputable section
open Idealize.ShloMosaic Idealize.ShloMosaic.TcCoe Idealize.SL.Sem
open Idealize.ShloMosaic.Pipeline (Dat)
open scoped BigOperators
namespace Cert.Kernel6Ideal.Value
open Cert.Kernel6Ideal Cert.Kernel6Ideal.Gen
variable (m : (ℓ : Loc nD τ sig) → Buf (Elt Ideal) ℓ)

abbrev d0 : Rect S1024x1536 := (Rect.unit ![0, 0] ![1024, 768] (by decide))
abbrev d1 : Rect S1024x1536 := (Rect.unit ![0, 768] ![1024, 768] (by decide))
abbrev w0 : Rect S2x1024x768 := (Rect.unit ![0, 0, 0] ![1, 1024, 768] (by decide))
abbrev w1 : Rect S2x1024x768 := (Rect.unit ![1, 0, 0] ![1, 1024, 768] (by decide))

/-- The running sum after a step. -/
def acc (A : FVec Ideal S1024x1024 .f32) (x : FVec Ideal S1024x1536 .bf16) (w : FVec Ideal S2x1024x768 .bf16) : FVec Ideal S1024x1024 .f32 :=
  k0_pay2 (F := Ideal) A (View.ld (Val := Elt Ideal) (e' := .bf16) x d0) (View.ld (Val := Elt Ideal) (e' := .bf16) w w0) (View.ld (Val := Elt Ideal) (e' := .bf16) x d1) (View.ld (Val := Elt Ideal) (e' := .bf16) w w1)

theorem lt32 (t : Fin cfg0.N) : t.val < 32 := lt_of_lt_of_eq t.isLt N_0
abbrev pv (c : Dev nD) (t : Fin cfg0.N) := outsAt0 m c (t.val - 1) (Nat.lt_of_le_of_lt (Nat.sub_le _ _) t.isLt)

theorem outA_s (c : Dev nD) (t : Fin cfg0.N) (h : t.val % 4 = 0) :
    (outsAt0 m c t.val t.isLt).2.2.2 = acc (k0_pay1 (F := Ideal)) (iblk m c 0 t) (iblk m c 1 t) := by
  rw [outsAt0_A m c t h (by omega)]
  frame_out [View.readCov_cons_toLoadRect, ↓View.readCov_skip, ↓View.readCov_fill]
  try simp only [read_unread_whole]
  rfl
theorem outA_g (c : Dev nD) (t : Fin cfg0.N) (h : t.val % 4 = 0) :
    (outsAt0 m c t.val t.isLt).2.2.1 = (pv m c t).2.2.1 := by
  rw [outsAt0_A m c t h (by omega)]
  frame_out [View.readCov_cons_toLoadRect, ↓View.readCov_skip, ↓View.readCov_fill]
  rfl
theorem outB_s (c : Dev nD) (t : Fin cfg0.N) (h : ¬ t.val % 4 = 0) (h' : ¬ t.val % 4 = 3) :
    (outsAt0 m c t.val t.isLt).2.2.2 = acc (pv m c t).2.2.2 (iblk m c 0 t) (iblk m c 1 t) := by
  rw [outsAt0_B m c t h h']
  frame_out [View.readCov_cons_toLoadRect, ↓View.readCov_skip, ↓View.readCov_fill]
  try simp only [read_unread_whole]
  rfl
theorem outB_g (c : Dev nD) (t : Fin cfg0.N) (h : ¬ t.val % 4 = 0) (h' : ¬ t.val % 4 = 3) :
    (outsAt0 m c t.val t.isLt).2.2.1 = (pv m c t).2.2.1 := by
  rw [outsAt0_B m c t h h']
  frame_out [View.readCov_cons_toLoadRect, ↓View.readCov_skip, ↓View.readCov_fill]
  rfl
theorem outC_x (c : Dev nD) (t : Fin cfg0.N) (h : t.val % 4 = 3) (h' : t.val < 4) :
    (outsAt0 m c t.val t.isLt).1 = k0_pay8 (F := Ideal) (acc (pv m c t).2.2.2 (iblk m c 0 t) (iblk m c 1 t)) (iblk m c 2 t) (iblk m c 3 t) (iblk m c 4 t) := by
  rw [outsAt0_C m c t (by omega) h h']
  frame_out [View.readCov_cons_toLoadRect, ↓View.readCov_skip, ↓View.readCov_fill]
  try simp only [read_unread_whole]
  rfl
theorem outD_x (c : Dev nD) (t : Fin cfg0.N) (h : t.val % 4 = 3) (h' : ¬ t.val < 4) :
    (outsAt0 m c t.val t.isLt).1 = k0_pay8 (F := Ideal) (acc (pv m c t).2.2.2 (iblk m c 0 t) (iblk m c 1 t)) (iblk m c 2 t) (iblk m c 3 t) (iblk m c 4 t) := by
  rw [outsAt0_D m c t (by omega) h h']
  frame_out [View.readCov_cons_toLoadRect, ↓View.readCov_skip, ↓View.readCov_fill]
  try simp only [read_unread_whole]
  rfl
theorem outC_b (c : Dev nD) (t : Fin cfg0.N) (h : t.val % 4 = 3) (h' : t.val < 4) :
    (outsAt0 m c t.val t.isLt).2.1 = k0_pay3 (F := Ideal) (k0_pay8 (F := Ideal) (acc (pv m c t).2.2.2 (iblk m c 0 t) (iblk m c 1 t)) (iblk m c 2 t) (iblk m c 3 t) (iblk m c 4 t)) := by
  rw [outsAt0_C m c t (by omega) h h']
  frame_out [View.readCov_cons_toLoadRect, ↓View.readCov_skip, ↓View.readCov_fill]
  try simp only [read_unread_whole]
  rfl
theorem outD_b (c : Dev nD) (t : Fin cfg0.N) (h : t.val % 4 = 3) (h' : ¬ t.val < 4) :
    (outsAt0 m c t.val t.isLt).2.1 = k0_pay3 (F := Ideal) (k0_pay8 (F := Ideal) (acc (pv m c t).2.2.2 (iblk m c 0 t) (iblk m c 1 t)) (iblk m c 2 t) (iblk m c 3 t) (iblk m c 4 t)) := by
  rw [outsAt0_D m c t (by omega) h h']
  frame_out [View.readCov_cons_toLoadRect, ↓View.readCov_skip, ↓View.readCov_fill]
  try simp only [read_unread_whole]
  rfl
theorem outC_g (c : Dev nD) (t : Fin cfg0.N) (h : t.val % 4 = 3) (h' : t.val < 4) :
    (outsAt0 m c t.val t.isLt).2.2.1 = k0_pay7 (F := Ideal) (acc (pv m c t).2.2.2 (iblk m c 0 t) (iblk m c 1 t)) (iblk m c 2 t) (k0_pay4 (F := Ideal)) := by
  rw [outsAt0_C m c t (by omega) h h']
  frame_out [View.readCov_cons_toLoadRect, ↓View.readCov_skip, ↓View.readCov_fill]
  try simp only [read_unread_whole]
  rfl
theorem outD_g (c : Dev nD) (t : Fin cfg0.N) (h : t.val % 4 = 3) (h' : ¬ t.val < 4) :
    (outsAt0 m c t.val t.isLt).2.2.1 = k0_pay7 (F := Ideal) (acc (pv m c t).2.2.2 (iblk m c 0 t) (iblk m c 1 t)) (iblk m c 2 t) (pv m c t).2.2.1 := by
  rw [outsAt0_D m c t (by omega) h h']
  frame_out [View.readCov_cons_toLoadRect, ↓View.readCov_skip, ↓View.readCov_fill]
  try simp only [read_unread_whole]
  rfl

theorem ld_d0 (x : FVec Ideal S1024x1536 .bf16) (s : Fin 1024) (l : Fin 768) : View.ld (Val := Elt Ideal) (e' := .bf16) x d0 (ix2 s l) = x (ix2 s (⟨l.val, by omega⟩ : Fin 1536)) :=
  congrArg x (funext fun a => by
    match a with
    | ⟨0, _⟩ => exact Fin.ext (by show 0 + 1 * s.val = s.val; omega)
    | ⟨1, _⟩ => exact Fin.ext (by show 0 + 1 * l.val = l.val; omega))
theorem ld_d1 (x : FVec Ideal S1024x1536 .bf16) (s : Fin 1024) (l : Fin 768) : View.ld (Val := Elt Ideal) (e' := .bf16) x d1 (ix2 s l) = x (ix2 s (⟨768 + l.val, by omega⟩ : Fin 1536)) :=
  congrArg x (funext fun a => by
    match a with
    | ⟨0, _⟩ => exact Fin.ext (by show 0 + 1 * s.val = s.val; omega)
    | ⟨1, _⟩ => exact Fin.ext (by show 768 + 1 * l.val = 768 + l.val; omega))
theorem ld_w0 (w : FVec Ideal S2x1024x768 .bf16) (k : Fin 1024) (l : Fin 768) : View.ld (Val := Elt Ideal) (e' := .bf16) w w0 (ix3 (0 : Fin 1) k l) = w (ix3 (0 : Fin 2) k l) :=
  congrArg w (funext fun a => by
    match a with
    | ⟨0, _⟩ => rfl
    | ⟨1, _⟩ => exact Fin.ext (by show 0 + 1 * k.val = k.val; omega)
    | ⟨2, _⟩ => exact Fin.ext (by show 0 + 1 * l.val = l.val; omega))
theorem ld_w1 (w : FVec Ideal S2x1024x768 .bf16) (k : Fin 1024) (l : Fin 768) : View.ld (Val := Elt Ideal) (e' := .bf16) w w1 (ix3 (0 : Fin 1) k l) = w (ix3 (1 : Fin 2) k l) :=
  congrArg w (funext fun a => by
    match a with
    | ⟨0, _⟩ => rfl
    | ⟨1, _⟩ => exact Fin.ext (by show 0 + 1 * k.val = k.val; omega)
    | ⟨2, _⟩ => exact Fin.ext (by show 0 + 1 * l.val = l.val; omega))

theorem acc_at (A : FVec Ideal S1024x1024 .f32) (x : FVec Ideal S1024x1536 .bf16) (w : FVec Ideal S2x1024x768 .bf16) (s k : Fin 1024) :
    acc A x w (ix2 s k) = A (ix2 s k) + ((∑ l : Fin 768, x (ix2 s (⟨l.val, by omega⟩ : Fin 1536)) * w (ix3 (0 : Fin 2) k l))
      + ∑ l : Fin 768, x (ix2 s (⟨768 + l.val, by omega⟩ : Fin 1536)) * w (ix3 (1 : Fin 2) k l)) := by
  unfold acc
  generalize h0 : View.ld (Val := Elt Ideal) (e' := .bf16) x d0 = a0
  generalize h1 : View.ld (Val := Elt Ideal) (e' := .bf16) x d1 = a1
  generalize h2 : View.ld (Val := Elt Ideal) (e' := .bf16) w w0 = a2
  generalize h3 : View.ld (Val := Elt Ideal) (e' := .bf16) w w1 = a3
  have e : ∀ l : Fin 768, a0 (ix2 s l) = x (ix2 s (⟨l.val, by omega⟩ : Fin 1536)) := fun l => (congrFun h0.symm _).trans (ld_d0 x s l)
  have e1 : ∀ l : Fin 768, a1 (ix2 s l) = x (ix2 s (⟨768 + l.val, by omega⟩ : Fin 1536)) := fun l => (congrFun h1.symm _).trans (ld_d1 x s l)
  have e2 : ∀ l : Fin 768, a2 (ix3 (0 : Fin 1) k l) = w (ix3 (0 : Fin 2) k l) := fun l => (congrFun h2.symm _).trans (ld_w0 w k l)
  have e3 : ∀ l : Fin 768, a3 (ix3 (0 : Fin 1) k l) = w (ix3 (1 : Fin 2) k l) := fun l => (congrFun h3.symm _).trans (ld_w1 w k l)
  pointwise [k0_pay2]
  simp only [e, e1, e2, e3]

end Cert.Kernel6Ideal.Value
end
-- ==== Proof.DhFinal6.lean ====
/- The kernel of a projection's input gradient: its results are the reference's. -/
module

public import proofs.«01_k».proof.Proof.DhOuts6
public import proofs.«01_k».proof.Proof.DhRef6

@[expose] public section
set_option maxRecDepth 16384
noncomputable section
open Idealize.ShloMosaic Idealize.ShloMosaic.TcCoe Idealize.SL.Sem
open Idealize.ShloMosaic.Pipeline (Dat)
open scoped BigOperators
namespace Cert.Kernel6Ideal.Value
open Cert.Kernel6Ideal Cert.Kernel6Ideal.Gen
open Cert.Reference6Ideal.Values (dh dx dg xr dr dxArr dxbArr dgArr)
variable (m : (ℓ : Loc nD τ sig) → Buf (Elt Ideal) ℓ)

theorem pay8_at (D X R : FVec Ideal S1024x1024 .f32) (g : FVec Ideal S1x1024 .f32) (s k : Fin 1024) :
    k0_pay8 (F := Ideal) D X g R (ix2 s k)
      = R (ix2 s k) + Ideal.rsqrt (Spec.ms fun k => X (ix2 s k)) * (D (ix2 s k) * g (ix2 (0 : Fin 1) k)
        - (X (ix2 s k) * Ideal.rsqrt (Spec.ms fun k => X (ix2 s k)))
          * Ideal.div (∑ j, (D (ix2 s j) * g (ix2 (0 : Fin 1) j)) * (X (ix2 s j) * Ideal.rsqrt (Spec.ms fun k => X (ix2 s k)))) (Ideal.ofBits .f32 0x44800000#32)) := by
  pointwise [k0_pay8, k0_pay6, k0_pay5]
  rfl
theorem pay7_at (D X : FVec Ideal S1024x1024 .f32) (G : FVec Ideal S1x1024 .f32) (k : Fin 1024) :
    k0_pay7 (F := Ideal) D X G (ix2 (0 : Fin 1) k)
      = G (ix2 (0 : Fin 1) k) + ∑ s : Fin 1024, D (ix2 s k) * (X (ix2 s k) * Ideal.rsqrt (Spec.ms fun k => X (ix2 s k))) := by
  pointwise [k0_pay7, k0_pay6, k0_pay5]
  rfl
theorem pay3_at (X : FVec Ideal S1024x1024 .f32) (s k : Fin 1024) : k0_pay3 (F := Ideal) X (ix2 s k) = X (ix2 s k) := by
  pointwise [k0_pay3]
theorem pay4_at (k : Fin 1024) : k0_pay4 (F := Ideal) (ix2 (0 : Fin 1) k) = 0 := by
  pointwise [k0_pay4]
theorem pay1_at (s k : Fin 1024) : k0_pay1 (F := Ideal) (ix2 s k) = 0 := by
  pointwise [k0_pay1]

theorem idx : ∀ t : Fin cfg0.N, win0_0.index t = ![t.val / 4, t.val % 4] ∧ win0_1.index t = ![t.val % 4, 0, 0]
    ∧ win0_2.index t = ![t.val / 4, 0] ∧ win0_3.index t = ![0, 0] ∧ win0_4.index t = ![t.val / 4, 0] ∧ win0_5.index t = ![t.val / 4, 0]
    ∧ win0_6.index t = ![t.val / 4, 0] ∧ win0_7.index t = ![0, 0] :=
  (by decide +kernel : ∀ t : Fin grid0.N, _)

/-- The row that row s of a step's block is. -/
abbrev rw0 (t : Fin cfg0.N) (s : Fin 1024) : Fin 8192 := ⟨1024 * (t.val / 4) + s.val, by have := lt32 t; omega⟩

theorem blk0 (c : Dev nD) (t : Fin cfg0.N) (s : Fin 1024) (l : Fin 1536) :
    iblk m c 0 t (ix2 s l) = m ((c : Thread nD τ).loc main_arg0) (ix2 (rw0 t s) (⟨1536 * (t.val % 4) + l.val, by omega⟩ : Fin 6144)) := by
  blk_ext [iblk, V, idx t]
theorem blk1 (c : Dev nD) (t : Fin cfg0.N) (q : Fin 2) (k : Fin 1024) (l : Fin 768) :
    iblk m c 1 t (ix3 q k l) = m ((c : Thread nD τ).loc main_arg1) (ix3 (⟨2 * (t.val % 4) + q.val, by omega⟩ : Fin 8) k l) := by
  blk_ext [iblk, V, idx t]
theorem blk2 (c : Dev nD) (t : Fin cfg0.N) (s k : Fin 1024) :
    iblk m c 2 t (ix2 s k) = m ((c : Thread nD τ).loc main_arg2) (ix2 (rw0 t s) k) := by
  blk_ext [iblk, V, idx t]
theorem blk3 (c : Dev nD) (t : Fin cfg0.N) (k : Fin 1024) :
    iblk m c 3 t (ix2 (0 : Fin 1) k) = m ((c : Thread nD τ).loc main_arg3) (ix2 (0 : Fin 1) k) := by
  blk_ext [iblk, V, idx t]
theorem blk4 (c : Dev nD) (t : Fin cfg0.N) (s k : Fin 1024) :
    iblk m c 4 t (ix2 s k) = m ((c : Thread nD τ).loc main_arg4) (ix2 (rw0 t s) k) := by
  blk_ext [iblk, V, idx t]

/-- One slab's share of the gradient of the normalised row. -/
def slab (x0 : FVec Ideal S8192x6144 .bf16) (x1 : FVec Ideal S8x1024x768 .bf16) (s : Fin 8192) (k : Fin 1024) (q : Fin 8) : EReal :=
  ∑ l : Fin 768, x0 (ix2 s (⟨768 * q.val + l.val, by omega⟩ : Fin 6144)) * x1 (ix3 q k l)

theorem acc_step (c : Dev nD) (t : Fin cfg0.N) (A : FVec Ideal S1024x1024 .f32) (s k : Fin 1024) (j : ℕ) (hj : t.val % 4 = j) (h : j < 4) :
    acc A (iblk m c 0 t) (iblk m c 1 t) (ix2 s k) = A (ix2 s k)
      + (slab (m ((c : Thread nD τ).loc main_arg0)) (m ((c : Thread nD τ).loc main_arg1)) (rw0 t s) k ⟨2 * j, by omega⟩
        + slab (m ((c : Thread nD τ).loc main_arg0)) (m ((c : Thread nD τ).loc main_arg1)) (rw0 t s) k ⟨2 * j + 1, by omega⟩) := by
  subst hj
  rw [acc_at]
  refine congrArg₂ (· + ·) rfl (congrArg₂ (· + ·) (Finset.sum_congr rfl fun l _ => ?_) (Finset.sum_congr rfl fun l _ => ?_))
  · rw [blk0, blk1]
    refine congrArg₂ (· * ·) (congrArg _ (congrArg _ (Fin.ext ?_))) rfl
    show 1536 * (t.val % 4) + l.val = 768 * (2 * (t.val % 4)) + l.val
    omega
  · rw [blk0, blk1]
    refine congrArg₂ (· * ·) (congrArg _ (congrArg _ (Fin.ext ?_))) rfl
    show 1536 * (t.val % 4) + (768 + l.val) = 768 * (2 * (t.val % 4) + 1) + l.val
    omega

abbrev pt (t : Fin cfg0.N) : Fin cfg0.N := ⟨t.val - 1, Nat.lt_of_le_of_lt (Nat.sub_le _ _) t.isLt⟩

/-- The running sum is complete at the last step of a row block. -/
theorem dh_at (c : Dev nD) (t : Fin cfg0.N) (h : t.val % 4 = 3) (s k : Fin 1024) :
    acc (pv m c t).2.2.2 (iblk m c 0 t) (iblk m c 1 t) (ix2 s k)
      = dh (m ((c : Thread nD τ).loc main_arg0)) (m ((c : Thread nD τ).loc main_arg1)) (rw0 t s) k := by
  have ht := lt32 t
  have e1 : ∀ s, rw0 (pt t) s = rw0 t s := fun s => Fin.ext (by show 1024 * ((t.val - 1) / 4) + s.val = 1024 * (t.val / 4) + s.val; omega)
  have e2 : ∀ s, rw0 (pt (pt t)) s = rw0 t s := fun s => Fin.ext (by show 1024 * ((t.val - 1 - 1) / 4) + s.val = 1024 * (t.val / 4) + s.val; omega)
  have e3 : ∀ s, rw0 (pt (pt (pt t))) s = rw0 t s := fun s => Fin.ext (by show 1024 * ((t.val - 1 - 1 - 1) / 4) + s.val = 1024 * (t.val / 4) + s.val; omega)
  have o1 := outB_s m c (pt t) (by show ¬ (t.val - 1) % 4 = 0; omega) (by show ¬ (t.val - 1) % 4 = 3; omega)
  have o2 := outB_s m c (pt (pt t)) (by show ¬ (t.val - 1 - 1) % 4 = 0; omega) (by show ¬ (t.val - 1 - 1) % 4 = 3; omega)
  have o3 := outA_s m c (pt (pt (pt t))) (by show (t.val - 1 - 1 - 1) % 4 = 0; omega)
  rw [acc_step m c t _ s k 3 h (by omega)]
  rw [show (pv m c t).2.2.2 (ix2 s k) = _ from (congrFun o1 _).trans (acc_step m c (pt t) _ s k 2 (by show (t.val - 1) % 4 = 2; omega) (by omega))]
  rw [show (pv m c (pt t)).2.2.2 (ix2 s k) = _ from (congrFun o2 _).trans (acc_step m c (pt (pt t)) _ s k 1 (by show (t.val - 1 - 1) % 4 = 1; omega) (by omega))]
  rw [show (pv m c (pt (pt t))).2.2.2 (ix2 s k) = _ from (congrFun o3 _).trans (acc_step m c (pt (pt (pt t))) _ s k 0 (by show (t.val - 1 - 1 - 1) % 4 = 0; omega) (by omega))]
  rw [pay1_at, zero_add, e1, e2, e3]
  unfold dh
  rw [Fin.sum_univ_eight]
  simp only [add_assoc]
  rfl

/-- The block of the input's gradient. -/
theorem x_at (c : Dev nD) (t : Fin cfg0.N) (h : t.val % 4 = 3) (s k : Fin 1024) :
    k0_pay8 (F := Ideal) (acc (pv m c t).2.2.2 (iblk m c 0 t) (iblk m c 1 t)) (iblk m c 2 t) (iblk m c 3 t) (iblk m c 4 t) (ix2 s k)
      = dx (m ((c : Thread nD τ).loc main_arg0)) (m ((c : Thread nD τ).loc main_arg1)) (m ((c : Thread nD τ).loc main_arg2)) (m ((c : Thread nD τ).loc main_arg3)) (m ((c : Thread nD τ).loc main_arg4)) (rw0 t s) k := by
  rw [pay8_at]
  simp only [dh_at m c t h, blk2, blk3, blk4]
  exact Spec.row_eq (xr (m ((c : Thread nD τ).loc main_arg2)) (rw0 t s)) (dr (m ((c : Thread nD τ).loc main_arg0)) (m ((c : Thread nD τ).loc main_arg1)) (m ((c : Thread nD τ).loc main_arg3)) (rw0 t s)) k _

theorem out_x (c : Dev nD) (t : Fin cfg0.N) (h : t.val % 4 = 3) :
    (outsAt0 m c t.val t.isLt).1 = k0_pay8 (F := Ideal) (acc (pv m c t).2.2.2 (iblk m c 0 t) (iblk m c 1 t)) (iblk m c 2 t) (iblk m c 3 t) (iblk m c 4 t) := by
  by_cases h' : t.val < 4
  · exact outC_x m c t h h'
  · exact outD_x m c t h h'
theorem out_b (c : Dev nD) (t : Fin cfg0.N) (h : t.val % 4 = 3) :
    (outsAt0 m c t.val t.isLt).2.1 = k0_pay3 (F := Ideal) (k0_pay8 (F := Ideal) (acc (pv m c t).2.2.2 (iblk m c 0 t) (iblk m c 1 t)) (iblk m c 2 t) (iblk m c 3 t) (iblk m c 4 t)) := by
  by_cases h' : t.val < 4
  · exact outC_b m c t h h'
  · exact outD_b m c t h h'

/-- One row block's share of the gain's gradient. -/
def gp (x0 : FVec Ideal S8192x6144 .bf16) (x1 : FVec Ideal S8x1024x768 .bf16) (x2 : FVec Ideal S8192x1024 .f32) (k : Fin 1024) (i : Fin 8) : EReal :=
  ∑ s : Fin 1024, (x2 (ix2 (⟨1024 * i.val + s.val, by omega⟩ : Fin 8192) k) * Ideal.rsqrt (Spec.ms (xr x2 (⟨1024 * i.val + s.val, by omega⟩ : Fin 8192))))
    * dh x0 x1 (⟨1024 * i.val + s.val, by omega⟩ : Fin 8192) k
abbrev gpart (c : Dev nD) (k : Fin 1024) (i : Fin 8) : EReal :=
  gp (m ((c : Thread nD τ).loc main_arg0)) (m ((c : Thread nD τ).loc main_arg1)) (m ((c : Thread nD τ).loc main_arg2)) k i

theorem g_step (c : Dev nD) (t : Fin cfg0.N) (h : t.val % 4 = 3) (G : FVec Ideal S1x1024 .f32) (k : Fin 1024) :
    k0_pay7 (F := Ideal) (acc (pv m c t).2.2.2 (iblk m c 0 t) (iblk m c 1 t)) (iblk m c 2 t) G (ix2 (0 : Fin 1) k)
      = G (ix2 (0 : Fin 1) k) + gpart m c k ⟨t.val / 4, by have := lt32 t; omega⟩ := by
  rw [pay7_at]
  simp only [dh_at m c t h, blk2]
  refine congrArg₂ (· + ·) rfl (Finset.sum_congr rfl fun s _ => ?_)
  exact mul_comm _ _

theorem g_at (c : Dev nD) (k : Fin 1024) : ∀ (i : ℕ) (h : 4 * i + 3 < cfg0.N),
    (outsAt0 m c (4 * i + 3) h).2.2.1 (ix2 (0 : Fin 1) k) = ∑ j ∈ Finset.range (i + 1), if hj : j < 8 then gpart m c k ⟨j, hj⟩ else 0
  | 0, h => by
    rw [outC_g m c ⟨4 * 0 + 3, h⟩ rfl (by show 3 < 4; omega), g_step m c ⟨4 * 0 + 3, h⟩ rfl, pay4_at]
    rw [Finset.sum_range_succ, Finset.sum_range_zero, dif_pos (by omega)]
    exact congrArg (fun i => 0 + gpart m c k i) (Fin.ext (by show (4 * 0 + 3) / 4 = 0; norm_num))
  | i + 1, h => by
    have hN : cfg0.N = 32 := N_0
    have ih := g_at c k i (by omega)
    have b3 := outB_g m c ⟨4 * i + 6, by omega⟩ (by show ¬ (4 * i + 6) % 4 = 0; omega) (by show ¬ (4 * i + 6) % 4 = 3; omega)
    have b2 := outB_g m c ⟨4 * i + 5, by omega⟩ (by show ¬ (4 * i + 5) % 4 = 0; omega) (by show ¬ (4 * i + 5) % 4 = 3; omega)
    have b1 := outA_g m c ⟨4 * i + 4, by omega⟩ (by show (4 * i + 4) % 4 = 0; omega)
    have e := outD_g m c ⟨4 * (i + 1) + 3, h⟩ (by show (4 * (i + 1) + 3) % 4 = 3; omega) (by show ¬ 4 * (i + 1) + 3 < 4; omega)
    refine (congrFun e _).trans ?_
    rw [g_step m c ⟨4 * (i + 1) + 3, h⟩ (by show (4 * (i + 1) + 3) % 4 = 3; omega), Finset.sum_range_succ, dif_pos (by omega : i + 1 < 8), ← ih]
    refine congrArg₂ (· + ·) (congrFun (b3.trans (b2.trans b1)) _) (congrArg _ (Fin.ext ?_))
    show (4 * (i + 1) + 3) / 4 = i + 1
    omega

theorem rows8 (f : Fin 8192 → EReal) : ∑ s, f s = ∑ i : Fin 8, ∑ s : Fin 1024, f ⟨1024 * i.val + s.val, by omega⟩ := by
  rw [← Fintype.sum_prod_type', ← Equiv.sum_comp (finProdFinEquiv (m := 8) (n := 1024))]
  exact Finset.sum_congr rfl fun x _ => congrArg f (Fin.ext (by simp [finProdFinEquiv]; omega))

theorem g_last (c : Dev nD) (t : Fin cfg0.N) (h : t.val = 31) (k : Fin 1024) :
    (outsAt0 m c t.val t.isLt).2.2.1 (ix2 (0 : Fin 1) k)
      = dg (m ((c : Thread nD τ).loc main_arg0)) (m ((c : Thread nD τ).loc main_arg1)) (m ((c : Thread nD τ).loc main_arg2)) k := by
  obtain ⟨n, hn⟩ := t
  obtain rfl : n = 31 := h
  refine (g_at m c k 7 hn).trans ?_
  rw [Finset.sum_range, dg, rows8]
  exact Finset.sum_congr rfl fun i _ => dif_pos i.isLt

theorem ey2 {n k : ℕ} (y : (⟨2, ![n, k]⟩ : Shape).Idx) : y = ix2 (⟨(y 0).val, (y 0).isLt⟩ : Fin n) (⟨(y 1).val, (y 1).isLt⟩ : Fin k) :=
  funext fun a => by match a with | ⟨0, _⟩ => rfl | ⟨1, _⟩ => rfl

theorem result5 (c : Dev nD) : (dats m 0 c).arrAt 5 cfg0.N = dxArr (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  have ht := lt32 t
  have h3 : t.val % 4 = 3 := (by decide +kernel : ∀ t : Fin grid0.N, (cfg0.win 5).flush t = true → t.val % 4 = 3) t hf
  blk_simp []
  rw [after0_5]
  have e0 : ((((cfg0.win 5).blk t).view.emb y) 0).val = 1024 * (t.val / 4) + (y 0).val := by
    blk_simp [idx t]
    exact congrArg (· + _) (Nat.mul_comm _ _)
  have e1 : ((((cfg0.win 5).blk t).view.emb y) 1).val = (y 1).val := by
    blk_simp [idx t]
  refine ((congrArg _ (ey2 y)).trans ((congrFun (out_x m c t h3) _).trans (x_at m c t h3 _ _))).trans ?_
  exact congrArg₂ (dx _ _ _ _ _) (Fin.ext e0.symm) (Fin.ext e1.symm)

theorem result6 (c : Dev nD) : (dats m 0 c).arrAt 6 cfg0.N = dxbArr (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  have ht := lt32 t
  have h3 : t.val % 4 = 3 := (by decide +kernel : ∀ t : Fin grid0.N, (cfg0.win 6).flush t = true → t.val % 4 = 3) t hf
  blk_simp []
  rw [after0_6]
  have e0 : ((((cfg0.win 6).blk t).view.emb y) 0).val = 1024 * (t.val / 4) + (y 0).val := by
    blk_simp [idx t]
    exact congrArg (· + _) (Nat.mul_comm _ _)
  have e1 : ((((cfg0.win 6).blk t).view.emb y) 1).val = (y 1).val := by
    blk_simp [idx t]
  refine ((congrArg _ (ey2 y)).trans ((congrFun (out_b m c t h3) _).trans ((pay3_at _ _ _).trans (x_at m c t h3 _ _)))).trans ?_
  exact congrArg₂ (dx _ _ _ _ _) (Fin.ext e0.symm) (Fin.ext e1.symm)

theorem result7 (c : Dev nD) : (dats m 0 c).arrAt 7 cfg0.N = dgArr (m ((c : Thread nD τ).loc main_arg0)) (m ((c : Thread nD τ).loc main_arg1)) (m ((c : Thread nD τ).loc main_arg2)) := by
  refine (dats m 0 c).arrAt_eq_of_covers 7 _ (by decide +kernel) fun t hf y => ?_
  have h3 : t.val = 31 := (by decide +kernel : ∀ t : Fin grid0.N, (cfg0.win 7).flush t = true → t.val = 31) t hf
  blk_simp []
  rw [after0_7]
  have e1 : ((((cfg0.win 7).blk t).view.emb y) 1).val = (y 1).val := by
    blk_simp [idx t]
  have ey : y = ix2 (0 : Fin 1) (⟨(y 1).val, (y 1).isLt⟩ : Fin 1024) :=
    funext fun a => by match a with | ⟨0, _⟩ => exact Subsingleton.elim (α := Fin 1) _ _ | ⟨1, _⟩ => rfl
  refine ((congrArg _ ey).trans (g_last m c t h3 _)).trans ?_
  exact congrArg (dg _ _ _) (Fin.ext e1.symm)

end Cert.Kernel6Ideal.Value
end
-- ==== Proof.DhRef7.lean ====
/- The reference's gradient of a projection's input, entry by entry. -/
module

public import proofs.«01_k».proof.Proof.DhSpec
public import proofs.«01_k».proof.Proof.Gen.Reference7Ideal.Read
public import Idealize.ShloMosaic.Lib.Pointwise
public import Idealize.ShloMosaic.Lib.IdealHost

@[expose] public section
set_option maxRecDepth 16384
noncomputable section
open Idealize.ShloMosaic Idealize.ShloMosaic.TcCoe Idealize.SL.Sem
open scoped BigOperators
namespace Cert.Reference7Ideal.Values
open Cert.Reference7Ideal Cert.Reference7Ideal.Gen Cert.Reference7Ideal.Read
variable (x0 : FVec Ideal S8192x4096 .bf16) (x1 : FVec Ideal S8x1024x512 .bf16) (x2 : FVec Ideal S8192x1024 .f32) (x3 : FVec Ideal S1x1024 .f32) (x4 : FVec Ideal S8192x1024 .f32)

/-- The gradient of the normalised row. -/
def dh (s : Fin 8192) (k : Fin 1024) : EReal :=
  ∑ q : Fin 8, ∑ l : Fin 512, x0 (ix2 s (⟨512 * q.val + l.val, by omega⟩ : Fin 4096)) * x1 (ix3 q k l)

theorem slabs (f : Fin 4096 → EReal) : ∑ n, f n = ∑ q : Fin 8, ∑ l : Fin 512, f ⟨512 * q.val + l.val, by omega⟩ := by
  rw [← Fintype.sum_prod_type', ← Equiv.sum_comp (finProdFinEquiv (m := 8) (n := 512))]
  exact Finset.sum_congr rfl fun x _ => congrArg f (Fin.ext (by simp [finProdFinEquiv]; omega))

theorem v2_at (k : Fin 1024) (q : Fin 8) (l : Fin 512) :
    val_main_v2 (F := Ideal) x1 (ix2 k (⟨512 * q.val + l.val, by omega⟩ : Fin 4096)) = x1 (ix3 q k l) := by
  rw [val_main_v2_apply, val_main_v1_apply, val_main_v0_apply]
  refine congrArg x1 (funext fun a => ?_)
  match a with
  | ⟨0, _⟩ => exact Fin.ext (by show (k.val * 4096 + (512 * q.val + l.val)) / 512 % 8 = q.val; omega)
  | ⟨1, _⟩ => exact Fin.ext (by show (k.val * 4096 + (512 * q.val + l.val)) / 4096 = k.val; omega)
  | ⟨2, _⟩ => exact Fin.ext (by show (k.val * 4096 + (512 * q.val + l.val)) % 512 = l.val; omega)

theorem v22_at (s : Fin 8192) (k : Fin 1024) : val_main_v22 (F := Ideal) x0 x1 (ix2 s k) = dh x0 x1 s k := by
  rw [val_main_v22_apply, dh, slabs]
  refine Finset.sum_congr rfl fun q _ => Finset.sum_congr rfl fun l _ => ?_
  refine congrArg₂ (· * ·) ?_ ((congrArg (val_main_v2 (F := Ideal) x1) (funext fun a => by match a with | ⟨0, _⟩ => rfl | ⟨1, _⟩ => rfl)).trans (v2_at x1 k q l))
  pointwise [val_main_v21]
  exact congrArg x0 (funext fun a => by match a with | ⟨0, _⟩ => rfl | ⟨1, _⟩ => rfl)

/-- The row of the input, and of the gradient of the normalised row times the gain. -/
abbrev xr (s : Fin 8192) : Fin 1024 → EReal := fun k => x2 (ix2 s k)
abbrev dr (s : Fin 8192) : Fin 1024 → EReal := fun k => dh x0 x1 s k * x3 (ix2 (0 : Fin 1) k)

theorem v10_at (s : Fin 8192) : val_main_v10 (F := Ideal) x2 (ix2 s (0 : Fin 1)) = Spec.ms (xr x2 s) := by
  pointwise [val_main_v10, val_main_v9, val_main_v8, val_main_v7, val_main_v6, val_main_v5, val_main_v4, val_main_cst, val_main_cst_0, val_main_cst_1]
  rfl

theorem v43_at (s : Fin 8192) (k : Fin 1024) : val_main_v43 (F := Ideal) x0 x1 x2 x3 x4 (ix2 s k)
    = ((dr x0 x1 x3 s k * Ideal.rsqrt (Spec.ms (xr x2 s)) + xr x2 s k * Spec.co (xr x2 s) (dr x0 x1 x3 s)) + Spec.co (xr x2 s) (dr x0 x1 x3 s) * xr x2 s k)
      + x4 (ix2 s k) := by
  pointwise [val_main_v43, val_main_v42, val_main_v41, val_main_v40, val_main_v39, val_main_v38, val_main_v37, val_main_v36, val_main_v35, val_main_v34, val_main_v33, val_main_v32, val_main_v31, val_main_v30, val_main_v29, val_main_v27, val_main_v26, val_main_v17, val_main_v14, val_main_v13, val_main_v12, val_main_v11, val_main_v3, val_main_cst_2, val_main_cst_5, val_main_cst_6, val_main_cst_7]
  simp only [Fin.sum_univ_one, v22_at, v10_at]
  rfl

theorem v25_at (k : Fin 1024) : val_main_v45 (F := Ideal) x0 x1 x2 (ix2 (0 : Fin 1) k)
    = ∑ s : Fin 8192, (x2 (ix2 s k) * Ideal.rsqrt (Spec.ms (xr x2 s))) * dh x0 x1 s k := by
  pointwise [val_main_v45, val_main_v28, val_main_v25, val_main_v24, val_main_v23, val_main_v16, val_main_v15, val_main_v11, val_main_cst_3, val_main_cst_4]
  simp only [Fin.sum_univ_one, v22_at, v10_at]

/-- The gradient of the input, the residual's added. -/
def dx (s : Fin 8192) (k : Fin 1024) : EReal :=
  ((dr x0 x1 x3 s k * Ideal.rsqrt (Spec.ms (xr x2 s)) + xr x2 s k * Spec.co (xr x2 s) (dr x0 x1 x3 s)) + Spec.co (xr x2 s) (dr x0 x1 x3 s) * xr x2 s k)
      + x4 (ix2 s k)
/-- The gradient of the gain. -/
def dg (k : Fin 1024) : EReal := ∑ s : Fin 8192, (x2 (ix2 s k) * Ideal.rsqrt (Spec.ms (xr x2 s))) * dh x0 x1 s k

def dxArr : FVec Ideal S8192x1024 .f32 := fun i => dx x0 x1 x2 x3 x4 (i 0) (i 1)
def dxbArr : FVec Ideal S8192x1024 .bf16 := fun i => dx x0 x1 x2 x3 x4 (i 0) (i 1)
def dgArr : FVec Ideal S1x1024 .f32 := fun i => dg x0 x1 x2 (i 1)

theorem ref_x : val_main_v43 (F := Ideal) x0 x1 x2 x3 x4 = dxArr x0 x1 x2 x3 x4 := by
  funext i
  obtain ⟨s, k, rfl⟩ : ∃ (s : Fin 8192) (k : Fin 1024), i = ix2 s k := ⟨_, _, ValueIdx.eq_ix2 i⟩
  exact v43_at x0 x1 x2 x3 x4 s k
theorem ref_b : val_main_v44 (F := Ideal) x0 x1 x2 x3 x4 = dxbArr x0 x1 x2 x3 x4 := by
  funext i
  obtain ⟨s, k, rfl⟩ : ∃ (s : Fin 8192) (k : Fin 1024), i = ix2 s k := ⟨_, _, ValueIdx.eq_ix2 i⟩
  rw [val_main_v44_apply]
  exact v43_at x0 x1 x2 x3 x4 s k
theorem ref_g : val_main_v45 (F := Ideal) x0 x1 x2 = dgArr x0 x1 x2 := by
  funext i
  obtain ⟨u, k, rfl⟩ : ∃ (u : Fin 1) (k : Fin 1024), i = ix2 u k := ⟨_, _, ValueIdx.eq_ix2 i⟩
  rw [Subsingleton.elim u 0]
  exact v25_at x0 x1 x2 k

end Cert.Reference7Ideal.Values
end
-- ==== Proof.DhOuts7.lean ====
/- The kernel of a projection's input gradient, step by step: what each step leaves in its results and in its running sum. -/
module

public import proofs.«01_k».proof.Proof.Gen.Kernel7Ideal.Value
public import Idealize.ShloMosaic.Lib.Pipeline.ValueKit
public import Idealize.ShloMosaic.Lib.Pointwise
public import Idealize.ShloMosaic.Lib.Pipeline.ReadBack
public import Idealize.ShloMosaic.Lib.IdealHost

@[expose] public section
set_option maxRecDepth 16384
noncomputable section
open Idealize.ShloMosaic Idealize.ShloMosaic.TcCoe Idealize.SL.Sem
open Idealize.ShloMosaic.Pipeline (Dat)
open scoped BigOperators
namespace Cert.Kernel7Ideal.Value
open Cert.Kernel7Ideal Cert.Kernel7Ideal.Gen
variable (m : (ℓ : Loc nD τ sig) → Buf (Elt Ideal) ℓ)

abbrev d0 : Rect S1024x1024 := (Rect.unit ![0, 0] ![1024, 512] (by decide))
abbrev d1 : Rect S1024x1024 := (Rect.unit ![0, 512] ![1024, 512] (by decide))
abbrev w0 : Rect S2x1024x512 := (Rect.unit ![0, 0, 0] ![1, 1024, 512] (by decide))
abbrev w1 : Rect S2x1024x512 := (Rect.unit ![1, 0, 0] ![1, 1024, 512] (by decide))

/-- The running sum after a step. -/
def acc (A : FVec Ideal S1024x1024 .f32) (x : FVec Ideal S1024x1024 .bf16) (w : FVec Ideal S2x1024x512 .bf16) : FVec Ideal S1024x1024 .f32 :=
  k0_pay2 (F := Ideal) A (View.ld (Val := Elt Ideal) (e' := .bf16) x d0) (View.ld (Val := Elt Ideal) (e' := .bf16) w w0) (View.ld (Val := Elt Ideal) (e' := .bf16) x d1) (View.ld (Val := Elt Ideal) (e' := .bf16) w w1)

theorem lt32 (t : Fin cfg0.N) : t.val < 32 := lt_of_lt_of_eq t.isLt N_0
abbrev pv (c : Dev nD) (t : Fin cfg0.N) := outsAt0 m c (t.val - 1) (Nat.lt_of_le_of_lt (Nat.sub_le _ _) t.isLt)

theorem outA_s (c : Dev nD) (t : Fin cfg0.N) (h : t.val % 4 = 0) :
    (outsAt0 m c t.val t.isLt).2.2.2 = acc (k0_pay1 (F := Ideal)) (iblk m c 0 t) (iblk m c 1 t) := by
  rw [outsAt0_A m c t h (by omega)]
  frame_out [View.readCov_cons_toLoadRect, ↓View.readCov_skip, ↓View.readCov_fill]
  try simp only [read_unread_whole]
  rfl
theorem outA_g (c : Dev nD) (t : Fin cfg0.N) (h : t.val % 4 = 0) :
    (outsAt0 m c t.val t.isLt).2.2.1 = (pv m c t).2.2.1 := by
  rw [outsAt0_A m c t h (by omega)]
  frame_out [View.readCov_cons_toLoadRect, ↓View.readCov_skip, ↓View.readCov_fill]
  rfl
theorem outB_s (c : Dev nD) (t : Fin cfg0.N) (h : ¬ t.val % 4 = 0) (h' : ¬ t.val % 4 = 3) :
    (outsAt0 m c t.val t.isLt).2.2.2 = acc (pv m c t).2.2.2 (iblk m c 0 t) (iblk m c 1 t) := by
  rw [outsAt0_B m c t h h']
  frame_out [View.readCov_cons_toLoadRect, ↓View.readCov_skip, ↓View.readCov_fill]
  try simp only [read_unread_whole]
  rfl
theorem outB_g (c : Dev nD) (t : Fin cfg0.N) (h : ¬ t.val % 4 = 0) (h' : ¬ t.val % 4 = 3) :
    (outsAt0 m c t.val t.isLt).2.2.1 = (pv m c t).2.2.1 := by
  rw [outsAt0_B m c t h h']
  frame_out [View.readCov_cons_toLoadRect, ↓View.readCov_skip, ↓View.readCov_fill]
  rfl
theorem outC_x (c : Dev nD) (t : Fin cfg0.N) (h : t.val % 4 = 3) (h' : t.val < 4) :
    (outsAt0 m c t.val t.isLt).1 = k0_pay8 (F := Ideal) (acc (pv m c t).2.2.2 (iblk m c 0 t) (iblk m c 1 t)) (iblk m c 2 t) (iblk m c 3 t) (iblk m c 4 t) := by
  rw [outsAt0_C m c t (by omega) h h']
  frame_out [View.readCov_cons_toLoadRect, ↓View.readCov_skip, ↓View.readCov_fill]
  try simp only [read_unread_whole]
  rfl
theorem outD_x (c : Dev nD) (t : Fin cfg0.N) (h : t.val % 4 = 3) (h' : ¬ t.val < 4) :
    (outsAt0 m c t.val t.isLt).1 = k0_pay8 (F := Ideal) (acc (pv m c t).2.2.2 (iblk m c 0 t) (iblk m c 1 t)) (iblk m c 2 t) (iblk m c 3 t) (iblk m c 4 t) := by
  rw [outsAt0_D m c t (by omega) h h']
  frame_out [View.readCov_cons_toLoadRect, ↓View.readCov_skip, ↓View.readCov_fill]
  try simp only [read_unread_whole]
  rfl
theorem outC_b (c : Dev nD) (t : Fin cfg0.N) (h : t.val % 4 = 3) (h' : t.val < 4) :
    (outsAt0 m c t.val t.isLt).2.1 = k0_pay3 (F := Ideal) (k0_pay8 (F := Ideal) (acc (pv m c t).2.2.2 (iblk m c 0 t) (iblk m c 1 t)) (iblk m c 2 t) (iblk m c 3 t) (iblk m c 4 t)) := by
  rw [outsAt0_C m c t (by omega) h h']
  frame_out [View.readCov_cons_toLoadRect, ↓View.readCov_skip, ↓View.readCov_fill]
  try simp only [read_unread_whole]
  rfl
theorem outD_b (c : Dev nD) (t : Fin cfg0.N) (h : t.val % 4 = 3) (h' : ¬ t.val < 4) :
    (outsAt0 m c t.val t.isLt).2.1 = k0_pay3 (F := Ideal) (k0_pay8 (F := Ideal) (acc (pv m c t).2.2.2 (iblk m c 0 t) (iblk m c 1 t)) (iblk m c 2 t) (iblk m c 3 t) (iblk m c 4 t)) := by
  rw [outsAt0_D m c t (by omega) h h']
  frame_out [View.readCov_cons_toLoadRect, ↓View.readCov_skip, ↓View.readCov_fill]
  try simp only [read_unread_whole]
  rfl
theorem outC_g (c : Dev nD) (t : Fin cfg0.N) (h : t.val % 4 = 3) (h' : t.val < 4) :
    (outsAt0 m c t.val t.isLt).2.2.1 = k0_pay7 (F := Ideal) (acc (pv m c t).2.2.2 (iblk m c 0 t) (iblk m c 1 t)) (iblk m c 2 t) (k0_pay4 (F := Ideal)) := by
  rw [outsAt0_C m c t (by omega) h h']
  frame_out [View.readCov_cons_toLoadRect, ↓View.readCov_skip, ↓View.readCov_fill]
  try simp only [read_unread_whole]
  rfl
theorem outD_g (c : Dev nD) (t : Fin cfg0.N) (h : t.val % 4 = 3) (h' : ¬ t.val < 4) :
    (outsAt0 m c t.val t.isLt).2.2.1 = k0_pay7 (F := Ideal) (acc (pv m c t).2.2.2 (iblk m c 0 t) (iblk m c 1 t)) (iblk m c 2 t) (pv m c t).2.2.1 := by
  rw [outsAt0_D m c t (by omega) h h']
  frame_out [View.readCov_cons_toLoadRect, ↓View.readCov_skip, ↓View.readCov_fill]
  try simp only [read_unread_whole]
  rfl

theorem ld_d0 (x : FVec Ideal S1024x1024 .bf16) (s : Fin 1024) (l : Fin 512) : View.ld (Val := Elt Ideal) (e' := .bf16) x d0 (ix2 s l) = x (ix2 s (⟨l.val, by omega⟩ : Fin 1024)) :=
  congrArg x (funext fun a => by
    match a with
    | ⟨0, _⟩ => exact Fin.ext (by show 0 + 1 * s.val = s.val; omega)
    | ⟨1, _⟩ => exact Fin.ext (by show 0 + 1 * l.val = l.val; omega))
theorem ld_d1 (x : FVec Ideal S1024x1024 .bf16) (s : Fin 1024) (l : Fin 512) : View.ld (Val := Elt Ideal) (e' := .bf16) x d1 (ix2 s l) = x (ix2 s (⟨512 + l.val, by omega⟩ : Fin 1024)) :=
  congrArg x (funext fun a => by
    match a with
    | ⟨0, _⟩ => exact Fin.ext (by show 0 + 1 * s.val = s.val; omega)
    | ⟨1, _⟩ => exact Fin.ext (by show 512 + 1 * l.val = 512 + l.val; omega))
theorem ld_w0 (w : FVec Ideal S2x1024x512 .bf16) (k : Fin 1024) (l : Fin 512) : View.ld (Val := Elt Ideal) (e' := .bf16) w w0 (ix3 (0 : Fin 1) k l) = w (ix3 (0 : Fin 2) k l) :=
  congrArg w (funext fun a => by
    match a with
    | ⟨0, _⟩ => rfl
    | ⟨1, _⟩ => exact Fin.ext (by show 0 + 1 * k.val = k.val; omega)
    | ⟨2, _⟩ => exact Fin.ext (by show 0 + 1 * l.val = l.val; omega))
theorem ld_w1 (w : FVec Ideal S2x1024x512 .bf16) (k : Fin 1024) (l : Fin 512) : View.ld (Val := Elt Ideal) (e' := .bf16) w w1 (ix3 (0 : Fin 1) k l) = w (ix3 (1 : Fin 2) k l) :=
  congrArg w (funext fun a => by
    match a with
    | ⟨0, _⟩ => rfl
    | ⟨1, _⟩ => exact Fin.ext (by show 0 + 1 * k.val = k.val; omega)
    | ⟨2, _⟩ => exact Fin.ext (by show 0 + 1 * l.val = l.val; omega))

theorem acc_at (A : FVec Ideal S1024x1024 .f32) (x : FVec Ideal S1024x1024 .bf16) (w : FVec Ideal S2x1024x512 .bf16) (s k : Fin 1024) :
    acc A x w (ix2 s k) = A (ix2 s k) + ((∑ l : Fin 512, x (ix2 s (⟨l.val, by omega⟩ : Fin 1024)) * w (ix3 (0 : Fin 2) k l))
      + ∑ l : Fin 512, x (ix2 s (⟨512 + l.val, by omega⟩ : Fin 1024)) * w (ix3 (1 : Fin 2) k l)) := by
  unfold acc
  generalize h0 : View.ld (Val := Elt Ideal) (e' := .bf16) x d0 = a0
  generalize h1 : View.ld (Val := Elt Ideal) (e' := .bf16) x d1 = a1
  generalize h2 : View.ld (Val := Elt Ideal) (e' := .bf16) w w0 = a2
  generalize h3 : View.ld (Val := Elt Ideal) (e' := .bf16) w w1 = a3
  have e : ∀ l : Fin 512, a0 (ix2 s l) = x (ix2 s (⟨l.val, by omega⟩ : Fin 1024)) := fun l => (congrFun h0.symm _).trans (ld_d0 x s l)
  have e1 : ∀ l : Fin 512, a1 (ix2 s l) = x (ix2 s (⟨512 + l.val, by omega⟩ : Fin 1024)) := fun l => (congrFun h1.symm _).trans (ld_d1 x s l)
  have e2 : ∀ l : Fin 512, a2 (ix3 (0 : Fin 1) k l) = w (ix3 (0 : Fin 2) k l) := fun l => (congrFun h2.symm _).trans (ld_w0 w k l)
  have e3 : ∀ l : Fin 512, a3 (ix3 (0 : Fin 1) k l) = w (ix3 (1 : Fin 2) k l) := fun l => (congrFun h3.symm _).trans (ld_w1 w k l)
  pointwise [k0_pay2]
  simp only [e, e1, e2, e3]

end Cert.Kernel7Ideal.Value
end
-- ==== Proof.DhFinal7.lean ====
/- The kernel of a projection's input gradient: its results are the reference's. -/
module

public import proofs.«01_k».proof.Proof.DhOuts7
public import proofs.«01_k».proof.Proof.DhRef7

@[expose] public section
set_option maxRecDepth 16384
noncomputable section
open Idealize.ShloMosaic Idealize.ShloMosaic.TcCoe Idealize.SL.Sem
open Idealize.ShloMosaic.Pipeline (Dat)
open scoped BigOperators
namespace Cert.Kernel7Ideal.Value
open Cert.Kernel7Ideal Cert.Kernel7Ideal.Gen
open Cert.Reference7Ideal.Values (dh dx dg xr dr dxArr dxbArr dgArr)
variable (m : (ℓ : Loc nD τ sig) → Buf (Elt Ideal) ℓ)

theorem pay8_at (D X R : FVec Ideal S1024x1024 .f32) (g : FVec Ideal S1x1024 .f32) (s k : Fin 1024) :
    k0_pay8 (F := Ideal) D X g R (ix2 s k)
      = R (ix2 s k) + Ideal.rsqrt (Spec.ms fun k => X (ix2 s k)) * (D (ix2 s k) * g (ix2 (0 : Fin 1) k)
        - (X (ix2 s k) * Ideal.rsqrt (Spec.ms fun k => X (ix2 s k)))
          * Ideal.div (∑ j, (D (ix2 s j) * g (ix2 (0 : Fin 1) j)) * (X (ix2 s j) * Ideal.rsqrt (Spec.ms fun k => X (ix2 s k)))) (Ideal.ofBits .f32 0x44800000#32)) := by
  pointwise [k0_pay8, k0_pay6, k0_pay5]
  rfl
theorem pay7_at (D X : FVec Ideal S1024x1024 .f32) (G : FVec Ideal S1x1024 .f32) (k : Fin 1024) :
    k0_pay7 (F := Ideal) D X G (ix2 (0 : Fin 1) k)
      = G (ix2 (0 : Fin 1) k) + ∑ s : Fin 1024, D (ix2 s k) * (X (ix2 s k) * Ideal.rsqrt (Spec.ms fun k => X (ix2 s k))) := by
  pointwise [k0_pay7, k0_pay6, k0_pay5]
  rfl
theorem pay3_at (X : FVec Ideal S1024x1024 .f32) (s k : Fin 1024) : k0_pay3 (F := Ideal) X (ix2 s k) = X (ix2 s k) := by
  pointwise [k0_pay3]
theorem pay4_at (k : Fin 1024) : k0_pay4 (F := Ideal) (ix2 (0 : Fin 1) k) = 0 := by
  pointwise [k0_pay4]
theorem pay1_at (s k : Fin 1024) : k0_pay1 (F := Ideal) (ix2 s k) = 0 := by
  pointwise [k0_pay1]

theorem idx : ∀ t : Fin cfg0.N, win0_0.index t = ![t.val / 4, t.val % 4] ∧ win0_1.index t = ![t.val % 4, 0, 0]
    ∧ win0_2.index t = ![t.val / 4, 0] ∧ win0_3.index t = ![0, 0] ∧ win0_4.index t = ![t.val / 4, 0] ∧ win0_5.index t = ![t.val / 4, 0]
    ∧ win0_6.index t = ![t.val / 4, 0] ∧ win0_7.index t = ![0, 0] :=
  (by decide +kernel : ∀ t : Fin grid0.N, _)

/-- The row that row s of a step's block is. -/
abbrev rw0 (t : Fin cfg0.N) (s : Fin 1024) : Fin 8192 := ⟨1024 * (t.val / 4) + s.val, by have := lt32 t; omega⟩

theorem blk0 (c : Dev nD) (t : Fin cfg0.N) (s : Fin 1024) (l : Fin 1024) :
    iblk m c 0 t (ix2 s l) = m ((c : Thread nD τ).loc main_arg0) (ix2 (rw0 t s) (⟨1024 * (t.val % 4) + l.val, by omega⟩ : Fin 4096)) := by
  blk_ext [iblk, V, idx t]
theorem blk1 (c : Dev nD) (t : Fin cfg0.N) (q : Fin 2) (k : Fin 1024) (l : Fin 512) :
    iblk m c 1 t (ix3 q k l) = m ((c : Thread nD τ).loc main_arg1) (ix3 (⟨2 * (t.val % 4) + q.val, by omega⟩ : Fin 8) k l) := by
  blk_ext [iblk, V, idx t]
theorem blk2 (c : Dev nD) (t : Fin cfg0.N) (s k : Fin 1024) :
    iblk m c 2 t (ix2 s k) = m ((c : Thread nD τ).loc main_arg2) (ix2 (rw0 t s) k) := by
  blk_ext [iblk, V, idx t]
theorem blk3 (c : Dev nD) (t : Fin cfg0.N) (k : Fin 1024) :
    iblk m c 3 t (ix2 (0 : Fin 1) k) = m ((c : Thread nD τ).loc main_arg3) (ix2 (0 : Fin 1) k) := by
  blk_ext [iblk, V, idx t]
theorem blk4 (c : Dev nD) (t : Fin cfg0.N) (s k : Fin 1024) :
    iblk m c 4 t (ix2 s k) = m ((c : Thread nD τ).loc main_arg4) (ix2 (rw0 t s) k) := by
  blk_ext [iblk, V, idx t]

/-- One slab's share of the gradient of the normalised row. -/
def slab (x0 : FVec Ideal S8192x4096 .bf16) (x1 : FVec Ideal S8x1024x512 .bf16) (s : Fin 8192) (k : Fin 1024) (q : Fin 8) : EReal :=
  ∑ l : Fin 512, x0 (ix2 s (⟨512 * q.val + l.val, by omega⟩ : Fin 4096)) * x1 (ix3 q k l)

theorem acc_step (c : Dev nD) (t : Fin cfg0.N) (A : FVec Ideal S1024x1024 .f32) (s k : Fin 1024) (j : ℕ) (hj : t.val % 4 = j) (h : j < 4) :
    acc A (iblk m c 0 t) (iblk m c 1 t) (ix2 s k) = A (ix2 s k)
      + (slab (m ((c : Thread nD τ).loc main_arg0)) (m ((c : Thread nD τ).loc main_arg1)) (rw0 t s) k ⟨2 * j, by omega⟩
        + slab (m ((c : Thread nD τ).loc main_arg0)) (m ((c : Thread nD τ).loc main_arg1)) (rw0 t s) k ⟨2 * j + 1, by omega⟩) := by
  subst hj
  rw [acc_at]
  refine congrArg₂ (· + ·) rfl (congrArg₂ (· + ·) (Finset.sum_congr rfl fun l _ => ?_) (Finset.sum_congr rfl fun l _ => ?_))
  · rw [blk0, blk1]
    refine congrArg₂ (· * ·) (congrArg _ (congrArg _ (Fin.ext ?_))) rfl
    show 1024 * (t.val % 4) + l.val = 512 * (2 * (t.val % 4)) + l.val
    omega
  · rw [blk0, blk1]
    refine congrArg₂ (· * ·) (congrArg _ (congrArg _ (Fin.ext ?_))) rfl
    show 1024 * (t.val % 4) + (512 + l.val) = 512 * (2 * (t.val % 4) + 1) + l.val
    omega

abbrev pt (t : Fin cfg0.N) : Fin cfg0.N := ⟨t.val - 1, Nat.lt_of_le_of_lt (Nat.sub_le _ _) t.isLt⟩

/-- The running sum is complete at the last step of a row block. -/
theorem dh_at (c : Dev nD) (t : Fin cfg0.N) (h : t.val % 4 = 3) (s k : Fin 1024) :
    acc (pv m c t).2.2.2 (iblk m c 0 t) (iblk m c 1 t) (ix2 s k)
      = dh (m ((c : Thread nD τ).loc main_arg0)) (m ((c : Thread nD τ).loc main_arg1)) (rw0 t s) k := by
  have ht := lt32 t
  have e1 : ∀ s, rw0 (pt t) s = rw0 t s := fun s => Fin.ext (by show 1024 * ((t.val - 1) / 4) + s.val = 1024 * (t.val / 4) + s.val; omega)
  have e2 : ∀ s, rw0 (pt (pt t)) s = rw0 t s := fun s => Fin.ext (by show 1024 * ((t.val - 1 - 1) / 4) + s.val = 1024 * (t.val / 4) + s.val; omega)
  have e3 : ∀ s, rw0 (pt (pt (pt t))) s = rw0 t s := fun s => Fin.ext (by show 1024 * ((t.val - 1 - 1 - 1) / 4) + s.val = 1024 * (t.val / 4) + s.val; omega)
  have o1 := outB_s m c (pt t) (by show ¬ (t.val - 1) % 4 = 0; omega) (by show ¬ (t.val - 1) % 4 = 3; omega)
  have o2 := outB_s m c (pt (pt t)) (by show ¬ (t.val - 1 - 1) % 4 = 0; omega) (by show ¬ (t.val - 1 - 1) % 4 = 3; omega)
  have o3 := outA_s m c (pt (pt (pt t))) (by show (t.val - 1 - 1 - 1) % 4 = 0; omega)
  rw [acc_step m c t _ s k 3 h (by omega)]
  rw [show (pv m c t).2.2.2 (ix2 s k) = _ from (congrFun o1 _).trans (acc_step m c (pt t) _ s k 2 (by show (t.val - 1) % 4 = 2; omega) (by omega))]
  rw [show (pv m c (pt t)).2.2.2 (ix2 s k) = _ from (congrFun o2 _).trans (acc_step m c (pt (pt t)) _ s k 1 (by show (t.val - 1 - 1) % 4 = 1; omega) (by omega))]
  rw [show (pv m c (pt (pt t))).2.2.2 (ix2 s k) = _ from (congrFun o3 _).trans (acc_step m c (pt (pt (pt t))) _ s k 0 (by show (t.val - 1 - 1 - 1) % 4 = 0; omega) (by omega))]
  rw [pay1_at, zero_add, e1, e2, e3]
  unfold dh
  rw [Fin.sum_univ_eight]
  simp only [add_assoc]
  rfl

/-- The block of the input's gradient. -/
theorem x_at (c : Dev nD) (t : Fin cfg0.N) (h : t.val % 4 = 3) (s k : Fin 1024) :
    k0_pay8 (F := Ideal) (acc (pv m c t).2.2.2 (iblk m c 0 t) (iblk m c 1 t)) (iblk m c 2 t) (iblk m c 3 t) (iblk m c 4 t) (ix2 s k)
      = dx (m ((c : Thread nD τ).loc main_arg0)) (m ((c : Thread nD τ).loc main_arg1)) (m ((c : Thread nD τ).loc main_arg2)) (m ((c : Thread nD τ).loc main_arg3)) (m ((c : Thread nD τ).loc main_arg4)) (rw0 t s) k := by
  rw [pay8_at]
  simp only [dh_at m c t h, blk2, blk3, blk4]
  exact Spec.row_eq (xr (m ((c : Thread nD τ).loc main_arg2)) (rw0 t s)) (dr (m ((c : Thread nD τ).loc main_arg0)) (m ((c : Thread nD τ).loc main_arg1)) (m ((c : Thread nD τ).loc main_arg3)) (rw0 t s)) k _

theorem out_x (c : Dev nD) (t : Fin cfg0.N) (h : t.val % 4 = 3) :
    (outsAt0 m c t.val t.isLt).1 = k0_pay8 (F := Ideal) (acc (pv m c t).2.2.2 (iblk m c 0 t) (iblk m c 1 t)) (iblk m c 2 t) (iblk m c 3 t) (iblk m c 4 t) := by
  by_cases h' : t.val < 4
  · exact outC_x m c t h h'
  · exact outD_x m c t h h'
theorem out_b (c : Dev nD) (t : Fin cfg0.N) (h : t.val % 4 = 3) :
    (outsAt0 m c t.val t.isLt).2.1 = k0_pay3 (F := Ideal) (k0_pay8 (F := Ideal) (acc (pv m c t).2.2.2 (iblk m c 0 t) (iblk m c 1 t)) (iblk m c 2 t) (iblk m c 3 t) (iblk m c 4 t)) := by
  by_cases h' : t.val < 4
  · exact outC_b m c t h h'
  · exact outD_b m c t h h'

/-- One row block's share of the gain's gradient. -/
def gp (x0 : FVec Ideal S8192x4096 .bf16) (x1 : FVec Ideal S8x1024x512 .bf16) (x2 : FVec Ideal S8192x1024 .f32) (k : Fin 1024) (i : Fin 8) : EReal :=
  ∑ s : Fin 1024, (x2 (ix2 (⟨1024 * i.val + s.val, by omega⟩ : Fin 8192) k) * Ideal.rsqrt (Spec.ms (xr x2 (⟨1024 * i.val + s.val, by omega⟩ : Fin 8192))))
    * dh x0 x1 (⟨1024 * i.val + s.val, by omega⟩ : Fin 8192) k
abbrev gpart (c : Dev nD) (k : Fin 1024) (i : Fin 8) : EReal :=
  gp (m ((c : Thread nD τ).loc main_arg0)) (m ((c : Thread nD τ).loc main_arg1)) (m ((c : Thread nD τ).loc main_arg2)) k i

theorem g_step (c : Dev nD) (t : Fin cfg0.N) (h : t.val % 4 = 3) (G : FVec Ideal S1x1024 .f32) (k : Fin 1024) :
    k0_pay7 (F := Ideal) (acc (pv m c t).2.2.2 (iblk m c 0 t) (iblk m c 1 t)) (iblk m c 2 t) G (ix2 (0 : Fin 1) k)
      = G (ix2 (0 : Fin 1) k) + gpart m c k ⟨t.val / 4, by have := lt32 t; omega⟩ := by
  rw [pay7_at]
  simp only [dh_at m c t h, blk2]
  refine congrArg₂ (· + ·) rfl (Finset.sum_congr rfl fun s _ => ?_)
  exact mul_comm _ _

theorem g_at (c : Dev nD) (k : Fin 1024) : ∀ (i : ℕ) (h : 4 * i + 3 < cfg0.N),
    (outsAt0 m c (4 * i + 3) h).2.2.1 (ix2 (0 : Fin 1) k) = ∑ j ∈ Finset.range (i + 1), if hj : j < 8 then gpart m c k ⟨j, hj⟩ else 0
  | 0, h => by
    rw [outC_g m c ⟨4 * 0 + 3, h⟩ rfl (by show 3 < 4; omega), g_step m c ⟨4 * 0 + 3, h⟩ rfl, pay4_at]
    rw [Finset.sum_range_succ, Finset.sum_range_zero, dif_pos (by omega)]
    exact congrArg (fun i => 0 + gpart m c k i) (Fin.ext (by show (4 * 0 + 3) / 4 = 0; norm_num))
  | i + 1, h => by
    have hN : cfg0.N = 32 := N_0
    have ih := g_at c k i (by omega)
    have b3 := outB_g m c ⟨4 * i + 6, by omega⟩ (by show ¬ (4 * i + 6) % 4 = 0; omega) (by show ¬ (4 * i + 6) % 4 = 3; omega)
    have b2 := outB_g m c ⟨4 * i + 5, by omega⟩ (by show ¬ (4 * i + 5) % 4 = 0; omega) (by show ¬ (4 * i + 5) % 4 = 3; omega)
    have b1 := outA_g m c ⟨4 * i + 4, by omega⟩ (by show (4 * i + 4) % 4 = 0; omega)
    have e := outD_g m c ⟨4 * (i + 1) + 3, h⟩ (by show (4 * (i + 1) + 3) % 4 = 3; omega) (by show ¬ 4 * (i + 1) + 3 < 4; omega)
    refine (congrFun e _).trans ?_
    rw [g_step m c ⟨4 * (i + 1) + 3, h⟩ (by show (4 * (i + 1) + 3) % 4 = 3; omega), Finset.sum_range_succ, dif_pos (by omega : i + 1 < 8), ← ih]
    refine congrArg₂ (· + ·) (congrFun (b3.trans (b2.trans b1)) _) (congrArg _ (Fin.ext ?_))
    show (4 * (i + 1) + 3) / 4 = i + 1
    omega

theorem rows8 (f : Fin 8192 → EReal) : ∑ s, f s = ∑ i : Fin 8, ∑ s : Fin 1024, f ⟨1024 * i.val + s.val, by omega⟩ := by
  rw [← Fintype.sum_prod_type', ← Equiv.sum_comp (finProdFinEquiv (m := 8) (n := 1024))]
  exact Finset.sum_congr rfl fun x _ => congrArg f (Fin.ext (by simp [finProdFinEquiv]; omega))

theorem g_last (c : Dev nD) (t : Fin cfg0.N) (h : t.val = 31) (k : Fin 1024) :
    (outsAt0 m c t.val t.isLt).2.2.1 (ix2 (0 : Fin 1) k)
      = dg (m ((c : Thread nD τ).loc main_arg0)) (m ((c : Thread nD τ).loc main_arg1)) (m ((c : Thread nD τ).loc main_arg2)) k := by
  obtain ⟨n, hn⟩ := t
  obtain rfl : n = 31 := h
  refine (g_at m c k 7 hn).trans ?_
  rw [Finset.sum_range, dg, rows8]
  exact Finset.sum_congr rfl fun i _ => dif_pos i.isLt

theorem ey2 {n k : ℕ} (y : (⟨2, ![n, k]⟩ : Shape).Idx) : y = ix2 (⟨(y 0).val, (y 0).isLt⟩ : Fin n) (⟨(y 1).val, (y 1).isLt⟩ : Fin k) :=
  funext fun a => by match a with | ⟨0, _⟩ => rfl | ⟨1, _⟩ => rfl

theorem result5 (c : Dev nD) : (dats m 0 c).arrAt 5 cfg0.N = dxArr (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  have ht := lt32 t
  have h3 : t.val % 4 = 3 := (by decide +kernel : ∀ t : Fin grid0.N, (cfg0.win 5).flush t = true → t.val % 4 = 3) t hf
  blk_simp []
  rw [after0_5]
  have e0 : ((((cfg0.win 5).blk t).view.emb y) 0).val = 1024 * (t.val / 4) + (y 0).val := by
    blk_simp [idx t]
    exact congrArg (· + _) (Nat.mul_comm _ _)
  have e1 : ((((cfg0.win 5).blk t).view.emb y) 1).val = (y 1).val := by
    blk_simp [idx t]
  refine ((congrArg _ (ey2 y)).trans ((congrFun (out_x m c t h3) _).trans (x_at m c t h3 _ _))).trans ?_
  exact congrArg₂ (dx _ _ _ _ _) (Fin.ext e0.symm) (Fin.ext e1.symm)

theorem result6 (c : Dev nD) : (dats m 0 c).arrAt 6 cfg0.N = dxbArr (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  have ht := lt32 t
  have h3 : t.val % 4 = 3 := (by decide +kernel : ∀ t : Fin grid0.N, (cfg0.win 6).flush t = true → t.val % 4 = 3) t hf
  blk_simp []
  rw [after0_6]
  have e0 : ((((cfg0.win 6).blk t).view.emb y) 0).val = 1024 * (t.val / 4) + (y 0).val := by
    blk_simp [idx t]
    exact congrArg (· + _) (Nat.mul_comm _ _)
  have e1 : ((((cfg0.win 6).blk t).view.emb y) 1).val = (y 1).val := by
    blk_simp [idx t]
  refine ((congrArg _ (ey2 y)).trans ((congrFun (out_b m c t h3) _).trans ((pay3_at _ _ _).trans (x_at m c t h3 _ _)))).trans ?_
  exact congrArg₂ (dx _ _ _ _ _) (Fin.ext e0.symm) (Fin.ext e1.symm)

theorem result7 (c : Dev nD) : (dats m 0 c).arrAt 7 cfg0.N = dgArr (m ((c : Thread nD τ).loc main_arg0)) (m ((c : Thread nD τ).loc main_arg1)) (m ((c : Thread nD τ).loc main_arg2)) := by
  refine (dats m 0 c).arrAt_eq_of_covers 7 _ (by decide +kernel) fun t hf y => ?_
  have h3 : t.val = 31 := (by decide +kernel : ∀ t : Fin grid0.N, (cfg0.win 7).flush t = true → t.val = 31) t hf
  blk_simp []
  rw [after0_7]
  have e1 : ((((cfg0.win 7).blk t).view.emb y) 1).val = (y 1).val := by
    blk_simp [idx t]
  have ey : y = ix2 (0 : Fin 1) (⟨(y 1).val, (y 1).isLt⟩ : Fin 1024) :=
    funext fun a => by match a with | ⟨0, _⟩ => exact Subsingleton.elim (α := Fin 1) _ _ | ⟨1, _⟩ => rfl
  refine ((congrArg _ ey).trans (g_last m c t h3 _)).trans ?_
  exact congrArg (dg _ _ _) (Fin.ext e1.symm)

end Cert.Kernel7Ideal.Value
end
-- ==== Proof.DwOut8.lean ====
/- The gradient of an output projection's weights: the kernel's sum over four blocks of the tokens is the reference's product. -/
module

public import proofs.«01_k».proof.Proof.Gen.Kernel8Ideal.Value
public import proofs.«01_k».proof.Proof.Gen.Reference8Ideal.Read
public import Idealize.ShloMosaic.Lib.Pipeline.ValueKit
public import Idealize.ShloMosaic.Lib.Pointwise
public import Idealize.ShloMosaic.Lib.Pipeline.ReadBack
public import Idealize.ShloMosaic.Lib.IdealHost

@[expose] public section
set_option maxRecDepth 16384
noncomputable section
open Idealize.ShloMosaic Idealize.ShloMosaic.TcCoe Idealize.SL.Sem
open Idealize.ShloMosaic.Pipeline (Dat)
open scoped BigOperators
namespace Cert.Kernel8Ideal.Value
open Cert.Kernel8Ideal Cert.Kernel8Ideal.Gen
variable (m : (ℓ : Loc nD τ sig) → Buf (Elt Ideal) ℓ)

/-- The chunk of rows that slot q holds. -/
def ch (q : Fin 8) : ℕ := 2 * (q.val % 4) + q.val / 4
theorem ch_lt (q : Fin 8) : ch q < 8 := by unfold ch; omega

abbrev rS (q : Fin 8) : Rect S8x256x1024 := Rect.unit ![q.val, 0, 0] ![1, 256, 1024] (by revert q; decide)
abbrev rC (q : Fin 8) : Rect S2048x2048 := Rect.unit ![0, 256 * ch q] ![2048, 256] (by revert q; decide)

/-- What a step leaves in slot q. -/
def slotv (b : FVec Ideal S2048x1024 .bf16) (X : FVec Ideal S8x256x1024 .f32) (a : FVec Ideal S2048x2048 .bf16) (q : Fin 8) : FVec Ideal S1x256x1024 .f32 :=
  k0_pay2 (F := Ideal) b (View.ld X (rS q)) (View.ld a (rC q))

abbrev piece (w : (q : Fin 8) → FVec Ideal S1x256x1024 .f32) (q : Fin 8) : View.Piece (Elt Ideal) S8x256x1024 .f32 := ⟨rS q, w q⟩
/-- The stores of a step, the last one first. -/
abbrev pieces (w : (q : Fin 8) → FVec Ideal S1x256x1024 .f32) : List (View.Piece (Elt Ideal) S8x256x1024 .f32) :=
  [piece w 7, piece w 3, piece w 6, piece w 2, piece w 5, piece w 1, piece w 4, piece w 0]

theorem lt4 (t : Fin cfg0.N) : t.val < 4 := lt_of_lt_of_eq t.isLt N_0
abbrev pt (t : Fin cfg0.N) : Fin cfg0.N := ⟨t.val - 1, Nat.lt_of_le_of_lt (Nat.sub_le _ _) t.isLt⟩

theorem outA (c : Dev nD) (t : Fin cfg0.N) (h : t.val % 4 = 0) :
    outsAt0 m c t.val t.isLt = View.canon (pieces (slotv (iblk m c 1 t) (k0_pay3 (F := Ideal)) (iblk m c 0 t))
      ++ [⟨Rect.unit ![0, 0, 0] S8x256x1024.size (by decide), (k0_pay3 (F := Ideal) : FVec Ideal S8x256x1024 .f32)⟩]) := by
  rw [outsAt0_A m c t h]
  frame_out [View.readCov_cons_toLoadRect, ↓View.readCov_skip, ↓View.readCov_fill]
  rfl
theorem outB (c : Dev nD) (t : Fin cfg0.N) (h : ¬ t.val % 4 = 0) :
    outsAt0 m c t.val t.isLt = View.canon (pieces (slotv (iblk m c 1 t) (outsAt0 m c (t.val - 1) (Nat.lt_of_le_of_lt (Nat.sub_le _ _) t.isLt)) (iblk m c 0 t)) ++ []) := by
  rw [outsAt0_B m c t h]
  frame_out [View.readCov_cons_toLoadRect, ↓View.readCov_skip, ↓View.readCov_fill]
  rfl

theorem emb_rS (q : Fin 8) (k : Fin 256) (n : Fin 1024) : (rS q).emb (ix3 (0 : Fin 1) k n) = ix3 q k n :=
  funext fun a => by
    match a with
    | ⟨0, _⟩ => exact Fin.ext (by show q.val + 1 * 0 = q.val; omega)
    | ⟨1, _⟩ => exact Fin.ext (by show 0 + 1 * k.val = k.val; omega)
    | ⟨2, _⟩ => exact Fin.ext (by show 0 + 1 * n.val = n.val; omega)
theorem ld_rS (X : FVec Ideal S8x256x1024 .f32) (q : Fin 8) (k : Fin 256) (n : Fin 1024) : View.ld (Val := Elt Ideal) (e' := .f32) X (rS q) (ix3 (0 : Fin 1) k n) = X (ix3 q k n) :=
  congrArg X (emb_rS q k n)
theorem ld_rC (a : FVec Ideal S2048x2048 .bf16) (q : Fin 8) (s : Fin 2048) (k : Fin 256) :
    View.ld (Val := Elt Ideal) (e' := .bf16) a (rC q) (ix2 s k) = a (ix2 s (⟨256 * ch q + k.val, by have := ch_lt q; omega⟩ : Fin 2048)) :=
  congrArg a (funext fun x => by
    match x with
    | ⟨0, _⟩ => exact Fin.ext (by show 0 + 1 * s.val = s.val; omega)
    | ⟨1, _⟩ => exact Fin.ext (by show 256 * ch q + 1 * k.val = 256 * ch q + k.val; omega))

theorem not_mem_rS {q q' : Fin 8} (h : q' ≠ q) (k : Fin 256) (n : Fin 1024) : (rS q).emb (ix3 (0 : Fin 1) k n) ∉ (rS q').set := by
  rw [emb_rS]
  intro hm
  have := (Rect.mem_set_unit.mp hm) 0
  have h1 : q'.val ≤ q.val := this.1
  have h2 : q.val < q'.val + 1 := this.2
  exact h (Fin.ext (by omega))

theorem split : ∀ q : Fin 8, ∃ A B : List (Fin 8), [(7 : Fin 8), 3, 6, 2, 5, 1, 4, 0] = A ++ q :: B ∧ ∀ x ∈ A, x ≠ q
  | 0 => ⟨[7, 3, 6, 2, 5, 1, 4], [], rfl, by decide⟩
  | 1 => ⟨[7, 3, 6, 2, 5], [4, 0], rfl, by decide⟩
  | 2 => ⟨[7, 3, 6], [5, 1, 4, 0], rfl, by decide⟩
  | 3 => ⟨[7], [6, 2, 5, 1, 4, 0], rfl, by decide⟩
  | 4 => ⟨[7, 3, 6, 2, 5, 1], [0], rfl, by decide⟩
  | 5 => ⟨[7, 3, 6, 2], [1, 4, 0], rfl, by decide⟩
  | 6 => ⟨[7, 3], [2, 5, 1, 4, 0], rfl, by decide⟩
  | 7 => ⟨[], [3, 6, 2, 5, 1, 4, 0], rfl, by decide⟩

section
variable {S : Shape} {e : EltTy}
/-- Reading an entry of a store that no later store touched. -/
theorem canon_hit (r : Rect S) (w : r.shape.Idx → Elt Ideal e) (L₂ : List (View.Piece (Elt Ideal) S e)) (x : r.shape.Idx) :
    ∀ L₁ : List (View.Piece (Elt Ideal) S e), (∀ q ∈ L₁, r.emb x ∉ q.1.set) → View.canon (L₁ ++ (⟨r, w⟩ :: L₂)) (r.emb x) = w x
  | [], _ => View.canon_cons_emb r w L₂ x
  | q :: L₁, h => by
    rw [List.cons_append, View.canon_cons_of_not_mem _ _ (h q List.mem_cons_self)]
    exact canon_hit r w L₂ x L₁ fun q' hq' => h q' (List.mem_cons_of_mem _ hq')
end

theorem canon_slot (w : (q : Fin 8) → FVec Ideal S1x256x1024 .f32) (R : List (View.Piece (Elt Ideal) S8x256x1024 .f32)) (q : Fin 8) (k : Fin 256) (n : Fin 1024) :
    View.canon (pieces w ++ R) (ix3 q k n) = w q (ix3 (0 : Fin 1) k n) := by
  obtain ⟨A, B, he, hA⟩ := split q
  have e : pieces w = A.map (piece w) ++ piece w q :: B.map (piece w) := by
    rw [← List.map_cons, ← List.map_append, ← he]
    rfl
  rw [e, List.append_assoc, List.cons_append, ← emb_rS q k n]
  refine canon_hit (rS q) (w q) _ (ix3 (0 : Fin 1) k n) (A.map (piece w)) fun p h => ?_
  obtain ⟨x, hx, rfl⟩ := List.mem_map.mp h
  exact not_mem_rS (hA x hx) k n

theorem slotv_at (b : FVec Ideal S2048x1024 .bf16) (X : FVec Ideal S8x256x1024 .f32) (a : FVec Ideal S2048x2048 .bf16) (q : Fin 8) (k : Fin 256) (n : Fin 1024) :
    slotv b X a q (ix3 (0 : Fin 1) k n) = X (ix3 q k n) + ∑ s : Fin 2048, a (ix2 s (⟨256 * ch q + k.val, by have := ch_lt q; omega⟩ : Fin 2048)) * b (ix2 s n) := by
  unfold slotv
  generalize h0 : View.ld (Val := Elt Ideal) (e' := .f32) X (rS q) = X0
  generalize h1 : View.ld (Val := Elt Ideal) (e' := .bf16) a (rC q) = a0
  have e0 : X0 (ix3 (0 : Fin 1) k n) = X (ix3 q k n) := (congrFun h0.symm _).trans (ld_rS X q k n)
  have e1 : ∀ s : Fin 2048, a0 (ix2 s k) = a (ix2 s (⟨256 * ch q + k.val, by have := ch_lt q; omega⟩ : Fin 2048)) := fun s => (congrFun h1.symm _).trans (ld_rC a q s k)
  pointwise [k0_pay2]
  simp only [e0, e1]

theorem pay3_at (q : Fin 8) (k : Fin 256) (n : Fin 1024) : k0_pay3 (F := Ideal) (ix3 q k n) = 0 := by
  pointwise [k0_pay3]

theorem idx : ∀ t : Fin cfg0.N, win0_0.index t = ![t.val, 0] ∧ win0_1.index t = ![t.val, 0] ∧ win0_2.index t = ![0, 0, 0] :=
  (by decide +kernel : ∀ t : Fin grid0.N, _)
theorem blk0 (c : Dev nD) (t : Fin cfg0.N) (s : Fin 2048) (k : Fin 2048) :
    iblk m c 0 t (ix2 s k) = m ((c : Thread nD τ).loc main_arg0) (ix2 (⟨2048 * t.val + s.val, by have := lt4 t; omega⟩ : Fin 8192) k) := by
  blk_ext [iblk, V, idx t]
theorem blk1 (c : Dev nD) (t : Fin cfg0.N) (s : Fin 2048) (n : Fin 1024) :
    iblk m c 1 t (ix2 s n) = m ((c : Thread nD τ).loc main_arg1) (ix2 (⟨2048 * t.val + s.val, by have := lt4 t; omega⟩ : Fin 8192) n) := by
  blk_ext [iblk, V, idx t]

/-- The product over all the tokens. -/
def dw (y : FVec Ideal S8192x2048 .bf16) (d : FVec Ideal S8192x1024 .bf16) (k : Fin 2048) (n : Fin 1024) : EReal :=
  ∑ s : Fin 8192, y (ix2 s k) * d (ix2 s n)
/-- One block of tokens' share of it. -/
def part (y : FVec Ideal S8192x2048 .bf16) (d : FVec Ideal S8192x1024 .bf16) (k : Fin 2048) (n : Fin 1024) (i : Fin 4) : EReal :=
  ∑ s : Fin 2048, y (ix2 (⟨2048 * i.val + s.val, by omega⟩ : Fin 8192) k) * d (ix2 (⟨2048 * i.val + s.val, by omega⟩ : Fin 8192) n)

theorem rows4 (f : Fin 8192 → EReal) : ∑ s, f s = ∑ i : Fin 4, ∑ s : Fin 2048, f ⟨2048 * i.val + s.val, by omega⟩ := by
  rw [← Fintype.sum_prod_type', ← Equiv.sum_comp (finProdFinEquiv (m := 4) (n := 2048))]
  exact Finset.sum_congr rfl fun x _ => congrArg f (Fin.ext (by simp [finProdFinEquiv]; omega))

theorem step (c : Dev nD) (t : Fin cfg0.N) (X : FVec Ideal S8x256x1024 .f32) (q : Fin 8) (k : Fin 256) (n : Fin 1024) :
    slotv (iblk m c 1 t) X (iblk m c 0 t) q (ix3 (0 : Fin 1) k n)
      = X (ix3 q k n) + part (m ((c : Thread nD τ).loc main_arg0)) (m ((c : Thread nD τ).loc main_arg1)) (⟨256 * ch q + k.val, by have := ch_lt q; omega⟩ : Fin 2048) n ⟨t.val, lt4 t⟩ := by
  rw [slotv_at]
  exact congrArg₂ (· + ·) rfl (Finset.sum_congr rfl fun s _ => by rw [blk0, blk1])

theorem outB_at (c : Dev nD) (v : ℕ) (h : v < cfg0.N) (h4 : ¬ v % 4 = 0) (q : Fin 8) (k : Fin 256) (n : Fin 1024) :
    outsAt0 m c v h (ix3 q k n) = outsAt0 m c (v - 1) (Nat.lt_of_le_of_lt (Nat.sub_le _ _) h) (ix3 q k n) + part (m ((c : Thread nD τ).loc main_arg0)) (m ((c : Thread nD τ).loc main_arg1)) (⟨256 * ch q + k.val, by have := ch_lt q; omega⟩ : Fin 2048) n ⟨v, lt4 ⟨v, h⟩⟩ := by
  refine (congrFun (outB m c ⟨v, h⟩ h4) (ix3 q k n)).trans ?_
  rw [canon_slot, step]
theorem outA_at (c : Dev nD) (v : ℕ) (h : v < cfg0.N) (h4 : v % 4 = 0) (q : Fin 8) (k : Fin 256) (n : Fin 1024) :
    outsAt0 m c v h (ix3 q k n) = part (m ((c : Thread nD τ).loc main_arg0)) (m ((c : Thread nD τ).loc main_arg1)) (⟨256 * ch q + k.val, by have := ch_lt q; omega⟩ : Fin 2048) n ⟨v, lt4 ⟨v, h⟩⟩ := by
  refine (congrFun (outA m c ⟨v, h⟩ h4) (ix3 q k n)).trans ?_
  rw [canon_slot, step, pay3_at, zero_add]

theorem last_at (c : Dev nD) (h : 3 < cfg0.N) (q : Fin 8) (k : Fin 256) (n : Fin 1024) :
    outsAt0 m c 3 h (ix3 q k n)
      = dw (m ((c : Thread nD τ).loc main_arg0)) (m ((c : Thread nD τ).loc main_arg1)) (⟨256 * ch q + k.val, by have := ch_lt q; omega⟩ : Fin 2048) n := by
  have h2 : 2 < cfg0.N := by omega
  have h1 : 1 < cfg0.N := by omega
  have h0 : 0 < cfg0.N := by omega
  have o3 := outB_at m c 3 h (by decide) q k n
  have o2 := outB_at m c 2 h2 (by decide) q k n
  have o1 := outB_at m c 1 h1 (by decide) q k n
  have o0 := outA_at m c 0 h0 (by decide) q k n
  rw [o3, o2, o1, o0, dw, rows4, Fin.sum_univ_four]
  rfl
theorem last_at' (c : Dev nD) (t : Fin cfg0.N) (h : t.val = 3) (q : Fin 8) (k : Fin 256) (n : Fin 1024) :
    outsAt0 m c t.val t.isLt (ix3 q k n)
      = dw (m ((c : Thread nD τ).loc main_arg0)) (m ((c : Thread nD τ).loc main_arg1)) (⟨256 * ch q + k.val, by have := ch_lt q; omega⟩ : Fin 2048) n := by
  obtain ⟨tv, ht⟩ := t
  obtain rfl : tv = 3 := h
  exact last_at m c ht q k n

/-- The array of the gradients, chunk by chunk in the slots' order. -/
def dwArr (y : FVec Ideal S8192x2048 .bf16) (d : FVec Ideal S8192x1024 .bf16) : FVec Ideal S8x256x1024 .f32 := fun i =>
  dw y d (⟨256 * ch (i 0) + (i 1).val, by
    have h0 := ch_lt (i 0)
    have h1 : (i 1).val < 256 := (i 1).isLt
    omega⟩ : Fin 2048) (i 2)

theorem result (c : Dev nD) : (dats m 0 c).arrAt 2 cfg0.N = dwArr (m ((c : Thread nD τ).loc main_arg0)) (m ((c : Thread nD τ).loc main_arg1)) := by
  refine (dats m 0 c).arrAt_eq_of_covers 2 _ (by decide +kernel) fun t hf y => ?_
  have h3 : t.val = 3 := (by decide +kernel : ∀ t : Fin grid0.N, (cfg0.win 2).flush t = true → t.val = 3) t hf
  blk_simp []
  rw [after0_2]
  have e0 : ((((cfg0.win 2).blk t).view.emb y) 0).val = (y 0).val := by
    blk_simp [idx t]
  have e1 : ((((cfg0.win 2).blk t).view.emb y) 1).val = (y 1).val := by
    blk_simp [idx t]
  have e2 : ((((cfg0.win 2).blk t).view.emb y) 2).val = (y 2).val := by
    blk_simp [idx t]
  have ey : y = ix3 (⟨(y 0).val, (y 0).isLt⟩ : Fin 8) (⟨(y 1).val, (y 1).isLt⟩ : Fin 256) (⟨(y 2).val, (y 2).isLt⟩ : Fin 1024) :=
    funext fun a => by match a with | ⟨0, _⟩ => rfl | ⟨1, _⟩ => rfl | ⟨2, _⟩ => rfl
  refine ((congrArg _ ey).trans (last_at' m c t h3 _ _ _)).trans ?_
  refine congrArg₂ (dw _ _) (Fin.ext ?_) (Fin.ext e2.symm)
  exact congrArg₂ (fun a b => 256 * a + b) (congrArg ch (Fin.ext e0.symm)) e1.symm

end Cert.Kernel8Ideal.Value

/-! ## The reference's product -/

namespace Cert.Reference8Ideal.Values
open Cert.Reference8Ideal Cert.Reference8Ideal.Gen Cert.Reference8Ideal.Read Cert.Kernel8Ideal.Value

theorem e8 (q : Fin 8) (k : Fin 256) (n : Fin 1024) :
    idx_main_v8 (ix3 q k n) = ix4 (⟨q.val / 4, by omega⟩ : Fin 2) (⟨q.val % 4, by omega⟩ : Fin 4) k n :=
  funext fun a => by
    match a with
    | ⟨0, _⟩ => exact Fin.ext (by show ((q.val * 256 + k.val) * 1024 + n.val) / 1048576 = q.val / 4; omega)
    | ⟨1, _⟩ => exact Fin.ext (by show ((q.val * 256 + k.val) * 1024 + n.val) / 262144 % 4 = q.val % 4; omega)
    | ⟨2, _⟩ => exact Fin.ext (by show ((q.val * 256 + k.val) * 1024 + n.val) / 1024 % 256 = k.val; omega)
    | ⟨3, _⟩ => exact Fin.ext (by show ((q.val * 256 + k.val) * 1024 + n.val) % 1024 = n.val; omega)
theorem e7 (b : Fin 2) (a : Fin 4) (k : Fin 256) (n : Fin 1024) : idx_main_v7 (ix4 b a k n) = ix4 a b k n :=
  funext fun x => by match x with | ⟨0, _⟩ => rfl | ⟨1, _⟩ => rfl | ⟨2, _⟩ => rfl | ⟨3, _⟩ => rfl
theorem e6 (b : Fin 2) (a : Fin 4) (k : Fin 256) (n : Fin 1024) :
    idx_main_v6 (ix4 a b k n) = ix2 (⟨256 * (2 * a.val + b.val) + k.val, by omega⟩ : Fin 2048) n :=
  funext fun x => by
    match x with
    | ⟨0, _⟩ => exact Fin.ext (by show (((a.val * 2 + b.val) * 256 + k.val) * 1024 + n.val) / 1024 = 256 * (2 * a.val + b.val) + k.val; omega)
    | ⟨1, _⟩ => exact Fin.ext (by show (((a.val * 2 + b.val) * 256 + k.val) * 1024 + n.val) % 1024 = n.val; omega)

theorem v5_at (x0 : FVec Ideal S8192x2048 .bf16) (x1 : FVec Ideal S8192x1024 .bf16) (k : Fin 2048) (n : Fin 1024) :
    val_main_v5 (F := Ideal) x0 x1 (ix2 k n) = dw x0 x1 k n := by
  rw [val_main_v5_apply, val_main_v4_apply, dw]
  refine Finset.sum_congr rfl fun s _ => ?_
  rw [mul_comm, val_main_v0_apply, val_main_v3_apply]
  have el : lidx_main_v4 (idx_main_v5 (ix2 k n)) s = ix2 s n := funext fun a => by match a with | ⟨0, _⟩ => rfl | ⟨1, _⟩ => rfl
  have er : ridx_main_v4 (idx_main_v5 (ix2 k n)) s = ix2 s k := funext fun a => by match a with | ⟨0, _⟩ => rfl | ⟨1, _⟩ => rfl
  rw [el, er]
  rfl

theorem ref (x0 : FVec Ideal S8192x2048 .bf16) (x1 : FVec Ideal S8192x1024 .bf16) : val_main_v8 (F := Ideal) x0 x1 = dwArr x0 x1 := by
  funext i
  obtain ⟨q, k, n, rfl⟩ : ∃ (q : Fin 8) (k : Fin 256) (n : Fin 1024), i = ix3 q k n := ⟨_, _, _, ValueIdx.eq_ix3 i⟩
  rw [val_main_v8_apply, e8, val_main_v7_apply, e7, val_main_v6_apply, e6, v5_at]
  rfl
end Cert.Reference8Ideal.Values

end
-- ==== Proof.DwOut9.lean ====
/- The gradient of an output projection's weights: the kernel's sum over four blocks of the tokens is the reference's product. -/
module

public import proofs.«01_k».proof.Proof.Gen.Kernel9Ideal.Value
public import proofs.«01_k».proof.Proof.Gen.Reference9Ideal.Read
public import Idealize.ShloMosaic.Lib.Pipeline.ValueKit
public import Idealize.ShloMosaic.Lib.Pointwise
public import Idealize.ShloMosaic.Lib.Pipeline.ReadBack
public import Idealize.ShloMosaic.Lib.IdealHost

@[expose] public section
set_option maxRecDepth 16384
noncomputable section
open Idealize.ShloMosaic Idealize.ShloMosaic.TcCoe Idealize.SL.Sem
open Idealize.ShloMosaic.Pipeline (Dat)
open scoped BigOperators
namespace Cert.Kernel9Ideal.Value
open Cert.Kernel9Ideal Cert.Kernel9Ideal.Gen
variable (m : (ℓ : Loc nD τ sig) → Buf (Elt Ideal) ℓ)

/-- The chunk of rows that slot q holds. -/
def ch (q : Fin 8) : ℕ := 2 * (q.val % 4) + q.val / 4
theorem ch_lt (q : Fin 8) : ch q < 8 := by unfold ch; omega

abbrev rS (q : Fin 8) : Rect S8x128x1024 := Rect.unit ![q.val, 0, 0] ![1, 128, 1024] (by revert q; decide)
abbrev rC (q : Fin 8) : Rect S2048x1024 := Rect.unit ![0, 128 * ch q] ![2048, 128] (by revert q; decide)

/-- What a step leaves in slot q. -/
def slotv (b : FVec Ideal S2048x1024 .bf16) (X : FVec Ideal S8x128x1024 .f32) (a : FVec Ideal S2048x1024 .bf16) (q : Fin 8) : FVec Ideal S1x128x1024 .f32 :=
  k0_pay2 (F := Ideal) b (View.ld X (rS q)) (View.ld a (rC q))

abbrev piece (w : (q : Fin 8) → FVec Ideal S1x128x1024 .f32) (q : Fin 8) : View.Piece (Elt Ideal) S8x128x1024 .f32 := ⟨rS q, w q⟩
/-- The stores of a step, the last one first. -/
abbrev pieces (w : (q : Fin 8) → FVec Ideal S1x128x1024 .f32) : List (View.Piece (Elt Ideal) S8x128x1024 .f32) :=
  [piece w 7, piece w 3, piece w 6, piece w 2, piece w 5, piece w 1, piece w 4, piece w 0]

theorem lt4 (t : Fin cfg0.N) : t.val < 4 := lt_of_lt_of_eq t.isLt N_0
abbrev pt (t : Fin cfg0.N) : Fin cfg0.N := ⟨t.val - 1, Nat.lt_of_le_of_lt (Nat.sub_le _ _) t.isLt⟩

theorem outA (c : Dev nD) (t : Fin cfg0.N) (h : t.val % 4 = 0) :
    outsAt0 m c t.val t.isLt = View.canon (pieces (slotv (iblk m c 1 t) (k0_pay3 (F := Ideal)) (iblk m c 0 t))
      ++ [⟨Rect.unit ![0, 0, 0] S8x128x1024.size (by decide), (k0_pay3 (F := Ideal) : FVec Ideal S8x128x1024 .f32)⟩]) := by
  rw [outsAt0_A m c t h]
  frame_out [View.readCov_cons_toLoadRect, ↓View.readCov_skip, ↓View.readCov_fill]
  rfl
theorem outB (c : Dev nD) (t : Fin cfg0.N) (h : ¬ t.val % 4 = 0) :
    outsAt0 m c t.val t.isLt = View.canon (pieces (slotv (iblk m c 1 t) (outsAt0 m c (t.val - 1) (Nat.lt_of_le_of_lt (Nat.sub_le _ _) t.isLt)) (iblk m c 0 t)) ++ []) := by
  rw [outsAt0_B m c t h]
  frame_out [View.readCov_cons_toLoadRect, ↓View.readCov_skip, ↓View.readCov_fill]
  rfl

theorem emb_rS (q : Fin 8) (k : Fin 128) (n : Fin 1024) : (rS q).emb (ix3 (0 : Fin 1) k n) = ix3 q k n :=
  funext fun a => by
    match a with
    | ⟨0, _⟩ => exact Fin.ext (by show q.val + 1 * 0 = q.val; omega)
    | ⟨1, _⟩ => exact Fin.ext (by show 0 + 1 * k.val = k.val; omega)
    | ⟨2, _⟩ => exact Fin.ext (by show 0 + 1 * n.val = n.val; omega)
theorem ld_rS (X : FVec Ideal S8x128x1024 .f32) (q : Fin 8) (k : Fin 128) (n : Fin 1024) : View.ld (Val := Elt Ideal) (e' := .f32) X (rS q) (ix3 (0 : Fin 1) k n) = X (ix3 q k n) :=
  congrArg X (emb_rS q k n)
theorem ld_rC (a : FVec Ideal S2048x1024 .bf16) (q : Fin 8) (s : Fin 2048) (k : Fin 128) :
    View.ld (Val := Elt Ideal) (e' := .bf16) a (rC q) (ix2 s k) = a (ix2 s (⟨128 * ch q + k.val, by have := ch_lt q; omega⟩ : Fin 1024)) :=
  congrArg a (funext fun x => by
    match x with
    | ⟨0, _⟩ => exact Fin.ext (by show 0 + 1 * s.val = s.val; omega)
    | ⟨1, _⟩ => exact Fin.ext (by show 128 * ch q + 1 * k.val = 128 * ch q + k.val; omega))

theorem not_mem_rS {q q' : Fin 8} (h : q' ≠ q) (k : Fin 128) (n : Fin 1024) : (rS q).emb (ix3 (0 : Fin 1) k n) ∉ (rS q').set := by
  rw [emb_rS]
  intro hm
  have := (Rect.mem_set_unit.mp hm) 0
  have h1 : q'.val ≤ q.val := this.1
  have h2 : q.val < q'.val + 1 := this.2
  exact h (Fin.ext (by omega))

theorem split : ∀ q : Fin 8, ∃ A B : List (Fin 8), [(7 : Fin 8), 3, 6, 2, 5, 1, 4, 0] = A ++ q :: B ∧ ∀ x ∈ A, x ≠ q
  | 0 => ⟨[7, 3, 6, 2, 5, 1, 4], [], rfl, by decide⟩
  | 1 => ⟨[7, 3, 6, 2, 5], [4, 0], rfl, by decide⟩
  | 2 => ⟨[7, 3, 6], [5, 1, 4, 0], rfl, by decide⟩
  | 3 => ⟨[7], [6, 2, 5, 1, 4, 0], rfl, by decide⟩
  | 4 => ⟨[7, 3, 6, 2, 5, 1], [0], rfl, by decide⟩
  | 5 => ⟨[7, 3, 6, 2], [1, 4, 0], rfl, by decide⟩
  | 6 => ⟨[7, 3], [2, 5, 1, 4, 0], rfl, by decide⟩
  | 7 => ⟨[], [3, 6, 2, 5, 1, 4, 0], rfl, by decide⟩

section
variable {S : Shape} {e : EltTy}
/-- Reading an entry of a store that no later store touched. -/
theorem canon_hit (r : Rect S) (w : r.shape.Idx → Elt Ideal e) (L₂ : List (View.Piece (Elt Ideal) S e)) (x : r.shape.Idx) :
    ∀ L₁ : List (View.Piece (Elt Ideal) S e), (∀ q ∈ L₁, r.emb x ∉ q.1.set) → View.canon (L₁ ++ (⟨r, w⟩ :: L₂)) (r.emb x) = w x
  | [], _ => View.canon_cons_emb r w L₂ x
  | q :: L₁, h => by
    rw [List.cons_append, View.canon_cons_of_not_mem _ _ (h q List.mem_cons_self)]
    exact canon_hit r w L₂ x L₁ fun q' hq' => h q' (List.mem_cons_of_mem _ hq')
end

theorem canon_slot (w : (q : Fin 8) → FVec Ideal S1x128x1024 .f32) (R : List (View.Piece (Elt Ideal) S8x128x1024 .f32)) (q : Fin 8) (k : Fin 128) (n : Fin 1024) :
    View.canon (pieces w ++ R) (ix3 q k n) = w q (ix3 (0 : Fin 1) k n) := by
  obtain ⟨A, B, he, hA⟩ := split q
  have e : pieces w = A.map (piece w) ++ piece w q :: B.map (piece w) := by
    rw [← List.map_cons, ← List.map_append, ← he]
    rfl
  rw [e, List.append_assoc, List.cons_append, ← emb_rS q k n]
  refine canon_hit (rS q) (w q) _ (ix3 (0 : Fin 1) k n) (A.map (piece w)) fun p h => ?_
  obtain ⟨x, hx, rfl⟩ := List.mem_map.mp h
  exact not_mem_rS (hA x hx) k n

theorem slotv_at (b : FVec Ideal S2048x1024 .bf16) (X : FVec Ideal S8x128x1024 .f32) (a : FVec Ideal S2048x1024 .bf16) (q : Fin 8) (k : Fin 128) (n : Fin 1024) :
    slotv b X a q (ix3 (0 : Fin 1) k n) = X (ix3 q k n) + ∑ s : Fin 2048, a (ix2 s (⟨128 * ch q + k.val, by have := ch_lt q; omega⟩ : Fin 1024)) * b (ix2 s n) := by
  unfold slotv
  generalize h0 : View.ld (Val := Elt Ideal) (e' := .f32) X (rS q) = X0
  generalize h1 : View.ld (Val := Elt Ideal) (e' := .bf16) a (rC q) = a0
  have e0 : X0 (ix3 (0 : Fin 1) k n) = X (ix3 q k n) := (congrFun h0.symm _).trans (ld_rS X q k n)
  have e1 : ∀ s : Fin 2048, a0 (ix2 s k) = a (ix2 s (⟨128 * ch q + k.val, by have := ch_lt q; omega⟩ : Fin 1024)) := fun s => (congrFun h1.symm _).trans (ld_rC a q s k)
  pointwise [k0_pay2]
  simp only [e0, e1]

theorem pay3_at (q : Fin 8) (k : Fin 128) (n : Fin 1024) : k0_pay3 (F := Ideal) (ix3 q k n) = 0 := by
  pointwise [k0_pay3]

theorem idx : ∀ t : Fin cfg0.N, win0_0.index t = ![t.val, 0] ∧ win0_1.index t = ![t.val, 0] ∧ win0_2.index t = ![0, 0, 0] :=
  (by decide +kernel : ∀ t : Fin grid0.N, _)
theorem blk0 (c : Dev nD) (t : Fin cfg0.N) (s : Fin 2048) (k : Fin 1024) :
    iblk m c 0 t (ix2 s k) = m ((c : Thread nD τ).loc main_arg0) (ix2 (⟨2048 * t.val + s.val, by have := lt4 t; omega⟩ : Fin 8192) k) := by
  blk_ext [iblk, V, idx t]
theorem blk1 (c : Dev nD) (t : Fin cfg0.N) (s : Fin 2048) (n : Fin 1024) :
    iblk m c 1 t (ix2 s n) = m ((c : Thread nD τ).loc main_arg1) (ix2 (⟨2048 * t.val + s.val, by have := lt4 t; omega⟩ : Fin 8192) n) := by
  blk_ext [iblk, V, idx t]

/-- The product over all the tokens. -/
def dw (y : FVec Ideal S8192x1024 .bf16) (d : FVec Ideal S8192x1024 .bf16) (k : Fin 1024) (n : Fin 1024) : EReal :=
  ∑ s : Fin 8192, y (ix2 s k) * d (ix2 s n)
/-- One block of tokens' share of it. -/
def part (y : FVec Ideal S8192x1024 .bf16) (d : FVec Ideal S8192x1024 .bf16) (k : Fin 1024) (n : Fin 1024) (i : Fin 4) : EReal :=
  ∑ s : Fin 2048, y (ix2 (⟨2048 * i.val + s.val, by omega⟩ : Fin 8192) k) * d (ix2 (⟨2048 * i.val + s.val, by omega⟩ : Fin 8192) n)

theorem rows4 (f : Fin 8192 → EReal) : ∑ s, f s = ∑ i : Fin 4, ∑ s : Fin 2048, f ⟨2048 * i.val + s.val, by omega⟩ := by
  rw [← Fintype.sum_prod_type', ← Equiv.sum_comp (finProdFinEquiv (m := 4) (n := 2048))]
  exact Finset.sum_congr rfl fun x _ => congrArg f (Fin.ext (by simp [finProdFinEquiv]; omega))

theorem step (c : Dev nD) (t : Fin cfg0.N) (X : FVec Ideal S8x128x1024 .f32) (q : Fin 8) (k : Fin 128) (n : Fin 1024) :
    slotv (iblk m c 1 t) X (iblk m c 0 t) q (ix3 (0 : Fin 1) k n)
      = X (ix3 q k n) + part (m ((c : Thread nD τ).loc main_arg0)) (m ((c : Thread nD τ).loc main_arg1)) (⟨128 * ch q + k.val, by have := ch_lt q; omega⟩ : Fin 1024) n ⟨t.val, lt4 t⟩ := by
  rw [slotv_at]
  exact congrArg₂ (· + ·) rfl (Finset.sum_congr rfl fun s _ => by rw [blk0, blk1])

theorem outB_at (c : Dev nD) (v : ℕ) (h : v < cfg0.N) (h4 : ¬ v % 4 = 0) (q : Fin 8) (k : Fin 128) (n : Fin 1024) :
    outsAt0 m c v h (ix3 q k n) = outsAt0 m c (v - 1) (Nat.lt_of_le_of_lt (Nat.sub_le _ _) h) (ix3 q k n) + part (m ((c : Thread nD τ).loc main_arg0)) (m ((c : Thread nD τ).loc main_arg1)) (⟨128 * ch q + k.val, by have := ch_lt q; omega⟩ : Fin 1024) n ⟨v, lt4 ⟨v, h⟩⟩ := by
  refine (congrFun (outB m c ⟨v, h⟩ h4) (ix3 q k n)).trans ?_
  rw [canon_slot, step]
theorem outA_at (c : Dev nD) (v : ℕ) (h : v < cfg0.N) (h4 : v % 4 = 0) (q : Fin 8) (k : Fin 128) (n : Fin 1024) :
    outsAt0 m c v h (ix3 q k n) = part (m ((c : Thread nD τ).loc main_arg0)) (m ((c : Thread nD τ).loc main_arg1)) (⟨128 * ch q + k.val, by have := ch_lt q; omega⟩ : Fin 1024) n ⟨v, lt4 ⟨v, h⟩⟩ := by
  refine (congrFun (outA m c ⟨v, h⟩ h4) (ix3 q k n)).trans ?_
  rw [canon_slot, step, pay3_at, zero_add]

theorem last_at (c : Dev nD) (h : 3 < cfg0.N) (q : Fin 8) (k : Fin 128) (n : Fin 1024) :
    outsAt0 m c 3 h (ix3 q k n)
      = dw (m ((c : Thread nD τ).loc main_arg0)) (m ((c : Thread nD τ).loc main_arg1)) (⟨128 * ch q + k.val, by have := ch_lt q; omega⟩ : Fin 1024) n := by
  have h2 : 2 < cfg0.N := by omega
  have h1 : 1 < cfg0.N := by omega
  have h0 : 0 < cfg0.N := by omega
  have o3 := outB_at m c 3 h (by decide) q k n
  have o2 := outB_at m c 2 h2 (by decide) q k n
  have o1 := outB_at m c 1 h1 (by decide) q k n
  have o0 := outA_at m c 0 h0 (by decide) q k n
  rw [o3, o2, o1, o0, dw, rows4, Fin.sum_univ_four]
  rfl
theorem last_at' (c : Dev nD) (t : Fin cfg0.N) (h : t.val = 3) (q : Fin 8) (k : Fin 128) (n : Fin 1024) :
    outsAt0 m c t.val t.isLt (ix3 q k n)
      = dw (m ((c : Thread nD τ).loc main_arg0)) (m ((c : Thread nD τ).loc main_arg1)) (⟨128 * ch q + k.val, by have := ch_lt q; omega⟩ : Fin 1024) n := by
  obtain ⟨tv, ht⟩ := t
  obtain rfl : tv = 3 := h
  exact last_at m c ht q k n

/-- The array of the gradients, chunk by chunk in the slots' order. -/
def dwArr (y : FVec Ideal S8192x1024 .bf16) (d : FVec Ideal S8192x1024 .bf16) : FVec Ideal S8x128x1024 .f32 := fun i =>
  dw y d (⟨128 * ch (i 0) + (i 1).val, by
    have h0 := ch_lt (i 0)
    have h1 : (i 1).val < 128 := (i 1).isLt
    omega⟩ : Fin 1024) (i 2)

theorem result (c : Dev nD) : (dats m 0 c).arrAt 2 cfg0.N = dwArr (m ((c : Thread nD τ).loc main_arg0)) (m ((c : Thread nD τ).loc main_arg1)) := by
  refine (dats m 0 c).arrAt_eq_of_covers 2 _ (by decide +kernel) fun t hf y => ?_
  have h3 : t.val = 3 := (by decide +kernel : ∀ t : Fin grid0.N, (cfg0.win 2).flush t = true → t.val = 3) t hf
  blk_simp []
  rw [after0_2]
  have e0 : ((((cfg0.win 2).blk t).view.emb y) 0).val = (y 0).val := by
    blk_simp [idx t]
  have e1 : ((((cfg0.win 2).blk t).view.emb y) 1).val = (y 1).val := by
    blk_simp [idx t]
  have e2 : ((((cfg0.win 2).blk t).view.emb y) 2).val = (y 2).val := by
    blk_simp [idx t]
  have ey : y = ix3 (⟨(y 0).val, (y 0).isLt⟩ : Fin 8) (⟨(y 1).val, (y 1).isLt⟩ : Fin 128) (⟨(y 2).val, (y 2).isLt⟩ : Fin 1024) :=
    funext fun a => by match a with | ⟨0, _⟩ => rfl | ⟨1, _⟩ => rfl | ⟨2, _⟩ => rfl
  refine ((congrArg _ ey).trans (last_at' m c t h3 _ _ _)).trans ?_
  refine congrArg₂ (dw _ _) (Fin.ext ?_) (Fin.ext e2.symm)
  exact congrArg₂ (fun a b => 128 * a + b) (congrArg ch (Fin.ext e0.symm)) e1.symm

end Cert.Kernel9Ideal.Value

/-! ## The reference's product -/

namespace Cert.Reference9Ideal.Values
open Cert.Reference9Ideal Cert.Reference9Ideal.Gen Cert.Reference9Ideal.Read Cert.Kernel9Ideal.Value

theorem e8 (q : Fin 8) (k : Fin 128) (n : Fin 1024) :
    idx_main_v8 (ix3 q k n) = ix4 (⟨q.val / 4, by omega⟩ : Fin 2) (⟨q.val % 4, by omega⟩ : Fin 4) k n :=
  funext fun a => by
    match a with
    | ⟨0, _⟩ => exact Fin.ext (by show ((q.val * 128 + k.val) * 1024 + n.val) / 524288 = q.val / 4; omega)
    | ⟨1, _⟩ => exact Fin.ext (by show ((q.val * 128 + k.val) * 1024 + n.val) / 131072 % 4 = q.val % 4; omega)
    | ⟨2, _⟩ => exact Fin.ext (by show ((q.val * 128 + k.val) * 1024 + n.val) / 1024 % 128 = k.val; omega)
    | ⟨3, _⟩ => exact Fin.ext (by show ((q.val * 128 + k.val) * 1024 + n.val) % 1024 = n.val; omega)
theorem e7 (b : Fin 2) (a : Fin 4) (k : Fin 128) (n : Fin 1024) : idx_main_v7 (ix4 b a k n) = ix4 a b k n :=
  funext fun x => by match x with | ⟨0, _⟩ => rfl | ⟨1, _⟩ => rfl | ⟨2, _⟩ => rfl | ⟨3, _⟩ => rfl
theorem e6 (b : Fin 2) (a : Fin 4) (k : Fin 128) (n : Fin 1024) :
    idx_main_v6 (ix4 a b k n) = ix2 (⟨128 * (2 * a.val + b.val) + k.val, by omega⟩ : Fin 1024) n :=
  funext fun x => by
    match x with
    | ⟨0, _⟩ => exact Fin.ext (by show (((a.val * 2 + b.val) * 128 + k.val) * 1024 + n.val) / 1024 = 128 * (2 * a.val + b.val) + k.val; omega)
    | ⟨1, _⟩ => exact Fin.ext (by show (((a.val * 2 + b.val) * 128 + k.val) * 1024 + n.val) % 1024 = n.val; omega)

theorem v5_at (x0 : FVec Ideal S8192x1024 .bf16) (x1 : FVec Ideal S8192x1024 .bf16) (k : Fin 1024) (n : Fin 1024) :
    val_main_v5 (F := Ideal) x0 x1 (ix2 k n) = dw x0 x1 k n := by
  rw [val_main_v5_apply, val_main_v4_apply, dw]
  refine Finset.sum_congr rfl fun s _ => ?_
  rw [mul_comm, val_main_v0_apply, val_main_v3_apply]
  have el : lidx_main_v4 (idx_main_v5 (ix2 k n)) s = ix2 s n := funext fun a => by match a with | ⟨0, _⟩ => rfl | ⟨1, _⟩ => rfl
  have er : ridx_main_v4 (idx_main_v5 (ix2 k n)) s = ix2 s k := funext fun a => by match a with | ⟨0, _⟩ => rfl | ⟨1, _⟩ => rfl
  rw [el, er]
  rfl

theorem ref (x0 : FVec Ideal S8192x1024 .bf16) (x1 : FVec Ideal S8192x1024 .bf16) : val_main_v8 (F := Ideal) x0 x1 = dwArr x0 x1 := by
  funext i
  obtain ⟨q, k, n, rfl⟩ : ∃ (q : Fin 8) (k : Fin 128) (n : Fin 1024), i = ix3 q k n := ⟨_, _, _, ValueIdx.eq_ix3 i⟩
  rw [val_main_v8_apply, e8, val_main_v7_apply, e7, val_main_v6_apply, e6, v5_at]
  rfl
end Cert.Reference9Ideal.Values

end
-- ==== Proof.OutProj10.lean ====
/- The projection back to the residual: the kernel's rows are the reference's. -/
module

public import proofs.«01_k».proof.Proof.Gen.Kernel10Ideal.Value
public import proofs.«01_k».proof.Proof.Gen.Reference10Ideal.Read
public import Idealize.ShloMosaic.Lib.Pipeline.ValueKit
public import Idealize.ShloMosaic.Lib.Pointwise
public import Idealize.ShloMosaic.Lib.Pipeline.ReadBack
public import Idealize.ShloMosaic.Lib.IdealHost

@[expose] public section
set_option maxRecDepth 16384
noncomputable section
open Idealize.ShloMosaic Idealize.ShloMosaic.TcCoe Idealize.SL.Sem
open Idealize.ShloMosaic.Pipeline (Dat)
open scoped BigOperators
namespace Cert.Kernel10Ideal.Value
open Cert.Kernel10Ideal Cert.Kernel10Ideal.Gen
variable (m : (ℓ : Loc nD τ sig) → Buf (Elt Ideal) ℓ)

theorem out_eq (x0 : FVec Ideal S1024x1024 .f32) (x1 : FVec Ideal S1024x2048 .bf16) (x2 : FVec Ideal S2048x1024 .bf16) :
    out0_3 (F := Ideal) x0 x1 x2 = k0_pay1 (F := Ideal) x0 x1 x2 := by
  frame_out [View.readCov_cons_toLoadRect, ↓View.readCov_skip, ↓View.readCov_fill]

theorem pay1_at (x0 : FVec Ideal S1024x1024 .f32) (x1 : FVec Ideal S1024x2048 .bf16) (x2 : FVec Ideal S2048x1024 .bf16) (s n : Fin 1024) :
    k0_pay1 (F := Ideal) x0 x1 x2 (ix2 s n) = x0 (ix2 s n) + ∑ k : Fin 2048, x1 (ix2 s k) * x2 (ix2 k n) := by
  pointwise [k0_pay1]

theorem idx : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)
theorem lt8 (t : Fin cfg0.N) : t.val < 8 := lt_of_lt_of_eq t.isLt N_0

theorem blk0 (c : Dev nD) (t : Fin cfg0.N) (s n : Fin 1024) :
    iblk m c 0 t (ix2 s n) = m ((c : Thread nD τ).loc main_arg0) (ix2 (⟨1024 * t.val + s.val, by have := lt8 t; omega⟩ : Fin 8192) n) := by
  blk_ext [iblk, V, idx t]
theorem blk1 (c : Dev nD) (t : Fin cfg0.N) (s : Fin 1024) (k : Fin 2048) :
    iblk m c 1 t (ix2 s k) = m ((c : Thread nD τ).loc main_arg1) (ix2 (⟨1024 * t.val + s.val, by have := lt8 t; omega⟩ : Fin 8192) k) := by
  blk_ext [iblk, V, idx t]
theorem blk2 (c : Dev nD) (t : Fin cfg0.N) (k : Fin 2048) (n : Fin 1024) :
    iblk m c 2 t (ix2 k n) = m ((c : Thread nD τ).loc main_arg2) (ix2 k n) := by
  blk_ext [iblk, V, idx t]

/-- The residual and the projection, entry by entry. -/
def out (x0 : FVec Ideal S8192x1024 .f32) (x1 : FVec Ideal S8192x2048 .bf16) (x2 : FVec Ideal S2048x1024 .bf16) (s : Fin 8192) (n : Fin 1024) : EReal :=
  x0 (ix2 s n) + ∑ k : Fin 2048, x1 (ix2 s k) * x2 (ix2 k n)
def outArr (x0 : FVec Ideal S8192x1024 .f32) (x1 : FVec Ideal S8192x2048 .bf16) (x2 : FVec Ideal S2048x1024 .bf16) : FVec Ideal S8192x1024 .f32 :=
  fun i => out x0 x1 x2 (i 0) (i 1)

theorem point_at (c : Dev nD) (t : Fin cfg0.N) (s n : Fin 1024) :
    out0_3 (F := Ideal) (iblk m c 0 t) (iblk m c 1 t) (iblk m c 2 t) (ix2 s n)
      = out (m ((c : Thread nD τ).loc main_arg0)) (m ((c : Thread nD τ).loc main_arg1)) (m ((c : Thread nD τ).loc main_arg2)) (⟨1024 * t.val + s.val, by have := lt8 t; omega⟩ : Fin 8192) n := by
  rw [out_eq, pay1_at, blk0, out]
  exact congrArg₂ (· + ·) rfl (Finset.sum_congr rfl fun k _ => by rw [blk1, blk2])

theorem result (c : Dev nD) : (dats m 0 c).arrAt 3 cfg0.N = outArr (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht := lt8 t
  blk_simp []
  rw [after0_3]
  have e0 : ((((cfg0.win 3).blk t).view.emb y) 0).val = 1024 * t.val + (y 0).val := by
    blk_simp [idx t]
    exact congrArg (· + _) (Nat.mul_comm _ _)
  have e1 : ((((cfg0.win 3).blk t).view.emb y) 1).val = (y 1).val := by
    blk_simp [idx t]
  have ey : y = ix2 (⟨(y 0).val, (y 0).isLt⟩ : Fin 1024) (⟨(y 1).val, (y 1).isLt⟩ : Fin 1024) :=
    funext fun a => by match a with | ⟨0, _⟩ => rfl | ⟨1, _⟩ => rfl
  refine ((congrArg _ ey).trans (point_at m c t _ _)).trans ?_
  exact congrArg₂ (out _ _ _) (Fin.ext e0.symm) (Fin.ext e1.symm)

end Cert.Kernel10Ideal.Value

namespace Cert.Reference10Ideal.Values
open Cert.Reference10Ideal Cert.Reference10Ideal.Gen Cert.Reference10Ideal.Read Cert.Kernel10Ideal.Value

theorem ref (x0 : FVec Ideal S8192x1024 .f32) (x1 : FVec Ideal S8192x2048 .bf16) (x2 : FVec Ideal S2048x1024 .bf16) : val_main_v3 (F := Ideal) x0 x1 x2 = outArr x0 x1 x2 := by
  funext i
  obtain ⟨s, n, rfl⟩ : ∃ (s : Fin 8192) (n : Fin 1024), i = ix2 s n := ⟨_, _, ValueIdx.eq_ix2 i⟩
  show _ = out x0 x1 x2 s n
  pointwise [val_main_v3, val_main_v2, val_main_v1, val_main_v0]
  rfl
end Cert.Reference10Ideal.Values

end
-- ==== Proof.OutProj11.lean ====
/- The projection back to the residual: the kernel's rows are the reference's. -/
module

public import proofs.«01_k».proof.Proof.Gen.Kernel11Ideal.Value
public import proofs.«01_k».proof.Proof.Gen.Reference11Ideal.Read
public import Idealize.ShloMosaic.Lib.Pipeline.ValueKit
public import Idealize.ShloMosaic.Lib.Pointwise
public import Idealize.ShloMosaic.Lib.Pipeline.ReadBack
public import Idealize.ShloMosaic.Lib.IdealHost

@[expose] public section
set_option maxRecDepth 16384
noncomputable section
open Idealize.ShloMosaic Idealize.ShloMosaic.TcCoe Idealize.SL.Sem
open Idealize.ShloMosaic.Pipeline (Dat)
open scoped BigOperators
namespace Cert.Kernel11Ideal.Value
open Cert.Kernel11Ideal Cert.Kernel11Ideal.Gen
variable (m : (ℓ : Loc nD τ sig) → Buf (Elt Ideal) ℓ)

theorem out_eq (x0 : FVec Ideal S1024x1024 .f32) (x1 : FVec Ideal S1024x1024 .bf16) (x2 : FVec Ideal S1024x1024 .bf16) :
    out0_3 (F := Ideal) x0 x1 x2 = k0_pay1 (F := Ideal) x0 x1 x2 := by
  frame_out [View.readCov_cons_toLoadRect, ↓View.readCov_skip, ↓View.readCov_fill]

theorem pay1_at (x0 : FVec Ideal S1024x1024 .f32) (x1 : FVec Ideal S1024x1024 .bf16) (x2 : FVec Ideal S1024x1024 .bf16) (s n : Fin 1024) :
    k0_pay1 (F := Ideal) x0 x1 x2 (ix2 s n) = x0 (ix2 s n) + ∑ k : Fin 1024, x1 (ix2 s k) * x2 (ix2 k n) := by
  pointwise [k0_pay1]

theorem idx : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)
theorem lt8 (t : Fin cfg0.N) : t.val < 8 := lt_of_lt_of_eq t.isLt N_0

theorem blk0 (c : Dev nD) (t : Fin cfg0.N) (s n : Fin 1024) :
    iblk m c 0 t (ix2 s n) = m ((c : Thread nD τ).loc main_arg0) (ix2 (⟨1024 * t.val + s.val, by have := lt8 t; omega⟩ : Fin 8192) n) := by
  blk_ext [iblk, V, idx t]
theorem blk1 (c : Dev nD) (t : Fin cfg0.N) (s : Fin 1024) (k : Fin 1024) :
    iblk m c 1 t (ix2 s k) = m ((c : Thread nD τ).loc main_arg1) (ix2 (⟨1024 * t.val + s.val, by have := lt8 t; omega⟩ : Fin 8192) k) := by
  blk_ext [iblk, V, idx t]
theorem blk2 (c : Dev nD) (t : Fin cfg0.N) (k : Fin 1024) (n : Fin 1024) :
    iblk m c 2 t (ix2 k n) = m ((c : Thread nD τ).loc main_arg2) (ix2 k n) := by
  blk_ext [iblk, V, idx t]

/-- The residual and the projection, entry by entry. -/
def out (x0 : FVec Ideal S8192x1024 .f32) (x1 : FVec Ideal S8192x1024 .bf16) (x2 : FVec Ideal S1024x1024 .bf16) (s : Fin 8192) (n : Fin 1024) : EReal :=
  x0 (ix2 s n) + ∑ k : Fin 1024, x1 (ix2 s k) * x2 (ix2 k n)
def outArr (x0 : FVec Ideal S8192x1024 .f32) (x1 : FVec Ideal S8192x1024 .bf16) (x2 : FVec Ideal S1024x1024 .bf16) : FVec Ideal S8192x1024 .f32 :=
  fun i => out x0 x1 x2 (i 0) (i 1)

theorem point_at (c : Dev nD) (t : Fin cfg0.N) (s n : Fin 1024) :
    out0_3 (F := Ideal) (iblk m c 0 t) (iblk m c 1 t) (iblk m c 2 t) (ix2 s n)
      = out (m ((c : Thread nD τ).loc main_arg0)) (m ((c : Thread nD τ).loc main_arg1)) (m ((c : Thread nD τ).loc main_arg2)) (⟨1024 * t.val + s.val, by have := lt8 t; omega⟩ : Fin 8192) n := by
  rw [out_eq, pay1_at, blk0, out]
  exact congrArg₂ (· + ·) rfl (Finset.sum_congr rfl fun k _ => by rw [blk1, blk2])

theorem result (c : Dev nD) : (dats m 0 c).arrAt 3 cfg0.N = outArr (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht := lt8 t
  blk_simp []
  rw [after0_3]
  have e0 : ((((cfg0.win 3).blk t).view.emb y) 0).val = 1024 * t.val + (y 0).val := by
    blk_simp [idx t]
    exact congrArg (· + _) (Nat.mul_comm _ _)
  have e1 : ((((cfg0.win 3).blk t).view.emb y) 1).val = (y 1).val := by
    blk_simp [idx t]
  have ey : y = ix2 (⟨(y 0).val, (y 0).isLt⟩ : Fin 1024) (⟨(y 1).val, (y 1).isLt⟩ : Fin 1024) :=
    funext fun a => by match a with | ⟨0, _⟩ => rfl | ⟨1, _⟩ => rfl
  refine ((congrArg _ ey).trans (point_at m c t _ _)).trans ?_
  exact congrArg₂ (out _ _ _) (Fin.ext e0.symm) (Fin.ext e1.symm)

end Cert.Kernel11Ideal.Value

namespace Cert.Reference11Ideal.Values
open Cert.Reference11Ideal Cert.Reference11Ideal.Gen Cert.Reference11Ideal.Read Cert.Kernel11Ideal.Value

theorem ref (x0 : FVec Ideal S8192x1024 .f32) (x1 : FVec Ideal S8192x1024 .bf16) (x2 : FVec Ideal S1024x1024 .bf16) : val_main_v3 (F := Ideal) x0 x1 x2 = outArr x0 x1 x2 := by
  funext i
  obtain ⟨s, n, rfl⟩ : ∃ (s : Fin 8192) (n : Fin 1024), i = ix2 s n := ⟨_, _, ValueIdx.eq_ix2 i⟩
  show _ = out x0 x1 x2 s n
  pointwise [val_main_v3, val_main_v2, val_main_v1, val_main_v0]
  rfl
end Cert.Reference11Ideal.Values

end
-- ==== Proof.Pairs.lean ====
/- For each further call: the results of the kernel and of the reference are the same, and the reference stops with its counters at zero. -/
module

public import proofs.«01_k».proof.Defs
public import proofs.«01_k».proof.Proof.DwIn2
public import proofs.«01_k».proof.Proof.Gen.Reference2Ideal.Run
public import proofs.«01_k».proof.Proof.DhRef
public import proofs.«01_k».proof.Proof.DhFinal
public import proofs.«01_k».proof.Proof.Gen.Reference3Ideal.Run
public import proofs.«01_k».proof.Proof.DwIn4
public import proofs.«01_k».proof.Proof.Gen.Reference4Ideal.Run
public import proofs.«01_k».proof.Proof.DwIn5
public import proofs.«01_k».proof.Proof.Gen.Reference5Ideal.Run
public import proofs.«01_k».proof.Proof.DhRef6
public import proofs.«01_k».proof.Proof.DhFinal6
public import proofs.«01_k».proof.Proof.Gen.Reference6Ideal.Run
public import proofs.«01_k».proof.Proof.DhRef7
public import proofs.«01_k».proof.Proof.DhFinal7
public import proofs.«01_k».proof.Proof.Gen.Reference7Ideal.Run
public import proofs.«01_k».proof.Proof.DwOut8
public import proofs.«01_k».proof.Proof.Gen.Reference8Ideal.Run
public import proofs.«01_k».proof.Proof.DwOut9
public import proofs.«01_k».proof.Proof.Gen.Reference9Ideal.Run
public import proofs.«01_k».proof.Proof.OutProj10
public import proofs.«01_k».proof.Proof.Gen.Reference10Ideal.Run
public import proofs.«01_k».proof.Proof.OutProj11
public import proofs.«01_k».proof.Proof.Gen.Reference11Ideal.Run
public import Idealize.ShloMosaic.Lib.Claim

@[expose] public section
set_option maxRecDepth 16384
noncomputable section
open Idealize.ShloMosaic Idealize.ShloMosaic.TcCoe Idealize.SL.Sem
namespace Cert.Proof

section
attribute [local instance] Cert.Kernel2Ideal.Gen.facts Cert.Reference2Ideal.Gen.facts

theorem algebraic2 : Cert.algebraic_Kernel2Ideal_Reference2Ideal := by
  pair_intro
  · run_from Cert.Kernel2Ideal.Gen.run_main m g
  · run_from Cert.Reference2Ideal.Value.run m' g'
    exact (Cert.Reference2Ideal.Read.val_main_v8_eq _ _).trans ((Cert.Reference2Ideal.Values.ref _ _).trans (Cert.Kernel2Ideal.Value.final m c).symm)

theorem frame_reference2 : Cert.quiescent_Reference2Ideal := fun m g _ =>
  (θ_run (Cert.Reference2Ideal.defs (F := Ideal)) _ _).mono
    (fun r h => And.intro (fun c => (h c).2) (sem_eq_zero_of_no_sems (by decide) r.2)) (Cert.Reference2Ideal.Value.run m g)
end

section
attribute [local instance] Cert.Kernel3Ideal.Gen.facts Cert.Reference3Ideal.Gen.facts

theorem algebraic3 : Cert.algebraic_Kernel3Ideal_Reference3Ideal := by
  pair_intro
  · run_from Cert.Kernel3Ideal.Gen.run_main m g
  · refine Idealize.ShloMosaic.θ_run_mono (Cert.Reference3Ideal.Value.run m' g') ?_
    intro r hr c
    obtain ⟨h43, h44, h45, h0, h1, h2, h3, h4⟩ := hr c
    obtain ⟨a0, a1, a2, a3, a4⟩ := hagree c
    refine ⟨h43.trans ?_, h44.trans ?_, h45.trans ?_, h0, h1, h2, h3, h4⟩
    · refine (Cert.Reference3Ideal.Read.val_main_v43_eq m' c).trans ?_
      rw [a0, a1, a2, a3, a4]
      exact (Cert.Reference3Ideal.Values.ref_x _ _ _ _ _).trans (Cert.Kernel3Ideal.Value.result5 m c).symm
    · refine (Cert.Reference3Ideal.Read.val_main_v44_eq m' c).trans ?_
      rw [a0, a1, a2, a3, a4]
      exact (Cert.Reference3Ideal.Values.ref_b _ _ _ _ _).trans (Cert.Kernel3Ideal.Value.result6 m c).symm
    · refine (Cert.Reference3Ideal.Read.val_main_v45_eq _ _ _).trans ?_
      rw [a0, a1, a2]
      exact (Cert.Reference3Ideal.Values.ref_g _ _ _).trans (Cert.Kernel3Ideal.Value.result7 m c).symm

theorem frame_reference3 : Cert.quiescent_Reference3Ideal := fun m g _ =>
  (θ_run (Cert.Reference3Ideal.defs (F := Ideal)) _ _).mono
    (fun r h => And.intro (fun c => (h c).2.2.2) (sem_eq_zero_of_no_sems (by decide) r.2)) (Cert.Reference3Ideal.Value.run m g)
end

section
attribute [local instance] Cert.Kernel4Ideal.Gen.facts Cert.Reference4Ideal.Gen.facts

theorem algebraic4 : Cert.algebraic_Kernel4Ideal_Reference4Ideal := by
  pair_intro
  · run_from Cert.Kernel4Ideal.Gen.run_main m g
  · run_from Cert.Reference4Ideal.Value.run m' g'
    exact (Cert.Reference4Ideal.Read.val_main_v8_eq _ _).trans ((Cert.Reference4Ideal.Values.ref _ _).trans (Cert.Kernel4Ideal.Value.final m c).symm)

theorem frame_reference4 : Cert.quiescent_Reference4Ideal := fun m g _ =>
  (θ_run (Cert.Reference4Ideal.defs (F := Ideal)) _ _).mono
    (fun r h => And.intro (fun c => (h c).2) (sem_eq_zero_of_no_sems (by decide) r.2)) (Cert.Reference4Ideal.Value.run m g)
end

section
attribute [local instance] Cert.Kernel5Ideal.Gen.facts Cert.Reference5Ideal.Gen.facts

theorem algebraic5 : Cert.algebraic_Kernel5Ideal_Reference5Ideal := by
  pair_intro
  · run_from Cert.Kernel5Ideal.Gen.run_main m g
  · run_from Cert.Reference5Ideal.Value.run m' g'
    exact (Cert.Reference5Ideal.Read.val_main_v8_eq _ _).trans ((Cert.Reference5Ideal.Values.ref _ _).trans (Cert.Kernel5Ideal.Value.final m c).symm)

theorem frame_reference5 : Cert.quiescent_Reference5Ideal := fun m g _ =>
  (θ_run (Cert.Reference5Ideal.defs (F := Ideal)) _ _).mono
    (fun r h => And.intro (fun c => (h c).2) (sem_eq_zero_of_no_sems (by decide) r.2)) (Cert.Reference5Ideal.Value.run m g)
end

section
attribute [local instance] Cert.Kernel6Ideal.Gen.facts Cert.Reference6Ideal.Gen.facts

theorem algebraic6 : Cert.algebraic_Kernel6Ideal_Reference6Ideal := by
  pair_intro
  · run_from Cert.Kernel6Ideal.Gen.run_main m g
  · refine Idealize.ShloMosaic.θ_run_mono (Cert.Reference6Ideal.Value.run m' g') ?_
    intro r hr c
    obtain ⟨h43, h44, h45, h0, h1, h2, h3, h4⟩ := hr c
    obtain ⟨a0, a1, a2, a3, a4⟩ := hagree c
    refine ⟨h43.trans ?_, h44.trans ?_, h45.trans ?_, h0, h1, h2, h3, h4⟩
    · refine (Cert.Reference6Ideal.Read.val_main_v43_eq m' c).trans ?_
      rw [a0, a1, a2, a3, a4]
      exact (Cert.Reference6Ideal.Values.ref_x _ _ _ _ _).trans (Cert.Kernel6Ideal.Value.result5 m c).symm
    · refine (Cert.Reference6Ideal.Read.val_main_v44_eq m' c).trans ?_
      rw [a0, a1, a2, a3, a4]
      exact (Cert.Reference6Ideal.Values.ref_b _ _ _ _ _).trans (Cert.Kernel6Ideal.Value.result6 m c).symm
    · refine (Cert.Reference6Ideal.Read.val_main_v45_eq _ _ _).trans ?_
      rw [a0, a1, a2]
      exact (Cert.Reference6Ideal.Values.ref_g _ _ _).trans (Cert.Kernel6Ideal.Value.result7 m c).symm

theorem frame_reference6 : Cert.quiescent_Reference6Ideal := fun m g _ =>
  (θ_run (Cert.Reference6Ideal.defs (F := Ideal)) _ _).mono
    (fun r h => And.intro (fun c => (h c).2.2.2) (sem_eq_zero_of_no_sems (by decide) r.2)) (Cert.Reference6Ideal.Value.run m g)
end

section
attribute [local instance] Cert.Kernel7Ideal.Gen.facts Cert.Reference7Ideal.Gen.facts

theorem algebraic7 : Cert.algebraic_Kernel7Ideal_Reference7Ideal := by
  pair_intro
  · run_from Cert.Kernel7Ideal.Gen.run_main m g
  · refine Idealize.ShloMosaic.θ_run_mono (Cert.Reference7Ideal.Value.run m' g') ?_
    intro r hr c
    obtain ⟨h43, h44, h45, h0, h1, h2, h3, h4⟩ := hr c
    obtain ⟨a0, a1, a2, a3, a4⟩ := hagree c
    refine ⟨h43.trans ?_, h44.trans ?_, h45.trans ?_, h0, h1, h2, h3, h4⟩
    · refine (Cert.Reference7Ideal.Read.val_main_v43_eq m' c).trans ?_
      rw [a0, a1, a2, a3, a4]
      exact (Cert.Reference7Ideal.Values.ref_x _ _ _ _ _).trans (Cert.Kernel7Ideal.Value.result5 m c).symm
    · refine (Cert.Reference7Ideal.Read.val_main_v44_eq m' c).trans ?_
      rw [a0, a1, a2, a3, a4]
      exact (Cert.Reference7Ideal.Values.ref_b _ _ _ _ _).trans (Cert.Kernel7Ideal.Value.result6 m c).symm
    · refine (Cert.Reference7Ideal.Read.val_main_v45_eq _ _ _).trans ?_
      rw [a0, a1, a2]
      exact (Cert.Reference7Ideal.Values.ref_g _ _ _).trans (Cert.Kernel7Ideal.Value.result7 m c).symm

theorem frame_reference7 : Cert.quiescent_Reference7Ideal := fun m g _ =>
  (θ_run (Cert.Reference7Ideal.defs (F := Ideal)) _ _).mono
    (fun r h => And.intro (fun c => (h c).2.2.2) (sem_eq_zero_of_no_sems (by decide) r.2)) (Cert.Reference7Ideal.Value.run m g)
end

section
attribute [local instance] Cert.Kernel8Ideal.Gen.facts Cert.Reference8Ideal.Gen.facts

theorem algebraic8 : Cert.algebraic_Kernel8Ideal_Reference8Ideal := by
  pair_intro
  · run_from Cert.Kernel8Ideal.Gen.run_main m g
  · run_from Cert.Reference8Ideal.Value.run m' g'
    exact (Cert.Reference8Ideal.Read.val_main_v8_eq _ _).trans ((Cert.Reference8Ideal.Values.ref _ _).trans (Cert.Kernel8Ideal.Value.result m c).symm)

theorem frame_reference8 : Cert.quiescent_Reference8Ideal := fun m g _ =>
  (θ_run (Cert.Reference8Ideal.defs (F := Ideal)) _ _).mono
    (fun r h => And.intro (fun c => (h c).2) (sem_eq_zero_of_no_sems (by decide) r.2)) (Cert.Reference8Ideal.Value.run m g)
end

section
attribute [local instance] Cert.Kernel9Ideal.Gen.facts Cert.Reference9Ideal.Gen.facts

theorem algebraic9 : Cert.algebraic_Kernel9Ideal_Reference9Ideal := by
  pair_intro
  · run_from Cert.Kernel9Ideal.Gen.run_main m g
  · run_from Cert.Reference9Ideal.Value.run m' g'
    exact (Cert.Reference9Ideal.Read.val_main_v8_eq _ _).trans ((Cert.Reference9Ideal.Values.ref _ _).trans (Cert.Kernel9Ideal.Value.result m c).symm)

theorem frame_reference9 : Cert.quiescent_Reference9Ideal := fun m g _ =>
  (θ_run (Cert.Reference9Ideal.defs (F := Ideal)) _ _).mono
    (fun r h => And.intro (fun c => (h c).2) (sem_eq_zero_of_no_sems (by decide) r.2)) (Cert.Reference9Ideal.Value.run m g)
end

section
attribute [local instance] Cert.Kernel10Ideal.Gen.facts Cert.Reference10Ideal.Gen.facts

theorem algebraic10 : Cert.algebraic_Kernel10Ideal_Reference10Ideal := by
  pair_intro
  · run_from Cert.Kernel10Ideal.Gen.run_main m g
  · run_from Cert.Reference10Ideal.Value.run m' g'
    exact (Cert.Reference10Ideal.Read.val_main_v3_eq _ _ _).trans ((Cert.Reference10Ideal.Values.ref _ _ _).trans (Cert.Kernel10Ideal.Value.result m c).symm)

theorem frame_reference10 : Cert.quiescent_Reference10Ideal := fun m g _ =>
  (θ_run (Cert.Reference10Ideal.defs (F := Ideal)) _ _).mono
    (fun r h => And.intro (fun c => (h c).2) (sem_eq_zero_of_no_sems (by decide) r.2)) (Cert.Reference10Ideal.Value.run m g)
end

section
attribute [local instance] Cert.Kernel11Ideal.Gen.facts Cert.Reference11Ideal.Gen.facts

theorem algebraic11 : Cert.algebraic_Kernel11Ideal_Reference11Ideal := by
  pair_intro
  · run_from Cert.Kernel11Ideal.Gen.run_main m g
  · run_from Cert.Reference11Ideal.Value.run m' g'
    exact (Cert.Reference11Ideal.Read.val_main_v3_eq _ _ _).trans ((Cert.Reference11Ideal.Values.ref _ _ _).trans (Cert.Kernel11Ideal.Value.result m c).symm)

theorem frame_reference11 : Cert.quiescent_Reference11Ideal := fun m g _ =>
  (θ_run (Cert.Reference11Ideal.defs (F := Ideal)) _ _).mono
    (fun r h => And.intro (fun c => (h c).2) (sem_eq_zero_of_no_sems (by decide) r.2)) (Cert.Reference11Ideal.Value.run m g)
end

end Cert.Proof

end
-- ==== Proof.NormRun12I.lean ====
module

public import proofs.«01_k».proof.Proof.Gen.Kernel12Ideal.Frame
public import proofs.«01_k».proof.Proof.Gen.Kernel12Ideal.Skeleton
public import Idealize.ShloMosaic.Lib.Pipeline.TableIdle
public import Idealize.ShloMosaic.Lib.Claim

/-! The run of `Kernel12Ideal`, the normalised projection. The grid is 4 row blocks by 8 column blocks. At the first column block
of a row block the body stores the normalised rows into the block of its first result; at the other seven it reads that
block back and leaves it alone, and the block goes out at the last of them. -/

@[expose] public section

set_option maxRecDepth 16384

noncomputable section

namespace Cert.Kernel12Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The body's test: the column block is the first. -/
abbrev cond0_0 (i : grid0.Coords) : Prop := k0_cond1 i = 1#1

/-- Over the points in order the test holds at every eighth. -/
theorem hcond0_0 : ∀ t : Fin cfg0.N, cond0_0 (grid0.coords t) ↔ t.val % 8 = 0 :=
  (by decide +kernel : ∀ t : Fin grid0.N, k0_cond1 (grid0.coords t) = 1#1 ↔ t.val % 8 = 0)

/-- The blocks of the two results, through which their contents are named. -/
abbrev VO0_3 : View sig .tc .vmem S2048x1024 .bf16 := (Memref.whole cc0_stg3_0 : Memref sig .tc .vmem S2048x1024 .bf16).view
abbrev VO0_4 : View sig .tc .vmem S2048x768 .bf16 := (Memref.whole cc0_stg4_0 : Memref sig .tc .vmem S2048x768 .bf16).view

/-- The block buffers in use at a point, each the whole of its memory. -/
abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x768 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x768 .bf16 := win0_4.stage (cfg0.slots t 4)
abbrev hs0_4 (t : Fin cfg0.N) : (ms0_4 t).IsWhole := hstage0_4 ((cfg0.slots t 4).cast nbuf0_4)

set_option maxHeartbeats 1000000 in
/-- The body at a first column block: both results' blocks are stored whole, whatever they held. -/
noncomputable def kernelRun0_A (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S1x1024x768 .bf16) (harg4 : arg4.IsWhole) (arg5 : Memref sig .tc .vmem S2048x1024 .bf16) (harg5 : arg5.IsWhole) (arg6 : Memref sig .tc .vmem S2048x768 .bf16) (harg6 : arg6.IsWhole) (hc0 : cond0_0 i)
    (x0 : Vec F S2048x1024 .f32) (x1 : Vec F S1x1024 .f32) (x2 : Vec F S1x1024x768 .bf16) :
    Σ' (L3 : List (View.Piece (Elt F) S2048x1024 .bf16)), { L4 : List (View.Piece (Elt F) S2048x768 .bf16) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
              ∗ (∃ f, arg5.view.loc (c : Thread nD τ) ↦[arg5.view.set]{fullShare} arg5.view.writes (Elt F) f L3)
              ∗ (∃ f, arg6.view.loc (c : Thread nD τ) ↦[arg6.view.set]{fullShare} arg6.view.writes (Elt F) f L4)) -∗ K ⟨⟩))
          ⊢ wp frame (wpE (defs₀ (F := F)) Variants.none c none) E (cc0_l3_proj i arg2 harg2 arg3 harg3 arg4 harg4 arg5 harg5 arg6 harg6) K } := by
  refine ⟨?_, ?_, fun E K => ?run⟩
  case run =>
    simp only [cc0_l3_proj_eq_skeleton]; unfold cc0_l3_proj_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact H4

set_option maxHeartbeats 1000000 in
/-- The body at a later column block: the normalised rows' block is read and kept, the other result's block is stored whole. -/
noncomputable def kernelRun0_B (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S1x1024x768 .bf16) (harg4 : arg4.IsWhole) (arg5 : Memref sig .tc .vmem S2048x1024 .bf16) (harg5 : arg5.IsWhole) (arg6 : Memref sig .tc .vmem S2048x768 .bf16) (harg6 : arg6.IsWhole) (hc0 : ¬cond0_0 i)
    (x0 : Vec F S2048x1024 .f32) (x1 : Vec F S1x1024 .f32) (x2 : Vec F S1x1024x768 .bf16) (xo3 : Vec F S2048x1024 .bf16) :
    { L4 : List (View.Piece (Elt F) S2048x768 .bf16) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2
            ∗ owns (c : Thread nD τ) arg5 fullShare xo3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
              ∗ owns (c : Thread nD τ) arg5 fullShare xo3
              ∗ (∃ f, arg6.view.loc (c : Thread nD τ) ↦[arg6.view.set]{fullShare} arg6.view.writes (Elt F) f L4)) -∗ K ⟨⟩))
          ⊢ wp frame (wpE (defs₀ (F := F)) Variants.none c none) E (cc0_l3_proj i arg2 harg2 arg3 harg3 arg4 harg4 arg5 harg5 arg6 harg6) K } := by
  refine ⟨?_, fun E K => ?run⟩
  case run =>
    simp only [cc0_l3_proj_eq_skeleton]; unfold cc0_l3_proj_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

section Blocks

variable (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S1x1024x768 .bf16) (harg4 : arg4.IsWhole) (arg5 : Memref sig .tc .vmem S2048x1024 .bf16) (harg5 : arg5.IsWhole) (arg6 : Memref sig .tc .vmem S2048x768 .bf16) (harg6 : arg6.IsWhole)

/-- The stores at a first column block cover the normalised rows' block. -/
theorem cover0_A_3 (hc0 : cond0_0 i) (x0 : Vec F S2048x1024 .f32) (x1 : Vec F S1x1024 .f32) (x2 : Vec F S1x1024x768 .bf16) (y : S2048x1024.Idx) :
    ∃ pc ∈ (kernelRun0_A c i arg2 harg2 arg3 harg3 arg4 harg4 arg5 harg5 arg6 harg6 hc0 x0 x1 x2).1, y ∈ pc.1.set :=
  View.cover_of_tiledL (kernelRun0_A c i arg2 harg2 arg3 harg3 arg4 harg4 arg5 harg5 arg6 harg6 hc0 x0 x1 x2).1 S2048x1024.size (by sl_kernel_rfl) y

/-- The stores at a first column block cover the projected block. -/
theorem cover0_A_4 (hc0 : cond0_0 i) (x0 : Vec F S2048x1024 .f32) (x1 : Vec F S1x1024 .f32) (x2 : Vec F S1x1024x768 .bf16) (y : S2048x768.Idx) :
    ∃ pc ∈ (kernelRun0_A c i arg2 harg2 arg3 harg3 arg4 harg4 arg5 harg5 arg6 harg6 hc0 x0 x1 x2).2.1, y ∈ pc.1.set :=
  View.cover_of_tiledL (kernelRun0_A c i arg2 harg2 arg3 harg3 arg4 harg4 arg5 harg5 arg6 harg6 hc0 x0 x1 x2).2.1 S2048x768.size (by sl_kernel_rfl) y

/-- The stores at a later column block cover the projected block. -/
theorem cover0_B_4 (hc0 : ¬cond0_0 i) (x0 : Vec F S2048x1024 .f32) (x1 : Vec F S1x1024 .f32) (x2 : Vec F S1x1024x768 .bf16) (xo3 : Vec F S2048x1024 .bf16) (y : S2048x768.Idx) :
    ∃ pc ∈ (kernelRun0_B c i arg2 harg2 arg3 harg3 arg4 harg4 arg5 harg5 arg6 harg6 hc0 x0 x1 x2 xo3).1, y ∈ pc.1.set :=
  View.cover_of_tiledL (kernelRun0_B c i arg2 harg2 arg3 harg3 arg4 harg4 arg5 harg5 arg6 harg6 hc0 x0 x1 x2 xo3).1 S2048x768.size (by sl_kernel_rfl) y

/-- The normalised rows stored at a first column block. -/
def out0_A_3 (hc0 : cond0_0 i) (x0 : Vec F S2048x1024 .f32) (x1 : Vec F S1x1024 .f32) (x2 : Vec F S1x1024x768 .bf16) : Vec F S2048x1024 .bf16 :=
  VO0_3.read (Elt F) (VO0_3.writes (Elt F) VO0_3.junk (kernelRun0_A c i arg2 harg2 arg3 harg3 arg4 harg4 arg5 harg5 arg6 harg6 hc0 x0 x1 x2).1)

/-- The projection stored at a first column block. -/
def out0_A_4 (hc0 : cond0_0 i) (x0 : Vec F S2048x1024 .f32) (x1 : Vec F S1x1024 .f32) (x2 : Vec F S1x1024x768 .bf16) : Vec F S2048x768 .bf16 :=
  VO0_4.read (Elt F) (VO0_4.writes (Elt F) VO0_4.junk (kernelRun0_A c i arg2 harg2 arg3 harg3 arg4 harg4 arg5 harg5 arg6 harg6 hc0 x0 x1 x2).2.1)

/-- The projection stored at a later column block, of the normalised rows found. -/
def out0_B_4 (hc0 : ¬cond0_0 i) (x0 : Vec F S2048x1024 .f32) (x1 : Vec F S1x1024 .f32) (x2 : Vec F S1x1024x768 .bf16) (xo3 : Vec F S2048x1024 .bf16) : Vec F S2048x768 .bf16 :=
  VO0_4.read (Elt F) (VO0_4.writes (Elt F) VO0_4.junk (kernelRun0_B c i arg2 harg2 arg3 harg3 arg4 harg4 arg5 harg5 arg6 harg6 hc0 x0 x1 x2 xo3).1)

end Blocks

/-- The first point of a point's row block. -/
def first0 (t : Fin cfg0.N) : Fin cfg0.N := ⟨8 * (t.val / 8), by have := t.isLt; omega⟩

theorem first0_mod (t : Fin cfg0.N) : (first0 t).val % 8 = 0 := Nat.mul_mod_right 8 _

/-- The normalised rows stored at a first column block, of that point's own blocks. -/
def rows0 (c : Dev nD) (s : Fin cfg0.N) (hs : s.val % 8 = 0) : Vec F S2048x1024 .bf16 :=
  out0_A_3 c (grid0.coords s) (ms0_0 s) (hs0_0 s) (ms0_1 s) (hs0_1 s) (ms0_2 s) (hs0_2 s) (ms0_3 s) (hs0_3 s) (ms0_4 s) (hs0_4 s)
    ((hcond0_0 s).mpr hs) (iblk m c 0 s) (iblk m c 1 s) (iblk m c 2 s)

theorem rows0_congr (c : Dev nD) {s t : Fin cfg0.N} (e : s = t) (hs : s.val % 8 = 0) (ht : t.val % 8 = 0) :
    rows0 m c s hs = rows0 m c t ht := by
  subst e; rfl

/-- What the normalised rows' block holds after a point: what the first point of its row block stored. -/
def hAt0 (c : Dev nD) (t : Fin cfg0.N) : Vec F S2048x1024 .bf16 := rows0 m c (first0 t) (first0_mod t)

theorem hAt0_first (c : Dev nD) (t : Fin cfg0.N) (h0 : t.val % 8 = 0) : hAt0 m c t = rows0 m c t h0 :=
  rows0_congr m c (Fin.ext (by show 8 * (t.val / 8) = t.val; omega)) _ _

/-- Past a first column block the rows are those of the point before. -/
theorem hAt0_later (c : Dev nD) (t : Fin cfg0.N) (h0 : ¬t.val % 8 = 0) (hp : t.val - 1 < cfg0.N) :
    hAt0 m c t = hAt0 m c ⟨t.val - 1, hp⟩ :=
  rows0_congr m c (Fin.ext (by show 8 * (t.val / 8) = 8 * ((t.val - 1) / 8); omega)) _ _

/-- What the projected block holds after a point. -/
def pAt0 (c : Dev nD) (t : Fin cfg0.N) : Vec F S2048x768 .bf16 :=
  if h0 : t.val % 8 = 0 then
    out0_A_4 c (grid0.coords t) (ms0_0 t) (hs0_0 t) (ms0_1 t) (hs0_1 t) (ms0_2 t) (hs0_2 t) (ms0_3 t) (hs0_3 t) (ms0_4 t) (hs0_4 t)
      ((hcond0_0 t).mpr h0) (iblk m c 0 t) (iblk m c 1 t) (iblk m c 2 t)
  else
    out0_B_4 c (grid0.coords t) (ms0_0 t) (hs0_0 t) (ms0_1 t) (hs0_1 t) (ms0_2 t) (hs0_2 t) (ms0_3 t) (hs0_3 t) (ms0_4 t) (hs0_4 t)
      (fun h => h0 ((hcond0_0 t).mp h)) (iblk m c 0 t) (iblk m c 1 t) (iblk m c 2 t) (hAt0 m c t)

theorem pAt0_A (c : Dev nD) (t : Fin cfg0.N) (h0 : t.val % 8 = 0) :
    pAt0 m c t = out0_A_4 c (grid0.coords t) (ms0_0 t) (hs0_0 t) (ms0_1 t) (hs0_1 t) (ms0_2 t) (hs0_2 t) (ms0_3 t) (hs0_3 t) (ms0_4 t) (hs0_4 t)
      ((hcond0_0 t).mpr h0) (iblk m c 0 t) (iblk m c 1 t) (iblk m c 2 t) := dif_pos h0

theorem pAt0_B (c : Dev nD) (t : Fin cfg0.N) (h0 : ¬t.val % 8 = 0) :
    pAt0 m c t = out0_B_4 c (grid0.coords t) (ms0_0 t) (hs0_0 t) (ms0_1 t) (hs0_1 t) (ms0_2 t) (hs0_2 t) (ms0_3 t) (hs0_3 t) (ms0_4 t) (hs0_4 t)
      (fun h => h0 ((hcond0_0 t).mp h)) (iblk m c 0 t) (iblk m c 1 t) (iblk m c 2 t) (hAt0 m c t) := dif_neg h0

/-- The data of the run: the inputs' blocks stay, the results' blocks hold the above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => hAt0 m c t
    | ⟨4, _⟩ => pAt0 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = hAt0 m c t := by dsimp only [dats]
theorem after0_4 (c : Dev nD) (t : Fin cfg0.N) : (dats m 0 c).after 4 t = pAt0 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The body leaves the normalised rows' block alone except at a first column block. -/
theorem idle0_3 (t : Fin cfg0.N) : cfg0.idle 3 (cfg0.grid.coords t) = decide (¬t.val % 8 = 0) :=
  (by decide +kernel : ∀ t : Fin grid0.N, idle0 3 (grid0.coords t) = decide (¬t.val % 8 = 0)) t

/-- The normalised rows' block holds nothing of the body's only at a first column block. -/
theorem fresh0_3 (t : Fin cfg0.N) : cfg0.fresh 3 t.val = decide (t.val % 8 = 0) := by
  refine cfg0.fresh_tab 3 (fun n => decide (n % 8 = 0)) rfl (fun s => ?_) t.val (Nat.le_of_lt t.isLt)
  rw [idle0_3 s]
  by_cases h7 : s.val % 8 = 7
  · rw [(flush0_3 s).mpr h7]
    simp only [Bool.true_or, decide_eq_true_eq]; omega
  · rw [Bool.eq_false_iff.mpr fun h => h7 ((flush0_3 s).mp h)]
    simp only [Bool.false_or, decide_not, Bool.not_and_self, decide_eq_false_iff_not]; omega

/-- Past a first column block the body finds the normalised rows stored there. -/
theorem before0_3_B (c : Dev nD) (t : Fin cfg0.N) (h0 : ¬t.val % 8 = 0) (d) : (dats m 0 c).before 3 t d = hAt0 m c t := by
  have hp : t.val - 1 < cfg0.N := Nat.lt_of_le_of_lt (Nat.sub_le _ _) t.isLt
  have h := (dats m 0 c).before_out_traj 3 rfl (fun _ _ => rfl)
    (fun s hs hi hf => by
      rw [after0_3, after0_3]
      rw [fresh0_3] at hf
      exact hAt0_later m c s (of_decide_eq_false hf) _)
    t.val t rfl d
  rw [fresh0_3, if_neg (by simpa using h0), after0_3] at h
  exact h.trans (hAt0_later m c t h0 hp).symm

/-- What the body is called with at a point, window by window, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it hands back. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (dats m 0 c).leavesExact 3 t
    ∗ owns (c : Thread nD τ) (ms0_4 t) fullShare ((dats m 0 c).after 4 t))

/-- At a first column block the normalised rows' block is to be handed back at the stored rows. -/
theorem leaves0_3_A (c : Dev nD) (t : Fin cfg0.N) (h0 : t.val % 8 = 0) :
    (dats m 0 c).leavesExact 3 t = owns (c : Thread nD τ) (ms0_3 t) fullShare (hAt0 m c t) := by
  have hi : cfg0.idle 3 (cfg0.grid.coords t) = false := (idle0_3 t).trans (by simpa using h0)
  rw [← after0_3]
  unfold Dat.leavesExact
  rw [hi]

/-- At a later one it may be handed back as found, which are the stored rows too. -/
theorem leaves0_3_B (c : Dev nD) (t : Fin cfg0.N) (h0 : ¬t.val % 8 = 0) :
    owns (c : Thread nD τ) (ms0_3 t) fullShare (hAt0 m c t) ⊢ (dats m 0 c).leavesExact 3 t := by
  have hi : cfg0.idle 3 (cfg0.grid.coords t) = true := (idle0_3 t).trans (by simpa using h0)
  by_cases h7 : t.val % 8 = 7
  · have hf : (cfg0.win 3).flush t = true := (flush0_3 t).mpr h7
    rw [← after0_3]
    unfold Dat.leavesExact
    rw [hi, hf]
  · rw [Dat.leavesExact_idle (dats m 0 c) 3 t hi (Bool.eq_false_iff.mpr fun h => h7 ((flush0_3 t).mp h))]
    simp only [before0_3_B m c t h0]
    iintro H
    iexists (fun _ => default)
    iexact H

set_option maxHeartbeats 800000 in
/-- The body meets its obligation at every point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_4]
  by_cases h0 : t.val % 8 = 0
  · rw [leaves0_3_A m c t h0, hAt0_first m c t h0, pAt0_A m c t h0]
    unfold rows0 out0_A_3 out0_A_4
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (iblk m c 0 t) (iblk m c 1 t) (iblk m c 2 t)).2.2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_A_3 c _ _ _ _ _ _ _ _ _ _ _ _ _ _ _)
    unfold owns; iexists _; isplitr
    swap; · iexact H4
    ipureintro; exact View.read_writes_of_cover _ _ _ _ _ (cover0_A_4 c _ _ _ _ _ _ _ _ _ _ _ _ _ _ _)
  · rw [pAt0_B m c t h0]
    simp only [before0_3_B m c t h0]
    unfold out0_B_4
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) (iblk m c 0 t) (iblk m c 1 t) (iblk m c 2 t) (hAt0 m c t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]
    · iapply (leaves0_3_B m c t h0); iexact H3
    unfold owns; iexists _; isplitr
    swap; · iexact H4
    ipureintro; exact View.read_writes_of_cover _ _ _ _ _ (cover0_B_4 c _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every run ends, with the arrays as the data say and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end as they were, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Kernel12Ideal.Gen

end
-- ==== Proof.NormRun13I.lean ====
module

public import proofs.«01_k».proof.Proof.Gen.Kernel13Ideal.Frame
public import proofs.«01_k».proof.Proof.Gen.Kernel13Ideal.Skeleton
public import Idealize.ShloMosaic.Lib.Pipeline.TableIdle
public import Idealize.ShloMosaic.Lib.Claim

/-! The run of `Kernel13Ideal`, the normalised projection. The grid is 4 row blocks by 8 column blocks. At the first column block
of a row block the body stores the normalised rows into the block of its first result; at the other seven it reads that
block back and leaves it alone, and the block goes out at the last of them. -/

@[expose] public section

set_option maxRecDepth 16384

noncomputable section

namespace Cert.Kernel13Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The body's test: the column block is the first. -/
abbrev cond0_0 (i : grid0.Coords) : Prop := k0_cond1 i = 1#1

/-- Over the points in order the test holds at every eighth. -/
theorem hcond0_0 : ∀ t : Fin cfg0.N, cond0_0 (grid0.coords t) ↔ t.val % 8 = 0 :=
  (by decide +kernel : ∀ t : Fin grid0.N, k0_cond1 (grid0.coords t) = 1#1 ↔ t.val % 8 = 0)

/-- The blocks of the two results, through which their contents are named. -/
abbrev VO0_3 : View sig .tc .vmem S2048x1024 .bf16 := (Memref.whole cc0_stg3_0 : Memref sig .tc .vmem S2048x1024 .bf16).view
abbrev VO0_4 : View sig .tc .vmem S2048x1280 .bf16 := (Memref.whole cc0_stg4_0 : Memref sig .tc .vmem S2048x1280 .bf16).view

/-- The block buffers in use at a point, each the whole of its memory. -/
abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x1280 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x1280 .bf16 := win0_4.stage (cfg0.slots t 4)
abbrev hs0_4 (t : Fin cfg0.N) : (ms0_4 t).IsWhole := hstage0_4 ((cfg0.slots t 4).cast nbuf0_4)

set_option maxHeartbeats 1000000 in
/-- The body at a first column block: both results' blocks are stored whole, whatever they held. -/
noncomputable def kernelRun0_A (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S1x1024x1280 .bf16) (harg4 : arg4.IsWhole) (arg5 : Memref sig .tc .vmem S2048x1024 .bf16) (harg5 : arg5.IsWhole) (arg6 : Memref sig .tc .vmem S2048x1280 .bf16) (harg6 : arg6.IsWhole) (hc0 : cond0_0 i)
    (x0 : Vec F S2048x1024 .f32) (x1 : Vec F S1x1024 .f32) (x2 : Vec F S1x1024x1280 .bf16) :
    Σ' (L3 : List (View.Piece (Elt F) S2048x1024 .bf16)), { L4 : List (View.Piece (Elt F) S2048x1280 .bf16) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
              ∗ (∃ f, arg5.view.loc (c : Thread nD τ) ↦[arg5.view.set]{fullShare} arg5.view.writes (Elt F) f L3)
              ∗ (∃ f, arg6.view.loc (c : Thread nD τ) ↦[arg6.view.set]{fullShare} arg6.view.writes (Elt F) f L4)) -∗ K ⟨⟩))
          ⊢ wp frame (wpE (defs₀ (F := F)) Variants.none c none) E (cc0_l1_proj i arg2 harg2 arg3 harg3 arg4 harg4 arg5 harg5 arg6 harg6) K } := by
  refine ⟨?_, ?_, fun E K => ?run⟩
  case run =>
    simp only [cc0_l1_proj_eq_skeleton]; unfold cc0_l1_proj_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact H4

set_option maxHeartbeats 1000000 in
/-- The body at a later column block: the normalised rows' block is read and kept, the other result's block is stored whole. -/
noncomputable def kernelRun0_B (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S1x1024x1280 .bf16) (harg4 : arg4.IsWhole) (arg5 : Memref sig .tc .vmem S2048x1024 .bf16) (harg5 : arg5.IsWhole) (arg6 : Memref sig .tc .vmem S2048x1280 .bf16) (harg6 : arg6.IsWhole) (hc0 : ¬cond0_0 i)
    (x0 : Vec F S2048x1024 .f32) (x1 : Vec F S1x1024 .f32) (x2 : Vec F S1x1024x1280 .bf16) (xo3 : Vec F S2048x1024 .bf16) :
    { L4 : List (View.Piece (Elt F) S2048x1280 .bf16) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2
            ∗ owns (c : Thread nD τ) arg5 fullShare xo3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
              ∗ owns (c : Thread nD τ) arg5 fullShare xo3
              ∗ (∃ f, arg6.view.loc (c : Thread nD τ) ↦[arg6.view.set]{fullShare} arg6.view.writes (Elt F) f L4)) -∗ K ⟨⟩))
          ⊢ wp frame (wpE (defs₀ (F := F)) Variants.none c none) E (cc0_l1_proj i arg2 harg2 arg3 harg3 arg4 harg4 arg5 harg5 arg6 harg6) K } := by
  refine ⟨?_, fun E K => ?run⟩
  case run =>
    simp only [cc0_l1_proj_eq_skeleton]; unfold cc0_l1_proj_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

section Blocks

variable (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S1x1024x1280 .bf16) (harg4 : arg4.IsWhole) (arg5 : Memref sig .tc .vmem S2048x1024 .bf16) (harg5 : arg5.IsWhole) (arg6 : Memref sig .tc .vmem S2048x1280 .bf16) (harg6 : arg6.IsWhole)

/-- The stores at a first column block cover the normalised rows' block. -/
theorem cover0_A_3 (hc0 : cond0_0 i) (x0 : Vec F S2048x1024 .f32) (x1 : Vec F S1x1024 .f32) (x2 : Vec F S1x1024x1280 .bf16) (y : S2048x1024.Idx) :
    ∃ pc ∈ (kernelRun0_A c i arg2 harg2 arg3 harg3 arg4 harg4 arg5 harg5 arg6 harg6 hc0 x0 x1 x2).1, y ∈ pc.1.set :=
  View.cover_of_tiledL (kernelRun0_A c i arg2 harg2 arg3 harg3 arg4 harg4 arg5 harg5 arg6 harg6 hc0 x0 x1 x2).1 S2048x1024.size (by sl_kernel_rfl) y

/-- The stores at a first column block cover the projected block. -/
theorem cover0_A_4 (hc0 : cond0_0 i) (x0 : Vec F S2048x1024 .f32) (x1 : Vec F S1x1024 .f32) (x2 : Vec F S1x1024x1280 .bf16) (y : S2048x1280.Idx) :
    ∃ pc ∈ (kernelRun0_A c i arg2 harg2 arg3 harg3 arg4 harg4 arg5 harg5 arg6 harg6 hc0 x0 x1 x2).2.1, y ∈ pc.1.set :=
  View.cover_of_tiledL (kernelRun0_A c i arg2 harg2 arg3 harg3 arg4 harg4 arg5 harg5 arg6 harg6 hc0 x0 x1 x2).2.1 S2048x1280.size (by sl_kernel_rfl) y

/-- The stores at a later column block cover the projected block. -/
theorem cover0_B_4 (hc0 : ¬cond0_0 i) (x0 : Vec F S2048x1024 .f32) (x1 : Vec F S1x1024 .f32) (x2 : Vec F S1x1024x1280 .bf16) (xo3 : Vec F S2048x1024 .bf16) (y : S2048x1280.Idx) :
    ∃ pc ∈ (kernelRun0_B c i arg2 harg2 arg3 harg3 arg4 harg4 arg5 harg5 arg6 harg6 hc0 x0 x1 x2 xo3).1, y ∈ pc.1.set :=
  View.cover_of_tiledL (kernelRun0_B c i arg2 harg2 arg3 harg3 arg4 harg4 arg5 harg5 arg6 harg6 hc0 x0 x1 x2 xo3).1 S2048x1280.size (by sl_kernel_rfl) y

/-- The normalised rows stored at a first column block. -/
def out0_A_3 (hc0 : cond0_0 i) (x0 : Vec F S2048x1024 .f32) (x1 : Vec F S1x1024 .f32) (x2 : Vec F S1x1024x1280 .bf16) : Vec F S2048x1024 .bf16 :=
  VO0_3.read (Elt F) (VO0_3.writes (Elt F) VO0_3.junk (kernelRun0_A c i arg2 harg2 arg3 harg3 arg4 harg4 arg5 harg5 arg6 harg6 hc0 x0 x1 x2).1)

/-- The projection stored at a first column block. -/
def out0_A_4 (hc0 : cond0_0 i) (x0 : Vec F S2048x1024 .f32) (x1 : Vec F S1x1024 .f32) (x2 : Vec F S1x1024x1280 .bf16) : Vec F S2048x1280 .bf16 :=
  VO0_4.read (Elt F) (VO0_4.writes (Elt F) VO0_4.junk (kernelRun0_A c i arg2 harg2 arg3 harg3 arg4 harg4 arg5 harg5 arg6 harg6 hc0 x0 x1 x2).2.1)

/-- The projection stored at a later column block, of the normalised rows found. -/
def out0_B_4 (hc0 : ¬cond0_0 i) (x0 : Vec F S2048x1024 .f32) (x1 : Vec F S1x1024 .f32) (x2 : Vec F S1x1024x1280 .bf16) (xo3 : Vec F S2048x1024 .bf16) : Vec F S2048x1280 .bf16 :=
  VO0_4.read (Elt F) (VO0_4.writes (Elt F) VO0_4.junk (kernelRun0_B c i arg2 harg2 arg3 harg3 arg4 harg4 arg5 harg5 arg6 harg6 hc0 x0 x1 x2 xo3).1)

end Blocks

/-- The first point of a point's row block. -/
def first0 (t : Fin cfg0.N) : Fin cfg0.N := ⟨8 * (t.val / 8), by have := t.isLt; omega⟩

theorem first0_mod (t : Fin cfg0.N) : (first0 t).val % 8 = 0 := Nat.mul_mod_right 8 _

/-- The normalised rows stored at a first column block, of that point's own blocks. -/
def rows0 (c : Dev nD) (s : Fin cfg0.N) (hs : s.val % 8 = 0) : Vec F S2048x1024 .bf16 :=
  out0_A_3 c (grid0.coords s) (ms0_0 s) (hs0_0 s) (ms0_1 s) (hs0_1 s) (ms0_2 s) (hs0_2 s) (ms0_3 s) (hs0_3 s) (ms0_4 s) (hs0_4 s)
    ((hcond0_0 s).mpr hs) (iblk m c 0 s) (iblk m c 1 s) (iblk m c 2 s)

theorem rows0_congr (c : Dev nD) {s t : Fin cfg0.N} (e : s = t) (hs : s.val % 8 = 0) (ht : t.val % 8 = 0) :
    rows0 m c s hs = rows0 m c t ht := by
  subst e; rfl

/-- What the normalised rows' block holds after a point: what the first point of its row block stored. -/
def hAt0 (c : Dev nD) (t : Fin cfg0.N) : Vec F S2048x1024 .bf16 := rows0 m c (first0 t) (first0_mod t)

theorem hAt0_first (c : Dev nD) (t : Fin cfg0.N) (h0 : t.val % 8 = 0) : hAt0 m c t = rows0 m c t h0 :=
  rows0_congr m c (Fin.ext (by show 8 * (t.val / 8) = t.val; omega)) _ _

/-- Past a first column block the rows are those of the point before. -/
theorem hAt0_later (c : Dev nD) (t : Fin cfg0.N) (h0 : ¬t.val % 8 = 0) (hp : t.val - 1 < cfg0.N) :
    hAt0 m c t = hAt0 m c ⟨t.val - 1, hp⟩ :=
  rows0_congr m c (Fin.ext (by show 8 * (t.val / 8) = 8 * ((t.val - 1) / 8); omega)) _ _

/-- What the projected block holds after a point. -/
def pAt0 (c : Dev nD) (t : Fin cfg0.N) : Vec F S2048x1280 .bf16 :=
  if h0 : t.val % 8 = 0 then
    out0_A_4 c (grid0.coords t) (ms0_0 t) (hs0_0 t) (ms0_1 t) (hs0_1 t) (ms0_2 t) (hs0_2 t) (ms0_3 t) (hs0_3 t) (ms0_4 t) (hs0_4 t)
      ((hcond0_0 t).mpr h0) (iblk m c 0 t) (iblk m c 1 t) (iblk m c 2 t)
  else
    out0_B_4 c (grid0.coords t) (ms0_0 t) (hs0_0 t) (ms0_1 t) (hs0_1 t) (ms0_2 t) (hs0_2 t) (ms0_3 t) (hs0_3 t) (ms0_4 t) (hs0_4 t)
      (fun h => h0 ((hcond0_0 t).mp h)) (iblk m c 0 t) (iblk m c 1 t) (iblk m c 2 t) (hAt0 m c t)

theorem pAt0_A (c : Dev nD) (t : Fin cfg0.N) (h0 : t.val % 8 = 0) :
    pAt0 m c t = out0_A_4 c (grid0.coords t) (ms0_0 t) (hs0_0 t) (ms0_1 t) (hs0_1 t) (ms0_2 t) (hs0_2 t) (ms0_3 t) (hs0_3 t) (ms0_4 t) (hs0_4 t)
      ((hcond0_0 t).mpr h0) (iblk m c 0 t) (iblk m c 1 t) (iblk m c 2 t) := dif_pos h0

theorem pAt0_B (c : Dev nD) (t : Fin cfg0.N) (h0 : ¬t.val % 8 = 0) :
    pAt0 m c t = out0_B_4 c (grid0.coords t) (ms0_0 t) (hs0_0 t) (ms0_1 t) (hs0_1 t) (ms0_2 t) (hs0_2 t) (ms0_3 t) (hs0_3 t) (ms0_4 t) (hs0_4 t)
      (fun h => h0 ((hcond0_0 t).mp h)) (iblk m c 0 t) (iblk m c 1 t) (iblk m c 2 t) (hAt0 m c t) := dif_neg h0

/-- The data of the run: the inputs' blocks stay, the results' blocks hold the above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => hAt0 m c t
    | ⟨4, _⟩ => pAt0 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = hAt0 m c t := by dsimp only [dats]
theorem after0_4 (c : Dev nD) (t : Fin cfg0.N) : (dats m 0 c).after 4 t = pAt0 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The body leaves the normalised rows' block alone except at a first column block. -/
theorem idle0_3 (t : Fin cfg0.N) : cfg0.idle 3 (cfg0.grid.coords t) = decide (¬t.val % 8 = 0) :=
  (by decide +kernel : ∀ t : Fin grid0.N, idle0 3 (grid0.coords t) = decide (¬t.val % 8 = 0)) t

/-- The normalised rows' block holds nothing of the body's only at a first column block. -/
theorem fresh0_3 (t : Fin cfg0.N) : cfg0.fresh 3 t.val = decide (t.val % 8 = 0) := by
  refine cfg0.fresh_tab 3 (fun n => decide (n % 8 = 0)) rfl (fun s => ?_) t.val (Nat.le_of_lt t.isLt)
  rw [idle0_3 s]
  by_cases h7 : s.val % 8 = 7
  · rw [(flush0_3 s).mpr h7]
    simp only [Bool.true_or, decide_eq_true_eq]; omega
  · rw [Bool.eq_false_iff.mpr fun h => h7 ((flush0_3 s).mp h)]
    simp only [Bool.false_or, decide_not, Bool.not_and_self, decide_eq_false_iff_not]; omega

/-- Past a first column block the body finds the normalised rows stored there. -/
theorem before0_3_B (c : Dev nD) (t : Fin cfg0.N) (h0 : ¬t.val % 8 = 0) (d) : (dats m 0 c).before 3 t d = hAt0 m c t := by
  have hp : t.val - 1 < cfg0.N := Nat.lt_of_le_of_lt (Nat.sub_le _ _) t.isLt
  have h := (dats m 0 c).before_out_traj 3 rfl (fun _ _ => rfl)
    (fun s hs hi hf => by
      rw [after0_3, after0_3]
      rw [fresh0_3] at hf
      exact hAt0_later m c s (of_decide_eq_false hf) _)
    t.val t rfl d
  rw [fresh0_3, if_neg (by simpa using h0), after0_3] at h
  exact h.trans (hAt0_later m c t h0 hp).symm

/-- What the body is called with at a point, window by window, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it hands back. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (dats m 0 c).leavesExact 3 t
    ∗ owns (c : Thread nD τ) (ms0_4 t) fullShare ((dats m 0 c).after 4 t))

/-- At a first column block the normalised rows' block is to be handed back at the stored rows. -/
theorem leaves0_3_A (c : Dev nD) (t : Fin cfg0.N) (h0 : t.val % 8 = 0) :
    (dats m 0 c).leavesExact 3 t = owns (c : Thread nD τ) (ms0_3 t) fullShare (hAt0 m c t) := by
  have hi : cfg0.idle 3 (cfg0.grid.coords t) = false := (idle0_3 t).trans (by simpa using h0)
  rw [← after0_3]
  unfold Dat.leavesExact
  rw [hi]

/-- At a later one it may be handed back as found, which are the stored rows too. -/
theorem leaves0_3_B (c : Dev nD) (t : Fin cfg0.N) (h0 : ¬t.val % 8 = 0) :
    owns (c : Thread nD τ) (ms0_3 t) fullShare (hAt0 m c t) ⊢ (dats m 0 c).leavesExact 3 t := by
  have hi : cfg0.idle 3 (cfg0.grid.coords t) = true := (idle0_3 t).trans (by simpa using h0)
  by_cases h7 : t.val % 8 = 7
  · have hf : (cfg0.win 3).flush t = true := (flush0_3 t).mpr h7
    rw [← after0_3]
    unfold Dat.leavesExact
    rw [hi, hf]
  · rw [Dat.leavesExact_idle (dats m 0 c) 3 t hi (Bool.eq_false_iff.mpr fun h => h7 ((flush0_3 t).mp h))]
    simp only [before0_3_B m c t h0]
    iintro H
    iexists (fun _ => default)
    iexact H

set_option maxHeartbeats 800000 in
/-- The body meets its obligation at every point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_4]
  by_cases h0 : t.val % 8 = 0
  · rw [leaves0_3_A m c t h0, hAt0_first m c t h0, pAt0_A m c t h0]
    unfold rows0 out0_A_3 out0_A_4
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (iblk m c 0 t) (iblk m c 1 t) (iblk m c 2 t)).2.2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_A_3 c _ _ _ _ _ _ _ _ _ _ _ _ _ _ _)
    unfold owns; iexists _; isplitr
    swap; · iexact H4
    ipureintro; exact View.read_writes_of_cover _ _ _ _ _ (cover0_A_4 c _ _ _ _ _ _ _ _ _ _ _ _ _ _ _)
  · rw [pAt0_B m c t h0]
    simp only [before0_3_B m c t h0]
    unfold out0_B_4
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) (iblk m c 0 t) (iblk m c 1 t) (iblk m c 2 t) (hAt0 m c t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]
    · iapply (leaves0_3_B m c t h0); iexact H3
    unfold owns; iexists _; isplitr
    swap; · iexact H4
    ipureintro; exact View.read_writes_of_cover _ _ _ _ _ (cover0_B_4 c _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every run ends, with the arrays as the data say and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end as they were, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Kernel13Ideal.Gen

end
-- ==== Proof.NormRun14I.lean ====
module

public import proofs.«01_k».proof.Proof.Gen.Kernel14Ideal.Frame
public import proofs.«01_k».proof.Proof.Gen.Kernel14Ideal.Skeleton
public import Idealize.ShloMosaic.Lib.Pipeline.TableIdle
public import Idealize.ShloMosaic.Lib.Claim

/-! The run of `Kernel14Ideal`, the normalised projection. The grid is 4 row blocks by 8 column blocks. At the first column block
of a row block the body stores the normalised rows into the block of its first result; at the other seven it reads that
block back and leaves it alone, and the block goes out at the last of them. -/

@[expose] public section

set_option maxRecDepth 16384

noncomputable section

namespace Cert.Kernel14Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The body's test: the column block is the first. -/
abbrev cond0_0 (i : grid0.Coords) : Prop := k0_cond1 i = 1#1

/-- Over the points in order the test holds at every eighth. -/
theorem hcond0_0 : ∀ t : Fin cfg0.N, cond0_0 (grid0.coords t) ↔ t.val % 8 = 0 :=
  (by decide +kernel : ∀ t : Fin grid0.N, k0_cond1 (grid0.coords t) = 1#1 ↔ t.val % 8 = 0)

/-- The blocks of the two results, through which their contents are named. -/
abbrev VO0_3 : View sig .tc .vmem S2048x1024 .bf16 := (Memref.whole cc0_stg3_0 : Memref sig .tc .vmem S2048x1024 .bf16).view
abbrev VO0_4 : View sig .tc .vmem S2048x512 .bf16 := (Memref.whole cc0_stg4_0 : Memref sig .tc .vmem S2048x512 .bf16).view

/-- The block buffers in use at a point, each the whole of its memory. -/
abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x512 .bf16 := win0_4.stage (cfg0.slots t 4)
abbrev hs0_4 (t : Fin cfg0.N) : (ms0_4 t).IsWhole := hstage0_4 ((cfg0.slots t 4).cast nbuf0_4)

set_option maxHeartbeats 1000000 in
/-- The body at a first column block: both results' blocks are stored whole, whatever they held. -/
noncomputable def kernelRun0_A (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S1x1024x512 .bf16) (harg4 : arg4.IsWhole) (arg5 : Memref sig .tc .vmem S2048x1024 .bf16) (harg5 : arg5.IsWhole) (arg6 : Memref sig .tc .vmem S2048x512 .bf16) (harg6 : arg6.IsWhole) (hc0 : cond0_0 i)
    (x0 : Vec F S2048x1024 .f32) (x1 : Vec F S1x1024 .f32) (x2 : Vec F S1x1024x512 .bf16) :
    Σ' (L3 : List (View.Piece (Elt F) S2048x1024 .bf16)), { L4 : List (View.Piece (Elt F) S2048x512 .bf16) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
              ∗ (∃ f, arg5.view.loc (c : Thread nD τ) ↦[arg5.view.set]{fullShare} arg5.view.writes (Elt F) f L3)
              ∗ (∃ f, arg6.view.loc (c : Thread nD τ) ↦[arg6.view.set]{fullShare} arg6.view.writes (Elt F) f L4)) -∗ K ⟨⟩))
          ⊢ wp frame (wpE (defs₀ (F := F)) Variants.none c none) E (cc0_l2_proj i arg2 harg2 arg3 harg3 arg4 harg4 arg5 harg5 arg6 harg6) K } := by
  refine ⟨?_, ?_, fun E K => ?run⟩
  case run =>
    simp only [cc0_l2_proj_eq_skeleton]; unfold cc0_l2_proj_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact H4

set_option maxHeartbeats 1000000 in
/-- The body at a later column block: the normalised rows' block is read and kept, the other result's block is stored whole. -/
noncomputable def kernelRun0_B (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S1x1024x512 .bf16) (harg4 : arg4.IsWhole) (arg5 : Memref sig .tc .vmem S2048x1024 .bf16) (harg5 : arg5.IsWhole) (arg6 : Memref sig .tc .vmem S2048x512 .bf16) (harg6 : arg6.IsWhole) (hc0 : ¬cond0_0 i)
    (x0 : Vec F S2048x1024 .f32) (x1 : Vec F S1x1024 .f32) (x2 : Vec F S1x1024x512 .bf16) (xo3 : Vec F S2048x1024 .bf16) :
    { L4 : List (View.Piece (Elt F) S2048x512 .bf16) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2
            ∗ owns (c : Thread nD τ) arg5 fullShare xo3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
              ∗ owns (c : Thread nD τ) arg5 fullShare xo3
              ∗ (∃ f, arg6.view.loc (c : Thread nD τ) ↦[arg6.view.set]{fullShare} arg6.view.writes (Elt F) f L4)) -∗ K ⟨⟩))
          ⊢ wp frame (wpE (defs₀ (F := F)) Variants.none c none) E (cc0_l2_proj i arg2 harg2 arg3 harg3 arg4 harg4 arg5 harg5 arg6 harg6) K } := by
  refine ⟨?_, fun E K => ?run⟩
  case run =>
    simp only [cc0_l2_proj_eq_skeleton]; unfold cc0_l2_proj_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

section Blocks

variable (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S1x1024x512 .bf16) (harg4 : arg4.IsWhole) (arg5 : Memref sig .tc .vmem S2048x1024 .bf16) (harg5 : arg5.IsWhole) (arg6 : Memref sig .tc .vmem S2048x512 .bf16) (harg6 : arg6.IsWhole)

/-- The stores at a first column block cover the normalised rows' block. -/
theorem cover0_A_3 (hc0 : cond0_0 i) (x0 : Vec F S2048x1024 .f32) (x1 : Vec F S1x1024 .f32) (x2 : Vec F S1x1024x512 .bf16) (y : S2048x1024.Idx) :
    ∃ pc ∈ (kernelRun0_A c i arg2 harg2 arg3 harg3 arg4 harg4 arg5 harg5 arg6 harg6 hc0 x0 x1 x2).1, y ∈ pc.1.set :=
  View.cover_of_tiledL (kernelRun0_A c i arg2 harg2 arg3 harg3 arg4 harg4 arg5 harg5 arg6 harg6 hc0 x0 x1 x2).1 S2048x1024.size (by sl_kernel_rfl) y

/-- The stores at a first column block cover the projected block. -/
theorem cover0_A_4 (hc0 : cond0_0 i) (x0 : Vec F S2048x1024 .f32) (x1 : Vec F S1x1024 .f32) (x2 : Vec F S1x1024x512 .bf16) (y : S2048x512.Idx) :
    ∃ pc ∈ (kernelRun0_A c i arg2 harg2 arg3 harg3 arg4 harg4 arg5 harg5 arg6 harg6 hc0 x0 x1 x2).2.1, y ∈ pc.1.set :=
  View.cover_of_tiledL (kernelRun0_A c i arg2 harg2 arg3 harg3 arg4 harg4 arg5 harg5 arg6 harg6 hc0 x0 x1 x2).2.1 S2048x512.size (by sl_kernel_rfl) y

/-- The stores at a later column block cover the projected block. -/
theorem cover0_B_4 (hc0 : ¬cond0_0 i) (x0 : Vec F S2048x1024 .f32) (x1 : Vec F S1x1024 .f32) (x2 : Vec F S1x1024x512 .bf16) (xo3 : Vec F S2048x1024 .bf16) (y : S2048x512.Idx) :
    ∃ pc ∈ (kernelRun0_B c i arg2 harg2 arg3 harg3 arg4 harg4 arg5 harg5 arg6 harg6 hc0 x0 x1 x2 xo3).1, y ∈ pc.1.set :=
  View.cover_of_tiledL (kernelRun0_B c i arg2 harg2 arg3 harg3 arg4 harg4 arg5 harg5 arg6 harg6 hc0 x0 x1 x2 xo3).1 S2048x512.size (by sl_kernel_rfl) y

/-- The normalised rows stored at a first column block. -/
def out0_A_3 (hc0 : cond0_0 i) (x0 : Vec F S2048x1024 .f32) (x1 : Vec F S1x1024 .f32) (x2 : Vec F S1x1024x512 .bf16) : Vec F S2048x1024 .bf16 :=
  VO0_3.read (Elt F) (VO0_3.writes (Elt F) VO0_3.junk (kernelRun0_A c i arg2 harg2 arg3 harg3 arg4 harg4 arg5 harg5 arg6 harg6 hc0 x0 x1 x2).1)

/-- The projection stored at a first column block. -/
def out0_A_4 (hc0 : cond0_0 i) (x0 : Vec F S2048x1024 .f32) (x1 : Vec F S1x1024 .f32) (x2 : Vec F S1x1024x512 .bf16) : Vec F S2048x512 .bf16 :=
  VO0_4.read (Elt F) (VO0_4.writes (Elt F) VO0_4.junk (kernelRun0_A c i arg2 harg2 arg3 harg3 arg4 harg4 arg5 harg5 arg6 harg6 hc0 x0 x1 x2).2.1)

/-- The projection stored at a later column block, of the normalised rows found. -/
def out0_B_4 (hc0 : ¬cond0_0 i) (x0 : Vec F S2048x1024 .f32) (x1 : Vec F S1x1024 .f32) (x2 : Vec F S1x1024x512 .bf16) (xo3 : Vec F S2048x1024 .bf16) : Vec F S2048x512 .bf16 :=
  VO0_4.read (Elt F) (VO0_4.writes (Elt F) VO0_4.junk (kernelRun0_B c i arg2 harg2 arg3 harg3 arg4 harg4 arg5 harg5 arg6 harg6 hc0 x0 x1 x2 xo3).1)

end Blocks

/-- The first point of a point's row block. -/
def first0 (t : Fin cfg0.N) : Fin cfg0.N := ⟨8 * (t.val / 8), by have := t.isLt; omega⟩

theorem first0_mod (t : Fin cfg0.N) : (first0 t).val % 8 = 0 := Nat.mul_mod_right 8 _

/-- The normalised rows stored at a first column block, of that point's own blocks. -/
def rows0 (c : Dev nD) (s : Fin cfg0.N) (hs : s.val % 8 = 0) : Vec F S2048x1024 .bf16 :=
  out0_A_3 c (grid0.coords s) (ms0_0 s) (hs0_0 s) (ms0_1 s) (hs0_1 s) (ms0_2 s) (hs0_2 s) (ms0_3 s) (hs0_3 s) (ms0_4 s) (hs0_4 s)
    ((hcond0_0 s).mpr hs) (iblk m c 0 s) (iblk m c 1 s) (iblk m c 2 s)

theorem rows0_congr (c : Dev nD) {s t : Fin cfg0.N} (e : s = t) (hs : s.val % 8 = 0) (ht : t.val % 8 = 0) :
    rows0 m c s hs = rows0 m c t ht := by
  subst e; rfl

/-- What the normalised rows' block holds after a point: what the first point of its row block stored. -/
def hAt0 (c : Dev nD) (t : Fin cfg0.N) : Vec F S2048x1024 .bf16 := rows0 m c (first0 t) (first0_mod t)

theorem hAt0_first (c : Dev nD) (t : Fin cfg0.N) (h0 : t.val % 8 = 0) : hAt0 m c t = rows0 m c t h0 :=
  rows0_congr m c (Fin.ext (by show 8 * (t.val / 8) = t.val; omega)) _ _

/-- Past a first column block the rows are those of the point before. -/
theorem hAt0_later (c : Dev nD) (t : Fin cfg0.N) (h0 : ¬t.val % 8 = 0) (hp : t.val - 1 < cfg0.N) :
    hAt0 m c t = hAt0 m c ⟨t.val - 1, hp⟩ :=
  rows0_congr m c (Fin.ext (by show 8 * (t.val / 8) = 8 * ((t.val - 1) / 8); omega)) _ _

/-- What the projected block holds after a point. -/
def pAt0 (c : Dev nD) (t : Fin cfg0.N) : Vec F S2048x512 .bf16 :=
  if h0 : t.val % 8 = 0 then
    out0_A_4 c (grid0.coords t) (ms0_0 t) (hs0_0 t) (ms0_1 t) (hs0_1 t) (ms0_2 t) (hs0_2 t) (ms0_3 t) (hs0_3 t) (ms0_4 t) (hs0_4 t)
      ((hcond0_0 t).mpr h0) (iblk m c 0 t) (iblk m c 1 t) (iblk m c 2 t)
  else
    out0_B_4 c (grid0.coords t) (ms0_0 t) (hs0_0 t) (ms0_1 t) (hs0_1 t) (ms0_2 t) (hs0_2 t) (ms0_3 t) (hs0_3 t) (ms0_4 t) (hs0_4 t)
      (fun h => h0 ((hcond0_0 t).mp h)) (iblk m c 0 t) (iblk m c 1 t) (iblk m c 2 t) (hAt0 m c t)

theorem pAt0_A (c : Dev nD) (t : Fin cfg0.N) (h0 : t.val % 8 = 0) :
    pAt0 m c t = out0_A_4 c (grid0.coords t) (ms0_0 t) (hs0_0 t) (ms0_1 t) (hs0_1 t) (ms0_2 t) (hs0_2 t) (ms0_3 t) (hs0_3 t) (ms0_4 t) (hs0_4 t)
      ((hcond0_0 t).mpr h0) (iblk m c 0 t) (iblk m c 1 t) (iblk m c 2 t) := dif_pos h0

theorem pAt0_B (c : Dev nD) (t : Fin cfg0.N) (h0 : ¬t.val % 8 = 0) :
    pAt0 m c t = out0_B_4 c (grid0.coords t) (ms0_0 t) (hs0_0 t) (ms0_1 t) (hs0_1 t) (ms0_2 t) (hs0_2 t) (ms0_3 t) (hs0_3 t) (ms0_4 t) (hs0_4 t)
      (fun h => h0 ((hcond0_0 t).mp h)) (iblk m c 0 t) (iblk m c 1 t) (iblk m c 2 t) (hAt0 m c t) := dif_neg h0

/-- The data of the run: the inputs' blocks stay, the results' blocks hold the above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => hAt0 m c t
    | ⟨4, _⟩ => pAt0 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = hAt0 m c t := by dsimp only [dats]
theorem after0_4 (c : Dev nD) (t : Fin cfg0.N) : (dats m 0 c).after 4 t = pAt0 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The body leaves the normalised rows' block alone except at a first column block. -/
theorem idle0_3 (t : Fin cfg0.N) : cfg0.idle 3 (cfg0.grid.coords t) = decide (¬t.val % 8 = 0) :=
  (by decide +kernel : ∀ t : Fin grid0.N, idle0 3 (grid0.coords t) = decide (¬t.val % 8 = 0)) t

/-- The normalised rows' block holds nothing of the body's only at a first column block. -/
theorem fresh0_3 (t : Fin cfg0.N) : cfg0.fresh 3 t.val = decide (t.val % 8 = 0) := by
  refine cfg0.fresh_tab 3 (fun n => decide (n % 8 = 0)) rfl (fun s => ?_) t.val (Nat.le_of_lt t.isLt)
  rw [idle0_3 s]
  by_cases h7 : s.val % 8 = 7
  · rw [(flush0_3 s).mpr h7]
    simp only [Bool.true_or, decide_eq_true_eq]; omega
  · rw [Bool.eq_false_iff.mpr fun h => h7 ((flush0_3 s).mp h)]
    simp only [Bool.false_or, decide_not, Bool.not_and_self, decide_eq_false_iff_not]; omega

/-- Past a first column block the body finds the normalised rows stored there. -/
theorem before0_3_B (c : Dev nD) (t : Fin cfg0.N) (h0 : ¬t.val % 8 = 0) (d) : (dats m 0 c).before 3 t d = hAt0 m c t := by
  have hp : t.val - 1 < cfg0.N := Nat.lt_of_le_of_lt (Nat.sub_le _ _) t.isLt
  have h := (dats m 0 c).before_out_traj 3 rfl (fun _ _ => rfl)
    (fun s hs hi hf => by
      rw [after0_3, after0_3]
      rw [fresh0_3] at hf
      exact hAt0_later m c s (of_decide_eq_false hf) _)
    t.val t rfl d
  rw [fresh0_3, if_neg (by simpa using h0), after0_3] at h
  exact h.trans (hAt0_later m c t h0 hp).symm

/-- What the body is called with at a point, window by window, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it hands back. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (dats m 0 c).leavesExact 3 t
    ∗ owns (c : Thread nD τ) (ms0_4 t) fullShare ((dats m 0 c).after 4 t))

/-- At a first column block the normalised rows' block is to be handed back at the stored rows. -/
theorem leaves0_3_A (c : Dev nD) (t : Fin cfg0.N) (h0 : t.val % 8 = 0) :
    (dats m 0 c).leavesExact 3 t = owns (c : Thread nD τ) (ms0_3 t) fullShare (hAt0 m c t) := by
  have hi : cfg0.idle 3 (cfg0.grid.coords t) = false := (idle0_3 t).trans (by simpa using h0)
  rw [← after0_3]
  unfold Dat.leavesExact
  rw [hi]

/-- At a later one it may be handed back as found, which are the stored rows too. -/
theorem leaves0_3_B (c : Dev nD) (t : Fin cfg0.N) (h0 : ¬t.val % 8 = 0) :
    owns (c : Thread nD τ) (ms0_3 t) fullShare (hAt0 m c t) ⊢ (dats m 0 c).leavesExact 3 t := by
  have hi : cfg0.idle 3 (cfg0.grid.coords t) = true := (idle0_3 t).trans (by simpa using h0)
  by_cases h7 : t.val % 8 = 7
  · have hf : (cfg0.win 3).flush t = true := (flush0_3 t).mpr h7
    rw [← after0_3]
    unfold Dat.leavesExact
    rw [hi, hf]
  · rw [Dat.leavesExact_idle (dats m 0 c) 3 t hi (Bool.eq_false_iff.mpr fun h => h7 ((flush0_3 t).mp h))]
    simp only [before0_3_B m c t h0]
    iintro H
    iexists (fun _ => default)
    iexact H

set_option maxHeartbeats 800000 in
/-- The body meets its obligation at every point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_4]
  by_cases h0 : t.val % 8 = 0
  · rw [leaves0_3_A m c t h0, hAt0_first m c t h0, pAt0_A m c t h0]
    unfold rows0 out0_A_3 out0_A_4
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (iblk m c 0 t) (iblk m c 1 t) (iblk m c 2 t)).2.2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_A_3 c _ _ _ _ _ _ _ _ _ _ _ _ _ _ _)
    unfold owns; iexists _; isplitr
    swap; · iexact H4
    ipureintro; exact View.read_writes_of_cover _ _ _ _ _ (cover0_A_4 c _ _ _ _ _ _ _ _ _ _ _ _ _ _ _)
  · rw [pAt0_B m c t h0]
    simp only [before0_3_B m c t h0]
    unfold out0_B_4
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) (iblk m c 0 t) (iblk m c 1 t) (iblk m c 2 t) (hAt0 m c t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]
    · iapply (leaves0_3_B m c t h0); iexact H3
    unfold owns; iexists _; isplitr
    swap; · iexact H4
    ipureintro; exact View.read_writes_of_cover _ _ _ _ _ (cover0_B_4 c _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every run ends, with the arrays as the data say and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end as they were, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Kernel14Ideal.Gen

end
-- ==== Proof.NormProj12.lean ====
/- The normalised projection: the rows normalised, and their product with the weights, are the reference's. -/
module

public import proofs.«01_k».proof.Proof.NormRun12I
public import proofs.«01_k».proof.Proof.DhSpec
public import proofs.«01_k».proof.Proof.Gen.Reference12Ideal.Read
public import Idealize.ShloMosaic.Lib.Pipeline.ValueKit
public import Idealize.ShloMosaic.Lib.Pointwise
public import Idealize.ShloMosaic.Lib.Pipeline.ReadBack
public import Idealize.ShloMosaic.Lib.IdealHost

@[expose] public section
set_option maxRecDepth 16384
noncomputable section
open Idealize.ShloMosaic Idealize.ShloMosaic.TcCoe Idealize.SL.Sem
open Idealize.ShloMosaic.Pipeline (Dat)
open scoped BigOperators
namespace Cert.Kernel12Ideal.Value
open Cert.Kernel12Ideal Cert.Kernel12Ideal.Gen
variable (m : (ℓ : Loc nD τ sig) → Buf (Elt Ideal) ℓ)

theorem rows_eq (c : Dev nD) (s : Fin cfg0.N) (hs : s.val % 8 = 0) :
    rows0 m c s hs = k0_pay1 (F := Ideal) (iblk m c 0 s) (iblk m c 1 s) := by
  unfold rows0
  frame_out [View.readCov_cons_toLoadRect, ↓View.readCov_skip, ↓View.readCov_fill]

theorem proj_eq (c : Dev nD) (t : Fin cfg0.N) : pAt0 m c t = k0_pay2 (F := Ideal) (hAt0 m c t) (iblk m c 2 t) := by
  by_cases h0 : t.val % 8 = 0
  · rw [hAt0_first m c t h0, rows_eq, pAt0_A m c t h0]
    frame_out [View.readCov_cons_toLoadRect, ↓View.readCov_skip, ↓View.readCov_fill]
  · rw [pAt0_B m c t h0]
    frame_out [View.readCov_cons_toLoadRect, ↓View.readCov_skip, ↓View.readCov_fill]

theorem pay1_at (x : FVec Ideal S2048x1024 .f32) (g : FVec Ideal S1x1024 .f32) (s : Fin 2048) (k : Fin 1024) :
    k0_pay1 (F := Ideal) x g (ix2 s k) = x (ix2 s k) * Ideal.rsqrt (Spec.ms fun j => x (ix2 s j)) * g (ix2 (0 : Fin 1) k) := by
  pointwise [k0_pay1]
  rfl

theorem pay2_at (h : FVec Ideal S2048x1024 .bf16) (w : FVec Ideal S1x1024x768 .bf16) (s : Fin 2048) (l : Fin 768) :
    k0_pay2 (F := Ideal) h w (ix2 s l) = ∑ k : Fin 1024, h (ix2 s k) * w (ix3 (0 : Fin 1) k l) := by
  pointwise [k0_pay2]

theorem idx : ∀ t : Fin cfg0.N, win0_0.index t = ![t.val / 8, 0] ∧ win0_1.index t = ![0, 0] ∧ win0_2.index t = ![t.val % 8, 0, 0]
    ∧ win0_3.index t = ![t.val / 8, 0] ∧ win0_4.index t = ![t.val / 8, t.val % 8] :=
  (by decide +kernel : ∀ t : Fin grid0.N, _)
theorem lt32 (t : Fin cfg0.N) : t.val < 32 := lt_of_lt_of_eq t.isLt N_0

theorem blk0 (c : Dev nD) (t : Fin cfg0.N) (s : Fin 2048) (k : Fin 1024) :
    iblk m c 0 t (ix2 s k) = m ((c : Thread nD τ).loc main_arg0) (ix2 (⟨2048 * (t.val / 8) + s.val, by have := lt32 t; omega⟩ : Fin 8192) k) := by
  blk_ext [iblk, V, idx t]
theorem blk1 (c : Dev nD) (t : Fin cfg0.N) (k : Fin 1024) :
    iblk m c 1 t (ix2 (0 : Fin 1) k) = m ((c : Thread nD τ).loc main_arg1) (ix2 (0 : Fin 1) k) := by
  blk_ext [iblk, V, idx t]
theorem blk2 (c : Dev nD) (t : Fin cfg0.N) (k : Fin 1024) (l : Fin 768) :
    iblk m c 2 t (ix3 (0 : Fin 1) k l) = m ((c : Thread nD τ).loc main_arg2) (ix3 (⟨t.val % 8, by omega⟩ : Fin 8) k l) := by
  blk_ext [iblk, V, idx t]

/-- A row over the root of its mean square, times the gain. -/
def hrow (x0 : FVec Ideal S8192x1024 .f32) (x1 : FVec Ideal S1x1024 .f32) (s : Fin 8192) (k : Fin 1024) : EReal :=
  x0 (ix2 s k) * Ideal.rsqrt (Spec.ms fun j => x0 (ix2 s j)) * x1 (ix2 (0 : Fin 1) k)
/-- The rows against the weights, which come as eight slabs of columns. -/
def prow (x0 : FVec Ideal S8192x1024 .f32) (x1 : FVec Ideal S1x1024 .f32) (x2 : FVec Ideal S8x1024x768 .bf16) (s : Fin 8192) (n : Fin 6144) : EReal :=
  ∑ k : Fin 1024, hrow x0 x1 s k * x2 (ix3 (⟨n.val / 768, by omega⟩ : Fin 8) k (⟨n.val % 768, by omega⟩ : Fin 768))
def hArr (x0 : FVec Ideal S8192x1024 .f32) (x1 : FVec Ideal S1x1024 .f32) : FVec Ideal S8192x1024 .bf16 :=
  fun i => hrow x0 x1 (i 0) (i 1)
def pArr (x0 : FVec Ideal S8192x1024 .f32) (x1 : FVec Ideal S1x1024 .f32) (x2 : FVec Ideal S8x1024x768 .bf16) : FVec Ideal S8192x6144 .bf16 :=
  fun i => prow x0 x1 x2 (i 0) (i 1)

theorem h_at (c : Dev nD) (t : Fin cfg0.N) (s : Fin 2048) (k : Fin 1024) :
    hAt0 m c t (ix2 s k) = hrow (m ((c : Thread nD τ).loc main_arg0)) (m ((c : Thread nD τ).loc main_arg1))
      (⟨2048 * (t.val / 8) + s.val, by have := lt32 t; omega⟩ : Fin 8192) k := by
  have e : (first0 t).val / 8 = t.val / 8 := by show 8 * (t.val / 8) / 8 = t.val / 8; omega
  have er : ∀ h, (⟨2048 * ((first0 t).val / 8) + s.val, h⟩ : Fin 8192) = ⟨2048 * (t.val / 8) + s.val, by have := lt32 t; omega⟩ :=
    fun h => Fin.ext (by show 2048 * ((first0 t).val / 8) + s.val = _; rw [e])
  unfold hAt0
  rw [rows_eq, pay1_at, blk0, blk1, er, hrow]
  simp only [blk0, er]

theorem p_at (c : Dev nD) (t : Fin cfg0.N) (s : Fin 2048) (l : Fin 768) :
    pAt0 m c t (ix2 s l) = prow (m ((c : Thread nD τ).loc main_arg0)) (m ((c : Thread nD τ).loc main_arg1)) (m ((c : Thread nD τ).loc main_arg2))
      (⟨2048 * (t.val / 8) + s.val, by have := lt32 t; omega⟩ : Fin 8192) (⟨768 * (t.val % 8) + l.val, by omega⟩ : Fin 6144) := by
  have e1 : (⟨(768 * (t.val % 8) + l.val) / 768, by omega⟩ : Fin 8) = ⟨t.val % 8, by omega⟩ :=
    Fin.ext (by show (768 * (t.val % 8) + l.val) / 768 = t.val % 8; omega)
  have e2 : (⟨(768 * (t.val % 8) + l.val) % 768, by omega⟩ : Fin 768) = l :=
    Fin.ext (by show (768 * (t.val % 8) + l.val) % 768 = l.val; omega)
  rw [proj_eq, pay2_at, prow]
  refine Finset.sum_congr rfl fun k _ => ?_
  rw [h_at, blk2, e1, e2]

theorem result3 (c : Dev nD) : (dats m 0 c).arrAt 3 cfg0.N = hArr (m ((c : Thread nD τ).loc main_arg0)) (m ((c : Thread nD τ).loc main_arg1)) := by
  refine (dats m 0 c).arrAt_eq_of_covers 3 _ (by decide +kernel) fun t hf y => ?_
  have ht := lt32 t
  blk_simp []
  rw [after0_3]
  have e0 : ((((cfg0.win 3).blk t).view.emb y) 0).val = 2048 * (t.val / 8) + (y 0).val := by
    blk_simp [idx t]
    exact congrArg (· + _) (Nat.mul_comm _ _)
  have e1 : ((((cfg0.win 3).blk t).view.emb y) 1).val = (y 1).val := by
    blk_simp [idx t]
  have ey : y = ix2 (⟨(y 0).val, (y 0).isLt⟩ : Fin 2048) (⟨(y 1).val, (y 1).isLt⟩ : Fin 1024) :=
    funext fun a => by match a with | ⟨0, _⟩ => rfl | ⟨1, _⟩ => rfl
  refine ((congrArg _ ey).trans (h_at m c t _ _)).trans ?_
  exact congrArg₂ (hrow _ _) (Fin.ext e0.symm) (Fin.ext e1.symm)

theorem result4 (c : Dev nD) : (dats m 0 c).arrAt 4 cfg0.N = pArr (m ((c : Thread nD τ).loc main_arg0)) (m ((c : Thread nD τ).loc main_arg1)) (m ((c : Thread nD τ).loc main_arg2)) := by
  refine (dats m 0 c).arrAt_eq_of_covers 4 _ (by decide +kernel) fun t hf y => ?_
  have ht := lt32 t
  blk_simp []
  rw [after0_4]
  have e0 : ((((cfg0.win 4).blk t).view.emb y) 0).val = 2048 * (t.val / 8) + (y 0).val := by
    blk_simp [idx t]
    exact congrArg (· + _) (Nat.mul_comm _ _)
  have e1 : ((((cfg0.win 4).blk t).view.emb y) 1).val = 768 * (t.val % 8) + (y 1).val := by
    blk_simp [idx t]
    exact congrArg (· + _) (Nat.mul_comm _ _)
  have ey : y = ix2 (⟨(y 0).val, (y 0).isLt⟩ : Fin 2048) (⟨(y 1).val, (y 1).isLt⟩ : Fin 768) :=
    funext fun a => by match a with | ⟨0, _⟩ => rfl | ⟨1, _⟩ => rfl
  refine ((congrArg _ ey).trans (p_at m c t _ _)).trans ?_
  exact congrArg₂ (prow _ _ _) (Fin.ext e0.symm) (Fin.ext e1.symm)

end Cert.Kernel12Ideal.Value

namespace Cert.Reference12Ideal.Values
open Cert.Reference12Ideal Cert.Reference12Ideal.Gen Cert.Reference12Ideal.Read Cert.Kernel12Ideal.Value

theorem ref_rows (x0 : FVec Ideal S8192x1024 .f32) (x1 : FVec Ideal S1x1024 .f32) (s : Fin 8192) (k : Fin 1024) :
    val_main_v16 (F := Ideal) x0 x1 (ix2 s k) = hrow x0 x1 s k := by
  pointwise [val_main_v16, val_main_v15, val_main_v14, val_main_v13, val_main_v12, val_main_v11, val_main_v10, val_main_v9, val_main_v8,
    val_main_v7, val_main_v6, val_main_v5, val_main_v4, val_main_v3, val_main_cst, val_main_cst_0, val_main_cst_1]
  rfl

theorem ref_weights (x2 : FVec Ideal S8x1024x768 .bf16) (k : Fin 1024) (n : Fin 6144) :
    val_main_v2 (F := Ideal) x2 (ix2 k n) = x2 (ix3 (⟨n.val / 768, by omega⟩ : Fin 8) k (⟨n.val % 768, by omega⟩ : Fin 768)) := by
  rw [val_main_v2_apply]
  have e : idx_main_v2 (ix2 k n) = ix3 k (⟨n.val / 768, by omega⟩ : Fin 8) (⟨n.val % 768, by omega⟩ : Fin 768) :=
    funext fun a => by
      match a with
      | ⟨0, _⟩ => exact Fin.ext (by show (k.val * 6144 + n.val) / 6144 = k.val; omega)
      | ⟨1, _⟩ => exact Fin.ext (by show (k.val * 6144 + n.val) / 768 % 8 = n.val / 768; omega)
      | ⟨2, _⟩ => exact Fin.ext (by show (k.val * 6144 + n.val) % 768 = n.val % 768; omega)
  rw [e]
  pointwise [val_main_v1, val_main_v0]

theorem ref3 (x0 : FVec Ideal S8192x1024 .f32) (x1 : FVec Ideal S1x1024 .f32) : val_main_v17 (F := Ideal) x0 x1 = hArr x0 x1 := by
  funext i
  obtain ⟨s, k, rfl⟩ : ∃ (s : Fin 8192) (k : Fin 1024), i = ix2 s k := ⟨_, _, ValueIdx.eq_ix2 i⟩
  rw [val_main_v17_apply]
  exact ref_rows x0 x1 s k

theorem ref4 (x0 : FVec Ideal S8192x1024 .f32) (x1 : FVec Ideal S1x1024 .f32) (x2 : FVec Ideal S8x1024x768 .bf16) : val_main_v19 (F := Ideal) x0 x1 x2 = pArr x0 x1 x2 := by
  funext i
  obtain ⟨s, n, rfl⟩ : ∃ (s : Fin 8192) (n : Fin 6144), i = ix2 s n := ⟨_, _, ValueIdx.eq_ix2 i⟩
  show _ = prow x0 x1 x2 s n
  unfold val_main_v19 val_main_v18
  generalize hH : val_main_v16 (F := Ideal) x0 x1 = H
  generalize hW : val_main_v2 (F := Ideal) x2 = W
  pointwise []
  subst hH hW
  exact Finset.sum_congr rfl fun k _ => congrArg₂ (· * ·) (ref_rows x0 x1 s k) (ref_weights x2 k n)

end Cert.Reference12Ideal.Values

end
-- ==== Proof.NormProj13.lean ====
/- The normalised projection: the rows normalised, and their product with the weights, are the reference's. -/
module

public import proofs.«01_k».proof.Proof.NormRun13I
public import proofs.«01_k».proof.Proof.DhSpec
public import proofs.«01_k».proof.Proof.Gen.Reference13Ideal.Read
public import Idealize.ShloMosaic.Lib.Pipeline.ValueKit
public import Idealize.ShloMosaic.Lib.Pointwise
public import Idealize.ShloMosaic.Lib.Pipeline.ReadBack
public import Idealize.ShloMosaic.Lib.IdealHost

@[expose] public section
set_option maxRecDepth 16384
noncomputable section
open Idealize.ShloMosaic Idealize.ShloMosaic.TcCoe Idealize.SL.Sem
open Idealize.ShloMosaic.Pipeline (Dat)
open scoped BigOperators
namespace Cert.Kernel13Ideal.Value
open Cert.Kernel13Ideal Cert.Kernel13Ideal.Gen
variable (m : (ℓ : Loc nD τ sig) → Buf (Elt Ideal) ℓ)

theorem rows_eq (c : Dev nD) (s : Fin cfg0.N) (hs : s.val % 8 = 0) :
    rows0 m c s hs = k0_pay1 (F := Ideal) (iblk m c 0 s) (iblk m c 1 s) := by
  unfold rows0
  frame_out [View.readCov_cons_toLoadRect, ↓View.readCov_skip, ↓View.readCov_fill]

theorem proj_eq (c : Dev nD) (t : Fin cfg0.N) : pAt0 m c t = k0_pay2 (F := Ideal) (hAt0 m c t) (iblk m c 2 t) := by
  by_cases h0 : t.val % 8 = 0
  · rw [hAt0_first m c t h0, rows_eq, pAt0_A m c t h0]
    frame_out [View.readCov_cons_toLoadRect, ↓View.readCov_skip, ↓View.readCov_fill]
  · rw [pAt0_B m c t h0]
    frame_out [View.readCov_cons_toLoadRect, ↓View.readCov_skip, ↓View.readCov_fill]

theorem pay1_at (x : FVec Ideal S2048x1024 .f32) (g : FVec Ideal S1x1024 .f32) (s : Fin 2048) (k : Fin 1024) :
    k0_pay1 (F := Ideal) x g (ix2 s k) = x (ix2 s k) * Ideal.rsqrt (Spec.ms fun j => x (ix2 s j)) * g (ix2 (0 : Fin 1) k) := by
  pointwise [k0_pay1]
  rfl

theorem pay2_at (h : FVec Ideal S2048x1024 .bf16) (w : FVec Ideal S1x1024x1280 .bf16) (s : Fin 2048) (l : Fin 1280) :
    k0_pay2 (F := Ideal) h w (ix2 s l) = ∑ k : Fin 1024, h (ix2 s k) * w (ix3 (0 : Fin 1) k l) := by
  pointwise [k0_pay2]

theorem idx : ∀ t : Fin cfg0.N, win0_0.index t = ![t.val / 8, 0] ∧ win0_1.index t = ![0, 0] ∧ win0_2.index t = ![t.val % 8, 0, 0]
    ∧ win0_3.index t = ![t.val / 8, 0] ∧ win0_4.index t = ![t.val / 8, t.val % 8] :=
  (by decide +kernel : ∀ t : Fin grid0.N, _)
theorem lt32 (t : Fin cfg0.N) : t.val < 32 := lt_of_lt_of_eq t.isLt N_0

theorem blk0 (c : Dev nD) (t : Fin cfg0.N) (s : Fin 2048) (k : Fin 1024) :
    iblk m c 0 t (ix2 s k) = m ((c : Thread nD τ).loc main_arg0) (ix2 (⟨2048 * (t.val / 8) + s.val, by have := lt32 t; omega⟩ : Fin 8192) k) := by
  blk_ext [iblk, V, idx t]
theorem blk1 (c : Dev nD) (t : Fin cfg0.N) (k : Fin 1024) :
    iblk m c 1 t (ix2 (0 : Fin 1) k) = m ((c : Thread nD τ).loc main_arg1) (ix2 (0 : Fin 1) k) := by
  blk_ext [iblk, V, idx t]
theorem blk2 (c : Dev nD) (t : Fin cfg0.N) (k : Fin 1024) (l : Fin 1280) :
    iblk m c 2 t (ix3 (0 : Fin 1) k l) = m ((c : Thread nD τ).loc main_arg2) (ix3 (⟨t.val % 8, by omega⟩ : Fin 8) k l) := by
  blk_ext [iblk, V, idx t]

/-- A row over the root of its mean square, times the gain. -/
def hrow (x0 : FVec Ideal S8192x1024 .f32) (x1 : FVec Ideal S1x1024 .f32) (s : Fin 8192) (k : Fin 1024) : EReal :=
  x0 (ix2 s k) * Ideal.rsqrt (Spec.ms fun j => x0 (ix2 s j)) * x1 (ix2 (0 : Fin 1) k)
/-- The rows against the weights, which come as eight slabs of columns. -/
def prow (x0 : FVec Ideal S8192x1024 .f32) (x1 : FVec Ideal S1x1024 .f32) (x2 : FVec Ideal S8x1024x1280 .bf16) (s : Fin 8192) (n : Fin 10240) : EReal :=
  ∑ k : Fin 1024, hrow x0 x1 s k * x2 (ix3 (⟨n.val / 1280, by omega⟩ : Fin 8) k (⟨n.val % 1280, by omega⟩ : Fin 1280))
def hArr (x0 : FVec Ideal S8192x1024 .f32) (x1 : FVec Ideal S1x1024 .f32) : FVec Ideal S8192x1024 .bf16 :=
  fun i => hrow x0 x1 (i 0) (i 1)
def pArr (x0 : FVec Ideal S8192x1024 .f32) (x1 : FVec Ideal S1x1024 .f32) (x2 : FVec Ideal S8x1024x1280 .bf16) : FVec Ideal S8192x10240 .bf16 :=
  fun i => prow x0 x1 x2 (i 0) (i 1)

theorem h_at (c : Dev nD) (t : Fin cfg0.N) (s : Fin 2048) (k : Fin 1024) :
    hAt0 m c t (ix2 s k) = hrow (m ((c : Thread nD τ).loc main_arg0)) (m ((c : Thread nD τ).loc main_arg1))
      (⟨2048 * (t.val / 8) + s.val, by have := lt32 t; omega⟩ : Fin 8192) k := by
  have e : (first0 t).val / 8 = t.val / 8 := by show 8 * (t.val / 8) / 8 = t.val / 8; omega
  have er : ∀ h, (⟨2048 * ((first0 t).val / 8) + s.val, h⟩ : Fin 8192) = ⟨2048 * (t.val / 8) + s.val, by have := lt32 t; omega⟩ :=
    fun h => Fin.ext (by show 2048 * ((first0 t).val / 8) + s.val = _; rw [e])
  unfold hAt0
  rw [rows_eq, pay1_at, blk0, blk1, er, hrow]
  simp only [blk0, er]

theorem p_at (c : Dev nD) (t : Fin cfg0.N) (s : Fin 2048) (l : Fin 1280) :
    pAt0 m c t (ix2 s l) = prow (m ((c : Thread nD τ).loc main_arg0)) (m ((c : Thread nD τ).loc main_arg1)) (m ((c : Thread nD τ).loc main_arg2))
      (⟨2048 * (t.val / 8) + s.val, by have := lt32 t; omega⟩ : Fin 8192) (⟨1280 * (t.val % 8) + l.val, by omega⟩ : Fin 10240) := by
  have e1 : (⟨(1280 * (t.val % 8) + l.val) / 1280, by omega⟩ : Fin 8) = ⟨t.val % 8, by omega⟩ :=
    Fin.ext (by show (1280 * (t.val % 8) + l.val) / 1280 = t.val % 8; omega)
  have e2 : (⟨(1280 * (t.val % 8) + l.val) % 1280, by omega⟩ : Fin 1280) = l :=
    Fin.ext (by show (1280 * (t.val % 8) + l.val) % 1280 = l.val; omega)
  rw [proj_eq, pay2_at, prow]
  refine Finset.sum_congr rfl fun k _ => ?_
  rw [h_at, blk2, e1, e2]

theorem result3 (c : Dev nD) : (dats m 0 c).arrAt 3 cfg0.N = hArr (m ((c : Thread nD τ).loc main_arg0)) (m ((c : Thread nD τ).loc main_arg1)) := by
  refine (dats m 0 c).arrAt_eq_of_covers 3 _ (by decide +kernel) fun t hf y => ?_
  have ht := lt32 t
  blk_simp []
  rw [after0_3]
  have e0 : ((((cfg0.win 3).blk t).view.emb y) 0).val = 2048 * (t.val / 8) + (y 0).val := by
    blk_simp [idx t]
    exact congrArg (· + _) (Nat.mul_comm _ _)
  have e1 : ((((cfg0.win 3).blk t).view.emb y) 1).val = (y 1).val := by
    blk_simp [idx t]
  have ey : y = ix2 (⟨(y 0).val, (y 0).isLt⟩ : Fin 2048) (⟨(y 1).val, (y 1).isLt⟩ : Fin 1024) :=
    funext fun a => by match a with | ⟨0, _⟩ => rfl | ⟨1, _⟩ => rfl
  refine ((congrArg _ ey).trans (h_at m c t _ _)).trans ?_
  exact congrArg₂ (hrow _ _) (Fin.ext e0.symm) (Fin.ext e1.symm)

theorem result4 (c : Dev nD) : (dats m 0 c).arrAt 4 cfg0.N = pArr (m ((c : Thread nD τ).loc main_arg0)) (m ((c : Thread nD τ).loc main_arg1)) (m ((c : Thread nD τ).loc main_arg2)) := by
  refine (dats m 0 c).arrAt_eq_of_covers 4 _ (by decide +kernel) fun t hf y => ?_
  have ht := lt32 t
  blk_simp []
  rw [after0_4]
  have e0 : ((((cfg0.win 4).blk t).view.emb y) 0).val = 2048 * (t.val / 8) + (y 0).val := by
    blk_simp [idx t]
    exact congrArg (· + _) (Nat.mul_comm _ _)
  have e1 : ((((cfg0.win 4).blk t).view.emb y) 1).val = 1280 * (t.val % 8) + (y 1).val := by
    blk_simp [idx t]
    exact congrArg (· + _) (Nat.mul_comm _ _)
  have ey : y = ix2 (⟨(y 0).val, (y 0).isLt⟩ : Fin 2048) (⟨(y 1).val, (y 1).isLt⟩ : Fin 1280) :=
    funext fun a => by match a with | ⟨0, _⟩ => rfl | ⟨1, _⟩ => rfl
  refine ((congrArg _ ey).trans (p_at m c t _ _)).trans ?_
  exact congrArg₂ (prow _ _ _) (Fin.ext e0.symm) (Fin.ext e1.symm)

end Cert.Kernel13Ideal.Value

namespace Cert.Reference13Ideal.Values
open Cert.Reference13Ideal Cert.Reference13Ideal.Gen Cert.Reference13Ideal.Read Cert.Kernel13Ideal.Value

theorem ref_rows (x0 : FVec Ideal S8192x1024 .f32) (x1 : FVec Ideal S1x1024 .f32) (s : Fin 8192) (k : Fin 1024) :
    val_main_v16 (F := Ideal) x0 x1 (ix2 s k) = hrow x0 x1 s k := by
  pointwise [val_main_v16, val_main_v15, val_main_v14, val_main_v13, val_main_v12, val_main_v11, val_main_v10, val_main_v9, val_main_v8,
    val_main_v7, val_main_v6, val_main_v5, val_main_v4, val_main_v3, val_main_cst, val_main_cst_0, val_main_cst_1]
  rfl

theorem ref_weights (x2 : FVec Ideal S8x1024x1280 .bf16) (k : Fin 1024) (n : Fin 10240) :
    val_main_v2 (F := Ideal) x2 (ix2 k n) = x2 (ix3 (⟨n.val / 1280, by omega⟩ : Fin 8) k (⟨n.val % 1280, by omega⟩ : Fin 1280)) := by
  rw [val_main_v2_apply]
  have e : idx_main_v2 (ix2 k n) = ix3 k (⟨n.val / 1280, by omega⟩ : Fin 8) (⟨n.val % 1280, by omega⟩ : Fin 1280) :=
    funext fun a => by
      match a with
      | ⟨0, _⟩ => exact Fin.ext (by show (k.val * 10240 + n.val) / 10240 = k.val; omega)
      | ⟨1, _⟩ => exact Fin.ext (by show (k.val * 10240 + n.val) / 1280 % 8 = n.val / 1280; omega)
      | ⟨2, _⟩ => exact Fin.ext (by show (k.val * 10240 + n.val) % 1280 = n.val % 1280; omega)
  rw [e]
  pointwise [val_main_v1, val_main_v0]

theorem ref3 (x0 : FVec Ideal S8192x1024 .f32) (x1 : FVec Ideal S1x1024 .f32) : val_main_v17 (F := Ideal) x0 x1 = hArr x0 x1 := by
  funext i
  obtain ⟨s, k, rfl⟩ : ∃ (s : Fin 8192) (k : Fin 1024), i = ix2 s k := ⟨_, _, ValueIdx.eq_ix2 i⟩
  rw [val_main_v17_apply]
  exact ref_rows x0 x1 s k

theorem ref4 (x0 : FVec Ideal S8192x1024 .f32) (x1 : FVec Ideal S1x1024 .f32) (x2 : FVec Ideal S8x1024x1280 .bf16) : val_main_v19 (F := Ideal) x0 x1 x2 = pArr x0 x1 x2 := by
  funext i
  obtain ⟨s, n, rfl⟩ : ∃ (s : Fin 8192) (n : Fin 10240), i = ix2 s n := ⟨_, _, ValueIdx.eq_ix2 i⟩
  show _ = prow x0 x1 x2 s n
  unfold val_main_v19 val_main_v18
  generalize hH : val_main_v16 (F := Ideal) x0 x1 = H
  generalize hW : val_main_v2 (F := Ideal) x2 = W
  pointwise []
  subst hH hW
  exact Finset.sum_congr rfl fun k _ => congrArg₂ (· * ·) (ref_rows x0 x1 s k) (ref_weights x2 k n)

end Cert.Reference13Ideal.Values

end
-- ==== Proof.NormProj14.lean ====
/- The normalised projection: the rows normalised, and their product with the weights, are the reference's. -/
module

public import proofs.«01_k».proof.Proof.NormRun14I
public import proofs.«01_k».proof.Proof.DhSpec
public import proofs.«01_k».proof.Proof.Gen.Reference14Ideal.Read
public import Idealize.ShloMosaic.Lib.Pipeline.ValueKit
public import Idealize.ShloMosaic.Lib.Pointwise
public import Idealize.ShloMosaic.Lib.Pipeline.ReadBack
public import Idealize.ShloMosaic.Lib.IdealHost

@[expose] public section
set_option maxRecDepth 16384
noncomputable section
open Idealize.ShloMosaic Idealize.ShloMosaic.TcCoe Idealize.SL.Sem
open Idealize.ShloMosaic.Pipeline (Dat)
open scoped BigOperators
namespace Cert.Kernel14Ideal.Value
open Cert.Kernel14Ideal Cert.Kernel14Ideal.Gen
variable (m : (ℓ : Loc nD τ sig) → Buf (Elt Ideal) ℓ)

theorem rows_eq (c : Dev nD) (s : Fin cfg0.N) (hs : s.val % 8 = 0) :
    rows0 m c s hs = k0_pay1 (F := Ideal) (iblk m c 0 s) (iblk m c 1 s) := by
  unfold rows0
  frame_out [View.readCov_cons_toLoadRect, ↓View.readCov_skip, ↓View.readCov_fill]

theorem proj_eq (c : Dev nD) (t : Fin cfg0.N) : pAt0 m c t = k0_pay2 (F := Ideal) (hAt0 m c t) (iblk m c 2 t) := by
  by_cases h0 : t.val % 8 = 0
  · rw [hAt0_first m c t h0, rows_eq, pAt0_A m c t h0]
    frame_out [View.readCov_cons_toLoadRect, ↓View.readCov_skip, ↓View.readCov_fill]
  · rw [pAt0_B m c t h0]
    frame_out [View.readCov_cons_toLoadRect, ↓View.readCov_skip, ↓View.readCov_fill]

theorem pay1_at (x : FVec Ideal S2048x1024 .f32) (g : FVec Ideal S1x1024 .f32) (s : Fin 2048) (k : Fin 1024) :
    k0_pay1 (F := Ideal) x g (ix2 s k) = x (ix2 s k) * Ideal.rsqrt (Spec.ms fun j => x (ix2 s j)) * g (ix2 (0 : Fin 1) k) := by
  pointwise [k0_pay1]
  rfl

theorem pay2_at (h : FVec Ideal S2048x1024 .bf16) (w : FVec Ideal S1x1024x512 .bf16) (s : Fin 2048) (l : Fin 512) :
    k0_pay2 (F := Ideal) h w (ix2 s l) = ∑ k : Fin 1024, h (ix2 s k) * w (ix3 (0 : Fin 1) k l) := by
  pointwise [k0_pay2]

theorem idx : ∀ t : Fin cfg0.N, win0_0.index t = ![t.val / 8, 0] ∧ win0_1.index t = ![0, 0] ∧ win0_2.index t = ![t.val % 8, 0, 0]
    ∧ win0_3.index t = ![t.val / 8, 0] ∧ win0_4.index t = ![t.val / 8, t.val % 8] :=
  (by decide +kernel : ∀ t : Fin grid0.N, _)
theorem lt32 (t : Fin cfg0.N) : t.val < 32 := lt_of_lt_of_eq t.isLt N_0

theorem blk0 (c : Dev nD) (t : Fin cfg0.N) (s : Fin 2048) (k : Fin 1024) :
    iblk m c 0 t (ix2 s k) = m ((c : Thread nD τ).loc main_arg0) (ix2 (⟨2048 * (t.val / 8) + s.val, by have := lt32 t; omega⟩ : Fin 8192) k) := by
  blk_ext [iblk, V, idx t]
theorem blk1 (c : Dev nD) (t : Fin cfg0.N) (k : Fin 1024) :
    iblk m c 1 t (ix2 (0 : Fin 1) k) = m ((c : Thread nD τ).loc main_arg1) (ix2 (0 : Fin 1) k) := by
  blk_ext [iblk, V, idx t]
theorem blk2 (c : Dev nD) (t : Fin cfg0.N) (k : Fin 1024) (l : Fin 512) :
    iblk m c 2 t (ix3 (0 : Fin 1) k l) = m ((c : Thread nD τ).loc main_arg2) (ix3 (⟨t.val % 8, by omega⟩ : Fin 8) k l) := by
  blk_ext [iblk, V, idx t]

/-- A row over the root of its mean square, times the gain. -/
def hrow (x0 : FVec Ideal S8192x1024 .f32) (x1 : FVec Ideal S1x1024 .f32) (s : Fin 8192) (k : Fin 1024) : EReal :=
  x0 (ix2 s k) * Ideal.rsqrt (Spec.ms fun j => x0 (ix2 s j)) * x1 (ix2 (0 : Fin 1) k)
/-- The rows against the weights, which come as eight slabs of columns. -/
def prow (x0 : FVec Ideal S8192x1024 .f32) (x1 : FVec Ideal S1x1024 .f32) (x2 : FVec Ideal S8x1024x512 .bf16) (s : Fin 8192) (n : Fin 4096) : EReal :=
  ∑ k : Fin 1024, hrow x0 x1 s k * x2 (ix3 (⟨n.val / 512, by omega⟩ : Fin 8) k (⟨n.val % 512, by omega⟩ : Fin 512))
def hArr (x0 : FVec Ideal S8192x1024 .f32) (x1 : FVec Ideal S1x1024 .f32) : FVec Ideal S8192x1024 .bf16 :=
  fun i => hrow x0 x1 (i 0) (i 1)
def pArr (x0 : FVec Ideal S8192x1024 .f32) (x1 : FVec Ideal S1x1024 .f32) (x2 : FVec Ideal S8x1024x512 .bf16) : FVec Ideal S8192x4096 .bf16 :=
  fun i => prow x0 x1 x2 (i 0) (i 1)

theorem h_at (c : Dev nD) (t : Fin cfg0.N) (s : Fin 2048) (k : Fin 1024) :
    hAt0 m c t (ix2 s k) = hrow (m ((c : Thread nD τ).loc main_arg0)) (m ((c : Thread nD τ).loc main_arg1))
      (⟨2048 * (t.val / 8) + s.val, by have := lt32 t; omega⟩ : Fin 8192) k := by
  have e : (first0 t).val / 8 = t.val / 8 := by show 8 * (t.val / 8) / 8 = t.val / 8; omega
  have er : ∀ h, (⟨2048 * ((first0 t).val / 8) + s.val, h⟩ : Fin 8192) = ⟨2048 * (t.val / 8) + s.val, by have := lt32 t; omega⟩ :=
    fun h => Fin.ext (by show 2048 * ((first0 t).val / 8) + s.val = _; rw [e])
  unfold hAt0
  rw [rows_eq, pay1_at, blk0, blk1, er, hrow]
  simp only [blk0, er]

theorem p_at (c : Dev nD) (t : Fin cfg0.N) (s : Fin 2048) (l : Fin 512) :
    pAt0 m c t (ix2 s l) = prow (m ((c : Thread nD τ).loc main_arg0)) (m ((c : Thread nD τ).loc main_arg1)) (m ((c : Thread nD τ).loc main_arg2))
      (⟨2048 * (t.val / 8) + s.val, by have := lt32 t; omega⟩ : Fin 8192) (⟨512 * (t.val % 8) + l.val, by omega⟩ : Fin 4096) := by
  have e1 : (⟨(512 * (t.val % 8) + l.val) / 512, by omega⟩ : Fin 8) = ⟨t.val % 8, by omega⟩ :=
    Fin.ext (by show (512 * (t.val % 8) + l.val) / 512 = t.val % 8; omega)
  have e2 : (⟨(512 * (t.val % 8) + l.val) % 512, by omega⟩ : Fin 512) = l :=
    Fin.ext (by show (512 * (t.val % 8) + l.val) % 512 = l.val; omega)
  rw [proj_eq, pay2_at, prow]
  refine Finset.sum_congr rfl fun k _ => ?_
  rw [h_at, blk2, e1, e2]

theorem result3 (c : Dev nD) : (dats m 0 c).arrAt 3 cfg0.N = hArr (m ((c : Thread nD τ).loc main_arg0)) (m ((c : Thread nD τ).loc main_arg1)) := by
  refine (dats m 0 c).arrAt_eq_of_covers 3 _ (by decide +kernel) fun t hf y => ?_
  have ht := lt32 t
  blk_simp []
  rw [after0_3]
  have e0 : ((((cfg0.win 3).blk t).view.emb y) 0).val = 2048 * (t.val / 8) + (y 0).val := by
    blk_simp [idx t]
    exact congrArg (· + _) (Nat.mul_comm _ _)
  have e1 : ((((cfg0.win 3).blk t).view.emb y) 1).val = (y 1).val := by
    blk_simp [idx t]
  have ey : y = ix2 (⟨(y 0).val, (y 0).isLt⟩ : Fin 2048) (⟨(y 1).val, (y 1).isLt⟩ : Fin 1024) :=
    funext fun a => by match a with | ⟨0, _⟩ => rfl | ⟨1, _⟩ => rfl
  refine ((congrArg _ ey).trans (h_at m c t _ _)).trans ?_
  exact congrArg₂ (hrow _ _) (Fin.ext e0.symm) (Fin.ext e1.symm)

theorem result4 (c : Dev nD) : (dats m 0 c).arrAt 4 cfg0.N = pArr (m ((c : Thread nD τ).loc main_arg0)) (m ((c : Thread nD τ).loc main_arg1)) (m ((c : Thread nD τ).loc main_arg2)) := by
  refine (dats m 0 c).arrAt_eq_of_covers 4 _ (by decide +kernel) fun t hf y => ?_
  have ht := lt32 t
  blk_simp []
  rw [after0_4]
  have e0 : ((((cfg0.win 4).blk t).view.emb y) 0).val = 2048 * (t.val / 8) + (y 0).val := by
    blk_simp [idx t]
    exact congrArg (· + _) (Nat.mul_comm _ _)
  have e1 : ((((cfg0.win 4).blk t).view.emb y) 1).val = 512 * (t.val % 8) + (y 1).val := by
    blk_simp [idx t]
    exact congrArg (· + _) (Nat.mul_comm _ _)
  have ey : y = ix2 (⟨(y 0).val, (y 0).isLt⟩ : Fin 2048) (⟨(y 1).val, (y 1).isLt⟩ : Fin 512) :=
    funext fun a => by match a with | ⟨0, _⟩ => rfl | ⟨1, _⟩ => rfl
  refine ((congrArg _ ey).trans (p_at m c t _ _)).trans ?_
  exact congrArg₂ (prow _ _ _) (Fin.ext e0.symm) (Fin.ext e1.symm)

end Cert.Kernel14Ideal.Value

namespace Cert.Reference14Ideal.Values
open Cert.Reference14Ideal Cert.Reference14Ideal.Gen Cert.Reference14Ideal.Read Cert.Kernel14Ideal.Value

theorem ref_rows (x0 : FVec Ideal S8192x1024 .f32) (x1 : FVec Ideal S1x1024 .f32) (s : Fin 8192) (k : Fin 1024) :
    val_main_v16 (F := Ideal) x0 x1 (ix2 s k) = hrow x0 x1 s k := by
  pointwise [val_main_v16, val_main_v15, val_main_v14, val_main_v13, val_main_v12, val_main_v11, val_main_v10, val_main_v9, val_main_v8,
    val_main_v7, val_main_v6, val_main_v5, val_main_v4, val_main_v3, val_main_cst, val_main_cst_0, val_main_cst_1]
  rfl

theorem ref_weights (x2 : FVec Ideal S8x1024x512 .bf16) (k : Fin 1024) (n : Fin 4096) :
    val_main_v2 (F := Ideal) x2 (ix2 k n) = x2 (ix3 (⟨n.val / 512, by omega⟩ : Fin 8) k (⟨n.val % 512, by omega⟩ : Fin 512)) := by
  rw [val_main_v2_apply]
  have e : idx_main_v2 (ix2 k n) = ix3 k (⟨n.val / 512, by omega⟩ : Fin 8) (⟨n.val % 512, by omega⟩ : Fin 512) :=
    funext fun a => by
      match a with
      | ⟨0, _⟩ => exact Fin.ext (by show (k.val * 4096 + n.val) / 4096 = k.val; omega)
      | ⟨1, _⟩ => exact Fin.ext (by show (k.val * 4096 + n.val) / 512 % 8 = n.val / 512; omega)
      | ⟨2, _⟩ => exact Fin.ext (by show (k.val * 4096 + n.val) % 512 = n.val % 512; omega)
  rw [e]
  pointwise [val_main_v1, val_main_v0]

theorem ref3 (x0 : FVec Ideal S8192x1024 .f32) (x1 : FVec Ideal S1x1024 .f32) : val_main_v17 (F := Ideal) x0 x1 = hArr x0 x1 := by
  funext i
  obtain ⟨s, k, rfl⟩ : ∃ (s : Fin 8192) (k : Fin 1024), i = ix2 s k := ⟨_, _, ValueIdx.eq_ix2 i⟩
  rw [val_main_v17_apply]
  exact ref_rows x0 x1 s k

theorem ref4 (x0 : FVec Ideal S8192x1024 .f32) (x1 : FVec Ideal S1x1024 .f32) (x2 : FVec Ideal S8x1024x512 .bf16) : val_main_v19 (F := Ideal) x0 x1 x2 = pArr x0 x1 x2 := by
  funext i
  obtain ⟨s, n, rfl⟩ : ∃ (s : Fin 8192) (n : Fin 4096), i = ix2 s n := ⟨_, _, ValueIdx.eq_ix2 i⟩
  show _ = prow x0 x1 x2 s n
  unfold val_main_v19 val_main_v18
  generalize hH : val_main_v16 (F := Ideal) x0 x1 = H
  generalize hW : val_main_v2 (F := Ideal) x2 = W
  pointwise []
  subst hH hW
  exact Finset.sum_congr rfl fun k _ => congrArg₂ (· * ·) (ref_rows x0 x1 s k) (ref_weights x2 k n)

end Cert.Reference14Ideal.Values

end
-- ==== Proof.NormPairs.lean ====
/- The normalised projections: the results of each kernel and of its reference are the same, and the reference stops with its counters at zero. -/
module

public import proofs.«01_k».proof.Defs
public import proofs.«01_k».proof.Proof.NormProj12
public import proofs.«01_k».proof.Proof.Gen.Reference12Ideal.Run
public import proofs.«01_k».proof.Proof.NormProj13
public import proofs.«01_k».proof.Proof.Gen.Reference13Ideal.Run
public import proofs.«01_k».proof.Proof.NormProj14
public import proofs.«01_k».proof.Proof.Gen.Reference14Ideal.Run
public import Idealize.ShloMosaic.Lib.Claim

@[expose] public section
set_option maxRecDepth 16384
noncomputable section
open Idealize.ShloMosaic Idealize.ShloMosaic.TcCoe Idealize.SL.Sem
namespace Cert.Proof

section
attribute [local instance] Cert.Kernel12Ideal.Gen.facts Cert.Reference12Ideal.Gen.facts

theorem algebraic12 : Cert.algebraic_Kernel12Ideal_Reference12Ideal := by
  pair_intro
  · run_from Cert.Kernel12Ideal.Gen.run_main m g
  · refine Idealize.ShloMosaic.θ_run_mono (Cert.Reference12Ideal.Value.run m' g') ?_
    intro r hr c
    obtain ⟨h17, h19, h0, h1, h2⟩ := hr c
    obtain ⟨a0, a1, a2⟩ := hagree c
    refine ⟨h17.trans ?_, h19.trans ?_, h0, h1, h2⟩
    · refine (Cert.Reference12Ideal.Read.val_main_v17_eq _ _).trans ?_
      rw [a0, a1]
      exact (Cert.Reference12Ideal.Values.ref3 _ _).trans (Cert.Kernel12Ideal.Value.result3 m c).symm
    · refine (Cert.Reference12Ideal.Read.val_main_v19_eq _ _ _).trans ?_
      rw [a0, a1, a2]
      exact (Cert.Reference12Ideal.Values.ref4 _ _ _).trans (Cert.Kernel12Ideal.Value.result4 m c).symm

theorem frame_reference12 : Cert.quiescent_Reference12Ideal := fun m g _ =>
  (θ_run (Cert.Reference12Ideal.defs (F := Ideal)) _ _).mono
    (fun r h => And.intro (fun c => (h c).2.2) (sem_eq_zero_of_no_sems (by decide) r.2)) (Cert.Reference12Ideal.Value.run m g)
end

section
attribute [local instance] Cert.Kernel13Ideal.Gen.facts Cert.Reference13Ideal.Gen.facts

theorem algebraic13 : Cert.algebraic_Kernel13Ideal_Reference13Ideal := by
  pair_intro
  · run_from Cert.Kernel13Ideal.Gen.run_main m g
  · refine Idealize.ShloMosaic.θ_run_mono (Cert.Reference13Ideal.Value.run m' g') ?_
    intro r hr c
    obtain ⟨h17, h19, h0, h1, h2⟩ := hr c
    obtain ⟨a0, a1, a2⟩ := hagree c
    refine ⟨h17.trans ?_, h19.trans ?_, h0, h1, h2⟩
    · refine (Cert.Reference13Ideal.Read.val_main_v17_eq _ _).trans ?_
      rw [a0, a1]
      exact (Cert.Reference13Ideal.Values.ref3 _ _).trans (Cert.Kernel13Ideal.Value.result3 m c).symm
    · refine (Cert.Reference13Ideal.Read.val_main_v19_eq _ _ _).trans ?_
      rw [a0, a1, a2]
      exact (Cert.Reference13Ideal.Values.ref4 _ _ _).trans (Cert.Kernel13Ideal.Value.result4 m c).symm

theorem frame_reference13 : Cert.quiescent_Reference13Ideal := fun m g _ =>
  (θ_run (Cert.Reference13Ideal.defs (F := Ideal)) _ _).mono
    (fun r h => And.intro (fun c => (h c).2.2) (sem_eq_zero_of_no_sems (by decide) r.2)) (Cert.Reference13Ideal.Value.run m g)
end

section
attribute [local instance] Cert.Kernel14Ideal.Gen.facts Cert.Reference14Ideal.Gen.facts

theorem algebraic14 : Cert.algebraic_Kernel14Ideal_Reference14Ideal := by
  pair_intro
  · run_from Cert.Kernel14Ideal.Gen.run_main m g
  · refine Idealize.ShloMosaic.θ_run_mono (Cert.Reference14Ideal.Value.run m' g') ?_
    intro r hr c
    obtain ⟨h17, h19, h0, h1, h2⟩ := hr c
    obtain ⟨a0, a1, a2⟩ := hagree c
    refine ⟨h17.trans ?_, h19.trans ?_, h0, h1, h2⟩
    · refine (Cert.Reference14Ideal.Read.val_main_v17_eq _ _).trans ?_
      rw [a0, a1]
      exact (Cert.Reference14Ideal.Values.ref3 _ _).trans (Cert.Kernel14Ideal.Value.result3 m c).symm
    · refine (Cert.Reference14Ideal.Read.val_main_v19_eq _ _ _).trans ?_
      rw [a0, a1, a2]
      exact (Cert.Reference14Ideal.Values.ref4 _ _ _).trans (Cert.Kernel14Ideal.Value.result4 m c).symm

theorem frame_reference14 : Cert.quiescent_Reference14Ideal := fun m g _ =>
  (θ_run (Cert.Reference14Ideal.defs (F := Ideal)) _ _).mono
    (fun r h => And.intro (fun c => (h c).2.2) (sem_eq_zero_of_no_sems (by decide) r.2)) (Cert.Reference14Ideal.Value.run m g)
end

end Cert.Proof

end
-- ==== Proof.Loss15.lean ====
/- The last layer's projection with the loss: the kernel's gradient of the rows and its running loss are the reference's. -/
module

public import proofs.«01_k».proof.Proof.Gen.Kernel15Ideal.Value
public import proofs.«01_k».proof.Proof.Gen.Reference15Ideal.Read
public import proofs.«01_k».proof.Proof.DhSpec
public import Idealize.ShloMosaic.Lib.Pipeline.ValueKit
public import Idealize.ShloMosaic.Lib.Pointwise
public import Idealize.ShloMosaic.Lib.Pipeline.ReadBack
public import Idealize.ShloMosaic.Lib.IdealHost

@[expose] public section
set_option maxRecDepth 16384
noncomputable section
open Idealize.ShloMosaic Idealize.ShloMosaic.TcCoe Idealize.SL.Sem
open Idealize.ShloMosaic.Pipeline (Dat)
open scoped BigOperators

namespace Cert.Spec

theorem word_one_1024 : Ideal.ofBits .f32 0x3A800000#32 = (((1 / 1024 : ℝ) : ℝ) : EReal) := by
  simp [Ideal.ofBits, Ideal.ieee, -EReal.coe_mul]; norm_num
theorem word_one_2048 : Ideal.ofBits .f32 0x3A000000#32 = (((1 / 2048 : ℝ) : ℝ) : EReal) := by
  simp [Ideal.ofBits, Ideal.ieee, -EReal.coe_mul]; norm_num
theorem word_half : Ideal.ofBits .f32 0x3F000000#32 = (((1 / 2 : ℝ) : ℝ) : EReal) := by
  simp [Ideal.ofBits, Ideal.ieee, -EReal.coe_mul]; norm_num
theorem word_two : Ideal.ofBits .f32 0x40000000#32 = ((2 : ℝ) : EReal) := by
  simp [Ideal.ofBits, Ideal.ieee, -EReal.coe_mul]; norm_num

/-- A row's gradient: the two forms of its coefficient. -/
theorem dx_eq (e : EReal) : Ideal.div (Ideal.ofBits .f32 0x3F000000#32 * Ideal.ofBits .f32 0x3F800000#32) (Ideal.ofBits .f32 0x44800000#32) * (Ideal.ofBits .f32 0x40000000#32 * e)
    = e * Ideal.ofBits .f32 0x3A800000#32 := by
  rw [word_half, word_one, word_two, word_1024, word_one_1024, Ideal.div_coe (by norm_num), mul_one, ← mul_assoc, ← EReal.coe_mul, ← EReal.coe_mul, mul_comm]
  congr 2
  norm_num

/-- A row's number, read at any place. -/
def at' (f : Fin 8192 → EReal) (k : ℕ) : EReal := if h : k < 8192 then f ⟨k, h⟩ else 0

/-- Half the sum of the rows' means, from sixteen blocks of rows. -/
theorem loss_eq (f : Fin 8192 → EReal) :
    Ideal.ofBits .f32 0x3F000000#32 * ∑ s, Ideal.div (f s) (Ideal.ofBits .f32 0x44800000#32)
      = ∑ i ∈ Finset.range 16, (∑ a : Fin 512, at' f (512 * i + a.val)) * Ideal.ofBits .f32 0x3A000000#32 := by
  rw [word_half, word_1024, word_one_2048]
  have e1 : ∑ s, Ideal.div (f s) ((1024 : ℝ) : EReal) = ((1 / 1024 : ℝ) : EReal) * ∑ s, f s := by
    rw [mul_sum_pos _ (by norm_num)]
    exact Finset.sum_congr rfl fun s _ => (Ideal.div_coe (by norm_num) (f s)).trans (mul_comm _ _)
  have e2 : ∑ i ∈ Finset.range 16, (∑ a : Fin 512, at' f (512 * i + a.val)) * ((1 / 2048 : ℝ) : EReal)
      = ((1 / 2048 : ℝ) : EReal) * ∑ i : Fin 16, ∑ a : Fin 512, at' f (512 * i.val + a.val) := by
    rw [mul_sum_pos _ (by norm_num), Finset.sum_range]
    exact Finset.sum_congr rfl fun s _ => mul_comm _ _
  have e3 : ∑ i : Fin 16, ∑ a : Fin 512, at' f (512 * i.val + a.val) = ∑ s, f s := by
    refine (Fintype.sum_prod_type (fun p : Fin 16 × Fin 512 => at' f (512 * p.1.val + p.2.val))).symm.trans ?_
    refine Fintype.sum_equiv (finProdFinEquiv (m := 16) (n := 512)) _ f fun p => ?_
    have hp : 512 * p.1.val + p.2.val < 8192 := by have := p.1.isLt; have := p.2.isLt; omega
    rw [at', dif_pos hp]
    exact congrArg f (Fin.ext (Nat.add_comm _ _))
  rw [e1, e2, e3, ← mul_assoc, ← EReal.coe_mul]
  congr 2
  norm_num

end Cert.Spec

namespace Cert.Kernel15Ideal.Value
open Cert.Kernel15Ideal Cert.Kernel15Ideal.Gen
variable (m : (ℓ : Loc nD τ sig) → Buf (Elt Ideal) ℓ)

theorem lt16 (t : Fin cfg0.N) : t.val < 16 := lt_of_lt_of_eq t.isLt N_0

theorem outA_x (c : Dev nD) (t : Fin cfg0.N) (h : t.val % 16 = 0) :
    (outsAt0 m c t.val t.isLt).1 = k0_pay3 (F := Ideal) (iblk m c 0 t) (iblk m c 1 t) (iblk m c 2 t) (iblk m c 3 t) := by
  rw [outsAt0_A m c t h]
  frame_out [View.readCov_cons_toLoadRect, ↓View.readCov_skip, ↓View.readCov_fill]
theorem outB_x (c : Dev nD) (t : Fin cfg0.N) (h : ¬ t.val % 16 = 0) :
    (outsAt0 m c t.val t.isLt).1 = k0_pay3 (F := Ideal) (iblk m c 0 t) (iblk m c 1 t) (iblk m c 2 t) (iblk m c 3 t) := by
  rw [outsAt0_B m c t h]
  frame_out [View.readCov_cons_toLoadRect, ↓View.readCov_skip, ↓View.readCov_fill]
theorem outA_b (c : Dev nD) (t : Fin cfg0.N) (h : t.val % 16 = 0) :
    (outsAt0 m c t.val t.isLt).2.1 = k0_pay4 (F := Ideal) (iblk m c 0 t) (iblk m c 1 t) (iblk m c 2 t) (iblk m c 3 t) := by
  rw [outsAt0_A m c t h]
  frame_out [View.readCov_cons_toLoadRect, ↓View.readCov_skip, ↓View.readCov_fill]
theorem outB_b (c : Dev nD) (t : Fin cfg0.N) (h : ¬ t.val % 16 = 0) :
    (outsAt0 m c t.val t.isLt).2.1 = k0_pay4 (F := Ideal) (iblk m c 0 t) (iblk m c 1 t) (iblk m c 2 t) (iblk m c 3 t) := by
  rw [outsAt0_B m c t h]
  frame_out [View.readCov_cons_toLoadRect, ↓View.readCov_skip, ↓View.readCov_fill]
theorem outA_l (c : Dev nD) (t : Fin cfg0.N) (h : t.val % 16 = 0) :
    (outsAt0 m c t.val t.isLt).2.2 = k0_pay5 (F := Ideal) (iblk m c 0 t) (iblk m c 1 t) (iblk m c 2 t) (iblk m c 3 t) (k0_pay1 (F := Ideal)) := by
  rw [outsAt0_A m c t h]
  frame_out [View.readCov_cons_toLoadRect, ↓View.readCov_skip, ↓View.readCov_fill]
theorem outB_l (c : Dev nD) (t : Fin cfg0.N) (h : ¬ t.val % 16 = 0) :
    (outsAt0 m c t.val t.isLt).2.2 = k0_pay5 (F := Ideal) (iblk m c 0 t) (iblk m c 1 t) (iblk m c 2 t) (iblk m c 3 t) (outsAt0 m c (t.val - 1) (Nat.lt_of_le_of_lt (Nat.sub_le _ _) t.isLt)).2.2 := by
  rw [outsAt0_B m c t h]
  frame_out [View.readCov_cons_toLoadRect, ↓View.readCov_skip, ↓View.readCov_fill]

section
variable (x0 : FVec Ideal S512x1024 .f32) (x1 : FVec Ideal S512x2048 .bf16) (x2 : FVec Ideal S2048x1024 .bf16) (x3 : FVec Ideal S512x1024 .f32)
theorem pay2_at (s : Fin 512) (n : Fin 1024) :
    k0_pay2 (F := Ideal) x0 x1 x2 x3 (ix2 s n) = x0 (ix2 s n) + (∑ k : Fin 2048, x1 (ix2 s k) * x2 (ix2 k n)) - x3 (ix2 s n) := by
  pointwise [k0_pay2]
theorem pay3_at (s : Fin 512) (n : Fin 1024) :
    k0_pay3 (F := Ideal) x0 x1 x2 x3 (ix2 s n) = k0_pay2 (F := Ideal) x0 x1 x2 x3 (ix2 s n) * Ideal.ofBits .f32 0x3A800000#32 := by
  pointwise [k0_pay3]
theorem pay4_at (s : Fin 512) (n : Fin 1024) : k0_pay4 (F := Ideal) x0 x1 x2 x3 (ix2 s n) = k0_pay3 (F := Ideal) x0 x1 x2 x3 (ix2 s n) := by
  pointwise [k0_pay4]
theorem pay1_at (p : Fin 8) (q : Fin 128) : k0_pay1 (F := Ideal) (ix2 p q) = 0 := by
  pointwise [k0_pay1]
theorem pay5_at (A : FVec Ideal S8x128 .f32) (p : Fin 8) (q : Fin 128) :
    k0_pay5 (F := Ideal) x0 x1 x2 x3 A (ix2 p q) = A (ix2 p q)
      + (∑ s : Fin 512, ∑ n : Fin 1024, k0_pay2 (F := Ideal) x0 x1 x2 x3 (ix2 s n) * k0_pay2 (F := Ideal) x0 x1 x2 x3 (ix2 s n)) * Ideal.ofBits .f32 0x3A000000#32 := by
  pointwise [k0_pay5]
end

theorem idx : ∀ t : Fin cfg0.N, win0_0.index t = ![t.val, 0] ∧ win0_1.index t = ![t.val, 0] ∧ win0_2.index t = ![0, 0] ∧ win0_3.index t = ![t.val, 0]
    ∧ win0_4.index t = ![t.val, 0] ∧ win0_5.index t = ![t.val, 0] ∧ win0_6.index t = ![0, 0] :=
  (by decide +kernel : ∀ t : Fin grid0.N, _)

abbrev row (t : Fin cfg0.N) (s : Fin 512) : Fin 8192 := ⟨512 * t.val + s.val, by have := lt16 t; omega⟩

theorem blk0 (c : Dev nD) (t : Fin cfg0.N) (s : Fin 512) (n : Fin 1024) :
    iblk m c 0 t (ix2 s n) = m ((c : Thread nD τ).loc main_arg0) (ix2 (row t s) n) := by
  blk_ext [iblk, V, idx t]
theorem blk1 (c : Dev nD) (t : Fin cfg0.N) (s : Fin 512) (k : Fin 2048) :
    iblk m c 1 t (ix2 s k) = m ((c : Thread nD τ).loc main_arg1) (ix2 (row t s) k) := by
  blk_ext [iblk, V, idx t]
theorem blk2 (c : Dev nD) (t : Fin cfg0.N) (k : Fin 2048) (n : Fin 1024) :
    iblk m c 2 t (ix2 k n) = m ((c : Thread nD τ).loc main_arg2) (ix2 k n) := by
  blk_ext [iblk, V, idx t]
theorem blk3 (c : Dev nD) (t : Fin cfg0.N) (s : Fin 512) (n : Fin 1024) :
    iblk m c 3 t (ix2 s n) = m ((c : Thread nD τ).loc main_arg3) (ix2 (row t s) n) := by
  blk_ext [iblk, V, idx t]

/-- The output less its target, entry by entry. -/
def err (x : FVec Ideal S8192x1024 .f32) (y : FVec Ideal S8192x2048 .bf16) (w : FVec Ideal S2048x1024 .bf16) (z : FVec Ideal S8192x1024 .f32) (s : Fin 8192) (n : Fin 1024) : EReal :=
  x (ix2 s n) + (∑ k : Fin 2048, y (ix2 s k) * w (ix2 k n)) - z (ix2 s n)
/-- A row's sum of squares. -/
def rowsq (x : FVec Ideal S8192x1024 .f32) (y : FVec Ideal S8192x2048 .bf16) (w : FVec Ideal S2048x1024 .bf16) (z : FVec Ideal S8192x1024 .f32) (s : Fin 8192) : EReal :=
  ∑ n : Fin 1024, err x y w z s n * err x y w z s n
def dx (x : FVec Ideal S8192x1024 .f32) (y : FVec Ideal S8192x2048 .bf16) (w : FVec Ideal S2048x1024 .bf16) (z : FVec Ideal S8192x1024 .f32) (s : Fin 8192) (n : Fin 1024) : EReal :=
  err x y w z s n * Ideal.ofBits .f32 0x3A800000#32
def dxArr (x : FVec Ideal S8192x1024 .f32) (y : FVec Ideal S8192x2048 .bf16) (w : FVec Ideal S2048x1024 .bf16) (z : FVec Ideal S8192x1024 .f32) : FVec Ideal S8192x1024 .f32 :=
  fun i => dx x y w z (i 0) (i 1)
def dxbArr (x : FVec Ideal S8192x1024 .f32) (y : FVec Ideal S8192x2048 .bf16) (w : FVec Ideal S2048x1024 .bf16) (z : FVec Ideal S8192x1024 .f32) : FVec Ideal S8192x1024 .bf16 :=
  fun i => dx x y w z (i 0) (i 1)
/-- The loss of the first blocks of rows. -/
def upto (x : FVec Ideal S8192x1024 .f32) (y : FVec Ideal S8192x2048 .bf16) (w : FVec Ideal S2048x1024 .bf16) (z : FVec Ideal S8192x1024 .f32) (n : ℕ) : EReal :=
  ∑ i ∈ Finset.range n, (∑ a : Fin 512, Spec.at' (rowsq x y w z) (512 * i + a.val)) * Ideal.ofBits .f32 0x3A000000#32
def lossArr (x : FVec Ideal S8192x1024 .f32) (y : FVec Ideal S8192x2048 .bf16) (w : FVec Ideal S2048x1024 .bf16) (z : FVec Ideal S8192x1024 .f32) : FVec Ideal S8x128 .f32 :=
  fun _ => upto x y w z 16

theorem err_at (c : Dev nD) (t : Fin cfg0.N) (s : Fin 512) (n : Fin 1024) :
    k0_pay2 (F := Ideal) (iblk m c 0 t) (iblk m c 1 t) (iblk m c 2 t) (iblk m c 3 t) (ix2 s n)
      = err (m ((c : Thread nD τ).loc main_arg0)) (m ((c : Thread nD τ).loc main_arg1)) (m ((c : Thread nD τ).loc main_arg2)) (m ((c : Thread nD τ).loc main_arg3)) (row t s) n := by
  rw [pay2_at, blk0, blk3, err]
  exact congrArg (fun e : EReal => (_ : EReal) + e - (_ : EReal)) (Finset.sum_congr rfl fun k _ => by rw [blk1, blk2])

theorem block_at (c : Dev nD) (t : Fin cfg0.N) :
    (∑ s : Fin 512, ∑ n : Fin 1024, k0_pay2 (F := Ideal) (iblk m c 0 t) (iblk m c 1 t) (iblk m c 2 t) (iblk m c 3 t) (ix2 s n) * k0_pay2 (F := Ideal) (iblk m c 0 t) (iblk m c 1 t) (iblk m c 2 t) (iblk m c 3 t) (ix2 s n))
      = ∑ a : Fin 512, Spec.at' (rowsq (m ((c : Thread nD τ).loc main_arg0)) (m ((c : Thread nD τ).loc main_arg1)) (m ((c : Thread nD τ).loc main_arg2)) (m ((c : Thread nD τ).loc main_arg3))) (512 * t.val + a.val) := by
  refine Finset.sum_congr rfl fun a _ => ?_
  have ha : 512 * t.val + a.val < 8192 := (row t a).isLt
  rw [Spec.at', dif_pos ha, rowsq]
  exact Finset.sum_congr rfl fun n _ => by rw [err_at]

theorem l_at (c : Dev nD) (n : ℕ) : ∀ (h : n < cfg0.N) (p : Fin 8) (q : Fin 128), (outsAt0 m c n h).2.2 (ix2 p q)
      = upto (m ((c : Thread nD τ).loc main_arg0)) (m ((c : Thread nD τ).loc main_arg1)) (m ((c : Thread nD τ).loc main_arg2)) (m ((c : Thread nD τ).loc main_arg3)) (n + 1) := by
  induction n with
  | zero =>
    intro h p q
    refine (congrFun (outA_l m c ⟨0, h⟩ rfl) _).trans ?_
    rw [pay5_at, pay1_at, block_at, upto, zero_add, Finset.sum_range_one]
  | succ n ih =>
    intro h p q
    have h16 : n + 1 < 16 := lt16 ⟨n + 1, h⟩
    refine (congrFun (outB_l m c ⟨n + 1, h⟩ (by show ¬ (n + 1) % 16 = 0; omega)) _).trans ?_
    rw [pay5_at, block_at, upto, Finset.sum_range_succ]
    exact congrArg (· + _) (ih _ p q)

theorem x_at (c : Dev nD) (t : Fin cfg0.N) (s : Fin 512) (n : Fin 1024) :
    (outsAt0 m c t.val t.isLt).1 (ix2 s n)
      = dx (m ((c : Thread nD τ).loc main_arg0)) (m ((c : Thread nD τ).loc main_arg1)) (m ((c : Thread nD τ).loc main_arg2)) (m ((c : Thread nD τ).loc main_arg3)) (row t s) n := by
  have h : (outsAt0 m c t.val t.isLt).1 = k0_pay3 (F := Ideal) (iblk m c 0 t) (iblk m c 1 t) (iblk m c 2 t) (iblk m c 3 t) := by
    by_cases h : t.val % 16 = 0
    · exact outA_x m c t h
    · exact outB_x m c t h
  rw [h, pay3_at, err_at, dx]
theorem b_at (c : Dev nD) (t : Fin cfg0.N) (s : Fin 512) (n : Fin 1024) :
    (outsAt0 m c t.val t.isLt).2.1 (ix2 s n)
      = dx (m ((c : Thread nD τ).loc main_arg0)) (m ((c : Thread nD τ).loc main_arg1)) (m ((c : Thread nD τ).loc main_arg2)) (m ((c : Thread nD τ).loc main_arg3)) (row t s) n := by
  have h : (outsAt0 m c t.val t.isLt).2.1 = k0_pay4 (F := Ideal) (iblk m c 0 t) (iblk m c 1 t) (iblk m c 2 t) (iblk m c 3 t) := by
    by_cases h : t.val % 16 = 0
    · exact outA_b m c t h
    · exact outB_b m c t h
  rw [h, pay4_at, pay3_at, err_at, dx]

theorem ey2 (y : S512x1024.Idx) : y = ix2 (⟨(y 0).val, (y 0).isLt⟩ : Fin 512) (⟨(y 1).val, (y 1).isLt⟩ : Fin 1024) :=
  funext fun a => by match a with | ⟨0, _⟩ => rfl | ⟨1, _⟩ => rfl

theorem result4 (c : Dev nD) : (dats m 0 c).arrAt 4 cfg0.N = dxArr (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp []
  rw [after0_4]
  have e0 : ((((cfg0.win 4).blk t).view.emb y) 0).val = 512 * t.val + (y 0).val := by
    blk_simp [idx t]
    exact congrArg (· + _) (Nat.mul_comm _ _)
  have e1 : ((((cfg0.win 4).blk t).view.emb y) 1).val = (y 1).val := by
    blk_simp [idx t]
  refine ((congrArg _ (ey2 y)).trans (x_at m c t _ _)).trans ?_
  exact congrArg₂ (dx _ _ _ _) (Fin.ext e0.symm) (Fin.ext e1.symm)

theorem result5 (c : Dev nD) : (dats m 0 c).arrAt 5 cfg0.N = dxbArr (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp []
  rw [after0_5]
  have e0 : ((((cfg0.win 5).blk t).view.emb y) 0).val = 512 * t.val + (y 0).val := by
    blk_simp [idx t]
    exact congrArg (· + _) (Nat.mul_comm _ _)
  have e1 : ((((cfg0.win 5).blk t).view.emb y) 1).val = (y 1).val := by
    blk_simp [idx t]
  refine ((congrArg _ (ey2 y)).trans (b_at m c t _ _)).trans ?_
  exact congrArg₂ (dx _ _ _ _) (Fin.ext e0.symm) (Fin.ext e1.symm)

theorem result6 (c : Dev nD) : (dats m 0 c).arrAt 6 cfg0.N = lossArr (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  have h15 : t.val = 15 := (by decide +kernel : ∀ t : Fin grid0.N, (cfg0.win 6).flush t = true → t.val = 15) t hf
  blk_simp []
  rw [after0_6]
  have ey : y = ix2 (⟨(y 0).val, (y 0).isLt⟩ : Fin 8) (⟨(y 1).val, (y 1).isLt⟩ : Fin 128) :=
    funext fun a => by match a with | ⟨0, _⟩ => rfl | ⟨1, _⟩ => rfl
  refine ((congrArg _ ey).trans (l_at m c t.val t.isLt _ _)).trans ?_
  exact congrArg (upto _ _ _ _) (by omega)

end Cert.Kernel15Ideal.Value

namespace Cert.Reference15Ideal.Values
open Cert.Reference15Ideal Cert.Reference15Ideal.Gen Cert.Reference15Ideal.Read Cert.Kernel15Ideal.Value
variable (x : FVec Ideal S8192x1024 .f32) (y : FVec Ideal S8192x2048 .bf16) (w : FVec Ideal S2048x1024 .bf16) (z : FVec Ideal S8192x1024 .f32)

theorem err_eq (s : Fin 8192) (n : Fin 1024) : val_main_v4 (F := Ideal) x y w z (ix2 s n) = err x y w z s n := by
  pointwise [val_main_v4, val_main_v3, val_main_v2, val_main_v1, val_main_v0]
  rfl
theorem sq_eq (s : Fin 8192) : val_main_v8 (F := Ideal) x y w z (ix1 s) = rowsq x y w z s := by
  pointwise [val_main_v8, val_main_v5, val_main_cst_0]
  exact Finset.sum_congr rfl fun n _ => congrArg₂ (· * ·) (err_eq x y w z s n) (err_eq x y w z s n)
theorem dx_at (s : Fin 8192) (n : Fin 1024) : val_main_v18 (F := Ideal) x y w z (ix2 s n) = dx x y w z s n := by
  rw [dx, ← Spec.dx_eq, ← err_eq]
  pointwise [val_main_v18, val_main_v17, val_main_v16, val_main_v15, val_main_v14, val_main_v13, val_main_cst_6, val_main_cst_5, val_main_cst_4, val_main_v7, val_main_v6, val_main_cst]
theorem ref4 : val_main_v18 (F := Ideal) x y w z = dxArr x y w z := by
  funext i
  obtain ⟨s, n, rfl⟩ : ∃ (s : Fin 8192) (n : Fin 1024), i = ix2 s n := ⟨_, _, ValueIdx.eq_ix2 i⟩
  exact dx_at x y w z s n
theorem ref5 : val_main_v20 (F := Ideal) x y w z = dxbArr x y w z := by
  funext i
  obtain ⟨s, n, rfl⟩ : ∃ (s : Fin 8192) (n : Fin 1024), i = ix2 s n := ⟨_, _, ValueIdx.eq_ix2 i⟩
  exact dx_at x y w z s n
theorem ref6 : val_main_v19 (F := Ideal) x y w z = lossArr x y w z := by
  funext i
  obtain ⟨p, q, rfl⟩ : ∃ (p : Fin 8) (q : Fin 128), i = ix2 p q := ⟨_, _, ValueIdx.eq_ix2 i⟩
  show _ = upto x y w z 16
  refine Eq.trans ?_ (Spec.loss_eq (rowsq x y w z))
  pointwise [val_main_v19, val_main_v12, val_main_cst_3, val_main_v11, val_main_cst_2, val_main_v10, val_main_v9, val_main_cst_1]
  exact congrArg (_ * ·) (Finset.sum_congr rfl fun s _ => congrArg (Ideal.div · _) (sq_eq x y w z s))
end Cert.Reference15Ideal.Values

end
-- ==== Proof.LossPairs.lean ====
/- The projection with the loss: the results of the kernel and of its reference are the same, and the reference stops with its counters at zero. -/
module

public import proofs.«01_k».proof.Defs
public import proofs.«01_k».proof.Proof.Loss15
public import proofs.«01_k».proof.Proof.Gen.Reference15Ideal.Run
public import Idealize.ShloMosaic.Lib.Claim

@[expose] public section
set_option maxRecDepth 16384
noncomputable section
open Idealize.ShloMosaic Idealize.ShloMosaic.TcCoe Idealize.SL.Sem
namespace Cert.Proof

section
attribute [local instance] Cert.Kernel15Ideal.Gen.facts Cert.Reference15Ideal.Gen.facts

theorem algebraic15 : Cert.algebraic_Kernel15Ideal_Reference15Ideal := by
  pair_intro
  · run_from Cert.Kernel15Ideal.Gen.run_main m g
  · refine Idealize.ShloMosaic.θ_run_mono (Cert.Reference15Ideal.Value.run m' g') ?_
    intro r hr c
    obtain ⟨hl, hx, hb, h0, h1, h2, h3⟩ := hr c
    obtain ⟨a0, a1, a2, a3⟩ := hagree c
    refine ⟨hl.trans ?_, hx.trans ?_, hb.trans ?_, h0, h1, h2, h3⟩
    · refine (Cert.Reference15Ideal.Read.val_main_v19_eq _ _ _ _).trans ?_
      rw [a0, a1, a2, a3]
      exact (Cert.Reference15Ideal.Values.ref6 _ _ _ _).trans (Cert.Kernel15Ideal.Value.result6 m c).symm
    · refine (Cert.Reference15Ideal.Read.val_main_v18_eq _ _ _ _).trans ?_
      rw [a0, a1, a2, a3]
      exact (Cert.Reference15Ideal.Values.ref4 _ _ _ _).trans (Cert.Kernel15Ideal.Value.result4 m c).symm
    · refine (Cert.Reference15Ideal.Read.val_main_v20_eq _ _ _ _).trans ?_
      rw [a0, a1, a2, a3]
      exact (Cert.Reference15Ideal.Values.ref5 _ _ _ _).trans (Cert.Kernel15Ideal.Value.result5 m c).symm

theorem frame_reference15 : Cert.quiescent_Reference15Ideal := fun m g _ =>
  (θ_run (Cert.Reference15Ideal.defs (F := Ideal)) _ _).mono
    (fun r h => And.intro (fun c => (h c).2.2.2) (sem_eq_zero_of_no_sems (by decide) r.2)) (Cert.Reference15Ideal.Value.run m g)
end

end Cert.Proof

end
-- ==== Proof.AdamPairs.lean ====
/- The optimiser step on the small weights: the results of each kernel and of its reference are the same, and the reference stops with its counters at zero. -/
module

public import proofs.«01_k».proof.Defs
public import proofs.«01_k».proof.Proof.Gen.Kernel16Ideal.Value
public import proofs.«01_k».proof.Proof.Gen.Reference16Ideal.Read
public import proofs.«01_k».proof.Proof.Gen.Reference16Ideal.Run
public import proofs.«01_k».proof.Proof.Gen.Kernel17Ideal.Value
public import proofs.«01_k».proof.Proof.Gen.Reference17Ideal.Read
public import proofs.«01_k».proof.Proof.Gen.Reference17Ideal.Run
public import proofs.«01_k».proof.Proof.Gen.Kernel18Ideal.Value
public import proofs.«01_k».proof.Proof.Gen.Reference18Ideal.Read
public import proofs.«01_k».proof.Proof.Gen.Reference18Ideal.Run
public import proofs.«01_k».proof.Proof.Gen.Kernel19Ideal.Value
public import proofs.«01_k».proof.Proof.Gen.Reference19Ideal.Read
public import proofs.«01_k».proof.Proof.Gen.Reference19Ideal.Run
public import proofs.«01_k».proof.Proof.Gen.Kernel20Ideal.Value
public import proofs.«01_k».proof.Proof.Gen.Reference20Ideal.Read
public import proofs.«01_k».proof.Proof.Gen.Reference20Ideal.Run
public import proofs.«01_k».proof.Proof.Gen.Kernel21Ideal.Value
public import proofs.«01_k».proof.Proof.Gen.Reference21Ideal.Read
public import proofs.«01_k».proof.Proof.Gen.Reference21Ideal.Run
public import Idealize.ShloMosaic.Lib.Claim
public import Idealize.ShloMosaic.Lib.IdealHost

@[expose] public section
set_option maxRecDepth 16384
noncomputable section
open Idealize.ShloMosaic Idealize.ShloMosaic.TcCoe Idealize.SL.Sem

namespace Cert.Reference16Ideal.Values
open Cert.Reference16Ideal Cert.Reference16Ideal.Gen Cert.Reference16Ideal.Read
variable (w g m v : FVec Ideal S4x1024 .f32)

theorem mean : val_main_v4 (F := Ideal) g m = Cert.Kernel16Ideal.Value.G5 (F := Ideal) g m := by
  funext i
  rfl

theorem square : val_main_v10 (F := Ideal) g v = Cert.Kernel16Ideal.Value.G6 (F := Ideal) g v := by
  funext i
  rfl

theorem delta : val_main_v23 (F := Ideal) w g m v = Cert.Kernel16Ideal.Value.G4 (F := Ideal) w g m v := by
  funext i
  rfl

end Cert.Reference16Ideal.Values

namespace Cert.Reference17Ideal.Values
open Cert.Reference17Ideal Cert.Reference17Ideal.Gen Cert.Reference17Ideal.Read
variable (w g m v : FVec Ideal S2x256 .f32)

theorem mean : val_main_v4 (F := Ideal) g m = Cert.Kernel17Ideal.Value.G5 (F := Ideal) g m := by
  funext i
  rfl

theorem square : val_main_v10 (F := Ideal) g v = Cert.Kernel17Ideal.Value.G6 (F := Ideal) g v := by
  funext i
  rfl

theorem delta : val_main_v23 (F := Ideal) w g m v = Cert.Kernel17Ideal.Value.G4 (F := Ideal) w g m v := by
  funext i
  rfl

end Cert.Reference17Ideal.Values

namespace Cert.Reference18Ideal.Values
open Cert.Reference18Ideal Cert.Reference18Ideal.Gen Cert.Reference18Ideal.Read
variable (w g m v : FVec Ideal S2048x128 .f32)

theorem mean : val_main_v4 (F := Ideal) g m = Cert.Kernel18Ideal.Value.G5 (F := Ideal) g m := by
  funext i
  rfl

theorem square : val_main_v10 (F := Ideal) g v = Cert.Kernel18Ideal.Value.G6 (F := Ideal) g v := by
  funext i
  rfl

theorem delta : val_main_v23 (F := Ideal) w g m v = Cert.Kernel18Ideal.Value.G4 (F := Ideal) w g m v := by
  funext i
  rfl

end Cert.Reference18Ideal.Values

namespace Cert.Reference19Ideal.Values
open Cert.Reference19Ideal Cert.Reference19Ideal.Gen Cert.Reference19Ideal.Read
variable (w g m v : FVec Ideal S16x128 .f32)

theorem mean : val_main_v4 (F := Ideal) g m = Cert.Kernel19Ideal.Value.G5 (F := Ideal) g m := by
  funext i
  rfl

theorem square : val_main_v10 (F := Ideal) g v = Cert.Kernel19Ideal.Value.G6 (F := Ideal) g v := by
  funext i
  rfl

theorem delta : val_main_v23 (F := Ideal) w g m v = Cert.Kernel19Ideal.Value.G4 (F := Ideal) w g m v := by
  funext i
  rfl

end Cert.Reference19Ideal.Values

namespace Cert.Reference20Ideal.Values
open Cert.Reference20Ideal Cert.Reference20Ideal.Gen Cert.Reference20Ideal.Read
variable (w g m v : FVec Ideal S3x128 .f32)

theorem mean : val_main_v4 (F := Ideal) g m = Cert.Kernel20Ideal.Value.G5 (F := Ideal) g m := by
  funext i
  rfl

theorem square : val_main_v10 (F := Ideal) g v = Cert.Kernel20Ideal.Value.G6 (F := Ideal) g v := by
  funext i
  rfl

theorem delta : val_main_v23 (F := Ideal) w g m v = Cert.Kernel20Ideal.Value.G4 (F := Ideal) w g m v := by
  funext i
  rfl

end Cert.Reference20Ideal.Values

namespace Cert.Reference21Ideal.Values
open Cert.Reference21Ideal Cert.Reference21Ideal.Gen Cert.Reference21Ideal.Read
variable (w g m v : FVec Ideal S1x256 .f32)

theorem mean : val_main_v4 (F := Ideal) g m = Cert.Kernel21Ideal.Value.G5 (F := Ideal) g m := by
  funext i
  rfl

theorem square : val_main_v10 (F := Ideal) g v = Cert.Kernel21Ideal.Value.G6 (F := Ideal) g v := by
  funext i
  rfl

theorem delta : val_main_v23 (F := Ideal) w g m v = Cert.Kernel21Ideal.Value.G4 (F := Ideal) w g m v := by
  funext i
  rfl

end Cert.Reference21Ideal.Values

namespace Cert.Proof

section
attribute [local instance] Cert.Kernel16Ideal.Gen.facts Cert.Reference16Ideal.Gen.facts

theorem algebraic16 : Cert.algebraic_Kernel16Ideal_Reference16Ideal := by
  pair_intro
  · run_from Cert.Kernel16Ideal.Gen.run_main m g
  · refine Idealize.ShloMosaic.θ_run_mono (Cert.Reference16Ideal.Value.run m' g') ?_
    intro r hr c
    obtain ⟨hd, hm, hv, h0, h1, h2, h3⟩ := hr c
    obtain ⟨a0, a1, a2, a3⟩ := hagree c
    refine ⟨hd.trans ?_, hm.trans ?_, hv.trans ?_, h0, h1, h2, h3⟩
    · refine (Cert.Reference16Ideal.Read.val_main_v23_eq _ _ _ _).trans ?_
      rw [a0, a1, a2, a3]
      exact (Cert.Reference16Ideal.Values.delta _ _ _ _).trans (Cert.Kernel16Ideal.Value.final4 m c).symm
    · refine (Cert.Reference16Ideal.Read.val_main_v4_eq _ _).trans ?_
      rw [a1, a2]
      exact (Cert.Reference16Ideal.Values.mean _ _).trans (Cert.Kernel16Ideal.Value.final5 m c).symm
    · refine (Cert.Reference16Ideal.Read.val_main_v10_eq _ _).trans ?_
      rw [a1, a3]
      exact (Cert.Reference16Ideal.Values.square _ _).trans (Cert.Kernel16Ideal.Value.final6 m c).symm

theorem frame_reference16 : Cert.quiescent_Reference16Ideal := fun m g _ =>
  (θ_run (Cert.Reference16Ideal.defs (F := Ideal)) _ _).mono
    (fun r h => And.intro (fun c => (h c).2.2.2) (sem_eq_zero_of_no_sems (by decide) r.2)) (Cert.Reference16Ideal.Value.run m g)
end

section
attribute [local instance] Cert.Kernel17Ideal.Gen.facts Cert.Reference17Ideal.Gen.facts

theorem algebraic17 : Cert.algebraic_Kernel17Ideal_Reference17Ideal := by
  pair_intro
  · run_from Cert.Kernel17Ideal.Gen.run_main m g
  · refine Idealize.ShloMosaic.θ_run_mono (Cert.Reference17Ideal.Value.run m' g') ?_
    intro r hr c
    obtain ⟨hd, hm, hv, h0, h1, h2, h3⟩ := hr c
    obtain ⟨a0, a1, a2, a3⟩ := hagree c
    refine ⟨hd.trans ?_, hm.trans ?_, hv.trans ?_, h0, h1, h2, h3⟩
    · refine (Cert.Reference17Ideal.Read.val_main_v23_eq _ _ _ _).trans ?_
      rw [a0, a1, a2, a3]
      exact (Cert.Reference17Ideal.Values.delta _ _ _ _).trans (Cert.Kernel17Ideal.Value.final4 m c).symm
    · refine (Cert.Reference17Ideal.Read.val_main_v4_eq _ _).trans ?_
      rw [a1, a2]
      exact (Cert.Reference17Ideal.Values.mean _ _).trans (Cert.Kernel17Ideal.Value.final5 m c).symm
    · refine (Cert.Reference17Ideal.Read.val_main_v10_eq _ _).trans ?_
      rw [a1, a3]
      exact (Cert.Reference17Ideal.Values.square _ _).trans (Cert.Kernel17Ideal.Value.final6 m c).symm

theorem frame_reference17 : Cert.quiescent_Reference17Ideal := fun m g _ =>
  (θ_run (Cert.Reference17Ideal.defs (F := Ideal)) _ _).mono
    (fun r h => And.intro (fun c => (h c).2.2.2) (sem_eq_zero_of_no_sems (by decide) r.2)) (Cert.Reference17Ideal.Value.run m g)
end

section
attribute [local instance] Cert.Kernel18Ideal.Gen.facts Cert.Reference18Ideal.Gen.facts

theorem algebraic18 : Cert.algebraic_Kernel18Ideal_Reference18Ideal := by
  pair_intro
  · run_from Cert.Kernel18Ideal.Gen.run_main m g
  · refine Idealize.ShloMosaic.θ_run_mono (Cert.Reference18Ideal.Value.run m' g') ?_
    intro r hr c
    obtain ⟨hd, hm, hv, h0, h1, h2, h3⟩ := hr c
    obtain ⟨a0, a1, a2, a3⟩ := hagree c
    refine ⟨hd.trans ?_, hm.trans ?_, hv.trans ?_, h0, h1, h2, h3⟩
    · refine (Cert.Reference18Ideal.Read.val_main_v23_eq _ _ _ _).trans ?_
      rw [a0, a1, a2, a3]
      exact (Cert.Reference18Ideal.Values.delta _ _ _ _).trans (Cert.Kernel18Ideal.Value.final4 m c).symm
    · refine (Cert.Reference18Ideal.Read.val_main_v4_eq _ _).trans ?_
      rw [a1, a2]
      exact (Cert.Reference18Ideal.Values.mean _ _).trans (Cert.Kernel18Ideal.Value.final5 m c).symm
    · refine (Cert.Reference18Ideal.Read.val_main_v10_eq _ _).trans ?_
      rw [a1, a3]
      exact (Cert.Reference18Ideal.Values.square _ _).trans (Cert.Kernel18Ideal.Value.final6 m c).symm

theorem frame_reference18 : Cert.quiescent_Reference18Ideal := fun m g _ =>
  (θ_run (Cert.Reference18Ideal.defs (F := Ideal)) _ _).mono
    (fun r h => And.intro (fun c => (h c).2.2.2) (sem_eq_zero_of_no_sems (by decide) r.2)) (Cert.Reference18Ideal.Value.run m g)
end

section
attribute [local instance] Cert.Kernel19Ideal.Gen.facts Cert.Reference19Ideal.Gen.facts

theorem algebraic19 : Cert.algebraic_Kernel19Ideal_Reference19Ideal := by
  pair_intro
  · run_from Cert.Kernel19Ideal.Gen.run_main m g
  · refine Idealize.ShloMosaic.θ_run_mono (Cert.Reference19Ideal.Value.run m' g') ?_
    intro r hr c
    obtain ⟨hd, hm, hv, h0, h1, h2, h3⟩ := hr c
    obtain ⟨a0, a1, a2, a3⟩ := hagree c
    refine ⟨hd.trans ?_, hm.trans ?_, hv.trans ?_, h0, h1, h2, h3⟩
    · refine (Cert.Reference19Ideal.Read.val_main_v23_eq _ _ _ _).trans ?_
      rw [a0, a1, a2, a3]
      exact (Cert.Reference19Ideal.Values.delta _ _ _ _).trans (Cert.Kernel19Ideal.Value.final4 m c).symm
    · refine (Cert.Reference19Ideal.Read.val_main_v4_eq _ _).trans ?_
      rw [a1, a2]
      exact (Cert.Reference19Ideal.Values.mean _ _).trans (Cert.Kernel19Ideal.Value.final5 m c).symm
    · refine (Cert.Reference19Ideal.Read.val_main_v10_eq _ _).trans ?_
      rw [a1, a3]
      exact (Cert.Reference19Ideal.Values.square _ _).trans (Cert.Kernel19Ideal.Value.final6 m c).symm

theorem frame_reference19 : Cert.quiescent_Reference19Ideal := fun m g _ =>
  (θ_run (Cert.Reference19Ideal.defs (F := Ideal)) _ _).mono
    (fun r h => And.intro (fun c => (h c).2.2.2) (sem_eq_zero_of_no_sems (by decide) r.2)) (Cert.Reference19Ideal.Value.run m g)
end

section
attribute [local instance] Cert.Kernel20Ideal.Gen.facts Cert.Reference20Ideal.Gen.facts

theorem algebraic20 : Cert.algebraic_Kernel20Ideal_Reference20Ideal := by
  pair_intro
  · run_from Cert.Kernel20Ideal.Gen.run_main m g
  · refine Idealize.ShloMosaic.θ_run_mono (Cert.Reference20Ideal.Value.run m' g') ?_
    intro r hr c
    obtain ⟨hd, hm, hv, h0, h1, h2, h3⟩ := hr c
    obtain ⟨a0, a1, a2, a3⟩ := hagree c
    refine ⟨hd.trans ?_, hm.trans ?_, hv.trans ?_, h0, h1, h2, h3⟩
    · refine (Cert.Reference20Ideal.Read.val_main_v23_eq _ _ _ _).trans ?_
      rw [a0, a1, a2, a3]
      exact (Cert.Reference20Ideal.Values.delta _ _ _ _).trans (Cert.Kernel20Ideal.Value.final4 m c).symm
    · refine (Cert.Reference20Ideal.Read.val_main_v4_eq _ _).trans ?_
      rw [a1, a2]
      exact (Cert.Reference20Ideal.Values.mean _ _).trans (Cert.Kernel20Ideal.Value.final5 m c).symm
    · refine (Cert.Reference20Ideal.Read.val_main_v10_eq _ _).trans ?_
      rw [a1, a3]
      exact (Cert.Reference20Ideal.Values.square _ _).trans (Cert.Kernel20Ideal.Value.final6 m c).symm

theorem frame_reference20 : Cert.quiescent_Reference20Ideal := fun m g _ =>
  (θ_run (Cert.Reference20Ideal.defs (F := Ideal)) _ _).mono
    (fun r h => And.intro (fun c => (h c).2.2.2) (sem_eq_zero_of_no_sems (by decide) r.2)) (Cert.Reference20Ideal.Value.run m g)
end

section
attribute [local instance] Cert.Kernel21Ideal.Gen.facts Cert.Reference21Ideal.Gen.facts

theorem algebraic21 : Cert.algebraic_Kernel21Ideal_Reference21Ideal := by
  pair_intro
  · run_from Cert.Kernel21Ideal.Gen.run_main m g
  · refine Idealize.ShloMosaic.θ_run_mono (Cert.Reference21Ideal.Value.run m' g') ?_
    intro r hr c
    obtain ⟨hd, hm, hv, h0, h1, h2, h3⟩ := hr c
    obtain ⟨a0, a1, a2, a3⟩ := hagree c
    refine ⟨hd.trans ?_, hm.trans ?_, hv.trans ?_, h0, h1, h2, h3⟩
    · refine (Cert.Reference21Ideal.Read.val_main_v23_eq _ _ _ _).trans ?_
      rw [a0, a1, a2, a3]
      exact (Cert.Reference21Ideal.Values.delta _ _ _ _).trans (Cert.Kernel21Ideal.Value.final4 m c).symm
    · refine (Cert.Reference21Ideal.Read.val_main_v4_eq _ _).trans ?_
      rw [a1, a2]
      exact (Cert.Reference21Ideal.Values.mean _ _).trans (Cert.Kernel21Ideal.Value.final5 m c).symm
    · refine (Cert.Reference21Ideal.Read.val_main_v10_eq _ _).trans ?_
      rw [a1, a3]
      exact (Cert.Reference21Ideal.Values.square _ _).trans (Cert.Kernel21Ideal.Value.final6 m c).symm

theorem frame_reference21 : Cert.quiescent_Reference21Ideal := fun m g _ =>
  (θ_run (Cert.Reference21Ideal.defs (F := Ideal)) _ _).mono
    (fun r h => And.intro (fun c => (h c).2.2.2) (sem_eq_zero_of_no_sems (by decide) r.2)) (Cert.Reference21Ideal.Value.run m g)
end

end Cert.Proof

end
-- ==== Proof.Mid22.lean ====
/- The gated layer between its projections: the kernel's rows are the reference's. -/
module

public import proofs.«01_k».proof.Proof.Gen.Kernel22Ideal.Value
public import proofs.«01_k».proof.Proof.Gen.Reference22Ideal.Read
public import proofs.«01_k».proof.Proof.Spec
public import Idealize.ShloMosaic.Lib.Pipeline.ValueKit
public import Idealize.ShloMosaic.Lib.Pointwise
public import Idealize.ShloMosaic.Lib.Pipeline.ReadBack
public import Idealize.ShloMosaic.Lib.IdealHost

@[expose] public section
set_option maxRecDepth 16384
noncomputable section
open Idealize.ShloMosaic Idealize.ShloMosaic.TcCoe Idealize.SL.Sem
open Idealize.ShloMosaic.Pipeline (Dat)
open scoped BigOperators

namespace Cert.Kernel22Ideal.Value
open Cert.Kernel22Ideal Cert.Kernel22Ideal.Gen Cert.Spec

/-! ## The layer -/

section
variable (P : FVec Ideal S8192x6144 .bf16) (G : FVec Ideal S1x2048 .f32) (S : FVec Ideal S8x128x128 .f32) (B : FVec Ideal S8x128 .f32)

/-- The columns that are normalised. -/
def pv (s : Fin 8192) (j : Fin 2048) : EReal := P (ix2 s (⟨2048 + j.val, by omega⟩ : Fin 6144))
/-- The mean square of a row of them, and the constant. -/
def msq (s : Fin 8192) : EReal :=
  Ideal.div (∑ j : Fin 2048, pv P s j * pv P s j) (Ideal.ofBits .f32 0x45000000#32) + Ideal.ofBits .f32 0x358637BD#32
/-- The normalised, scaled columns. -/
def vn (s : Fin 8192) (j : Fin 2048) : EReal := pv P s j * Ideal.rsqrt (msq P s) * G (ix2 (0 : Fin 1) j)
/-- The causal spatial weights. -/
def wc (g : Fin 8) (a b : Fin 128) : EReal := if b ≤ a then S (ix3 g a b) else 0
/-- The mixed columns. -/
def mx (n : Fin 64) (a : Fin 128) (g : Fin 8) (d : Fin 256) : EReal :=
  ∑ b : Fin 128, wc S g a b * vn P G (row n b) (col g d) + B (ix2 g a)
/-- The gating columns. -/
def un (s : Fin 8192) (j : Fin 2048) : EReal := P (ix2 s (⟨j.val, by omega⟩ : Fin 6144))
/-- The gate's logits. -/
def zn (s : Fin 8192) (j : Fin 2048) : EReal := P (ix2 s (⟨4096 + j.val, by omega⟩ : Fin 6144))
/-- The gated columns. -/
def yn (n : Fin 64) (a : Fin 128) (g : Fin 8) (d : Fin 256) : EReal :=
  un P (row n a) (col g d) * mx P G S B n a g d
    * (zn P (row n a) (col g d) * Ideal.div 1 (1 + Ideal.exp (0 - zn P (row n a) (col g d))))
/-- The gated columns as an array. -/
def yArr : FVec Ideal S8192x2048 .bf16 := fun i =>
  yn P G S B ⟨(i 0).val / 128, by have : (i 0).val < 8192 := (i 0).isLt; omega⟩ ⟨(i 0).val % 128, by omega⟩
    ⟨(i 1).val / 256, by have : (i 1).val < 2048 := (i 1).isLt; omega⟩ ⟨(i 1).val % 256, by omega⟩

theorem yArr_at (n : Fin 64) (a : Fin 128) (g : Fin 8) (d : Fin 256) : yArr P G S B (ix2 (row n a) (col g d)) = yn P G S B n a g d := by
  have h1 : ∀ h, (⟨(row n a).val / 128, h⟩ : Fin 64) = n := fun h => Fin.ext (by show (128 * n.val + a.val) / 128 = n.val; omega)
  have h2 : ∀ h, (⟨(row n a).val % 128, h⟩ : Fin 128) = a := fun h => Fin.ext (by show (128 * n.val + a.val) % 128 = a.val; omega)
  have h3 : ∀ h, (⟨(col g d).val / 256, h⟩ : Fin 8) = g := fun h => Fin.ext (by show (256 * g.val + d.val) / 256 = g.val; omega)
  have h4 : ∀ h, (⟨(col g d).val % 256, h⟩ : Fin 256) = d := fun h => Fin.ext (by show (256 * g.val + d.val) % 256 = d.val; omega)
  have k : ∀ n' a' g' d', n' = n → a' = a → g' = g → d' = d → yn P G S B n' a' g' d' = yn P G S B n a g d := by
    rintro _ _ _ _ rfl rfl rfl rfl; rfl
  exact k _ _ _ _ (h1 _) (h2 _) (h3 _) (h4 _)
end

/-! ## The work of one grid point, cut into its 16 units: a group of 256 columns and a chunk of 128 rows -/

theorem slicesV : ∀ (g : Fin 8) (c : Fin 2), S256x2048.Slices ![128 * c.val, 256 * g.val] S128x256 := by decide
theorem inbU : ∀ (g : Fin 8) (c : Fin 2) (a : Fin 2), (![128 * c.val, 256 * g.val] : Fin 2 → ℕ) a + (![128, 256] : Fin 2 → ℕ) a ≤ S256x6144.size a := by
  decide
theorem inbZ : ∀ (g : Fin 8) (c : Fin 2) (a : Fin 2), (![128 * c.val, 4096 + 256 * g.val] : Fin 2 → ℕ) a + (![128, 256] : Fin 2 → ℕ) a ≤ S256x6144.size a := by
  decide
theorem inbY : ∀ (g : Fin 8) (c : Fin 2) (a : Fin 2), (![128 * c.val, 256 * g.val] : Fin 2 → ℕ) a + (![128, 256] : Fin 2 → ℕ) a ≤ S256x2048.size a := by
  decide
theorem inbW : ∀ (g : Fin 8) (a : Fin 3), (![g.val, 0, 0] : Fin 3 → ℕ) a + (![1, 128, 128] : Fin 3 → ℕ) a ≤ S8x128x128.size a := by decide
theorem inbB : ∀ (g : Fin 8) (a : Fin 2), (![0, g.val] : Fin 2 → ℕ) a + (![128, 1] : Fin 2 → ℕ) a ≤ S128x8.size a := by decide

abbrev rU (g : Fin 8) (c : Fin 2) : Rect S256x6144 := Rect.unit ![128 * c.val, 256 * g.val] ![128, 256] (inbU g c)
abbrev rZ (g : Fin 8) (c : Fin 2) : Rect S256x6144 := Rect.unit ![128 * c.val, 4096 + 256 * g.val] ![128, 256] (inbZ g c)
abbrev rY (g : Fin 8) (c : Fin 2) : Rect S256x2048 := Rect.unit ![128 * c.val, 256 * g.val] ![128, 256] (inbY g c)
abbrev rW (g : Fin 8) : Rect S8x128x128 := Rect.unit ![g.val, 0, 0] ![1, 128, 128] (inbW g)
abbrev rB (g : Fin 8) : Rect S128x8 := Rect.unit ![0, g.val] ![128, 1] (inbB g)

section
variable (x0 : Vec Ideal S256x6144 .bf16) (x1 : Vec Ideal S1x2048 .f32) (x2 : Vec Ideal S8x128x128 .f32) (x3 : Vec Ideal S128x8 .f32)

/-- The unit's part of the normalised, scaled columns. -/
def vb (g : Fin 8) (c : Fin 2) : FVec Ideal S128x256 .bf16 :=
  extractStridedSlice S128x256 ![128 * c.val, 256 * g.val] (k0_pay2 (View.ld x0 r0_0) (View.ld x1 r0_1)) (slicesV g c)
/-- The gate's logits. -/
def zb (g : Fin 8) (c : Fin 2) : FVec Ideal S128x256 .f32 := extf .f32 (View.ld x0 (rZ g c) : Vec Ideal S128x256 .bf16) bitsLt_bf16_f32
/-- The mixed columns. -/
def mixb (g : Fin 8) (c : Fin 2) : FVec Ideal S128x256 .f32 :=
  addf (matmul dot_S128x128_S128x256_S128x256_1_0_0_1_n_n none (k0_pay4 (View.ld x2 (rW g))) (vb x0 x1 g c)
      (constant S128x256 .f32 0x00000000#32))
    (broadcastTo S128x256 (shapeCast S128x1 (View.ld x3 (rB g) : Vec Ideal S128x1 .f32) shapeCasts_S128x1_S128x1) broadcasts_S128x1_S128x256)
/-- The logistic function of the gate's logits. -/
def sgb (g : Fin 8) (c : Fin 2) : FVec Ideal S128x256 .f32 :=
  divf (broadcast S128x256 (Scalar.ofBits .f32 0x3F800000#32))
    (addf (broadcast S128x256 (Scalar.ofBits .f32 0x3F800000#32))
      (exp (subf (broadcast S128x256 (Scalar.ofBits .f32 0x00000000#32)) (zb x0 g c))))
/-- The unit's gated columns. -/
def yb (g : Fin 8) (c : Fin 2) : FVec Ideal S128x256 .bf16 :=
  truncf .bf16 (mulf (mulf (extf .f32 (View.ld x0 (rU g c) : Vec Ideal S128x256 .bf16) bitsLt_bf16_f32) (mixb x0 x1 x2 x3 g c))
    (mulf (zb x0 g c) (sgb x0 g c))) bitsLt_bf16_f32

/-- The units, last first. -/
def units : List (Fin 8 × Fin 2) :=
  [(7, 1), (7, 0), (6, 1), (6, 0), (5, 1), (5, 0), (4, 1), (4, 0), (3, 1), (3, 0), (2, 1), (2, 0), (1, 1), (1, 0), (0, 1), (0, 0)]
theorem mem_units : ∀ (g : Fin 8) (c : Fin 2), (g, c) ∈ units := by decide
/-- The stores of a point. -/
def yPieces : List (View.Piece (Elt Ideal) S256x2048 .bf16) := units.map fun p => ⟨rY p.1 p.2, yb x0 x1 x2 x3 p.1 p.2⟩

theorem out_eq : out0_4 x0 x1 x2 x3 = View.canon (yPieces x0 x1 x2 x3) := by
  unfold_out out0_4
  rfl
end

/-- The blocks hold these arrays' entries; chunk c of the point is chunk n c of the whole. -/
structure Reads (P : FVec Ideal S8192x6144 .bf16) (G : FVec Ideal S1x2048 .f32) (S : FVec Ideal S8x128x128 .f32) (B : FVec Ideal S8x128 .f32)
    (n : Fin 2 → Fin 64) (x0 : Vec Ideal S256x6144 .bf16) (x1 : Vec Ideal S1x2048 .f32) (x2 : Vec Ideal S8x128x128 .f32)
    (x3 : Vec Ideal S128x8 .f32) : Prop where
  h0 : ∀ (c : Fin 2) (a : Fin 128) (k : Fin 6144), x0 (ix2 (⟨128 * c.val + a.val, by omega⟩ : Fin 256) k) = P (ix2 (row (n c) a) k)
  h1 : ∀ j : Fin 2048, x1 (ix2 (0 : Fin 1) j) = G (ix2 (0 : Fin 1) j)
  h2 : ∀ (g : Fin 8) (a b : Fin 128), x2 (ix3 g a b) = S (ix3 g a b)
  h3 : ∀ (a : Fin 128) (g : Fin 8), x3 (ix2 a g) = B (ix2 g a)

section
variable {P : FVec Ideal S8192x6144 .bf16} {G : FVec Ideal S1x2048 .f32} {S : FVec Ideal S8x128x128 .f32} {B : FVec Ideal S8x128 .f32}
  {n : Fin 2 → Fin 64} {x0 : Vec Ideal S256x6144 .bf16} {x1 : Vec Ideal S1x2048 .f32} {x2 : Vec Ideal S8x128x128 .f32} {x3 : Vec Ideal S128x8 .f32}
  (H : Reads P G S B n x0 x1 x2 x3)
include H

theorem pay2_val (c : Fin 2) (a : Fin 128) (j : Fin 2048) :
    k0_pay2 (View.ld x0 r0_0) (View.ld x1 r0_1) (ix2 (⟨128 * c.val + a.val, by omega⟩ : Fin 256) j) = vn P G (row (n c) a) j := by
  pointwise [k0_pay2]
  simp only [H.h0, H.h1]
  rfl

theorem vb_val (g : Fin 8) (c : Fin 2) (a : Fin 128) (d : Fin 256) :
    vb x0 x1 g c (ix2 a d) = vn P G (row (n c) a) (col g d) := by
  have h := pay2_val H c a (col g d)
  unfold vb
  generalize k0_pay2 (View.ld x0 r0_0) (View.ld x1 r0_1) = y at h ⊢
  pointwise []
  exact h

theorem zb_val (g : Fin 8) (c : Fin 2) (a : Fin 128) (d : Fin 256) : zb x0 g c (ix2 a d) = zn P (row (n c) a) (col g d) := by
  pointwise [zb]
  rw [H.h0]
  exact congrArg (fun k => P (ix2 (row (n c) a) k)) (Fin.ext (by show 4096 + 256 * g.val + d.val = 4096 + (256 * g.val + d.val); omega))

theorem pay4_val (g : Fin 8) (a b : Fin 128) : k0_pay4 (View.ld x2 (rW g)) (ix2 a b) = wc S g a b := by
  pointwise [k0_pay4, k0_pay3]
  rw [sge_iff, H.h2]
  unfold wc
  split <;> simp [Scalar.select]

theorem mixb_val (g : Fin 8) (c : Fin 2) (a : Fin 128) (d : Fin 256) :
    mixb x0 x1 x2 x3 g c (ix2 a d) = mx P G S B (n c) a g d := by
  pointwise [mixb]
  simp only [pay4_val H, vb_val H, H.h3]
  rfl

theorem yb_val (g : Fin 8) (c : Fin 2) (a : Fin 128) (d : Fin 256) :
    yb x0 x1 x2 x3 g c (ix2 a d) = yn P G S B (n c) a g d := by
  pointwise [yb, sgb]
  rw [mixb_val H, zb_val H, H.h0]
  rfl

omit H in
theorem emb_rY (g : Fin 8) (c : Fin 2) (a : Fin 128) (d : Fin 256) :
    (rY g c).emb (ix2 a d) = ix2 (⟨128 * c.val + a.val, by omega⟩ : Fin 256) (col g d) := by
  funext i; fin_cases i <;> exact Fin.ext (by simp [LoadRect.idx, col])

theorem y_val (c : Fin 2) (a : Fin 128) (g : Fin 8) (d : Fin 256) :
    out0_4 x0 x1 x2 x3 (ix2 (⟨128 * c.val + a.val, by omega⟩ : Fin 256) (col g d)) = yn P G S B (n c) a g d := by
  rw [out_eq]
  refine View.canon_eq_of_allAt _ _ _ ?_ ?_
  · refine ⟨⟨rY g c, yb x0 x1 x2 x3 g c⟩, List.mem_map.mpr ⟨(g, c), mem_units g c, rfl⟩, ?_⟩
    rw [← emb_rY g c a d]
    exact LoadRect.idx_mem _ _
  · intro p hp x hx
    obtain ⟨⟨g', c'⟩, -, rfl⟩ := List.mem_map.mp hp
    obtain ⟨a', d', rfl⟩ : ∃ (a' : Fin 128) (d' : Fin 256), x = ix2 a' d' := ⟨_, _, eq_ix2 x⟩
    replace hx := (emb_rY g' c' a' d').symm.trans hx
    have e0 : 128 * c'.val + a'.val = 128 * c.val + a.val := Fin.val_eq_of_eq (congrFun hx 0)
    have e1 : 256 * g'.val + d'.val = 256 * g.val + d.val := Fin.val_eq_of_eq (congrFun hx 1)
    obtain rfl : c' = c := Fin.ext (by omega)
    obtain rfl : a' = a := Fin.ext (by omega)
    obtain rfl : g' = g := Fin.ext (by omega)
    obtain rfl : d' = d := Fin.ext (by omega)
    exact yb_val H _ _ _ _
end

/-! ## The result array -/

variable (m : (ℓ : Loc nD τ sig) → Buf (Elt Ideal) ℓ)

theorem idx : ∀ t : Fin cfg0.N, win0_0.index t = ![t.val, 0] ∧ win0_1.index t = ![0, 0] ∧ win0_2.index t = ![0, 0, 0]
    ∧ win0_3.index t = ![0, 0] ∧ win0_4.index t = ![t.val, 0] :=
  (by decide +kernel : ∀ t : Fin grid0.N, _)
theorem lt32 (t : Fin cfg0.N) : t.val < 32 := lt_of_lt_of_eq t.isLt N_0

/-- Chunk c of point t. -/
def chunk (t : Fin cfg0.N) (c : Fin 2) : Fin 64 := ⟨2 * t.val + c.val, by have := lt32 t; omega⟩

theorem reads (c : Dev nD) (t : Fin cfg0.N) :
    Reads (m ((c : Thread nD τ).loc main_arg0)) (m ((c : Thread nD τ).loc main_arg1)) (m ((c : Thread nD τ).loc main_arg2))
      (m ((c : Thread nD τ).loc main_arg3)) (chunk t) (iblk m c 0 t) (iblk m c 1 t) (iblk m c 2 t) (iblk m c 3 t) where
  h0 c' a k := by
    have hr : (row (chunk t c') a).val = 128 * (2 * t.val + c'.val) + a.val := rfl
    blk_ext [iblk, V, idx t]
  h1 j := by
    blk_ext [iblk, V, idx t]
  h2 g a b := by
    blk_ext [iblk, V, idx t]
  h3 a g := by
    blk_simp [iblk]
    entry_read
    pointwise []
    blk_ext [idx t]

theorem result4 (c : Dev nD) : (dats m 0 c).arrAt 4 cfg0.N = yArr (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t hf y => ?_
  have ht := lt32 t
  blk_simp []
  rw [after0_4]
  have e0 : ((((cfg0.win 4).blk t).view.emb y) 0).val = 256 * t.val + (y 0).val := by
    blk_simp [idx t]; omega
  have e1 : ((((cfg0.win 4).blk t).view.emb y) 1).val = (y 1).val := by
    blk_simp [idx t]
  have l0 : (y 0).val < 256 := (y 0).isLt
  have l1 : (y 1).val < 2048 := (y 1).isLt
  have ey : y = ix2 (⟨128 * (⟨(y 0).val / 128, by omega⟩ : Fin 2).val + (⟨(y 0).val % 128, by omega⟩ : Fin 128).val,
      by show 128 * ((y 0).val / 128) + (y 0).val % 128 < 256; omega⟩ : Fin 256)
      (col ⟨(y 1).val / 256, by omega⟩ ⟨(y 1).val % 256, by omega⟩) :=
    funext fun a => by
      match a with
      | ⟨0, _⟩ => exact Fin.ext (Nat.div_add_mod _ 128).symm
      | ⟨1, _⟩ => exact Fin.ext (Nat.div_add_mod _ 256).symm
  refine ((congrArg _ ey).trans (y_val (reads m c t) _ _ _ _)).trans ?_
  refine (yArr_at _ _ _ _ _ _ _ _).symm.trans (congrArg _ (funext fun a => ?_))
  match a with
  | ⟨0, _⟩ =>
    refine Fin.ext (Eq.trans ?_ e0.symm)
    show 128 * (2 * t.val + (y 0).val / 128) + (y 0).val % 128 = 256 * t.val + (y 0).val
    omega
  | ⟨1, _⟩ =>
    refine Fin.ext (Eq.trans ?_ e1.symm)
    exact Nat.div_add_mod _ 256

end Cert.Kernel22Ideal.Value

namespace Cert.Reference22Ideal.Values
open Cert.Reference22Ideal Cert.Reference22Ideal.Gen Cert.Reference22Ideal.Read Cert.Spec Cert.Kernel22Ideal.Value

variable (x0 : FVec Ideal S8192x6144 .bf16) (x1 : FVec Ideal S1x2048 .f32) (x2 : FVec Ideal S8x128x128 .f32) (x3 : FVec Ideal S8x128 .f32)

theorem v9_val (s : Fin 8192) : val_main_v9 (F := Ideal) x0 (ix2 s (0 : Fin 1)) = msq x0 s := by
  pointwise [val_main_v9, val_main_v8, val_main_v7, val_main_v6, val_main_v5, val_main_v4, val_main_v3, val_main_v2, val_main_v0,
    val_main_cst, val_main_cst_0, val_main_cst_1]
  rfl

theorem v14_val (s : Fin 8192) (j : Fin 2048) : val_main_v14 (F := Ideal) x0 x1 (ix2 s j) = vn x0 x1 s j := by
  pointwise [val_main_v14, val_main_v13, val_main_v12, val_main_v11, val_main_v10, val_main_v2, val_main_v0]
  rw [v9_val]
  rfl

theorem v16_val (n : Fin 64) (a : Fin 128) (g : Fin 8) (d : Fin 256) :
    val_main_v16 (F := Ideal) x0 x1 (ix4 n a g d) = vn x0 x1 (row n a) (col g d) := by
  have er : ∀ h, (⟨n.val * 128 + a.val, h⟩ : Fin 8192) = row n a := fun h => Fin.ext (by show n.val * 128 + a.val = 128 * n.val + a.val; omega)
  have ec : ∀ h, (⟨g.val * 256 + d.val, h⟩ : Fin 2048) = col g d := fun h => Fin.ext (by show g.val * 256 + d.val = 256 * g.val + d.val; omega)
  pointwise [val_main_v16]
  rw [er, ec]
  exact v14_val x0 x1 _ _

theorem v21_val (g : Fin 8) (a b : Fin 128) : val_main_v21 (F := Ideal) x2 (ix3 g a b) = wc x2 g a b := by
  pointwise [val_main_v21, val_main_v20, val_main_v19, val_main_v18, val_main_v17, val_main_call0_v0, val_main_call0_v1, val_main_call0_v2, val_main_call0_v3, val_main_call0_v4, val_main_call0_v5, val_main_call0_c, val_main_call0_c_0, val_main_c, val_main_call1_v0, val_main_cst_2]
  rw [show IntOp.addi (BitVec.ofNat 32 a.val) 0#32 = BitVec.ofNat 32 a.val from BitVec.add_zero _, sge_iff]
  unfold wc
  by_cases h : b ≤ a
  · rw [if_pos h, if_pos h]; rfl
  · rw [if_neg h, if_neg h]; rfl

theorem v27_val (n : Fin 64) (a : Fin 128) (g : Fin 8) (d : Fin 256) :
    val_main_v27 (F := Ideal) x0 x1 x2 x3 (ix4 n a g d) = mx x0 x1 x2 x3 n a g d := by
  pointwise [val_main_v27, val_main_v26, val_main_v25, val_main_v24, val_main_v23, val_main_v22]
  simp only [v16_val, v21_val]
  exact congrArg (· + _) (Finset.sum_congr rfl fun b _ => mul_comm _ _)

theorem v28_val (n : Fin 64) (a : Fin 128) (g : Fin 8) (d : Fin 256) :
    val_main_v28 (F := Ideal) x0 x1 x2 x3 (ix2 (row n a) (col g d)) = mx x0 x1 x2 x3 n a g d := by
  have h1 : ∀ h, (⟨(row n a).val / 128, h⟩ : Fin 64) = n := fun h => Fin.ext (by show (128 * n.val + a.val) / 128 = n.val; omega)
  have h2 : ∀ h, (⟨(row n a).val % 128, h⟩ : Fin 128) = a := fun h => Fin.ext (by show (128 * n.val + a.val) % 128 = a.val; omega)
  have h3 : ∀ h, (⟨(col g d).val / 256, h⟩ : Fin 8) = g := fun h => Fin.ext (by show (256 * g.val + d.val) / 256 = g.val; omega)
  have h4 : ∀ h, (⟨(col g d).val % 256, h⟩ : Fin 256) = d := fun h => Fin.ext (by show (256 * g.val + d.val) % 256 = d.val; omega)
  pointwise [val_main_v28]
  rw [h1, h2, h3, h4]
  exact v27_val x0 x1 x2 x3 n a g d

theorem v15_val (s : Fin 8192) (j : Fin 2048) : val_main_v15 (F := Ideal) x0 (ix2 s j) = zn x0 s j := by
  pointwise [val_main_v15, val_main_v0]
  rfl
theorem v1_val (s : Fin 8192) (j : Fin 2048) : val_main_v1 (F := Ideal) x0 (ix2 s j) = un x0 s j := by
  pointwise [val_main_v1, val_main_v0]
  rfl

theorem ref4 : val_main_v32 (F := Ideal) x0 x1 x2 x3 = yArr x0 x1 x2 x3 := by
  funext i
  obtain ⟨s, j, rfl⟩ : ∃ (s : Fin 8192) (j : Fin 2048), i = ix2 s j := ⟨_, _, ValueIdx.eq_ix2 i⟩
  obtain ⟨n, a, rfl⟩ := row_surj s
  obtain ⟨g, d, rfl⟩ := col_surj j
  rw [yArr_at]
  pointwise [val_main_v32, val_main_v31, val_main_v30, val_main_v29, val_main_call2_v0, val_main_call2_v1, val_main_call2_cst, val_main_call2_v2, val_main_call2_v3, val_main_call2_v4, val_main_call2_v5, val_main_call2_cst_0]
  rw [v28_val, v15_val, v1_val, ← zero_sub]
  rfl

end Cert.Reference22Ideal.Values

end
-- ==== Proof.MidPairs.lean ====
/- The gated layer between its projections: the result of the kernel and of its reference is the same, and the reference stops with its counters at zero. -/
module

public import proofs.«01_k».proof.Defs
public import proofs.«01_k».proof.Proof.Mid22
public import proofs.«01_k».proof.Proof.Gen.Reference22Ideal.Run
public import Idealize.ShloMosaic.Lib.Claim

@[expose] public section
set_option maxRecDepth 16384
noncomputable section
open Idealize.ShloMosaic Idealize.ShloMosaic.TcCoe Idealize.SL.Sem
namespace Cert.Proof

section
attribute [local instance] Cert.Kernel22Ideal.Gen.facts Cert.Reference22Ideal.Gen.facts

theorem algebraic22 : Cert.algebraic_Kernel22Ideal_Reference22Ideal := by
  pair_intro
  · run_from Cert.Kernel22Ideal.Gen.run_main m g
  · refine Idealize.ShloMosaic.θ_run_mono (Cert.Reference22Ideal.Value.run m' g') ?_
    intro r hr c
    obtain ⟨hy, h0, h1, h2, h3⟩ := hr c
    obtain ⟨a0, a1, a2, a3⟩ := hagree c
    refine ⟨hy.trans ?_, h0, h1, h2, h3⟩
    refine (Cert.Reference22Ideal.Read.val_main_v32_eq _ _ _ _).trans ?_
    rw [a0, a1, a2, a3]
    exact (Cert.Reference22Ideal.Values.ref4 _ _ _ _).trans (Cert.Kernel22Ideal.Value.result4 m c).symm

theorem frame_reference22 : Cert.quiescent_Reference22Ideal := fun m g _ =>
  (θ_run (Cert.Reference22Ideal.defs (F := Ideal)) _ _).mono
    (fun r h => And.intro (fun c => (h c).2) (sem_eq_zero_of_no_sems (by decide) r.2)) (Cert.Reference22Ideal.Value.run m g)
end

end Cert.Proof

end
-- ==== Proof.lean ====
/- The claims: the frames of the programs, and that each kernel's results are its reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Algebraic
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Pairs
public import proofs.«01_k».proof.Proof.NormRun12
public import proofs.«01_k».proof.Proof.NormRun12I
public import proofs.«01_k».proof.Proof.NormRun13
public import proofs.«01_k».proof.Proof.NormRun13I
public import proofs.«01_k».proof.Proof.NormRun14
public import proofs.«01_k».proof.Proof.NormRun14I
public import proofs.«01_k».proof.Proof.NormPairs
public import proofs.«01_k».proof.Proof.LossPairs
public import proofs.«01_k».proof.Proof.AdamPairs
public import proofs.«01_k».proof.Proof.MidPairs
public import Idealize.ShloMosaic.Adequacy
public import Idealize.ShloMosaic.Init
public import Idealize.ShloMosaic.Lib.Claim

@[expose] public section

noncomputable section

namespace Cert.Proof

open Idealize.ShloMosaic Idealize.SL.Sem Cert.Kernel

attribute [local instance] Cert.ReferenceIdeal.Gen.facts

theorem frame_reference : Cert.quiescent_ReferenceIdeal := fun m g _ =>
  (θ_run (Cert.ReferenceIdeal.defs (F := Ideal)) _ _).mono
    (fun r h => And.intro (fun c => (h c).2.2.2.2) (sem_eq_zero_of_no_sems (by decide) r.2)) (Cert.ReferenceIdeal.Value.run m g)

theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Kernel11.Gen.facts,
    Cert.Kernel11Ideal.Gen.facts,
    Cert.Reference11Ideal.Gen.facts,
    Cert.Kernel12.Gen.facts,
    Cert.Kernel12Ideal.Gen.facts,
    Cert.Reference12Ideal.Gen.facts,
    Cert.Kernel13.Gen.facts,
    Cert.Kernel13Ideal.Gen.facts,
    Cert.Reference13Ideal.Gen.facts,
    Cert.Kernel14.Gen.facts,
    Cert.Kernel14Ideal.Gen.facts,
    Cert.Reference14Ideal.Gen.facts,
    Cert.Kernel15.Gen.facts,
    Cert.Kernel15Ideal.Gen.facts,
    Cert.Reference15Ideal.Gen.facts,
    Cert.Kernel16.Gen.facts,
    Cert.Kernel16Ideal.Gen.facts,
    Cert.Reference16Ideal.Gen.facts,
    Cert.Kernel17.Gen.facts,
    Cert.Kernel17Ideal.Gen.facts,
    Cert.Reference17Ideal.Gen.facts,
    Cert.Kernel18.Gen.facts,
    Cert.Kernel18Ideal.Gen.facts,
    Cert.Reference18Ideal.Gen.facts,
    Cert.Kernel19.Gen.facts,
    Cert.Kernel19Ideal.Gen.facts,
    Cert.Reference19Ideal.Gen.facts,
    Cert.Kernel20.Gen.facts,
    Cert.Kernel20Ideal.Gen.facts,
    Cert.Reference20Ideal.Gen.facts,
    Cert.Kernel21.Gen.facts,
    Cert.Kernel21Ideal.Gen.facts,
    Cert.Reference21Ideal.Gen.facts,
    Cert.Kernel22.Gen.facts,
    Cert.Kernel22Ideal.Gen.facts,
    Cert.Reference22Ideal.Gen.facts,
    Cert.Finite.facts,
    fun m g _ => Cert.Kernel.Gen.frame m g,
    fun m g _ => Cert.KernelIdeal.Gen.frame m g,
    fun m g _ => Cert.KernelIdeal.Gen.frame m g,
    fun m g _ => frame_reference m g trivial,
    fun m g _ => frame_reference m g trivial,
    fun m g _ => Cert.Kernel2.Gen.frame m g,
    fun m g _ => Cert.Kernel2Ideal.Gen.frame m g,
    frame_reference2,
    fun m g _ => Cert.Kernel3.Gen.frame m g,
    fun m g _ => Cert.Kernel3Ideal.Gen.frame m g,
    frame_reference3,
    fun m g _ => Cert.Kernel4.Gen.frame m g,
    fun m g _ => Cert.Kernel4Ideal.Gen.frame m g,
    frame_reference4,
    fun m g _ => Cert.Kernel5.Gen.frame m g,
    fun m g _ => Cert.Kernel5Ideal.Gen.frame m g,
    frame_reference5,
    fun m g _ => Cert.Kernel6.Gen.frame m g,
    fun m g _ => Cert.Kernel6Ideal.Gen.frame m g,
    frame_reference6,
    fun m g _ => Cert.Kernel7.Gen.frame m g,
    fun m g _ => Cert.Kernel7Ideal.Gen.frame m g,
    frame_reference7,
    fun m g _ => Cert.Kernel8.Gen.frame m g,
    fun m g _ => Cert.Kernel8Ideal.Gen.frame m g,
    frame_reference8,
    fun m g _ => Cert.Kernel9.Gen.frame m g,
    fun m g _ => Cert.Kernel9Ideal.Gen.frame m g,
    frame_reference9,
    fun m g _ => Cert.Kernel10.Gen.frame m g,
    fun m g _ => Cert.Kernel10Ideal.Gen.frame m g,
    frame_reference10,
    fun m g _ => Cert.Kernel11.Gen.frame m g,
    fun m g _ => Cert.Kernel11Ideal.Gen.frame m g,
    frame_reference11,
    fun m g _ => Cert.Kernel12.Gen.frame m g,
    fun m g _ => Cert.Kernel12Ideal.Gen.frame m g,
    frame_reference12,
    fun m g _ => Cert.Kernel13.Gen.frame m g,
    fun m g _ => Cert.Kernel13Ideal.Gen.frame m g,
    frame_reference13,
    fun m g _ => Cert.Kernel14.Gen.frame m g,
    fun m g _ => Cert.Kernel14Ideal.Gen.frame m g,
    frame_reference14,
    fun m g _ => Cert.Kernel15.Gen.frame m g,
    fun m g _ => Cert.Kernel15Ideal.Gen.frame m g,
    frame_reference15,
    fun m g _ => Cert.Kernel16.Gen.frame m g,
    fun m g _ => Cert.Kernel16Ideal.Gen.frame m g,
    frame_reference16,
    fun m g _ => Cert.Kernel17.Gen.frame m g,
    fun m g _ => Cert.Kernel17Ideal.Gen.frame m g,
    frame_reference17,
    fun m g _ => Cert.Kernel18.Gen.frame m g,
    fun m g _ => Cert.Kernel18Ideal.Gen.frame m g,
    frame_reference18,
    fun m g _ => Cert.Kernel19.Gen.frame m g,
    fun m g _ => Cert.Kernel19Ideal.Gen.frame m g,
    frame_reference19,
    fun m g _ => Cert.Kernel20.Gen.frame m g,
    fun m g _ => Cert.Kernel20Ideal.Gen.frame m g,
    frame_reference20,
    fun m g _ => Cert.Kernel21.Gen.frame m g,
    fun m g _ => Cert.Kernel21Ideal.Gen.frame m g,
    frame_reference21,
    fun m g _ => Cert.Kernel22.Gen.frame m g,
    fun m g _ => Cert.Kernel22Ideal.Gen.frame m g,
    frame_reference22,
    trivial,
    algebraic,
    trivial,
    algebraic2,
    trivial,
    algebraic3,
    trivial,
    algebraic4,
    trivial,
    algebraic5,
    trivial,
    algebraic6,
    trivial,
    algebraic7,
    trivial,
    algebraic8,
    trivial,
    algebraic9,
    trivial,
    algebraic10,
    trivial,
    algebraic11,
    trivial,
    algebraic12,
    trivial,
    algebraic13,
    trivial,
    algebraic14,
    trivial,
    algebraic15,
    trivial,
    algebraic16,
    trivial,
    algebraic17,
    trivial,
    algebraic18,
    trivial,
    algebraic19,
    trivial,
    algebraic20,
    trivial,
    algebraic21,
    trivial,
    algebraic22⟩

end Cert.Proof

end
